-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_ffn [hPre_finite_ffn : Cert.Pre_finite_ffn.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_ffn.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).1 = (fun _ => 1#1)
    ∧ (Cert.Pre_finite_ffn.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.1 = (fun _ => 1#1)
    ∧ (Cert.Pre_finite_ffn.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_ffn [hPre_finite_ffn : Cert.Pre_finite_ffn.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_ffn.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).1 = (fun _ => 1#1)
    ∧ (Cert.Pre_finite_ffn.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.1 = (fun _ => 1#1)
    ∧ (Cert.Pre_finite_ffn.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite_ffn [hKernel5Ideal : Cert.Kernel5Ideal.Facts] [hPre_finite_ffn : Cert.Pre_finite_ffn.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_ffn m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite_ffn [hReference5Ideal : Cert.Reference5Ideal.Facts] [hPre_finite_ffn : Cert.Pre_finite_ffn.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_ffn m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v48)) (v2 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_v49) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v254) = v0 c
          ∧ r.2.mem ((c.tc : Thread Cert.ReferenceIdeal.nD Cert.ReferenceIdeal.τ).loc Cert.ReferenceIdeal.main_v256) = v1 c
          ∧ r.2.mem ((c.tc : Thread Cert.ReferenceIdeal.nD Cert.ReferenceIdeal.τ).loc Cert.ReferenceIdeal.main_v213) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_v20) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite_ffn [hKernel5Ideal : Cert.Kernel5Ideal.Facts] [hReference5Ideal : Cert.Reference5Ideal.Facts] [hPre_finite_ffn : Cert.Pre_finite_ffn.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_ffn m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_v24) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_v15) = v1 c
          ∧ r.2.mem ((c.tc : Thread Cert.Reference7Ideal.nD Cert.Reference7Ideal.τ).loc Cert.Reference7Ideal.main_v20) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_v24) = v1 c
          ∧ r.2.mem ((c.tc : Thread Cert.Reference13Ideal.nD Cert.Reference13Ideal.τ).loc Cert.Reference13Ideal.main_v5) = v2 c
          ∧ r.2.mem ((c.tc : Thread Cert.Reference13Ideal.nD Cert.Reference13Ideal.τ).loc Cert.Reference13Ideal.main_v11) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_v28) = v1 c
          ∧ r.2.mem ((c.tc : Thread Cert.Reference14Ideal.nD Cert.Reference14Ideal.τ).loc Cert.Reference14Ideal.main_v9) = v2 c
          ∧ r.2.mem ((c.tc : Thread Cert.Reference14Ideal.nD Cert.Reference14Ideal.τ).loc Cert.Reference14Ideal.main_v15) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_v28) = v1 c
          ∧ r.2.mem ((c.tc : Thread Cert.Reference15Ideal.nD Cert.Reference15Ideal.τ).loc Cert.Reference15Ideal.main_v9) = v2 c
          ∧ r.2.mem ((c.tc : Thread Cert.Reference15Ideal.nD Cert.Reference15Ideal.τ).loc Cert.Reference15Ideal.main_v15) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_v28) = v1 c
          ∧ r.2.mem ((c.tc : Thread Cert.Reference16Ideal.nD Cert.Reference16Ideal.τ).loc Cert.Reference16Ideal.main_v9) = v2 c
          ∧ r.2.mem ((c.tc : Thread Cert.Reference16Ideal.nD Cert.Reference16Ideal.τ).loc Cert.Reference16Ideal.main_v15) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_v28) = v1 c
          ∧ r.2.mem ((c.tc : Thread Cert.Reference17Ideal.nD Cert.Reference17Ideal.τ).loc Cert.Reference17Ideal.main_v9) = v2 c
          ∧ r.2.mem ((c.tc : Thread Cert.Reference17Ideal.nD Cert.Reference17Ideal.τ).loc Cert.Reference17Ideal.main_v15) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_v28) = v1 c
          ∧ r.2.mem ((c.tc : Thread Cert.Reference18Ideal.nD Cert.Reference18Ideal.τ).loc Cert.Reference18Ideal.main_v9) = v2 c
          ∧ r.2.mem ((c.tc : Thread Cert.Reference18Ideal.nD Cert.Reference18Ideal.τ).loc Cert.Reference18Ideal.main_v15) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_v28) = v1 c
          ∧ r.2.mem ((c.tc : Thread Cert.Reference19Ideal.nD Cert.Reference19Ideal.τ).loc Cert.Reference19Ideal.main_v9) = v2 c
          ∧ r.2.mem ((c.tc : Thread Cert.Reference19Ideal.nD Cert.Reference19Ideal.τ).loc Cert.Reference19Ideal.main_v15) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_v28) = v1 c
          ∧ r.2.mem ((c.tc : Thread Cert.Reference20Ideal.nD Cert.Reference20Ideal.τ).loc Cert.Reference20Ideal.main_v9) = v2 c
          ∧ r.2.mem ((c.tc : Thread Cert.Reference20Ideal.nD Cert.Reference20Ideal.τ).loc Cert.Reference20Ideal.main_v15) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts) (hPre_finite_ffn : Cert.Pre_finite_ffn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_ffn (hKernel5Ideal := hKernel5Ideal) (hPre_finite_ffn := hPre_finite_ffn)
    ∧ quiescent_Reference5Ideal (hReference5Ideal := hReference5Ideal)
    ∧ quiescent_Reference5Ideal_pre_finite_ffn (hReference5Ideal := hReference5Ideal) (hPre_finite_ffn := hPre_finite_ffn)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_ffn (hKernel5Ideal := hKernel5Ideal) (hReference5Ideal := hReference5Ideal) (hPre_finite_ffn := hPre_finite_ffn)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_finite.lean ====
abbrev S2048x1280 : Shape := ⟨2, ![2048, 1280]⟩
abbrev S1x16 : Shape := ⟨2, ![1, 16]⟩
abbrev S16x2048x64 : Shape := ⟨3, ![16, 2048, 64]⟩
abbrev S_ : Shape := ⟨0, ![]⟩

class Facts : Prop where
  bcast_S_S2048x1280 : S_.BroadcastsInDim S2048x1280 (![] : Fin 0 → Fin S2048x1280.rank)
  bcast_S_S1x16 : S_.BroadcastsInDim S1x16 (![] : Fin 0 → Fin S1x16.rank)
  bcast_S_S16x2048x64 : S_.BroadcastsInDim S16x2048x64 (![] : Fin 0 → Fin S16x2048x64.rank)

variable [Facts]

def fn {F : FTy → Type} [FloatOps F] (main_arg0 : FVec F S2048x1280 .f32) (main_arg1 : FVec F S1x16 .f32) (main_arg2 : FVec F S16x2048x64 .f32) : IVec S2048x1280 1 × IVec S1x16 1 × IVec S16x2048x64 1 :=
  let main_v0 : FVec F S2048x1280 .f32 := Host.absf main_arg0
  let main_cst : FVec F S_ .f32 := constant S_ .f32 0x7F800000#32
  let main_v1 : FVec F S2048x1280 .f32 := broadcastInDim S2048x1280 ![] bcast_S_S2048x1280 main_cst
  let main_v2 : IVec S2048x1280 1 := cmpf .olt main_v0 main_v1
  let main_v3 : FVec F S1x16 .f32 := Host.absf main_arg1
  let main_cst_0 : FVec F S_ .f32 := constant S_ .f32 0x7F800000#32
  let main_v4 : FVec F S1x16 .f32 := broadcastInDim S1x16 ![] bcast_S_S1x16 main_cst_0
  let main_v5 : IVec S1x16 1 := cmpf .olt main_v3 main_v4
  let main_v6 : FVec F S16x2048x64 .f32 := Host.absf main_arg2
  let main_cst_1 : FVec F S_ .f32 := constant S_ .f32 0x7F800000#32
  let main_v7 : FVec F S16x2048x64 .f32 := broadcastInDim S16x2048x64 ![] bcast_S_S16x2048x64 main_cst_1
  let main_v8 : IVec S16x2048x64 1 := cmpf .olt main_v6 main_v7
  (main_v2, main_v5, main_v8)
-- ==== Pre_finite_ffn.lean ====
abbrev S2048x2048 : Shape := ⟨2, ![2048, 2048]⟩
abbrev S8x704x2048 : Shape := ⟨3, ![8, 704, 2048]⟩
abbrev S8x2048x704 : Shape := ⟨3, ![8, 2048, 704]⟩
abbrev S_ : Shape := ⟨0, ![]⟩

class Facts : Prop where
  bcast_S_S2048x2048 : S_.BroadcastsInDim S2048x2048 (![] : Fin 0 → Fin S2048x2048.rank)
  bitsLt_bf16_f32 : FTy.bits .bf16 < FTy.bits .f32
  bcast_S_S8x704x2048 : S_.BroadcastsInDim S8x704x2048 (![] : Fin 0 → Fin S8x704x2048.rank)
  bcast_S_S8x2048x704 : S_.BroadcastsInDim S8x2048x704 (![] : Fin 0 → Fin S8x2048x704.rank)

variable [Facts]

def fn {F : FTy → Type} [FloatOps F] (main_arg0 : FVec F S2048x2048 .f32) (main_arg1 : FVec F S8x704x2048 .bf16) (main_arg2 : FVec F S8x2048x704 .bf16) (main_arg3 : FVec F S8x2048x704 .bf16) : IVec S2048x2048 1 × IVec S8x704x2048 1 × IVec S8x2048x704 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S8x704x2048 .f32 := (extf .f32 · bitsLt_bf16_f32) main_arg1
  let main_v4 : FVec F S8x704x2048 .f32 := Host.absf main_v3
  let main_cst_0 : FVec F S_ .f32 := constant S_ .f32 0x7F800000#32
  let main_v5 : FVec F S8x704x2048 .f32 := broadcastInDim S8x704x2048 ![] bcast_S_S8x704x2048 main_cst_0
  let main_v6 : IVec S8x704x2048 1 := cmpf .olt main_v4 main_v5
  let main_v7 : FVec F S8x2048x704 .f32 := (extf .f32 · bitsLt_bf16_f32) main_arg3
  let main_v8 : FVec F S8x2048x704 .f32 := Host.absf main_v7
  let main_cst_1 : FVec F S_ .f32 := constant S_ .f32 0x7F800000#32
  let main_v9 : FVec F S8x2048x704 .f32 := broadcastInDim S8x2048x704 ![] bcast_S_S8x2048x704 main_cst_1
  let main_v10 : IVec S8x2048x704 1 := cmpf .olt main_v8 main_v9
  (main_v2, main_v6, main_v10)
-- ==== Kernel.lean ====
abbrev S2048x1280 : Shape := ⟨2, ![2048, 1280]⟩
abbrev S1x16 : Shape := ⟨2, ![1, 16]⟩
abbrev S16x2048x64 : Shape := ⟨3, ![16, 2048, 64]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2x8x1 : Shape := ⟨3, ![2, 8, 1]⟩
abbrev S2048x20x64 : Shape := ⟨3, ![2048, 20, 64]⟩
abbrev S20x2048x64 : Shape := ⟨3, ![20, 2048, 64]⟩
abbrev S16x2048x32 : Shape := ⟨3, ![16, 2048, 32]⟩
abbrev S2x2048x32 : Shape := ⟨3, ![2, 2048, 32]⟩
abbrev S2x2048x64 : Shape := ⟨3, ![2, 2048, 64]⟩
abbrev S16x128x32 : Shape := ⟨3, ![16, 128, 32]⟩
abbrev S2x128x32 : Shape := ⟨3, ![2, 128, 32]⟩
abbrev S2x128x64 : Shape := ⟨3, ![2, 128, 64]⟩
abbrev S128x32 : Shape := ⟨2, ![128, 32]⟩
abbrev S16x128x64 : Shape := ⟨3, ![16, 128, 64]⟩
abbrev S8x128x32 : Shape := ⟨3, ![8, 128, 32]⟩
abbrev S1x128x32 : Shape := ⟨3, ![1, 128, 32]⟩
abbrev S1x128x64 : Shape := ⟨3, ![1, 128, 64]⟩
abbrev S1x8x1 : Shape := ⟨3, ![1, 8, 1]⟩
abbrev S1024x32 : Shape := ⟨2, ![1024, 32]⟩
abbrev S256x32 : Shape := ⟨2, ![256, 32]⟩
abbrev S128x64 : Shape := ⟨2, ![128, 64]⟩
abbrev S256x64 : Shape := ⟨2, ![256, 64]⟩
abbrev S1024x256 : Shape := ⟨2, ![1024, 256]⟩
abbrev S8x128x256 : Shape := ⟨3, ![8, 128, 256]⟩
abbrev S128x256 : Shape := ⟨2, ![128, 256]⟩
abbrev S1x128x256 : Shape := ⟨3, ![1, 128, 256]⟩
abbrev S8x1x1 : Shape := ⟨3, ![8, 1, 1]⟩
abbrev S8x128 : Shape := ⟨2, ![8, 128]⟩
abbrev S8x128x1 : Shape := ⟨3, ![8, 128, 1]⟩
abbrev S8x128x64 : Shape := ⟨3, ![8, 128, 64]⟩
abbrev S1024x64 : Shape := ⟨2, ![1024, 64]⟩
abbrev S8x1 : Shape := ⟨2, ![8, 1]⟩
abbrev S2x1920x32 : Shape := ⟨3, ![2, 1920, 32]⟩
abbrev S2x1920x64 : Shape := ⟨3, ![2, 1920, 64]⟩
abbrev S1280 : Shape := ⟨1, ![1280]⟩
abbrev S1x1280 : Shape := ⟨2, ![1, 1280]⟩

abbrev nBuf : Space → Nat
  | .hbm => 69
  | .vmem => 44
  | .smem => 0
  | _ => 0

abbrev bufTy : (tb : Table) → Fin (tcTables nBuf tb) → BufTy
  | .hbm, ⟨0, _⟩ => ⟨S2048x1280, .f32⟩
  | .hbm, ⟨1, _⟩ => ⟨S1x16, .f32⟩
  | .hbm, ⟨2, _⟩ => ⟨S16x2048x64, .f32⟩
  | .hbm, ⟨3, _⟩ => ⟨S2048, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S2048x1, .f32⟩
  | .hbm, ⟨19, _⟩ => ⟨S1x32, .f32⟩
  | .hbm, ⟨20, _⟩ => ⟨S2048x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2x8x1, .f32⟩
  | .hbm, ⟨26, _⟩ => ⟨S2048x20x64, .f32⟩
  | .hbm, ⟨27, _⟩ => ⟨S20x2048x64, .f32⟩
  | .hbm, ⟨28, _⟩ => ⟨S16x2048x32, .f32⟩
  | .hbm, ⟨29, _⟩ => ⟨S16x2048x32, .f32⟩
  | .hbm, ⟨30, _⟩ => ⟨S2x2048x32, .f32⟩
  | .hbm, ⟨31, _⟩ => ⟨S2x2048x32, .f32⟩
  | .hbm, ⟨32, _⟩ => ⟨S2x2048x64, .f32⟩
  | .hbm, ⟨33, _⟩ => ⟨S16x2048x32, .f32⟩
  | .hbm, ⟨34, _⟩ => ⟨S16x2048x32, .f32⟩
  | .hbm, ⟨35, _⟩ => ⟨S2x2048x32, .f32⟩
  | .hbm, ⟨36, _⟩ => ⟨S2x2048x32, .f32⟩
  | .hbm, ⟨37, _⟩ => ⟨S2x2048x32, .f32⟩
  | .hbm, ⟨38, _⟩ => ⟨S2x2048x32, .f32⟩
  | .hbm, ⟨39, _⟩ => ⟨S2x2048x64, .f32⟩
  | .hbm, ⟨40, _⟩ => ⟨S2x2048x64, .f32⟩
  | .hbm, ⟨41, _⟩ => ⟨S2x8x1, .f32⟩
  | .hbm, ⟨42, _⟩ => ⟨S16x2048x64, .f32⟩
  | .hbm, ⟨43, _⟩ => ⟨S2x1920x32, .f32⟩
  | .hbm, ⟨44, _⟩ => ⟨S2x128x32, .f32⟩
  | .hbm, ⟨45, _⟩ => ⟨S_, .f32⟩
  | .hbm, ⟨46, _⟩ => ⟨S2x128x32, .f32⟩
  | .hbm, ⟨47, _⟩ => ⟨S2x2048x32, .f32⟩
  | .hbm, ⟨48, _⟩ => ⟨S2x2048x32, .f32⟩
  | .hbm, ⟨49, _⟩ => ⟨S2x1920x32, .f32⟩
  | .hbm, ⟨50, _⟩ => ⟨S2x128x32, .f32⟩
  | .hbm, ⟨51, _⟩ => ⟨S_, .f32⟩
  | .hbm, ⟨52, _⟩ => ⟨S2x128x32, .f32⟩
  | .hbm, ⟨53, _⟩ => ⟨S2x2048x32, .f32⟩
  | .hbm, ⟨54, _⟩ => ⟨S2x2048x32, .f32⟩
  | .hbm, ⟨55, _⟩ => ⟨S2x2048x64, .f32⟩
  | .hbm, ⟨56, _⟩ => ⟨S2x1920x64, .f32⟩
  | .hbm, ⟨57, _⟩ => ⟨S2x128x64, .f32⟩
  | .hbm, ⟨58, _⟩ => ⟨S_, .f32⟩
  | .hbm, ⟨59, _⟩ => ⟨S2x128x64, .f32⟩
  | .hbm, ⟨60, _⟩ => ⟨S2x2048x64, .f32⟩
  | .hbm, ⟨61, _⟩ => ⟨S2x2048x64, .f32⟩
  | .hbm, ⟨62, _⟩ => ⟨S20x2048x64, .f32⟩
  | .hbm, ⟨63, _⟩ => ⟨S2048x20x64, .f32⟩
  | .hbm, ⟨64, _⟩ => ⟨S2048x1280, .f32⟩
  | .hbm, ⟨65, _⟩ => ⟨S_, .f32⟩
  | .hbm, ⟨66, _⟩ => ⟨S1280, .f32⟩
  | .hbm, ⟨67, _⟩ => ⟨S1x1280, .f32⟩
  | .hbm, ⟨68, _⟩ => ⟨S1x16, .f32⟩
  | .local _ .vmem, ⟨0, _⟩ => ⟨S16x128x32, .f32⟩
  | .local _ .vmem, ⟨1, _⟩ => ⟨S16x128x32, .f32⟩
  | .local _ .vmem, ⟨2, _⟩ => ⟨S16x128x32, .f32⟩
  | .local _ .vmem, ⟨3, _⟩ => ⟨S16x128x32, .f32⟩
  | .local _ .vmem, ⟨4, _⟩ => ⟨S2x128x32, .f32⟩
  | .local _ .vmem, ⟨5, _⟩ => ⟨S2x128x32, .f32⟩
  | .local _ .vmem, ⟨6, _⟩ => ⟨S2x128x32, .f32⟩
  | .local _ .vmem, ⟨7, _⟩ => ⟨S2x128x32, .f32⟩
  | .local _ .vmem, ⟨8, _⟩ => ⟨S2x128x32, .f32⟩
  | .local _ .vmem, ⟨9, _⟩ => ⟨S2x128x32, .f32⟩
  | .local _ .vmem, ⟨10, _⟩ => ⟨S2x128x32, .f32⟩
  | .local _ .vmem, ⟨11, _⟩ => ⟨S2x128x32, .f32⟩
  | .local _ .vmem, ⟨12, _⟩ => ⟨S2x128x64, .f32⟩
  | .local _ .vmem, ⟨13, _⟩ => ⟨S2x128x64, .f32⟩
  | .local _ .vmem, ⟨14, _⟩ => ⟨S2x128x64, .f32⟩
  | .local _ .vmem, ⟨15, _⟩ => ⟨S2x128x64, .f32⟩
  | .local _ .vmem, ⟨16, _⟩ => ⟨S128x32, .f32⟩
  | .local _ .vmem, ⟨17, _⟩ => ⟨S128x32, .f32⟩
  | .local _ .vmem, ⟨18, _⟩ => ⟨S128x32, .f32⟩
  | .local _ .vmem, ⟨19, _⟩ => ⟨S128x32, .f32⟩
  | .local _ .vmem, ⟨20, _⟩ => ⟨S128x32, .f32⟩
  | .local _ .vmem, ⟨21, _⟩ => ⟨S128x32, .f32⟩
  | .local _ .vmem, ⟨22, _⟩ => ⟨S128x32, .f32⟩
  | .local _ .vmem, ⟨23, _⟩ => ⟨S128x32, .f32⟩
  | .local _ .vmem, ⟨24, _⟩ => ⟨S2x8x1, .f32⟩
  | .local _ .vmem, ⟨25, _⟩ => ⟨S16x128x64, .f32⟩
  | .local _ .vmem, ⟨26, _⟩ => ⟨S16x128x64, .f32⟩
  | .local _ .vmem, ⟨27, _⟩ => ⟨S16x128x32, .f32⟩
  | .local _ .vmem, ⟨28, _⟩ => ⟨S16x128x32, .f32⟩
  | .local _ .vmem, ⟨29, _⟩ => ⟨S16x128x32, .f32⟩
  | .local _ .vmem, ⟨30, _⟩ => ⟨S16x128x32, .f32⟩
  | .local _ .vmem, ⟨31, _⟩ => ⟨S2x128x32, .f32⟩
  | .local _ .vmem, ⟨32, _⟩ => ⟨S2x128x32, .f32⟩
  | .local _ .vmem, ⟨33, _⟩ => ⟨S2x128x32, .f32⟩
  | .local _ .vmem, ⟨34, _⟩ => ⟨S2x128x32, .f32⟩
  | .local _ .vmem, ⟨35, _⟩ => ⟨S2x128x32, .f32⟩
  | .local _ .vmem, ⟨36, _⟩ => ⟨S2x128x32, .f32⟩
  | .local _ .vmem, ⟨37, _⟩ => ⟨S2x128x32, .f32⟩
  | .local _ .vmem, ⟨38, _⟩ => ⟨S2x128x32, .f32⟩
  | .local _ .vmem, ⟨39, _⟩ => ⟨S2x128x64, .f32⟩
  | .local _ .vmem, ⟨40, _⟩ => ⟨S2x128x64, .f32⟩
  | .local _ .vmem, ⟨41, _⟩ => ⟨S2x128x64, .f32⟩
  | .local _ .vmem, ⟨42, _⟩ => ⟨S2x128x64, .f32⟩
  | .local _ .vmem, ⟨43, _⟩ => ⟨S2x8x1, .f32⟩
  | _, _ => ⟨S2048x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26_0 : Ref sig .tc := ⟨.hbm, 33, rfl⟩
abbrev main_v26_1 : Ref sig .tc := ⟨.hbm, 34, rfl⟩
abbrev main_v26_2 : Ref sig .tc := ⟨.hbm, 35, rfl⟩
abbrev main_v26_3 : Ref sig .tc := ⟨.hbm, 36, rfl⟩
abbrev main_v26_4 : Ref sig .tc := ⟨.hbm, 37, rfl⟩
abbrev main_v26_5 : Ref sig .tc := ⟨.hbm, 38, rfl⟩
abbrev main_v26_6 : Ref sig .tc := ⟨.hbm, 39, rfl⟩
abbrev main_v26_7 : Ref sig .tc := ⟨.hbm, 40, rfl⟩
abbrev main_v26_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_stg20_0 : Ref sig .tc := ⟨.vmem, 39, rfl⟩
abbrev cc0_stg20_1 : Ref sig .tc := ⟨.vmem, 40, rfl⟩
abbrev cc0_stg21_0 : Ref sig .tc := ⟨.vmem, 41, rfl⟩
abbrev cc0_stg21_1 : Ref sig .tc := ⟨.vmem, 42, rfl⟩
abbrev cc0_stg22_0 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40
abbrev cc0_sem21_0 : DmaSem sig := 41
abbrev cc0_sem21_1 : DmaSem sig := 42
abbrev cc0_sem22_0 : DmaSem sig := 43

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_182 : BitVec 32 := 0#32
  let v459 : BitVec 1 := Scalar.cmpi .eq arg0 c0_i32_182
  let v460 : BitVec 32 := Scalar.extui v459
  let c0_i32_183 : BitVec 32 := 0#32
  let v461 : BitVec 1 := Scalar.cmpi .ne v460 c0_i32_183
  v461

def k0_cond2 (i : grid0.Coords) : BitVec 1 :=
  let arg0 : BitVec 32 := BitVec.ofNat 32 (i 0).val
  let c0_i32_184 : BitVec 32 := 0#32
  let v462 : BitVec 1 := Scalar.cmpi .sgt arg0 c0_i32_184
  let v463 : BitVec 32 := Scalar.extui v462
  let c0_i32_185 : BitVec 32 := 0#32
  let v464 : BitVec 1 := Scalar.cmpi .ne v463 c0_i32_185
  v464

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S16x128x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S2x8x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S16x128x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x128x32 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x128x32 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x128x32 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x128x32 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2x128x32 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2x128x32 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S2x128x64 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S2x128x64 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S2x8x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S2048x1280 : Shape := ⟨2, ![2048, 1280]⟩
abbrev S1x16 : Shape := ⟨2, ![1, 16]⟩
abbrev S16x2048x64 : Shape := ⟨3, ![16, 2048, 64]⟩
abbrev S2048x16x64 : Shape := ⟨3, ![2048, 16, 64]⟩
abbrev S1x2048x1024 : Shape := ⟨3, ![1, 2048, 1024]⟩
abbrev S2048 : Shape := ⟨1, ![2048]⟩
abbrev S1x2048x1280 : Shape := ⟨3, ![1, 2048, 1280]⟩
abbrev S1x2048x16x64 : Shape := ⟨4, ![1, 2048, 16, 64]⟩
abbrev S1x2048x128 : Shape := ⟨3, ![1, 2048, 128]⟩
abbrev S1x2048x2x64 : Shape := ⟨4, ![1, 2048, 2, 64]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S1x2048x16x32 : Shape := ⟨4, ![1, 2048, 16, 32]⟩
abbrev S1x2048x2x32 : Shape := ⟨4, ![1, 2048, 2, 32]⟩
abbrev S16 : Shape := ⟨1, ![16]⟩
abbrev S1x16x128x2x8x64 : Shape := ⟨6, ![1, 16, 128, 2, 8, 64]⟩
abbrev S1x16x128x2x64 : Shape := ⟨5, ![1, 16, 128, 2, 64]⟩
abbrev S1x1x128x2x64 : Shape := ⟨5, ![1, 1, 128, 2, 64]⟩
abbrev S1x15x128x2x64 : Shape := ⟨5, ![1, 15, 128, 2, 64]⟩
abbrev S1x16x256x2x64 : Shape := ⟨5, ![1, 16, 256, 2, 64]⟩
abbrev S1x16x2x256x128x8 : Shape := ⟨6, ![1, 16, 2, 256, 128, 8]⟩
abbrev S1x16x2x8x128x256 : Shape := ⟨6, ![1, 16, 2, 8, 128, 256]⟩
abbrev S16x1 : Shape := ⟨2, ![16, 1]⟩
abbrev S128 : Shape := ⟨1, ![128]⟩
abbrev S1x128 : Shape := ⟨2, ![1, 128]⟩
abbrev S16x128 : Shape := ⟨2, ![16, 128]⟩
abbrev S256 : Shape := ⟨1, ![256]⟩
abbrev S1x256 : Shape := ⟨2, ![1, 256]⟩
abbrev S16x256 : Shape := ⟨2, ![16, 256]⟩
abbrev S16x128x1 : Shape := ⟨3, ![16, 128, 1]⟩
abbrev S16x1x256 : Shape := ⟨3, ![16, 1, 256]⟩
abbrev S16x128x256 : Shape := ⟨3, ![16, 128, 256]⟩
abbrev S1x16x1x1x128x256 : Shape := ⟨6, ![1, 16, 1, 1, 128, 256]⟩
abbrev S2x8 : Shape := ⟨2, ![2, 8]⟩
abbrev S1x1x2x8x1x1 : Shape := ⟨6, ![1, 1, 2, 8, 1, 1]⟩
abbrev S1x16x2x8x128x1 : Shape := ⟨6, ![1, 16, 2, 8, 128, 1]⟩
abbrev S1x16x2x8x128x257 : Shape := ⟨6, ![1, 16, 2, 8, 128, 257]⟩
abbrev S1x16x2x8x128 : Shape := ⟨5, ![1, 16, 2, 8, 128]⟩
abbrev S1x16x2x64x8x128 : Shape := ⟨6, ![1, 16, 2, 64, 8, 128]⟩
abbrev S1x16x2x64x256 : Shape := ⟨5, ![1, 16, 2, 64, 256]⟩
abbrev S16x2x8x128 : Shape := ⟨4, ![16, 2, 8, 128]⟩
abbrev S1x16x2x128x8x64 : Shape := ⟨6, ![1, 16, 2, 128, 8, 64]⟩
abbrev S1x16x2x256x64 : Shape := ⟨5, ![1, 16, 2, 256, 64]⟩
abbrev S1280 : Shape := ⟨1, ![1280]⟩
abbrev S1x1280 : Shape := ⟨2, ![1, 1280]⟩

abbrev nBuf : Space → Nat
  | .hbm => 314
  | .vmem => 0
  | .smem => 0
  | _ => 0

abbrev hbmTy0_0 (i : Nat) : BufTy := match i % 128 with
  | 0 => ⟨S2048x1280, .f32⟩
  | 1 => ⟨S1x16, .f32⟩
  | 2 => ⟨S16x2048x64, .f32⟩
  | 3 => ⟨S2048x16x64, .f32⟩
  | 4 => ⟨S1x2048x1024, .f32⟩
  | 5 => ⟨S2048, .f32⟩
  | 6 => ⟨S1x2048x1280, .f32⟩
  | 7 => ⟨S1x2048x1024, .f32⟩
  | 8 => ⟨S1x2048x16x64, .f32⟩
  | 9 => ⟨S1x2048x128, .f32⟩
  | 10 => ⟨S1x2048x2x64, .f32⟩
  | 11 => ⟨S1x2048x128, .f32⟩
  | 12 => ⟨S1x2048x2x64, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S32, .f32⟩
  | 21 => ⟨S_, .f32⟩
  | 22 => ⟨S32, .f32⟩
  | 23 => ⟨S32, .f32⟩
  | 24 => ⟨S_, .f32⟩
  | 25 => ⟨S32, .f32⟩
  | 26 => ⟨S32, .f32⟩
  | 27 => ⟨S2048x1, .f32⟩
  | 28 => ⟨S1x32, .f32⟩
  | 29 => ⟨S2048x32, .f32⟩
  | 30 => ⟨S2048x32, .f32⟩
  | 31 => ⟨S2048x32, .f32⟩
  | 32 => ⟨S2048x32, .f32⟩
  | 33 => ⟨S1x2048x1x32, .f32⟩
  | 34 => ⟨S2048x32, .f32⟩
  | 35 => ⟨S1x2048x1x32, .f32⟩
  | 36 => ⟨S1x2048x16x32, .f32⟩
  | 37 => ⟨S1x2048x16x32, .f32⟩
  | 38 => ⟨S1x2048x16x32, .f32⟩
  | 39 => ⟨S1x2048x16x32, .f32⟩
  | 40 => ⟨S1x2048x16x32, .f32⟩
  | 41 => ⟨S1x2048x16x32, .f32⟩
  | 42 => ⟨S1x2048x16x32, .f32⟩
  | 43 => ⟨S1x2048x16x32, .f32⟩
  | 44 => ⟨S1x2048x16x32, .f32⟩
  | 45 => ⟨S1x2048x16x32, .f32⟩
  | 46 => ⟨S1x2048x16x32, .f32⟩
  | 47 => ⟨S1x2048x16x32, .f32⟩
  | 48 => ⟨S1x2048x16x64, .f32⟩
  | 49 => ⟨S32, .f32⟩
  | 50 => ⟨S_, .f32⟩
  | 51 => ⟨S32, .f32⟩
  | 52 => ⟨S32, .f32⟩
  | 53 => ⟨S_, .f32⟩
  | 54 => ⟨S32, .f32⟩
  | 55 => ⟨S32, .f32⟩
  | 56 => ⟨S32, .f32⟩
  | 57 => ⟨S_, .f32⟩
  | 58 => ⟨S32, .f32⟩
  | 59 => ⟨S32, .f32⟩
  | 60 => ⟨S_, .f32⟩
  | 61 => ⟨S32, .f32⟩
  | 62 => ⟨S32, .f32⟩
  | 63 => ⟨S2048x1, .f32⟩
  | 64 => ⟨S1x32, .f32⟩
  | 65 => ⟨S2048x32, .f32⟩
  | 66 => ⟨S2048x32, .f32⟩
  | 67 => ⟨S2048x32, .f32⟩
  | 68 => ⟨S2048x32, .f32⟩
  | 69 => ⟨S1x2048x1x32, .f32⟩
  | 70 => ⟨S2048x32, .f32⟩
  | 71 => ⟨S1x2048x1x32, .f32⟩
  | 72 => ⟨S1x2048x2x32, .f32⟩
  | 73 => ⟨S1x2048x2x32, .f32⟩
  | 74 => ⟨S1x2048x2x32, .f32⟩
  | 75 => ⟨S1x2048x2x32, .f32⟩
  | 76 => ⟨S1x2048x2x32, .f32⟩
  | 77 => ⟨S1x2048x2x32, .f32⟩
  | 78 => ⟨S1x2048x2x32, .f32⟩
  | 79 => ⟨S1x2048x2x32, .f32⟩
  | 80 => ⟨S1x2048x2x32, .f32⟩
  | 81 => ⟨S1x2048x2x32, .f32⟩
  | 82 => ⟨S1x2048x2x32, .f32⟩
  | 83 => ⟨S1x2048x2x32, .f32⟩
  | 84 => ⟨S1x2048x2x64, .f32⟩
  | 85 => ⟨S16, .f32⟩
  | 86 => ⟨S1x16x128x2x8x64, .f32⟩
  | 87 => ⟨S1x16x128x2x64, .f32⟩
  | 88 => ⟨S1x1x128x2x64, .f32⟩
  | 89 => ⟨S_, .f32⟩
  | 90 => ⟨S1x1x128x2x64, .f32⟩
  | 91 => ⟨S1x15x128x2x64, .f32⟩
  | 92 => ⟨S1x16x128x2x64, .f32⟩
  | 93 => ⟨S_, .f32⟩
  | 94 => ⟨S1x1x128x2x64, .f32⟩
  | 95 => ⟨S1x16x256x2x64, .f32⟩
  | 96 => ⟨S1x16x128x2x64, .f32⟩
  | 97 => ⟨S1x1x128x2x64, .f32⟩
  | 98 => ⟨S_, .f32⟩
  | 99 => ⟨S1x1x128x2x64, .f32⟩
  | 100 => ⟨S1x15x128x2x64, .f32⟩
  | 101 => ⟨S1x16x128x2x64, .f32⟩
  | 102 => ⟨S_, .f32⟩
  | 103 => ⟨S1x1x128x2x64, .f32⟩
  | 104 => ⟨S1x16x256x2x64, .f32⟩
  | 105 => ⟨S1x16x2x256x128x8, .f32⟩
  | 106 => ⟨S1x16x2x8x128x256, .f32⟩
  | 107 => ⟨S_, .f32⟩
  | 108 => ⟨S1x16x2x8x128x256, .f32⟩
  | 109 => ⟨S1x16x2x8x128x256, .f32⟩
  | 110 => ⟨S16, .i32⟩
  | 111 => ⟨S16x1, .i32⟩
  | 112 => ⟨S_, .i32⟩
  | 113 => ⟨S16x1, .i32⟩
  | 114 => ⟨S16x1, .i32⟩
  | 115 => ⟨S128, .i32⟩
  | 116 => ⟨S1x128, .i32⟩
  | 117 => ⟨S16x128, .i32⟩
  | 118 => ⟨S16x128, .i32⟩
  | 119 => ⟨S16x128, .i32⟩
  | 120 => ⟨S_, .i32⟩
  | 121 => ⟨S16x1, .i32⟩
  | 122 => ⟨S16x1, .i32⟩
  | 123 => ⟨S_, .i32⟩
  | 124 => ⟨S16x1, .i32⟩
  | 125 => ⟨S16x1, .i32⟩
  | 126 => ⟨S256, .i32⟩
  | 127 => ⟨S1x256, .i32⟩
  | _ => ⟨S2048x1280, .f32⟩

abbrev hbmTy0_1 (i : Nat) : BufTy := match i % 128 with
  | 0 => ⟨S16x256, .i32⟩
  | 1 => ⟨S16x256, .i32⟩
  | 2 => ⟨S16x256, .i32⟩
  | 3 => ⟨S16x128x1, .i32⟩
  | 4 => ⟨S16x1x256, .i32⟩
  | 5 => ⟨S16x128x256, .i32⟩
  | 6 => ⟨S16x128x256, .i32⟩
  | 7 => ⟨S16x128x256, .i32⟩
  | 8 => ⟨S_, .i32⟩
  | 9 => ⟨S16x128x256, .i32⟩
  | 10 => ⟨S16x128x256, .i1⟩
  | 11 => ⟨S_, .i32⟩
  | 12 => ⟨S16x128x256, .i32⟩
  | 13 => ⟨S16x128x256, .i1⟩
  | 14 => ⟨S16x128x256, .i1⟩
  | 15 => ⟨S16x1x256, .i32⟩
  | 16 => ⟨S_, .i32⟩
  | 17 => ⟨S16x1x256, .i32⟩
  | 18 => ⟨S16x1x256, .i1⟩
  | 19 => ⟨S16x128x256, .i1⟩
  | 20 => ⟨S16x128x256, .i1⟩
  | 21 => ⟨S1x16x1x1x128x256, .i1⟩
  | 22 => ⟨S_, .f32⟩
  | 23 => ⟨S_, .f32⟩
  | 24 => ⟨S1x16x2x8x128x256, .i1⟩
  | 25 => ⟨S1x16x2x8x128x256, .f32⟩
  | 26 => ⟨S1x16x2x8x128x256, .f32⟩
  | 27 => ⟨S_, .f32⟩
  | 28 => ⟨S1x16x2x8x128x256, .f32⟩
  | 29 => ⟨S2x8, .f32⟩
  | 30 => ⟨S1x1x2x8x1x1, .f32⟩
  | 31 => ⟨S1x16x2x8x128x1, .f32⟩
  | 32 => ⟨S1x16x2x8x128x257, .f32⟩
  | 33 => ⟨S_, .f32⟩
  | 34 => ⟨S1x16x2x8x128, .f32⟩
  | 35 => ⟨S1x16x2x8x128x1, .f32⟩
  | 36 => ⟨S1x16x2x8x128x257, .f32⟩
  | 37 => ⟨S1x16x2x8x128x257, .i1⟩
  | 38 => ⟨S1x16x2x8x128x257, .f32⟩
  | 39 => ⟨S_, .f32⟩
  | 40 => ⟨S1x16x2x8x128, .f32⟩
  | 41 => ⟨S_, .f32⟩
  | 42 => ⟨S1x16x2x8x128, .f32⟩
  | 43 => ⟨S1x16x2x8x128, .f32⟩
  | 44 => ⟨S_, .f32⟩
  | 45 => ⟨S1x16x2x8x128, .f32⟩
  | 46 => ⟨S1x16x2x8x128, .i1⟩
  | 47 => ⟨S_, .f32⟩
  | 48 => ⟨S1x16x2x8x128, .f32⟩
  | 49 => ⟨S1x16x2x8x128, .i1⟩
  | 50 => ⟨S_, .f32⟩
  | 51 => ⟨S1x16x2x8x128, .f32⟩
  | 52 => ⟨S_, .f32⟩
  | 53 => ⟨S1x16x2x8x128, .f32⟩
  | 54 => ⟨S_, .f32⟩
  | 55 => ⟨S1x16x2x8x128, .f32⟩
  | 56 => ⟨S1x16x2x8x128, .f32⟩
  | 57 => ⟨S1x16x2x8x128, .f32⟩
  | 58 => ⟨S1x16x2x8x128x1, .f32⟩
  | 59 => ⟨S1x16x2x8x128x257, .f32⟩
  | 60 => ⟨S1x16x2x8x128x257, .f32⟩
  | 61 => ⟨S1x16x2x8x128x257, .f32⟩
  | 62 => ⟨S_, .f32⟩
  | 63 => ⟨S1x16x2x8x128, .f32⟩
  | 64 => ⟨S1x16x2x8x128x1, .f32⟩
  | 65 => ⟨S1x16x2x8x128x257, .f32⟩
  | 66 => ⟨S1x16x2x8x128x257, .f32⟩
  | 67 => ⟨S1x16x2x8x128x1, .f32⟩
  | 68 => ⟨S_, .f32⟩
  | 69 => ⟨S1x16x2x8x128x1, .f32⟩
  | 70 => ⟨S1x16x2x8x128x1, .f32⟩
  | 71 => ⟨S1x16x2x8x128x256, .f32⟩
  | 72 => ⟨S1x16x2x64x8x128, .f32⟩
  | 73 => ⟨S1x16x128x2x8x64, .f32⟩
  | 74 => ⟨S1x2048x1024, .f32⟩
  | 75 => ⟨S1x16x128x2x8x64, .f32⟩
  | 76 => ⟨S1x16x2x64x8x128, .f32⟩
  | 77 => ⟨S1x16x2x8x128x256, .f32⟩
  | 78 => ⟨S1x16x2x64x256, .f32⟩
  | 79 => ⟨S1x16x256x2x64, .f32⟩
  | 80 => ⟨S_, .f32⟩
  | 81 => ⟨S1x16x2x8x128x257, .f32⟩
  | 82 => ⟨S1x16x2x8x128x257, .f32⟩
  | 83 => ⟨S1x16x2x8x128x257, .f32⟩
  | 84 => ⟨S1x16x2x8x128x257, .f32⟩
  | 85 => ⟨S_, .f32⟩
  | 86 => ⟨S1x16x2x8x128, .f32⟩
  | 87 => ⟨S1x16x2x8x128x1, .f32⟩
  | 88 => ⟨S1x16x2x8x128x1, .f32⟩
  | 89 => ⟨S1x16x2x8x128x257, .f32⟩
  | 90 => ⟨S1x16x2x8x128x257, .f32⟩
  | 91 => ⟨S_, .f32⟩
  | 92 => ⟨S16x2x8x128, .f32⟩
  | 93 => ⟨S1x16x2x8x128, .f32⟩
  | 94 => ⟨S1x16x2x8x128x257, .f32⟩
  | 95 => ⟨S1x16x2x8x128x257, .f32⟩
  | 96 => ⟨S1x16x2x8x128x257, .f32⟩
  | 97 => ⟨S1x16x2x8x128x256, .f32⟩
  | 98 => ⟨S1x16x2x8x128x1, .f32⟩
  | 99 => ⟨S_, .f32⟩
  | 100 => ⟨S2x8, .f32⟩
  | 101 => ⟨S1x1x2x8x1x1, .f32⟩
  | 102 => ⟨S_, .f32⟩
  | 103 => ⟨S2x8, .f32⟩
  | 104 => ⟨S16, .f32⟩
  | 105 => ⟨S_, .f32⟩
  | 106 => ⟨S1x16x2x8x128x256, .f32⟩
  | 107 => ⟨S1x16x2x8x128x256, .f32⟩
  | 108 => ⟨S_, .f32⟩
  | 109 => ⟨S1x16x2x8x128x256, .f32⟩
  | 110 => ⟨S1x16x2x8x128x256, .f32⟩
  | 111 => ⟨S1x16x2x256x128x8, .f32⟩
  | 112 => ⟨S1x16x2x128x8x64, .f32⟩
  | 113 => ⟨S1x16x128x2x8x64, .f32⟩
  | 114 => ⟨S1x16x2x256x64, .f32⟩
  | 115 => ⟨S1x16x256x2x64, .f32⟩
  | 116 => ⟨S1x16x128x2x64, .f32⟩
  | 117 => ⟨S1x16x128x2x64, .f32⟩
  | 118 => ⟨S1x1x128x2x64, .f32⟩
  | 119 => ⟨S1x15x128x2x64, .f32⟩
  | 120 => ⟨S_, .f32⟩
  | 121 => ⟨S1x16x128x2x64, .f32⟩
  | 122 => ⟨S1x16x128x2x64, .f32⟩
  | 123 => ⟨S1x2048x2x64, .f32⟩
  | 124 => ⟨S1x16x128x2x64, .f32⟩
  | 125 => ⟨S1x16x128x2x64, .f32⟩
  | 126 => ⟨S1x1x128x2x64, .f32⟩
  | 127 => ⟨S1x15x128x2x64, .f32⟩
  | _ => ⟨S2048x1280, .f32⟩

abbrev hbmTy0_2 (i : Nat) : BufTy := match i % 128 with
  | 0 => ⟨S_, .f32⟩
  | 1 => ⟨S1x16x128x2x64, .f32⟩
  | 2 => ⟨S1x16x128x2x64, .f32⟩
  | 3 => ⟨S1x2048x2x64, .f32⟩
  | 4 => ⟨S1x2048x16x64, .f32⟩
  | 5 => ⟨S1x16, .f32⟩
  | 6 => ⟨S1x2048x2x32, .f32⟩
  | 7 => ⟨S1x2048x2x32, .f32⟩
  | 8 => ⟨S1x2048x2x32, .f32⟩
  | 9 => ⟨S1x2048x2x32, .f32⟩
  | 10 => ⟨S1x2048x2x32, .f32⟩
  | 11 => ⟨S1x2048x2x32, .f32⟩
  | 12 => ⟨S1x2048x2x32, .f32⟩
  | 13 => ⟨S1x2048x2x32, .f32⟩
  | 14 => ⟨S1x2048x2x32, .f32⟩
  | 15 => ⟨S1x2048x2x32, .f32⟩
  | 16 => ⟨S1x2048x2x32, .f32⟩
  | 17 => ⟨S1x2048x2x32, .f32⟩
  | 18 => ⟨S1x2048x2x32, .f32⟩
  | 19 => ⟨S_, .f32⟩
  | 20 => ⟨S1x2048x2x64, .f32⟩
  | 21 => ⟨S_, .f32⟩
  | 22 => ⟨S1x2048x2x64, .f32⟩
  | 23 => ⟨S1x2048x2x64, .f32⟩
  | 24 => ⟨S1x2048x16x32, .f32⟩
  | 25 => ⟨S1x2048x16x32, .f32⟩
  | 26 => ⟨S1x2048x16x32, .f32⟩
  | 27 => ⟨S1x2048x16x32, .f32⟩
  | 28 => ⟨S1x2048x16x32, .f32⟩
  | 29 => ⟨S1x2048x16x32, .f32⟩
  | 30 => ⟨S1x2048x16x32, .f32⟩
  | 31 => ⟨S1x2048x16x32, .f32⟩
  | 32 => ⟨S1x2048x16x32, .f32⟩
  | 33 => ⟨S1x2048x16x32, .f32⟩
  | 34 => ⟨S1x2048x16x32, .f32⟩
  | 35 => ⟨S1x2048x16x32, .f32⟩
  | 36 => ⟨S1x2048x16x32, .f32⟩
  | 37 => ⟨S_, .f32⟩
  | 38 => ⟨S1x2048x16x64, .f32⟩
  | 39 => ⟨S_, .f32⟩
  | 40 => ⟨S1x2048x16x64, .f32⟩
  | 41 => ⟨S1x2048x16x64, .f32⟩
  | 42 => ⟨S1x2048x128, .f32⟩
  | 43 => ⟨S_, .f32⟩
  | 44 => ⟨S1x2048x1280, .f32⟩
  | 45 => ⟨S1x2048x128, .f32⟩
  | 46 => ⟨S_, .f32⟩
  | 47 => ⟨S1x2048x1280, .f32⟩
  | 48 => ⟨S1x2048x1280, .f32⟩
  | 49 => ⟨S1x2048x1024, .f32⟩
  | 50 => ⟨S_, .f32⟩
  | 51 => ⟨S1x2048x1280, .f32⟩
  | 52 => ⟨S1x2048x1280, .f32⟩
  | 53 => ⟨S_, .f32⟩
  | 54 => ⟨S2048x1280, .f32⟩
  | 55 => ⟨S_, .f32⟩
  | 56 => ⟨S1280, .f32⟩
  | 57 => ⟨S1x1280, .f32⟩
  | _ => ⟨S2048x1280, .f32⟩

abbrev hbmTy (i : Nat) : BufTy := match i / 128 with
  | 0 => hbmTy0_0 i
  | 1 => hbmTy0_1 i
  | 2 => hbmTy0_2 i
  | _ => ⟨S2048x1280, .f32⟩

abbrev bufTy : (tb : Table) → Fin (tcTables nBuf tb) → BufTy
  | .hbm, ⟨i, _⟩ => hbmTy i
  | _, _ => ⟨S2048x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst_3 : Ref sig .tc := ⟨.hbm, 50, rfl⟩
abbrev main_v43 : Ref sig .tc := ⟨.hbm, 51, rfl⟩
abbrev main_v44 : Ref sig .tc := ⟨.hbm, 52, rfl⟩
abbrev main_cst_4 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_5 : Ref sig .tc := ⟨.hbm, 57, rfl⟩
abbrev main_v48 : Ref sig .tc := ⟨.hbm, 58, rfl⟩
abbrev main_v49 : Ref sig .tc := ⟨.hbm, 59, rfl⟩
abbrev main_cst_6 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_cst_7 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_cst_8 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_cst_9 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_cst_10 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_cst_11 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_c : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_c_12 : Ref sig .tc := ⟨.hbm, 120, rfl⟩
abbrev main_v103 : Ref sig .tc := ⟨.hbm, 121, rfl⟩
abbrev main_v104 : Ref sig .tc := ⟨.hbm, 122, rfl⟩
abbrev main_c_13 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_c_14 : Ref sig .tc := ⟨.hbm, 136, rfl⟩
abbrev main_v117 : Ref sig .tc := ⟨.hbm, 137, rfl⟩
abbrev main_v118 : Ref sig .tc := ⟨.hbm, 138, rfl⟩
abbrev main_c_15 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_c_16 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_cst_17 : Ref sig .tc := ⟨.hbm, 150, rfl⟩
abbrev main_call0_v0 : Ref sig .tc := ⟨.hbm, 151, rfl⟩
abbrev main_v128_1 : Ref sig .tc := ⟨.hbm, 152, rfl⟩
abbrev main_call0_v2 : Ref sig .tc := ⟨.hbm, 153, rfl⟩
abbrev main_v128_0 : Ref sig .tc := ⟨.hbm, 154, rfl⟩
abbrev main_call0_cst : Ref sig .tc := ⟨.hbm, 155, rfl⟩
abbrev main_v128_2 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_cst_18 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_cst_19 : Ref sig .tc := ⟨.hbm, 167, rfl⟩
abbrev main_v138 : Ref sig .tc := ⟨.hbm, 168, rfl⟩
abbrev main_cst_20 : Ref sig .tc := ⟨.hbm, 169, rfl⟩
abbrev main_v139 : Ref sig .tc := ⟨.hbm, 170, rfl⟩
abbrev main_v140 : Ref sig .tc := ⟨.hbm, 171, rfl⟩
abbrev main_cst_21 : Ref sig .tc := ⟨.hbm, 172, rfl⟩
abbrev main_v141 : Ref sig .tc := ⟨.hbm, 173, rfl⟩
abbrev main_v142 : Ref sig .tc := ⟨.hbm, 174, rfl⟩
abbrev main_cst_22 : Ref sig .tc := ⟨.hbm, 175, rfl⟩
abbrev main_v143 : Ref sig .tc := ⟨.hbm, 176, rfl⟩
abbrev main_v144 : Ref sig .tc := ⟨.hbm, 177, rfl⟩
abbrev main_cst_23 : Ref sig .tc := ⟨.hbm, 178, rfl⟩
abbrev main_v145 : Ref sig .tc := ⟨.hbm, 179, rfl⟩
abbrev main_cst_24 : Ref sig .tc := ⟨.hbm, 180, rfl⟩
abbrev main_v146 : Ref sig .tc := ⟨.hbm, 181, rfl⟩
abbrev main_cst_25 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_cst_26 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_cst_27 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_cst_28 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_cst_29 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_cst_30 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_cst_31 : Ref sig .tc := ⟨.hbm, 227, rfl⟩
abbrev main_v186 : Ref sig .tc := ⟨.hbm, 228, rfl⟩
abbrev main_v187 : Ref sig .tc := ⟨.hbm, 229, rfl⟩
abbrev main_cst_32 : Ref sig .tc := ⟨.hbm, 230, rfl⟩
abbrev main_v188 : Ref sig .tc := ⟨.hbm, 231, rfl⟩
abbrev main_v189 : Ref sig .tc := ⟨.hbm, 232, rfl⟩
abbrev main_call1_cst : Ref sig .tc := ⟨.hbm, 233, rfl⟩
abbrev main_call1_v0 : Ref sig .tc := ⟨.hbm, 234, rfl⟩
abbrev main_v190 : Ref sig .tc := ⟨.hbm, 235, rfl⟩
abbrev main_cst_33 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_cst_34 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_cst_35 : Ref sig .tc := ⟨.hbm, 256, rfl⟩
abbrev main_v209 : Ref sig .tc := ⟨.hbm, 257, rfl⟩
abbrev main_v210 : Ref sig .tc := ⟨.hbm, 258, rfl⟩
abbrev main_v211 : Ref sig .tc := ⟨.hbm, 259, rfl⟩
abbrev main_v212 : Ref sig .tc := ⟨.hbm, 260, rfl⟩
abbrev main_v213 : Ref sig .tc := ⟨.hbm, 261, rfl⟩
abbrev main_v214 : Ref sig .tc := ⟨.hbm, 262, rfl⟩
abbrev main_v215 : Ref sig .tc := ⟨.hbm, 263, rfl⟩
abbrev main_v216 : Ref sig .tc := ⟨.hbm, 264, rfl⟩
abbrev main_v217 : Ref sig .tc := ⟨.hbm, 265, rfl⟩
abbrev main_v218 : Ref sig .tc := ⟨.hbm, 266, rfl⟩
abbrev main_v219 : Ref sig .tc := ⟨.hbm, 267, rfl⟩
abbrev main_v220 : Ref sig .tc := ⟨.hbm, 268, rfl⟩
abbrev main_v221 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_v225 : Ref sig .tc := ⟨.hbm, 273, rfl⟩
abbrev main_v226 : Ref sig .tc := ⟨.hbm, 274, rfl⟩
abbrev main_cst_36 : Ref sig .tc := ⟨.hbm, 275, rfl⟩
abbrev main_v227 : Ref sig .tc := ⟨.hbm, 276, rfl⟩
abbrev main_cst_37 : Ref sig .tc := ⟨.hbm, 277, rfl⟩
abbrev main_v228 : Ref sig .tc := ⟨.hbm, 278, rfl⟩
abbrev main_v229 : Ref sig .tc := ⟨.hbm, 279, rfl⟩
abbrev main_v230 : Ref sig .tc := ⟨.hbm, 280, rfl⟩
abbrev main_v231 : Ref sig .tc := ⟨.hbm, 281, rfl⟩
abbrev main_v232 : Ref sig .tc := ⟨.hbm, 282, rfl⟩
abbrev main_v233 : Ref sig .tc := ⟨.hbm, 283, rfl⟩
abbrev main_v234 : Ref sig .tc := ⟨.hbm, 284, rfl⟩
abbrev main_v235 : Ref sig .tc := ⟨.hbm, 285, rfl⟩
abbrev main_v236 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_v240 : Ref sig .tc := ⟨.hbm, 290, rfl⟩
abbrev main_v241 : Ref sig .tc := ⟨.hbm, 291, rfl⟩
abbrev main_v242 : Ref sig .tc := ⟨.hbm, 292, rfl⟩
abbrev main_cst_38 : Ref sig .tc := ⟨.hbm, 293, rfl⟩
abbrev main_v243 : Ref sig .tc := ⟨.hbm, 294, rfl⟩
abbrev main_cst_39 : Ref sig .tc := ⟨.hbm, 295, rfl⟩
abbrev main_v244 : Ref sig .tc := ⟨.hbm, 296, rfl⟩
abbrev main_v245 : Ref sig .tc := ⟨.hbm, 297, rfl⟩
abbrev main_v246 : Ref sig .tc := ⟨.hbm, 298, rfl⟩
abbrev main_cst_40 : Ref sig .tc := ⟨.hbm, 299, rfl⟩
abbrev main_v247 : Ref sig .tc := ⟨.hbm, 300, rfl⟩
abbrev main_v248 : Ref sig .tc := ⟨.hbm, 301, rfl⟩
abbrev main_cst_41 : Ref sig .tc := ⟨.hbm, 302, rfl⟩
abbrev main_v249 : Ref sig .tc := ⟨.hbm, 303, rfl⟩
abbrev main_v250 : Ref sig .tc := ⟨.hbm, 304, rfl⟩
abbrev main_v251 : Ref sig .tc := ⟨.hbm, 305, rfl⟩
abbrev main_cst_42 : Ref sig .tc := ⟨.hbm, 306, rfl⟩
abbrev main_v252 : Ref sig .tc := ⟨.hbm, 307, rfl⟩
abbrev main_v253 : Ref sig .tc := ⟨.hbm, 308, rfl⟩
abbrev main_cst_43 : Ref sig .tc := ⟨.hbm, 309, rfl⟩
abbrev main_v254 : Ref sig .tc := ⟨.hbm, 310, rfl⟩
abbrev main_cst_44 : Ref sig .tc := ⟨.hbm, 311, rfl⟩
abbrev main_v255 : Ref sig .tc := ⟨.hbm, 312, rfl⟩
abbrev main_v256 : Ref sig .tc := ⟨.hbm, 313, rfl⟩

abbrev nD : Nat := 1
abbrev τ : Topo := Topo.v7x

variable {F : FTy → Type} [FloatOps F]
-- ==== Kernel2.lean ====
abbrev S2048x2048 : Shape := ⟨2, ![2048, 2048]⟩
abbrev S8x2048x704 : Shape := ⟨3, ![8, 2048, 704]⟩
abbrev S2048x1024 : Shape := ⟨2, ![2048, 1024]⟩
abbrev S1x2048x704 : Shape := ⟨3, ![1, 2048, 704]⟩
abbrev S1x1024x704 : Shape := ⟨3, ![1, 1024, 704]⟩
abbrev S2048x704 : Shape := ⟨2, ![2048, 704]⟩
abbrev S1024x704 : Shape := ⟨2, ![1024, 704]⟩

abbrev nBuf : Space → Nat
  | .hbm => 5
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S8x2048x704, .bf16⟩
  | .hbm, ⟨2, _⟩ => ⟨S8x2048x704, .bf16⟩
  | .hbm, ⟨3, _⟩ => ⟨S8x2048x704, .bf16⟩
  | .hbm, ⟨4, _⟩ => ⟨S8x2048x704, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S2048x2048 : Shape := ⟨2, ![2048, 2048]⟩
abbrev S8x2048x704 : Shape := ⟨3, ![8, 2048, 704]⟩
abbrev S_ : Shape := ⟨0, ![]⟩
abbrev S2048x5632 : Shape := ⟨2, ![2048, 5632]⟩
abbrev S2048x8x704 : Shape := ⟨3, ![2048, 8, 704]⟩
abbrev S5632x2048 : Shape := ⟨2, ![5632, 2048]⟩

abbrev nBuf : Space → Nat
  | .hbm => 25
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x704, .bf16⟩
  | .hbm, ⟨2, _⟩ => ⟨S8x2048x704, .bf16⟩
  | .hbm, ⟨3, _⟩ => ⟨S_, .f32⟩
  | .hbm, ⟨4, _⟩ => ⟨S2048x5632, .f32⟩
  | .hbm, ⟨5, _⟩ => ⟨S2048x2048, .f32⟩
  | .hbm, ⟨6, _⟩ => ⟨S2048x5632, .f32⟩
  | .hbm, ⟨7, _⟩ => ⟨S2048x2048, .f32⟩
  | .hbm, ⟨8, _⟩ => ⟨S2048x5632, .f32⟩
  | .hbm, ⟨9, _⟩ => ⟨S8x2048x704, .f32⟩
  | .hbm, ⟨10, _⟩ => ⟨S2048x8x704, .f32⟩
  | .hbm, ⟨11, _⟩ => ⟨S2048x5632, .f32⟩
  | .hbm, ⟨12, _⟩ => ⟨S8x2048x704, .f32⟩
  | .hbm, ⟨13, _⟩ => ⟨S2048x8x704, .f32⟩
  | .hbm, ⟨14, _⟩ => ⟨S2048x5632, .f32⟩
  | .hbm, ⟨15, _⟩ => ⟨S5632x2048, .f32⟩
  | .hbm, ⟨16, _⟩ => ⟨S2048x5632, .f32⟩
  | .hbm, ⟨17, _⟩ => ⟨S5632x2048, .f32⟩
  | .hbm, ⟨18, _⟩ => ⟨S2048x5632, .f32⟩
  | .hbm, ⟨19, _⟩ => ⟨S2048x8x704, .f32⟩
  | .hbm, ⟨20, _⟩ => ⟨S8x2048x704, .f32⟩
  | .hbm, ⟨21, _⟩ => ⟨S8x2048x704, .bf16⟩
  | .hbm, ⟨22, _⟩ => ⟨S2048x8x704, .f32⟩
  | .hbm, ⟨23, _⟩ => ⟨S8x2048x704, .f32⟩
  | .hbm, ⟨24, _⟩ => ⟨S8x2048x704, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]
-- ==== Kernel3.lean ====
abbrev S8x2048x704 : Shape := ⟨3, ![8, 2048, 704]⟩
abbrev S2048x2048 : Shape := ⟨2, ![2048, 2048]⟩
abbrev S8x512x704 : Shape := ⟨3, ![8, 512, 704]⟩
abbrev S512x512 : Shape := ⟨2, ![512, 512]⟩
abbrev S1x512x704 : Shape := ⟨3, ![1, 512, 704]⟩
abbrev S512x704 : Shape := ⟨2, ![512, 704]⟩

abbrev nBuf : Space → Nat
  | .hbm => 3
  | .vmem => 6
  | .smem => 0
  | _ => 0

abbrev bufTy : (tb : Table) → Fin (tcTables nBuf tb) → BufTy
  | .hbm, ⟨0, _⟩ => ⟨S8x2048x704, .bf16⟩
  | .hbm, ⟨1, _⟩ => ⟨S8x2048x704, .bf16⟩
  | .hbm, ⟨2, _⟩ => ⟨S2048x2048, .f32⟩
  | .local _ .vmem, ⟨0, _⟩ => ⟨S8x512x704, .bf16⟩
  | .local _ .vmem, ⟨1, _⟩ => ⟨S8x512x704, .bf16⟩
  | .local _ .vmem, ⟨2, _⟩ => ⟨S8x512x704, .bf16⟩
  | .local _ .vmem, ⟨3, _⟩ => ⟨S8x512x704, .bf16⟩
  | .local _ .vmem, ⟨4, _⟩ => ⟨S512x512, .f32⟩
  | .local _ .vmem, ⟨5, _⟩ => ⟨S512x512, .f32⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8x2048x704 : Shape := ⟨3, ![8, 2048, 704]⟩
abbrev S_ : Shape := ⟨0, ![]⟩
abbrev S2048x2048 : Shape := ⟨2, ![2048, 2048]⟩
abbrev S2048x8x704 : Shape := ⟨3, ![2048, 8, 704]⟩
abbrev S2048x5632 : Shape := ⟨2, ![2048, 5632]⟩

abbrev nBuf : Space → Nat
  | .hbm => 12
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S8x2048x704, .bf16⟩
  | .hbm, ⟨2, _⟩ => ⟨S_, .f32⟩
  | .hbm, ⟨3, _⟩ => ⟨S2048x2048, .f32⟩
  | .hbm, ⟨4, _⟩ => ⟨S8x2048x704, .f32⟩
  | .hbm, ⟨5, _⟩ => ⟨S2048x8x704, .f32⟩
  | .hbm, ⟨6, _⟩ => ⟨S2048x5632, .f32⟩
  | .hbm, ⟨7, _⟩ => ⟨S2048x5632, .f32⟩
  | .hbm, ⟨8, _⟩ => ⟨S8x2048x704, .f32⟩
  | .hbm, ⟨9, _⟩ => ⟨S2048x8x704, .f32⟩
  | .hbm, ⟨10, _⟩ => ⟨S2048x5632, .f32⟩
  | .hbm, ⟨11, _⟩ => ⟨S2048x2048, .f32⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S8x2048x704 : Shape := ⟨3, ![8, 2048, 704]⟩
abbrev S2048x2048 : Shape := ⟨2, ![2048, 2048]⟩
abbrev S8x512x704 : Shape := ⟨3, ![8, 512, 704]⟩
abbrev S512x512 : Shape := ⟨2, ![512, 512]⟩
abbrev S1x512x704 : Shape := ⟨3, ![1, 512, 704]⟩
abbrev S512x704 : Shape := ⟨2, ![512, 704]⟩

abbrev nBuf : Space → Nat
  | .hbm => 4
  | .vmem => 8
  | .smem => 0
  | _ => 0

abbrev bufTy : (tb : Table) → Fin (tcTables nBuf tb) → BufTy
  | .hbm, ⟨0, _⟩ => ⟨S8x2048x704, .bf16⟩
  | .hbm, ⟨1, _⟩ => ⟨S8x2048x704, .bf16⟩
  | .hbm, ⟨2, _⟩ => ⟨S2048x2048, .f32⟩
  | .hbm, ⟨3, _⟩ => ⟨S2048x2048, .f32⟩
  | .local _ .vmem, ⟨0, _⟩ => ⟨S8x512x704, .bf16⟩
  | .local _ .vmem, ⟨1, _⟩ => ⟨S8x512x704, .bf16⟩
  | .local _ .vmem, ⟨2, _⟩ => ⟨S8x512x704, .bf16⟩
  | .local _ .vmem, ⟨3, _⟩ => ⟨S8x512x704, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8x2048x704 : Shape := ⟨3, ![8, 2048, 704]⟩
abbrev S2048x2048 : Shape := ⟨2, ![2048, 2048]⟩
abbrev S_ : Shape := ⟨0, ![]⟩
abbrev S2048x8x704 : Shape := ⟨3, ![2048, 8, 704]⟩
abbrev S2048x5632 : Shape := ⟨2, ![2048, 5632]⟩

abbrev nBuf : Space → Nat
  | .hbm => 14
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S8x2048x704, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S8x2048x704, .f32⟩
  | .hbm, ⟨6, _⟩ => ⟨S2048x8x704, .f32⟩
  | .hbm, ⟨7, _⟩ => ⟨S2048x5632, .f32⟩
  | .hbm, ⟨8, _⟩ => ⟨S2048x5632, .f32⟩
  | .hbm, ⟨9, _⟩ => ⟨S8x2048x704, .f32⟩
  | .hbm, ⟨10, _⟩ => ⟨S2048x8x704, .f32⟩
  | .hbm, ⟨11, _⟩ => ⟨S2048x5632, .f32⟩
  | .hbm, ⟨12, _⟩ => ⟨S2048x2048, .f32⟩
  | .hbm, ⟨13, _⟩ => ⟨S2048x2048, .f32⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel5.lean ====
abbrev S2048x2048 : Shape := ⟨2, ![2048, 2048]⟩
abbrev S8x704x2048 : Shape := ⟨3, ![8, 704, 2048]⟩
abbrev S8x2048x704 : Shape := ⟨3, ![8, 2048, 704]⟩
abbrev S512x2048 : Shape := ⟨2, ![512, 2048]⟩
abbrev S1x704x2048 : Shape := ⟨3, ![1, 704, 2048]⟩
abbrev S1x512x704 : Shape := ⟨3, ![1, 512, 704]⟩
abbrev S704x2048 : Shape := ⟨2, ![704, 2048]⟩
abbrev S512x704 : Shape := ⟨2, ![512, 704]⟩

abbrev nBuf : Space → Nat
  | .hbm => 6
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S8x704x2048, .bf16⟩
  | .hbm, ⟨2, _⟩ => ⟨S8x2048x704, .bf16⟩
  | .hbm, ⟨3, _⟩ => ⟨S8x2048x704, .bf16⟩
  | .hbm, ⟨4, _⟩ => ⟨S8x2048x704, .bf16⟩
  | .hbm, ⟨5, _⟩ => ⟨S8x2048x704, .bf16⟩
  | .local _ .vmem, ⟨0, _⟩ => ⟨S512x2048, .f32⟩
  | .local _ .vmem, ⟨1, _⟩ => ⟨S512x2048, .f32⟩
  | .local _ .vmem, ⟨2, _⟩ => ⟨S1x704x2048, .bf16⟩
  | .local _ .vmem, ⟨3, _⟩ => ⟨S1x704x2048, .bf16⟩
  | .local _ .vmem, ⟨4, _⟩ => ⟨S1x512x704, .bf16⟩
  | .local _ .vmem, ⟨5, _⟩ => ⟨S1x512x704, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x512x704, .bf16⟩
  | .local _ .vmem, ⟨10, _⟩ => ⟨S1x512x704, .bf16⟩
  | .local _ .vmem, ⟨11, _⟩ => ⟨S1x512x704, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S2048x2048 : Shape := ⟨2, ![2048, 2048]⟩
abbrev S8x704x2048 : Shape := ⟨3, ![8, 704, 2048]⟩
abbrev S8x2048x704 : Shape := ⟨3, ![8, 2048, 704]⟩
abbrev S2048x8x704 : Shape := ⟨3, ![2048, 8, 704]⟩
abbrev S2048x5632 : Shape := ⟨2, ![2048, 5632]⟩
abbrev S_ : Shape := ⟨0, ![]⟩
abbrev S5632x2048 : Shape := ⟨2, ![5632, 2048]⟩

abbrev nBuf : Space → Nat
  | .hbm => 46
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S8x704x2048, .bf16⟩
  | .hbm, ⟨2, _⟩ => ⟨S8x2048x704, .bf16⟩
  | .hbm, ⟨3, _⟩ => ⟨S8x2048x704, .bf16⟩
  | .hbm, ⟨4, _⟩ => ⟨S8x2048x704, .f32⟩
  | .hbm, ⟨5, _⟩ => ⟨S2048x8x704, .f32⟩
  | .hbm, ⟨6, _⟩ => ⟨S2048x5632, .f32⟩
  | .hbm, ⟨7, _⟩ => ⟨S8x2048x704, .f32⟩
  | .hbm, ⟨8, _⟩ => ⟨S2048x8x704, .f32⟩
  | .hbm, ⟨9, _⟩ => ⟨S2048x5632, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S_, .f32⟩
  | .hbm, ⟨16, _⟩ => ⟨S2048x5632, .f32⟩
  | .hbm, ⟨17, _⟩ => ⟨S2048x5632, .f32⟩
  | .hbm, ⟨18, _⟩ => ⟨S_, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S8x704x2048, .f32⟩
  | .hbm, ⟨25, _⟩ => ⟨S5632x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x5632, .f32⟩
  | .hbm, ⟨34, _⟩ => ⟨S2048x5632, .f32⟩
  | .hbm, ⟨35, _⟩ => ⟨S2048x5632, .f32⟩
  | .hbm, ⟨36, _⟩ => ⟨S2048x5632, .f32⟩
  | .hbm, ⟨37, _⟩ => ⟨S2048x5632, .f32⟩
  | .hbm, ⟨38, _⟩ => ⟨S2048x5632, .f32⟩
  | .hbm, ⟨39, _⟩ => ⟨S2048x5632, .f32⟩
  | .hbm, ⟨40, _⟩ => ⟨S2048x8x704, .f32⟩
  | .hbm, ⟨41, _⟩ => ⟨S8x2048x704, .f32⟩
  | .hbm, ⟨42, _⟩ => ⟨S8x2048x704, .bf16⟩
  | .hbm, ⟨43, _⟩ => ⟨S2048x8x704, .f32⟩
  | .hbm, ⟨44, _⟩ => ⟨S8x2048x704, .f32⟩
  | .hbm, ⟨45, _⟩ => ⟨S8x2048x704, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v6_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v6_1 : Ref sig .tc := ⟨.hbm, 21, rfl⟩
abbrev main_v6_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_cst_0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩

abbrev nD : Nat := 1
abbrev τ : Topo := Topo.v7x

variable {F : FTy → Type} [FloatOps F]
-- ==== Kernel6.lean ====
abbrev S8x2048x704 : Shape := ⟨3, ![8, 2048, 704]⟩
abbrev S2048x2048 : Shape := ⟨2, ![2048, 2048]⟩
abbrev S8x704x2048 : Shape := ⟨3, ![8, 704, 2048]⟩
abbrev S1x2048x704 : Shape := ⟨3, ![1, 2048, 704]⟩
abbrev S2048x1024 : Shape := ⟨2, ![2048, 1024]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8x2048x704, .bf16⟩
  | .hbm, ⟨1, _⟩ => ⟨S2048x2048, .f32⟩
  | .hbm, ⟨2, _⟩ => ⟨S8x704x2048, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .f32⟩
  | .local _ .vmem, ⟨3, _⟩ => ⟨S2048x1024, .f32⟩
  | .local _ .vmem, ⟨4, _⟩ => ⟨S1x704x1024, .bf16⟩
  | .local _ .vmem, ⟨5, _⟩ => ⟨S1x704x1024, .bf16⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8x2048x704 : Shape := ⟨3, ![8, 2048, 704]⟩
abbrev S2048x2048 : Shape := ⟨2, ![2048, 2048]⟩
abbrev S_ : Shape := ⟨0, ![]⟩
abbrev S5632x2048 : Shape := ⟨2, ![5632, 2048]⟩
abbrev S2048x8x704 : Shape := ⟨3, ![2048, 8, 704]⟩
abbrev S2048x5632 : Shape := ⟨2, ![2048, 5632]⟩
abbrev S8x704x2048 : Shape := ⟨3, ![8, 704, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S2048x2048, .f32⟩
  | .hbm, ⟨2, _⟩ => ⟨S_, .f32⟩
  | .hbm, ⟨3, _⟩ => ⟨S5632x2048, .f32⟩
  | .hbm, ⟨4, _⟩ => ⟨S8x2048x704, .f32⟩
  | .hbm, ⟨5, _⟩ => ⟨S2048x8x704, .f32⟩
  | .hbm, ⟨6, _⟩ => ⟨S2048x5632, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x5632, .f32⟩
  | .hbm, ⟨15, _⟩ => ⟨S5632x2048, .f32⟩
  | .hbm, ⟨16, _⟩ => ⟨S5632x2048, .bf16⟩
  | .hbm, ⟨17, _⟩ => ⟨S8x704x2048, .bf16⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel7.lean ====
abbrev S2048x2048 : Shape := ⟨2, ![2048, 2048]⟩
abbrev S8x2048x704 : Shape := ⟨3, ![8, 2048, 704]⟩
abbrev S1024x2048 : Shape := ⟨2, ![1024, 2048]⟩
abbrev S1x2048x704 : Shape := ⟨3, ![1, 2048, 704]⟩
abbrev S1x1024x704 : Shape := ⟨3, ![1, 1024, 704]⟩
abbrev S2048x704 : Shape := ⟨2, ![2048, 704]⟩
abbrev S1024x704 : Shape := ⟨2, ![1024, 704]⟩

abbrev nBuf : Space → Nat
  | .hbm => 6
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S8x2048x704, .bf16⟩
  | .hbm, ⟨2, _⟩ => ⟨S8x2048x704, .bf16⟩
  | .hbm, ⟨3, _⟩ => ⟨S8x2048x704, .bf16⟩
  | .hbm, ⟨4, _⟩ => ⟨S8x2048x704, .bf16⟩
  | .hbm, ⟨5, _⟩ => ⟨S8x2048x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S2048x2048 : Shape := ⟨2, ![2048, 2048]⟩
abbrev S8x2048x704 : Shape := ⟨3, ![8, 2048, 704]⟩
abbrev S2048x8x704 : Shape := ⟨3, ![2048, 8, 704]⟩
abbrev S2048x5632 : Shape := ⟨2, ![2048, 5632]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x704, .bf16⟩
  | .hbm, ⟨2, _⟩ => ⟨S8x2048x704, .bf16⟩
  | .hbm, ⟨3, _⟩ => ⟨S2048x2048, .f32⟩
  | .hbm, ⟨4, _⟩ => ⟨S8x2048x704, .f32⟩
  | .hbm, ⟨5, _⟩ => ⟨S2048x8x704, .f32⟩
  | .hbm, ⟨6, _⟩ => ⟨S2048x5632, .f32⟩
  | .hbm, ⟨7, _⟩ => ⟨S2048x5632, .f32⟩
  | .hbm, ⟨8, _⟩ => ⟨S2048x2048, .f32⟩
  | .hbm, ⟨9, _⟩ => ⟨S8x2048x704, .f32⟩
  | .hbm, ⟨10, _⟩ => ⟨S2048x8x704, .f32⟩
  | .hbm, ⟨11, _⟩ => ⟨S2048x5632, .f32⟩
  | .hbm, ⟨12, _⟩ => ⟨S2048x5632, .f32⟩
  | .hbm, ⟨13, _⟩ => ⟨S2048x8x704, .f32⟩
  | .hbm, ⟨14, _⟩ => ⟨S8x2048x704, .f32⟩
  | .hbm, ⟨15, _⟩ => ⟨S8x2048x704, .bf16⟩
  | .hbm, ⟨16, _⟩ => ⟨S2048x8x704, .f32⟩
  | .hbm, ⟨17, _⟩ => ⟨S8x2048x704, .f32⟩
  | .hbm, ⟨18, _⟩ => ⟨S8x2048x704, .bf16⟩
  | .hbm, ⟨19, _⟩ => ⟨S2048x5632, .f32⟩
  | .hbm, ⟨20, _⟩ => ⟨S2048x5632, .f32⟩
  | .hbm, ⟨21, _⟩ => ⟨S_, .f32⟩
  | .hbm, ⟨22, _⟩ => ⟨S2048x5632, .f32⟩
  | .hbm, ⟨23, _⟩ => ⟨S2048x5632, .f32⟩
  | .hbm, ⟨24, _⟩ => ⟨S_, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x8x704, .f32⟩
  | .hbm, ⟨30, _⟩ => ⟨S8x2048x704, .f32⟩
  | .hbm, ⟨31, _⟩ => ⟨S8x2048x704, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Kernel8.lean ====
abbrev S8x2048x704 : Shape := ⟨3, ![8, 2048, 704]⟩
abbrev S8x704x2048 : Shape := ⟨3, ![8, 704, 2048]⟩
abbrev S2048x2048 : Shape := ⟨2, ![2048, 2048]⟩
abbrev S8x512x704 : Shape := ⟨3, ![8, 512, 704]⟩
abbrev S8x704x512 : Shape := ⟨3, ![8, 704, 512]⟩
abbrev S512x512 : Shape := ⟨2, ![512, 512]⟩
abbrev S1x512x704 : Shape := ⟨3, ![1, 512, 704]⟩
abbrev S512x704 : Shape := ⟨2, ![512, 704]⟩
abbrev S1x704x512 : Shape := ⟨3, ![1, 704, 512]⟩
abbrev S704x512 : Shape := ⟨2, ![704, 512]⟩

abbrev nBuf : Space → Nat
  | .hbm => 4
  | .vmem => 8
  | .smem => 0
  | _ => 0

abbrev bufTy : (tb : Table) → Fin (tcTables nBuf tb) → BufTy
  | .hbm, ⟨0, _⟩ => ⟨S8x2048x704, .bf16⟩
  | .hbm, ⟨1, _⟩ => ⟨S8x704x2048, .bf16⟩
  | .hbm, ⟨2, _⟩ => ⟨S2048x2048, .f32⟩
  | .hbm, ⟨3, _⟩ => ⟨S2048x2048, .f32⟩
  | .local _ .vmem, ⟨0, _⟩ => ⟨S8x512x704, .bf16⟩
  | .local _ .vmem, ⟨1, _⟩ => ⟨S8x512x704, .bf16⟩
  | .local _ .vmem, ⟨2, _⟩ => ⟨S8x704x512, .bf16⟩
  | .local _ .vmem, ⟨3, _⟩ => ⟨S8x704x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x704x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8x2048x704 : Shape := ⟨3, ![8, 2048, 704]⟩
abbrev S8x704x2048 : Shape := ⟨3, ![8, 704, 2048]⟩
abbrev S2048x2048 : Shape := ⟨2, ![2048, 2048]⟩
abbrev S2048x8x704 : Shape := ⟨3, ![2048, 8, 704]⟩
abbrev S2048x5632 : Shape := ⟨2, ![2048, 5632]⟩
abbrev S5632x2048 : Shape := ⟨2, ![5632, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S8x704x2048, .bf16⟩
  | .hbm, ⟨2, _⟩ => ⟨S2048x2048, .f32⟩
  | .hbm, ⟨3, _⟩ => ⟨S8x2048x704, .f32⟩
  | .hbm, ⟨4, _⟩ => ⟨S2048x8x704, .f32⟩
  | .hbm, ⟨5, _⟩ => ⟨S2048x5632, .f32⟩
  | .hbm, ⟨6, _⟩ => ⟨S8x704x2048, .f32⟩
  | .hbm, ⟨7, _⟩ => ⟨S5632x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S2048x2048, .f32⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel9.lean ====
abbrev S2048x2048 : Shape := ⟨2, ![2048, 2048]⟩
abbrev S2048x3072 : Shape := ⟨2, ![2048, 3072]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x3072, .f32⟩
  | .hbm, ⟨2, _⟩ => ⟨S2048x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .f32⟩
  | .local _ .vmem, ⟨3, _⟩ => ⟨S2048x512, .f32⟩
  | .local _ .vmem, ⟨4, _⟩ => ⟨S1024x512, .bf16⟩
  | .local _ .vmem, ⟨5, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S2048x2048 : Shape := ⟨2, ![2048, 2048]⟩
abbrev S2048x3072 : Shape := ⟨2, ![2048, 3072]⟩
abbrev S_ : Shape := ⟨0, ![]⟩
abbrev S3072x2048 : Shape := ⟨2, ![3072, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x3072, .f32⟩
  | .hbm, ⟨2, _⟩ => ⟨S_, .f32⟩
  | .hbm, ⟨3, _⟩ => ⟨S2048x3072, .f32⟩
  | .hbm, ⟨4, _⟩ => ⟨S2048x2048, .f32⟩
  | .hbm, ⟨5, _⟩ => ⟨S2048x3072, .f32⟩
  | .hbm, ⟨6, _⟩ => ⟨S3072x2048, .f32⟩
  | .hbm, ⟨7, _⟩ => ⟨S2048x3072, .f32⟩
  | .hbm, ⟨8, _⟩ => ⟨S2048x3072, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S2048x3072 : Shape := ⟨2, ![2048, 3072]⟩
abbrev S2048x2048 : Shape := ⟨2, ![2048, 2048]⟩
abbrev S1024x3072 : Shape := ⟨2, ![1024, 3072]⟩
abbrev S512x3072 : Shape := ⟨2, ![512, 3072]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x3072, .f32⟩
  | .hbm, ⟨1, _⟩ => ⟨S2048x3072, .bf16⟩
  | .hbm, ⟨2, _⟩ => ⟨S2048x2048, .f32⟩
  | .local _ .vmem, ⟨0, _⟩ => ⟨S1024x3072, .f32⟩
  | .local _ .vmem, ⟨1, _⟩ => ⟨S1024x3072, .f32⟩
  | .local _ .vmem, ⟨2, _⟩ => ⟨S512x3072, .bf16⟩
  | .local _ .vmem, ⟨3, _⟩ => ⟨S512x3072, .bf16⟩
  | .local _ .vmem, ⟨4, _⟩ => ⟨S1024x512, .f32⟩
  | .local _ .vmem, ⟨5, _⟩ => ⟨S1024x512, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S2048x3072 : Shape := ⟨2, ![2048, 3072]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S2048x3072, .bf16⟩
  | .hbm, ⟨2, _⟩ => ⟨S_, .f32⟩
  | .hbm, ⟨3, _⟩ => ⟨S2048x2048, .f32⟩
  | .hbm, ⟨4, _⟩ => ⟨S2048x3072, .f32⟩
  | .hbm, ⟨5, _⟩ => ⟨S2048x3072, .f32⟩
  | .hbm, ⟨6, _⟩ => ⟨S2048x2048, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S2048x2048 : Shape := ⟨2, ![2048, 2048]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .f32⟩
  | .local _ .vmem, ⟨3, _⟩ => ⟨S2048x512, .f32⟩
  | .local _ .vmem, ⟨4, _⟩ => ⟨S1024x512, .bf16⟩
  | .local _ .vmem, ⟨5, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .f32⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S8x3328 : Shape := ⟨2, ![8, 3328]⟩
abbrev S8x8x3328 : Shape := ⟨3, ![8, 8, 3328]⟩
abbrev S1x8x3328 : Shape := ⟨3, ![1, 8, 3328]⟩

abbrev nBuf : Space → Nat
  | .hbm => 8
  | .vmem => 8
  | .smem => 0
  | _ => 0

abbrev bufTy : (tb : Table) → Fin (tcTables nBuf tb) → BufTy
  | .hbm, ⟨0, _⟩ => ⟨S8x3328, .f32⟩
  | .hbm, ⟨1, _⟩ => ⟨S8x3328, .f32⟩
  | .hbm, ⟨2, _⟩ => ⟨S8x3328, .f32⟩
  | .hbm, ⟨3, _⟩ => ⟨S8x8x3328, .f32⟩
  | .hbm, ⟨4, _⟩ => ⟨S8x3328, .f32⟩
  | .hbm, ⟨5, _⟩ => ⟨S8x3328, .f32⟩
  | .hbm, ⟨6, _⟩ => ⟨S8x3328, .f32⟩
  | .hbm, ⟨7, _⟩ => ⟨S8x3328, .f32⟩
  | .local _ .vmem, ⟨0, _⟩ => ⟨S8x3328, .f32⟩
  | .local _ .vmem, ⟨1, _⟩ => ⟨S8x3328, .f32⟩
  | .local _ .vmem, ⟨2, _⟩ => ⟨S8x3328, .f32⟩
  | .local _ .vmem, ⟨3, _⟩ => ⟨S8x8x3328, .f32⟩
  | .local _ .vmem, ⟨4, _⟩ => ⟨S8x3328, .f32⟩
  | .local _ .vmem, ⟨5, _⟩ => ⟨S8x3328, .f32⟩
  | .local _ .vmem, ⟨6, _⟩ => ⟨S8x3328, .f32⟩
  | .local _ .vmem, ⟨7, _⟩ => ⟨S8x3328, .f32⟩
  | _, _ => ⟨S8x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x3328 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x3328 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x3328 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8x3328 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x3328 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x3328 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x3328 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x3328 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference13Ideal.lean ====
abbrev S8x3328 : Shape := ⟨2, ![8, 3328]⟩
abbrev S8x8x3328 : Shape := ⟨3, ![8, 8, 3328]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x3328, .f32⟩
  | .hbm, ⟨1, _⟩ => ⟨S8x3328, .f32⟩
  | .hbm, ⟨2, _⟩ => ⟨S8x3328, .f32⟩
  | .hbm, ⟨3, _⟩ => ⟨S8x8x3328, .f32⟩
  | .hbm, ⟨4, _⟩ => ⟨S_, .f32⟩
  | .hbm, ⟨5, _⟩ => ⟨S8x3328, .f32⟩
  | .hbm, ⟨6, _⟩ => ⟨S_, .f32⟩
  | .hbm, ⟨7, _⟩ => ⟨S8x3328, .f32⟩
  | .hbm, ⟨8, _⟩ => ⟨S8x3328, .f32⟩
  | .hbm, ⟨9, _⟩ => ⟨S_, .f32⟩
  | .hbm, ⟨10, _⟩ => ⟨S8x3328, .f32⟩
  | .hbm, ⟨11, _⟩ => ⟨S8x3328, .f32⟩
  | .hbm, ⟨12, _⟩ => ⟨S8x3328, .f32⟩
  | .hbm, ⟨13, _⟩ => ⟨S_, .f32⟩
  | .hbm, ⟨14, _⟩ => ⟨S8x3328, .f32⟩
  | .hbm, ⟨15, _⟩ => ⟨S8x3328, .f32⟩
  | .hbm, ⟨16, _⟩ => ⟨S8x3328, .f32⟩
  | .hbm, ⟨17, _⟩ => ⟨S_, .f32⟩
  | .hbm, ⟨18, _⟩ => ⟨S8x3328, .f32⟩
  | .hbm, ⟨19, _⟩ => ⟨S8x3328, .f32⟩
  | .hbm, ⟨20, _⟩ => ⟨S8x3328, .f32⟩
  | .hbm, ⟨21, _⟩ => ⟨S_, .f32⟩
  | .hbm, ⟨22, _⟩ => ⟨S8x3328, .f32⟩
  | .hbm, ⟨23, _⟩ => ⟨S8x3328, .f32⟩
  | .hbm, ⟨24, _⟩ => ⟨S_, .f32⟩
  | .hbm, ⟨25, _⟩ => ⟨S8x3328, .f32⟩
  | .hbm, ⟨26, _⟩ => ⟨S8x3328, .f32⟩
  | .hbm, ⟨27, _⟩ => ⟨S8x3328, .f32⟩
  | .hbm, ⟨28, _⟩ => ⟨S_, .f32⟩
  | .hbm, ⟨29, _⟩ => ⟨S8x3328, .f32⟩
  | .hbm, ⟨30, _⟩ => ⟨S8x3328, .f32⟩
  | .hbm, ⟨31, _⟩ => ⟨S8x3328, .f32⟩
  | .hbm, ⟨32, _⟩ => ⟨S_, .f32⟩
  | .hbm, ⟨33, _⟩ => ⟨S8x3328, .f32⟩
  | .hbm, ⟨34, _⟩ => ⟨S8x3328, .f32⟩
  | .hbm, ⟨35, _⟩ => ⟨S8x3328, .f32⟩
  | .hbm, ⟨36, _⟩ => ⟨S_, .f32⟩
  | .hbm, ⟨37, _⟩ => ⟨S8x3328, .f32⟩
  | .hbm, ⟨38, _⟩ => ⟨S8x3328, .f32⟩
  | _, _ => ⟨S8x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel14.lean ====
abbrev S2048x704 : Shape := ⟨2, ![2048, 704]⟩
abbrev S1x2048x704 : Shape := ⟨3, ![1, 2048, 704]⟩
abbrev S3x2048x704 : Shape := ⟨3, ![3, 2048, 704]⟩
abbrev S512x704 : Shape := ⟨2, ![512, 704]⟩
abbrev S1x512x704 : Shape := ⟨3, ![1, 512, 704]⟩
abbrev S3x512x704 : Shape := ⟨3, ![3, 512, 704]⟩

abbrev nBuf : Space → Nat
  | .hbm => 9
  | .vmem => 18
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S1x2048x704, .bf16⟩
  | .hbm, ⟨4, _⟩ => ⟨S3x2048x704, .bf16⟩
  | .hbm, ⟨5, _⟩ => ⟨S2048x704, .f32⟩
  | .hbm, ⟨6, _⟩ => ⟨S2048x704, .f32⟩
  | .hbm, ⟨7, _⟩ => ⟨S2048x704, .f32⟩
  | .hbm, ⟨8, _⟩ => ⟨S2048x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S1x512x704, .bf16⟩
  | .local _ .vmem, ⟨7, _⟩ => ⟨S1x512x704, .bf16⟩
  | .local _ .vmem, ⟨8, _⟩ => ⟨S3x512x704, .bf16⟩
  | .local _ .vmem, ⟨9, _⟩ => ⟨S3x512x704, .bf16⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | .local _ .vmem, ⟨14, _⟩ => ⟨S512x704, .f32⟩
  | .local _ .vmem, ⟨15, _⟩ => ⟨S512x704, .f32⟩
  | .local _ .vmem, ⟨16, _⟩ => ⟨S512x704, .f32⟩
  | .local _ .vmem, ⟨17, _⟩ => ⟨S512x704, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel14Ideal.lean ====
abbrev S2048x704 : Shape := ⟨2, ![2048, 704]⟩
abbrev S1x2048x704 : Shape := ⟨3, ![1, 2048, 704]⟩
abbrev S3x2048x704 : Shape := ⟨3, ![3, 2048, 704]⟩
abbrev S512x704 : Shape := ⟨2, ![512, 704]⟩
abbrev S1x512x704 : Shape := ⟨3, ![1, 512, 704]⟩
abbrev S3x512x704 : Shape := ⟨3, ![3, 512, 704]⟩

abbrev nBuf : Space → Nat
  | .hbm => 9
  | .vmem => 18
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S1x2048x704, .bf16⟩
  | .hbm, ⟨4, _⟩ => ⟨S3x2048x704, .bf16⟩
  | .hbm, ⟨5, _⟩ => ⟨S2048x704, .f32⟩
  | .hbm, ⟨6, _⟩ => ⟨S2048x704, .f32⟩
  | .hbm, ⟨7, _⟩ => ⟨S2048x704, .f32⟩
  | .hbm, ⟨8, _⟩ => ⟨S2048x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S1x512x704, .bf16⟩
  | .local _ .vmem, ⟨7, _⟩ => ⟨S1x512x704, .bf16⟩
  | .local _ .vmem, ⟨8, _⟩ => ⟨S3x512x704, .bf16⟩
  | .local _ .vmem, ⟨9, _⟩ => ⟨S3x512x704, .bf16⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | .local _ .vmem, ⟨14, _⟩ => ⟨S512x704, .f32⟩
  | .local _ .vmem, ⟨15, _⟩ => ⟨S512x704, .f32⟩
  | .local _ .vmem, ⟨16, _⟩ => ⟨S512x704, .f32⟩
  | .local _ .vmem, ⟨17, _⟩ => ⟨S512x704, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S2048x704 : Shape := ⟨2, ![2048, 704]⟩
abbrev S1x2048x704 : Shape := ⟨3, ![1, 2048, 704]⟩
abbrev S3x2048x704 : Shape := ⟨3, ![3, 2048, 704]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S1x2048x704, .bf16⟩
  | .hbm, ⟨4, _⟩ => ⟨S3x2048x704, .bf16⟩
  | .hbm, ⟨5, _⟩ => ⟨S2048x704, .bf16⟩
  | .hbm, ⟨6, _⟩ => ⟨S2048x704, .f32⟩
  | .hbm, ⟨7, _⟩ => ⟨S3x2048x704, .f32⟩
  | .hbm, ⟨8, _⟩ => ⟨S_, .f32⟩
  | .hbm, ⟨9, _⟩ => ⟨S2048x704, .f32⟩
  | .hbm, ⟨10, _⟩ => ⟨S2048x704, .f32⟩
  | .hbm, ⟨11, _⟩ => ⟨S_, .f32⟩
  | .hbm, ⟨12, _⟩ => ⟨S2048x704, .f32⟩
  | .hbm, ⟨13, _⟩ => ⟨S2048x704, .f32⟩
  | .hbm, ⟨14, _⟩ => ⟨S_, .f32⟩
  | .hbm, ⟨15, _⟩ => ⟨S2048x704, .f32⟩
  | .hbm, ⟨16, _⟩ => ⟨S2048x704, .f32⟩
  | .hbm, ⟨17, _⟩ => ⟨S2048x704, .f32⟩
  | .hbm, ⟨18, _⟩ => ⟨S_, .f32⟩
  | .hbm, ⟨19, _⟩ => ⟨S2048x704, .f32⟩
  | .hbm, ⟨20, _⟩ => ⟨S2048x704, .f32⟩
  | .hbm, ⟨21, _⟩ => ⟨S2048x704, .f32⟩
  | .hbm, ⟨22, _⟩ => ⟨S_, .f32⟩
  | .hbm, ⟨23, _⟩ => ⟨S2048x704, .f32⟩
  | .hbm, ⟨24, _⟩ => ⟨S2048x704, .f32⟩
  | .hbm, ⟨25, _⟩ => ⟨S2048x704, .f32⟩
  | .hbm, ⟨26, _⟩ => ⟨S_, .f32⟩
  | .hbm, ⟨27, _⟩ => ⟨S2048x704, .f32⟩
  | .hbm, ⟨28, _⟩ => ⟨S2048x704, .f32⟩
  | .hbm, ⟨29, _⟩ => ⟨S_, .f32⟩
  | .hbm, ⟨30, _⟩ => ⟨S2048x704, .f32⟩
  | .hbm, ⟨31, _⟩ => ⟨S2048x704, .f32⟩
  | .hbm, ⟨32, _⟩ => ⟨S2048x704, .f32⟩
  | .hbm, ⟨33, _⟩ => ⟨S_, .f32⟩
  | .hbm, ⟨34, _⟩ => ⟨S2048x704, .f32⟩
  | .hbm, ⟨35, _⟩ => ⟨S2048x704, .f32⟩
  | .hbm, ⟨36, _⟩ => ⟨S2048x704, .f32⟩
  | .hbm, ⟨37, _⟩ => ⟨S_, .f32⟩
  | .hbm, ⟨38, _⟩ => ⟨S2048x704, .f32⟩
  | .hbm, ⟨39, _⟩ => ⟨S2048x704, .f32⟩
  | .hbm, ⟨40, _⟩ => ⟨S2048x704, .f32⟩
  | .hbm, ⟨41, _⟩ => ⟨S_, .f32⟩
  | .hbm, ⟨42, _⟩ => ⟨S2048x704, .f32⟩
  | .hbm, ⟨43, _⟩ => ⟨S2048x704, .f32⟩
  | _, _ => ⟨S2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel15.lean ====
abbrev S704x2048 : Shape := ⟨2, ![704, 2048]⟩
abbrev S1x704x2048 : Shape := ⟨3, ![1, 704, 2048]⟩
abbrev S3x704x2048 : Shape := ⟨3, ![3, 704, 2048]⟩
abbrev S176x2048 : Shape := ⟨2, ![176, 2048]⟩
abbrev S1x176x2048 : Shape := ⟨3, ![1, 176, 2048]⟩
abbrev S3x176x2048 : Shape := ⟨3, ![3, 176, 2048]⟩

abbrev nBuf : Space → Nat
  | .hbm => 9
  | .vmem => 18
  | .smem => 0
  | _ => 0

abbrev bufTy : (tb : Table) → Fin (tcTables nBuf tb) → BufTy
  | .hbm, ⟨0, _⟩ => ⟨S704x2048, .f32⟩
  | .hbm, ⟨1, _⟩ => ⟨S704x2048, .f32⟩
  | .hbm, ⟨2, _⟩ => ⟨S704x2048, .f32⟩
  | .hbm, ⟨3, _⟩ => ⟨S1x704x2048, .bf16⟩
  | .hbm, ⟨4, _⟩ => ⟨S3x704x2048, .bf16⟩
  | .hbm, ⟨5, _⟩ => ⟨S704x2048, .f32⟩
  | .hbm, ⟨6, _⟩ => ⟨S704x2048, .f32⟩
  | .hbm, ⟨7, _⟩ => ⟨S704x2048, .f32⟩
  | .hbm, ⟨8, _⟩ => ⟨S704x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S1x176x2048, .bf16⟩
  | .local _ .vmem, ⟨7, _⟩ => ⟨S1x176x2048, .bf16⟩
  | .local _ .vmem, ⟨8, _⟩ => ⟨S3x176x2048, .bf16⟩
  | .local _ .vmem, ⟨9, _⟩ => ⟨S3x176x2048, .bf16⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | .local _ .vmem, ⟨16, _⟩ => ⟨S176x2048, .f32⟩
  | .local _ .vmem, ⟨17, _⟩ => ⟨S176x2048, .f32⟩
  | _, _ => ⟨S704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x176x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel15Ideal.lean ====
abbrev S704x2048 : Shape := ⟨2, ![704, 2048]⟩
abbrev S1x704x2048 : Shape := ⟨3, ![1, 704, 2048]⟩
abbrev S3x704x2048 : Shape := ⟨3, ![3, 704, 2048]⟩
abbrev S176x2048 : Shape := ⟨2, ![176, 2048]⟩
abbrev S1x176x2048 : Shape := ⟨3, ![1, 176, 2048]⟩
abbrev S3x176x2048 : Shape := ⟨3, ![3, 176, 2048]⟩

abbrev nBuf : Space → Nat
  | .hbm => 9
  | .vmem => 18
  | .smem => 0
  | _ => 0

abbrev bufTy : (tb : Table) → Fin (tcTables nBuf tb) → BufTy
  | .hbm, ⟨0, _⟩ => ⟨S704x2048, .f32⟩
  | .hbm, ⟨1, _⟩ => ⟨S704x2048, .f32⟩
  | .hbm, ⟨2, _⟩ => ⟨S704x2048, .f32⟩
  | .hbm, ⟨3, _⟩ => ⟨S1x704x2048, .bf16⟩
  | .hbm, ⟨4, _⟩ => ⟨S3x704x2048, .bf16⟩
  | .hbm, ⟨5, _⟩ => ⟨S704x2048, .f32⟩
  | .hbm, ⟨6, _⟩ => ⟨S704x2048, .f32⟩
  | .hbm, ⟨7, _⟩ => ⟨S704x2048, .f32⟩
  | .hbm, ⟨8, _⟩ => ⟨S704x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S1x176x2048, .bf16⟩
  | .local _ .vmem, ⟨7, _⟩ => ⟨S1x176x2048, .bf16⟩
  | .local _ .vmem, ⟨8, _⟩ => ⟨S3x176x2048, .bf16⟩
  | .local _ .vmem, ⟨9, _⟩ => ⟨S3x176x2048, .bf16⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | .local _ .vmem, ⟨16, _⟩ => ⟨S176x2048, .f32⟩
  | .local _ .vmem, ⟨17, _⟩ => ⟨S176x2048, .f32⟩
  | _, _ => ⟨S704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x176x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference15Ideal.lean ====
abbrev S704x2048 : Shape := ⟨2, ![704, 2048]⟩
abbrev S1x704x2048 : Shape := ⟨3, ![1, 704, 2048]⟩
abbrev S3x704x2048 : Shape := ⟨3, ![3, 704, 2048]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S704x2048, .f32⟩
  | .hbm, ⟨1, _⟩ => ⟨S704x2048, .f32⟩
  | .hbm, ⟨2, _⟩ => ⟨S704x2048, .f32⟩
  | .hbm, ⟨3, _⟩ => ⟨S1x704x2048, .bf16⟩
  | .hbm, ⟨4, _⟩ => ⟨S3x704x2048, .bf16⟩
  | .hbm, ⟨5, _⟩ => ⟨S704x2048, .bf16⟩
  | .hbm, ⟨6, _⟩ => ⟨S704x2048, .f32⟩
  | .hbm, ⟨7, _⟩ => ⟨S3x704x2048, .f32⟩
  | .hbm, ⟨8, _⟩ => ⟨S_, .f32⟩
  | .hbm, ⟨9, _⟩ => ⟨S704x2048, .f32⟩
  | .hbm, ⟨10, _⟩ => ⟨S704x2048, .f32⟩
  | .hbm, ⟨11, _⟩ => ⟨S_, .f32⟩
  | .hbm, ⟨12, _⟩ => ⟨S704x2048, .f32⟩
  | .hbm, ⟨13, _⟩ => ⟨S704x2048, .f32⟩
  | .hbm, ⟨14, _⟩ => ⟨S_, .f32⟩
  | .hbm, ⟨15, _⟩ => ⟨S704x2048, .f32⟩
  | .hbm, ⟨16, _⟩ => ⟨S704x2048, .f32⟩
  | .hbm, ⟨17, _⟩ => ⟨S704x2048, .f32⟩
  | .hbm, ⟨18, _⟩ => ⟨S_, .f32⟩
  | .hbm, ⟨19, _⟩ => ⟨S704x2048, .f32⟩
  | .hbm, ⟨20, _⟩ => ⟨S704x2048, .f32⟩
  | .hbm, ⟨21, _⟩ => ⟨S704x2048, .f32⟩
  | .hbm, ⟨22, _⟩ => ⟨S_, .f32⟩
  | .hbm, ⟨23, _⟩ => ⟨S704x2048, .f32⟩
  | .hbm, ⟨24, _⟩ => ⟨S704x2048, .f32⟩
  | .hbm, ⟨25, _⟩ => ⟨S704x2048, .f32⟩
  | .hbm, ⟨26, _⟩ => ⟨S_, .f32⟩
  | .hbm, ⟨27, _⟩ => ⟨S704x2048, .f32⟩
  | .hbm, ⟨28, _⟩ => ⟨S704x2048, .f32⟩
  | .hbm, ⟨29, _⟩ => ⟨S_, .f32⟩
  | .hbm, ⟨30, _⟩ => ⟨S704x2048, .f32⟩
  | .hbm, ⟨31, _⟩ => ⟨S704x2048, .f32⟩
  | .hbm, ⟨32, _⟩ => ⟨S704x2048, .f32⟩
  | .hbm, ⟨33, _⟩ => ⟨S_, .f32⟩
  | .hbm, ⟨34, _⟩ => ⟨S704x2048, .f32⟩
  | .hbm, ⟨35, _⟩ => ⟨S704x2048, .f32⟩
  | .hbm, ⟨36, _⟩ => ⟨S704x2048, .f32⟩
  | .hbm, ⟨37, _⟩ => ⟨S_, .f32⟩
  | .hbm, ⟨38, _⟩ => ⟨S704x2048, .f32⟩
  | .hbm, ⟨39, _⟩ => ⟨S704x2048, .f32⟩
  | .hbm, ⟨40, _⟩ => ⟨S704x2048, .f32⟩
  | .hbm, ⟨41, _⟩ => ⟨S_, .f32⟩
  | .hbm, ⟨42, _⟩ => ⟨S704x2048, .f32⟩
  | .hbm, ⟨43, _⟩ => ⟨S704x2048, .f32⟩
  | _, _ => ⟨S704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel16.lean ====
abbrev S256x2048 : Shape := ⟨2, ![256, 2048]⟩
abbrev S1x256x2048 : Shape := ⟨3, ![1, 256, 2048]⟩
abbrev S3x256x2048 : Shape := ⟨3, ![3, 256, 2048]⟩

abbrev nBuf : Space → Nat
  | .hbm => 9
  | .vmem => 9
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S1x256x2048, .bf16⟩
  | .hbm, ⟨4, _⟩ => ⟨S3x256x2048, .bf16⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S1x256x2048, .bf16⟩
  | .local _ .vmem, ⟨4, _⟩ => ⟨S3x256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel16Ideal.lean ====
abbrev S256x2048 : Shape := ⟨2, ![256, 2048]⟩
abbrev S1x256x2048 : Shape := ⟨3, ![1, 256, 2048]⟩
abbrev S3x256x2048 : Shape := ⟨3, ![3, 256, 2048]⟩

abbrev nBuf : Space → Nat
  | .hbm => 9
  | .vmem => 9
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S1x256x2048, .bf16⟩
  | .hbm, ⟨4, _⟩ => ⟨S3x256x2048, .bf16⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S1x256x2048, .bf16⟩
  | .local _ .vmem, ⟨4, _⟩ => ⟨S3x256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference16Ideal.lean ====
abbrev S256x2048 : Shape := ⟨2, ![256, 2048]⟩
abbrev S1x256x2048 : Shape := ⟨3, ![1, 256, 2048]⟩
abbrev S3x256x2048 : Shape := ⟨3, ![3, 256, 2048]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S1x256x2048, .bf16⟩
  | .hbm, ⟨4, _⟩ => ⟨S3x256x2048, .bf16⟩
  | .hbm, ⟨5, _⟩ => ⟨S256x2048, .bf16⟩
  | .hbm, ⟨6, _⟩ => ⟨S256x2048, .f32⟩
  | .hbm, ⟨7, _⟩ => ⟨S3x256x2048, .f32⟩
  | .hbm, ⟨8, _⟩ => ⟨S_, .f32⟩
  | .hbm, ⟨9, _⟩ => ⟨S256x2048, .f32⟩
  | .hbm, ⟨10, _⟩ => ⟨S256x2048, .f32⟩
  | .hbm, ⟨11, _⟩ => ⟨S_, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S256x2048, .f32⟩
  | .hbm, ⟨26, _⟩ => ⟨S_, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | .hbm, ⟨40, _⟩ => ⟨S256x2048, .f32⟩
  | .hbm, ⟨41, _⟩ => ⟨S_, .f32⟩
  | .hbm, ⟨42, _⟩ => ⟨S256x2048, .f32⟩
  | .hbm, ⟨43, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel17.lean ====
abbrev S2048x580 : Shape := ⟨2, ![2048, 580]⟩
abbrev S1x2048x580 : Shape := ⟨3, ![1, 2048, 580]⟩
abbrev S3x2048x580 : Shape := ⟨3, ![3, 2048, 580]⟩
abbrev S512x580 : Shape := ⟨2, ![512, 580]⟩
abbrev S1x512x580 : Shape := ⟨3, ![1, 512, 580]⟩
abbrev S3x512x580 : Shape := ⟨3, ![3, 512, 580]⟩

abbrev nBuf : Space → Nat
  | .hbm => 9
  | .vmem => 18
  | .smem => 0
  | _ => 0

abbrev bufTy : (tb : Table) → Fin (tcTables nBuf tb) → BufTy
  | .hbm, ⟨0, _⟩ => ⟨S2048x580, .f32⟩
  | .hbm, ⟨1, _⟩ => ⟨S2048x580, .f32⟩
  | .hbm, ⟨2, _⟩ => ⟨S2048x580, .f32⟩
  | .hbm, ⟨3, _⟩ => ⟨S1x2048x580, .bf16⟩
  | .hbm, ⟨4, _⟩ => ⟨S3x2048x580, .bf16⟩
  | .hbm, ⟨5, _⟩ => ⟨S2048x580, .f32⟩
  | .hbm, ⟨6, _⟩ => ⟨S2048x580, .f32⟩
  | .hbm, ⟨7, _⟩ => ⟨S2048x580, .f32⟩
  | .hbm, ⟨8, _⟩ => ⟨S2048x580, .f32⟩
  | .local _ .vmem, ⟨0, _⟩ => ⟨S512x580, .f32⟩
  | .local _ .vmem, ⟨1, _⟩ => ⟨S512x580, .f32⟩
  | .local _ .vmem, ⟨2, _⟩ => ⟨S512x580, .f32⟩
  | .local _ .vmem, ⟨3, _⟩ => ⟨S512x580, .f32⟩
  | .local _ .vmem, ⟨4, _⟩ => ⟨S512x580, .f32⟩
  | .local _ .vmem, ⟨5, _⟩ => ⟨S512x580, .f32⟩
  | .local _ .vmem, ⟨6, _⟩ => ⟨S1x512x580, .bf16⟩
  | .local _ .vmem, ⟨7, _⟩ => ⟨S1x512x580, .bf16⟩
  | .local _ .vmem, ⟨8, _⟩ => ⟨S3x512x580, .bf16⟩
  | .local _ .vmem, ⟨9, _⟩ => ⟨S3x512x580, .bf16⟩
  | .local _ .vmem, ⟨10, _⟩ => ⟨S512x580, .f32⟩
  | .local _ .vmem, ⟨11, _⟩ => ⟨S512x580, .f32⟩
  | .local _ .vmem, ⟨12, _⟩ => ⟨S512x580, .f32⟩
  | .local _ .vmem, ⟨13, _⟩ => ⟨S512x580, .f32⟩
  | .local _ .vmem, ⟨14, _⟩ => ⟨S512x580, .f32⟩
  | .local _ .vmem, ⟨15, _⟩ => ⟨S512x580, .f32⟩
  | .local _ .vmem, ⟨16, _⟩ => ⟨S512x580, .f32⟩
  | .local _ .vmem, ⟨17, _⟩ => ⟨S512x580, .f32⟩
  | _, _ => ⟨S2048x580, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x580 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x580 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x580 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x580 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x512x580 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x580 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x580 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x580 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x580 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel17Ideal.lean ====
abbrev S2048x580 : Shape := ⟨2, ![2048, 580]⟩
abbrev S1x2048x580 : Shape := ⟨3, ![1, 2048, 580]⟩
abbrev S3x2048x580 : Shape := ⟨3, ![3, 2048, 580]⟩
abbrev S512x580 : Shape := ⟨2, ![512, 580]⟩
abbrev S1x512x580 : Shape := ⟨3, ![1, 512, 580]⟩
abbrev S3x512x580 : Shape := ⟨3, ![3, 512, 580]⟩

abbrev nBuf : Space → Nat
  | .hbm => 9
  | .vmem => 18
  | .smem => 0
  | _ => 0

abbrev bufTy : (tb : Table) → Fin (tcTables nBuf tb) → BufTy
  | .hbm, ⟨0, _⟩ => ⟨S2048x580, .f32⟩
  | .hbm, ⟨1, _⟩ => ⟨S2048x580, .f32⟩
  | .hbm, ⟨2, _⟩ => ⟨S2048x580, .f32⟩
  | .hbm, ⟨3, _⟩ => ⟨S1x2048x580, .bf16⟩
  | .hbm, ⟨4, _⟩ => ⟨S3x2048x580, .bf16⟩
  | .hbm, ⟨5, _⟩ => ⟨S2048x580, .f32⟩
  | .hbm, ⟨6, _⟩ => ⟨S2048x580, .f32⟩
  | .hbm, ⟨7, _⟩ => ⟨S2048x580, .f32⟩
  | .hbm, ⟨8, _⟩ => ⟨S2048x580, .f32⟩
  | .local _ .vmem, ⟨0, _⟩ => ⟨S512x580, .f32⟩
  | .local _ .vmem, ⟨1, _⟩ => ⟨S512x580, .f32⟩
  | .local _ .vmem, ⟨2, _⟩ => ⟨S512x580, .f32⟩
  | .local _ .vmem, ⟨3, _⟩ => ⟨S512x580, .f32⟩
  | .local _ .vmem, ⟨4, _⟩ => ⟨S512x580, .f32⟩
  | .local _ .vmem, ⟨5, _⟩ => ⟨S512x580, .f32⟩
  | .local _ .vmem, ⟨6, _⟩ => ⟨S1x512x580, .bf16⟩
  | .local _ .vmem, ⟨7, _⟩ => ⟨S1x512x580, .bf16⟩
  | .local _ .vmem, ⟨8, _⟩ => ⟨S3x512x580, .bf16⟩
  | .local _ .vmem, ⟨9, _⟩ => ⟨S3x512x580, .bf16⟩
  | .local _ .vmem, ⟨10, _⟩ => ⟨S512x580, .f32⟩
  | .local _ .vmem, ⟨11, _⟩ => ⟨S512x580, .f32⟩
  | .local _ .vmem, ⟨12, _⟩ => ⟨S512x580, .f32⟩
  | .local _ .vmem, ⟨13, _⟩ => ⟨S512x580, .f32⟩
  | .local _ .vmem, ⟨14, _⟩ => ⟨S512x580, .f32⟩
  | .local _ .vmem, ⟨15, _⟩ => ⟨S512x580, .f32⟩
  | .local _ .vmem, ⟨16, _⟩ => ⟨S512x580, .f32⟩
  | .local _ .vmem, ⟨17, _⟩ => ⟨S512x580, .f32⟩
  | _, _ => ⟨S2048x580, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x580 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x580 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x580 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x580 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x512x580 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x580 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x580 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x580 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x580 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference17Ideal.lean ====
abbrev S2048x580 : Shape := ⟨2, ![2048, 580]⟩
abbrev S1x2048x580 : Shape := ⟨3, ![1, 2048, 580]⟩
abbrev S3x2048x580 : Shape := ⟨3, ![3, 2048, 580]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S2048x580, .f32⟩
  | .hbm, ⟨1, _⟩ => ⟨S2048x580, .f32⟩
  | .hbm, ⟨2, _⟩ => ⟨S2048x580, .f32⟩
  | .hbm, ⟨3, _⟩ => ⟨S1x2048x580, .bf16⟩
  | .hbm, ⟨4, _⟩ => ⟨S3x2048x580, .bf16⟩
  | .hbm, ⟨5, _⟩ => ⟨S2048x580, .bf16⟩
  | .hbm, ⟨6, _⟩ => ⟨S2048x580, .f32⟩
  | .hbm, ⟨7, _⟩ => ⟨S3x2048x580, .f32⟩
  | .hbm, ⟨8, _⟩ => ⟨S_, .f32⟩
  | .hbm, ⟨9, _⟩ => ⟨S2048x580, .f32⟩
  | .hbm, ⟨10, _⟩ => ⟨S2048x580, .f32⟩
  | .hbm, ⟨11, _⟩ => ⟨S_, .f32⟩
  | .hbm, ⟨12, _⟩ => ⟨S2048x580, .f32⟩
  | .hbm, ⟨13, _⟩ => ⟨S2048x580, .f32⟩
  | .hbm, ⟨14, _⟩ => ⟨S_, .f32⟩
  | .hbm, ⟨15, _⟩ => ⟨S2048x580, .f32⟩
  | .hbm, ⟨16, _⟩ => ⟨S2048x580, .f32⟩
  | .hbm, ⟨17, _⟩ => ⟨S2048x580, .f32⟩
  | .hbm, ⟨18, _⟩ => ⟨S_, .f32⟩
  | .hbm, ⟨19, _⟩ => ⟨S2048x580, .f32⟩
  | .hbm, ⟨20, _⟩ => ⟨S2048x580, .f32⟩
  | .hbm, ⟨21, _⟩ => ⟨S2048x580, .f32⟩
  | .hbm, ⟨22, _⟩ => ⟨S_, .f32⟩
  | .hbm, ⟨23, _⟩ => ⟨S2048x580, .f32⟩
  | .hbm, ⟨24, _⟩ => ⟨S2048x580, .f32⟩
  | .hbm, ⟨25, _⟩ => ⟨S2048x580, .f32⟩
  | .hbm, ⟨26, _⟩ => ⟨S_, .f32⟩
  | .hbm, ⟨27, _⟩ => ⟨S2048x580, .f32⟩
  | .hbm, ⟨28, _⟩ => ⟨S2048x580, .f32⟩
  | .hbm, ⟨29, _⟩ => ⟨S_, .f32⟩
  | .hbm, ⟨30, _⟩ => ⟨S2048x580, .f32⟩
  | .hbm, ⟨31, _⟩ => ⟨S2048x580, .f32⟩
  | .hbm, ⟨32, _⟩ => ⟨S2048x580, .f32⟩
  | .hbm, ⟨33, _⟩ => ⟨S_, .f32⟩
  | .hbm, ⟨34, _⟩ => ⟨S2048x580, .f32⟩
  | .hbm, ⟨35, _⟩ => ⟨S2048x580, .f32⟩
  | .hbm, ⟨36, _⟩ => ⟨S2048x580, .f32⟩
  | .hbm, ⟨37, _⟩ => ⟨S_, .f32⟩
  | .hbm, ⟨38, _⟩ => ⟨S2048x580, .f32⟩
  | .hbm, ⟨39, _⟩ => ⟨S2048x580, .f32⟩
  | .hbm, ⟨40, _⟩ => ⟨S2048x580, .f32⟩
  | .hbm, ⟨41, _⟩ => ⟨S_, .f32⟩
  | .hbm, ⟨42, _⟩ => ⟨S2048x580, .f32⟩
  | .hbm, ⟨43, _⟩ => ⟨S2048x580, .f32⟩
  | _, _ => ⟨S2048x580, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel18.lean ====
abbrev S2048x512 : Shape := ⟨2, ![2048, 512]⟩
abbrev S1x2048x512 : Shape := ⟨3, ![1, 2048, 512]⟩
abbrev S3x2048x512 : Shape := ⟨3, ![3, 2048, 512]⟩
abbrev S1024x512 : Shape := ⟨2, ![1024, 512]⟩
abbrev S1x1024x512 : Shape := ⟨3, ![1, 1024, 512]⟩
abbrev S3x1024x512 : Shape := ⟨3, ![3, 1024, 512]⟩

abbrev nBuf : Space → Nat
  | .hbm => 9
  | .vmem => 18
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S1x2048x512, .bf16⟩
  | .hbm, ⟨4, _⟩ => ⟨S3x2048x512, .bf16⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1x1024x512, .bf16⟩
  | .local _ .vmem, ⟨7, _⟩ => ⟨S1x1024x512, .bf16⟩
  | .local _ .vmem, ⟨8, _⟩ => ⟨S3x1024x512, .bf16⟩
  | .local _ .vmem, ⟨9, _⟩ => ⟨S3x1024x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel18Ideal.lean ====
abbrev S2048x512 : Shape := ⟨2, ![2048, 512]⟩
abbrev S1x2048x512 : Shape := ⟨3, ![1, 2048, 512]⟩
abbrev S3x2048x512 : Shape := ⟨3, ![3, 2048, 512]⟩
abbrev S1024x512 : Shape := ⟨2, ![1024, 512]⟩
abbrev S1x1024x512 : Shape := ⟨3, ![1, 1024, 512]⟩
abbrev S3x1024x512 : Shape := ⟨3, ![3, 1024, 512]⟩

abbrev nBuf : Space → Nat
  | .hbm => 9
  | .vmem => 18
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S1x2048x512, .bf16⟩
  | .hbm, ⟨4, _⟩ => ⟨S3x2048x512, .bf16⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1x1024x512, .bf16⟩
  | .local _ .vmem, ⟨7, _⟩ => ⟨S1x1024x512, .bf16⟩
  | .local _ .vmem, ⟨8, _⟩ => ⟨S3x1024x512, .bf16⟩
  | .local _ .vmem, ⟨9, _⟩ => ⟨S3x1024x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference18Ideal.lean ====
abbrev S2048x512 : Shape := ⟨2, ![2048, 512]⟩
abbrev S1x2048x512 : Shape := ⟨3, ![1, 2048, 512]⟩
abbrev S3x2048x512 : Shape := ⟨3, ![3, 2048, 512]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S1x2048x512, .bf16⟩
  | .hbm, ⟨4, _⟩ => ⟨S3x2048x512, .bf16⟩
  | .hbm, ⟨5, _⟩ => ⟨S2048x512, .bf16⟩
  | .hbm, ⟨6, _⟩ => ⟨S2048x512, .f32⟩
  | .hbm, ⟨7, _⟩ => ⟨S3x2048x512, .f32⟩
  | .hbm, ⟨8, _⟩ => ⟨S_, .f32⟩
  | .hbm, ⟨9, _⟩ => ⟨S2048x512, .f32⟩
  | .hbm, ⟨10, _⟩ => ⟨S2048x512, .f32⟩
  | .hbm, ⟨11, _⟩ => ⟨S_, .f32⟩
  | .hbm, ⟨12, _⟩ => ⟨S2048x512, .f32⟩
  | .hbm, ⟨13, _⟩ => ⟨S2048x512, .f32⟩
  | .hbm, ⟨14, _⟩ => ⟨S_, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S_, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S_, .f32⟩
  | .hbm, ⟨27, _⟩ => ⟨S2048x512, .f32⟩
  | .hbm, ⟨28, _⟩ => ⟨S2048x512, .f32⟩
  | .hbm, ⟨29, _⟩ => ⟨S_, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S_, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S_, .f32⟩
  | .hbm, ⟨38, _⟩ => ⟨S2048x512, .f32⟩
  | .hbm, ⟨39, _⟩ => ⟨S2048x512, .f32⟩
  | .hbm, ⟨40, _⟩ => ⟨S2048x512, .f32⟩
  | .hbm, ⟨41, _⟩ => ⟨S_, .f32⟩
  | .hbm, ⟨42, _⟩ => ⟨S2048x512, .f32⟩
  | .hbm, ⟨43, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel19.lean ====
abbrev S64x128 : Shape := ⟨2, ![64, 128]⟩
abbrev S1x64x128 : Shape := ⟨3, ![1, 64, 128]⟩
abbrev S3x64x128 : Shape := ⟨3, ![3, 64, 128]⟩

abbrev nBuf : Space → Nat
  | .hbm => 9
  | .vmem => 9
  | .smem => 0
  | _ => 0

abbrev bufTy : (tb : Table) → Fin (tcTables nBuf tb) → BufTy
  | .hbm, ⟨0, _⟩ => ⟨S64x128, .f32⟩
  | .hbm, ⟨1, _⟩ => ⟨S64x128, .f32⟩
  | .hbm, ⟨2, _⟩ => ⟨S64x128, .f32⟩
  | .hbm, ⟨3, _⟩ => ⟨S1x64x128, .bf16⟩
  | .hbm, ⟨4, _⟩ => ⟨S3x64x128, .bf16⟩
  | .hbm, ⟨5, _⟩ => ⟨S64x128, .f32⟩
  | .hbm, ⟨6, _⟩ => ⟨S64x128, .f32⟩
  | .hbm, ⟨7, _⟩ => ⟨S64x128, .f32⟩
  | .hbm, ⟨8, _⟩ => ⟨S64x128, .f32⟩
  | .local _ .vmem, ⟨0, _⟩ => ⟨S64x128, .f32⟩
  | .local _ .vmem, ⟨1, _⟩ => ⟨S64x128, .f32⟩
  | .local _ .vmem, ⟨2, _⟩ => ⟨S64x128, .f32⟩
  | .local _ .vmem, ⟨3, _⟩ => ⟨S1x64x128, .bf16⟩
  | .local _ .vmem, ⟨4, _⟩ => ⟨S3x64x128, .bf16⟩
  | .local _ .vmem, ⟨5, _⟩ => ⟨S64x128, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | _, _ => ⟨S64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x64x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel19Ideal.lean ====
abbrev S64x128 : Shape := ⟨2, ![64, 128]⟩
abbrev S1x64x128 : Shape := ⟨3, ![1, 64, 128]⟩
abbrev S3x64x128 : Shape := ⟨3, ![3, 64, 128]⟩

abbrev nBuf : Space → Nat
  | .hbm => 9
  | .vmem => 9
  | .smem => 0
  | _ => 0

abbrev bufTy : (tb : Table) → Fin (tcTables nBuf tb) → BufTy
  | .hbm, ⟨0, _⟩ => ⟨S64x128, .f32⟩
  | .hbm, ⟨1, _⟩ => ⟨S64x128, .f32⟩
  | .hbm, ⟨2, _⟩ => ⟨S64x128, .f32⟩
  | .hbm, ⟨3, _⟩ => ⟨S1x64x128, .bf16⟩
  | .hbm, ⟨4, _⟩ => ⟨S3x64x128, .bf16⟩
  | .hbm, ⟨5, _⟩ => ⟨S64x128, .f32⟩
  | .hbm, ⟨6, _⟩ => ⟨S64x128, .f32⟩
  | .hbm, ⟨7, _⟩ => ⟨S64x128, .f32⟩
  | .hbm, ⟨8, _⟩ => ⟨S64x128, .f32⟩
  | .local _ .vmem, ⟨0, _⟩ => ⟨S64x128, .f32⟩
  | .local _ .vmem, ⟨1, _⟩ => ⟨S64x128, .f32⟩
  | .local _ .vmem, ⟨2, _⟩ => ⟨S64x128, .f32⟩
  | .local _ .vmem, ⟨3, _⟩ => ⟨S1x64x128, .bf16⟩
  | .local _ .vmem, ⟨4, _⟩ => ⟨S3x64x128, .bf16⟩
  | .local _ .vmem, ⟨5, _⟩ => ⟨S64x128, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | _, _ => ⟨S64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x64x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference19Ideal.lean ====
abbrev S64x128 : Shape := ⟨2, ![64, 128]⟩
abbrev S1x64x128 : Shape := ⟨3, ![1, 64, 128]⟩
abbrev S3x64x128 : Shape := ⟨3, ![3, 64, 128]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S64x128, .f32⟩
  | .hbm, ⟨2, _⟩ => ⟨S64x128, .f32⟩
  | .hbm, ⟨3, _⟩ => ⟨S1x64x128, .bf16⟩
  | .hbm, ⟨4, _⟩ => ⟨S3x64x128, .bf16⟩
  | .hbm, ⟨5, _⟩ => ⟨S64x128, .bf16⟩
  | .hbm, ⟨6, _⟩ => ⟨S64x128, .f32⟩
  | .hbm, ⟨7, _⟩ => ⟨S3x64x128, .f32⟩
  | .hbm, ⟨8, _⟩ => ⟨S_, .f32⟩
  | .hbm, ⟨9, _⟩ => ⟨S64x128, .f32⟩
  | .hbm, ⟨10, _⟩ => ⟨S64x128, .f32⟩
  | .hbm, ⟨11, _⟩ => ⟨S_, .f32⟩
  | .hbm, ⟨12, _⟩ => ⟨S64x128, .f32⟩
  | .hbm, ⟨13, _⟩ => ⟨S64x128, .f32⟩
  | .hbm, ⟨14, _⟩ => ⟨S_, .f32⟩
  | .hbm, ⟨15, _⟩ => ⟨S64x128, .f32⟩
  | .hbm, ⟨16, _⟩ => ⟨S64x128, .f32⟩
  | .hbm, ⟨17, _⟩ => ⟨S64x128, .f32⟩
  | .hbm, ⟨18, _⟩ => ⟨S_, .f32⟩
  | .hbm, ⟨19, _⟩ => ⟨S64x128, .f32⟩
  | .hbm, ⟨20, _⟩ => ⟨S64x128, .f32⟩
  | .hbm, ⟨21, _⟩ => ⟨S64x128, .f32⟩
  | .hbm, ⟨22, _⟩ => ⟨S_, .f32⟩
  | .hbm, ⟨23, _⟩ => ⟨S64x128, .f32⟩
  | .hbm, ⟨24, _⟩ => ⟨S64x128, .f32⟩
  | .hbm, ⟨25, _⟩ => ⟨S64x128, .f32⟩
  | .hbm, ⟨26, _⟩ => ⟨S_, .f32⟩
  | .hbm, ⟨27, _⟩ => ⟨S64x128, .f32⟩
  | .hbm, ⟨28, _⟩ => ⟨S64x128, .f32⟩
  | .hbm, ⟨29, _⟩ => ⟨S_, .f32⟩
  | .hbm, ⟨30, _⟩ => ⟨S64x128, .f32⟩
  | .hbm, ⟨31, _⟩ => ⟨S64x128, .f32⟩
  | .hbm, ⟨32, _⟩ => ⟨S64x128, .f32⟩
  | .hbm, ⟨33, _⟩ => ⟨S_, .f32⟩
  | .hbm, ⟨34, _⟩ => ⟨S64x128, .f32⟩
  | .hbm, ⟨35, _⟩ => ⟨S64x128, .f32⟩
  | .hbm, ⟨36, _⟩ => ⟨S64x128, .f32⟩
  | .hbm, ⟨37, _⟩ => ⟨S_, .f32⟩
  | .hbm, ⟨38, _⟩ => ⟨S64x128, .f32⟩
  | .hbm, ⟨39, _⟩ => ⟨S64x128, .f32⟩
  | .hbm, ⟨40, _⟩ => ⟨S64x128, .f32⟩
  | .hbm, ⟨41, _⟩ => ⟨S_, .f32⟩
  | .hbm, ⟨42, _⟩ => ⟨S64x128, .f32⟩
  | .hbm, ⟨43, _⟩ => ⟨S64x128, .f32⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel20.lean ====
abbrev S160x128 : Shape := ⟨2, ![160, 128]⟩
abbrev S1x160x128 : Shape := ⟨3, ![1, 160, 128]⟩
abbrev S3x160x128 : Shape := ⟨3, ![3, 160, 128]⟩

abbrev nBuf : Space → Nat
  | .hbm => 9
  | .vmem => 9
  | .smem => 0
  | _ => 0

abbrev bufTy : (tb : Table) → Fin (tcTables nBuf tb) → BufTy
  | .hbm, ⟨0, _⟩ => ⟨S160x128, .f32⟩
  | .hbm, ⟨1, _⟩ => ⟨S160x128, .f32⟩
  | .hbm, ⟨2, _⟩ => ⟨S160x128, .f32⟩
  | .hbm, ⟨3, _⟩ => ⟨S1x160x128, .bf16⟩
  | .hbm, ⟨4, _⟩ => ⟨S3x160x128, .bf16⟩
  | .hbm, ⟨5, _⟩ => ⟨S160x128, .f32⟩
  | .hbm, ⟨6, _⟩ => ⟨S160x128, .f32⟩
  | .hbm, ⟨7, _⟩ => ⟨S160x128, .f32⟩
  | .hbm, ⟨8, _⟩ => ⟨S160x128, .f32⟩
  | .local _ .vmem, ⟨0, _⟩ => ⟨S160x128, .f32⟩
  | .local _ .vmem, ⟨1, _⟩ => ⟨S160x128, .f32⟩
  | .local _ .vmem, ⟨2, _⟩ => ⟨S160x128, .f32⟩
  | .local _ .vmem, ⟨3, _⟩ => ⟨S1x160x128, .bf16⟩
  | .local _ .vmem, ⟨4, _⟩ => ⟨S3x160x128, .bf16⟩
  | .local _ .vmem, ⟨5, _⟩ => ⟨S160x128, .f32⟩
  | .local _ .vmem, ⟨6, _⟩ => ⟨S160x128, .f32⟩
  | .local _ .vmem, ⟨7, _⟩ => ⟨S160x128, .f32⟩
  | .local _ .vmem, ⟨8, _⟩ => ⟨S160x128, .f32⟩
  | _, _ => ⟨S160x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S160x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x160x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x160x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S160x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S160x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S160x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S160x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference20Ideal.lean ====
abbrev S160x128 : Shape := ⟨2, ![160, 128]⟩
abbrev S1x160x128 : Shape := ⟨3, ![1, 160, 128]⟩
abbrev S3x160x128 : Shape := ⟨3, ![3, 160, 128]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S160x128, .f32⟩
  | .hbm, ⟨1, _⟩ => ⟨S160x128, .f32⟩
  | .hbm, ⟨2, _⟩ => ⟨S160x128, .f32⟩
  | .hbm, ⟨3, _⟩ => ⟨S1x160x128, .bf16⟩
  | .hbm, ⟨4, _⟩ => ⟨S3x160x128, .bf16⟩
  | .hbm, ⟨5, _⟩ => ⟨S160x128, .bf16⟩
  | .hbm, ⟨6, _⟩ => ⟨S160x128, .f32⟩
  | .hbm, ⟨7, _⟩ => ⟨S3x160x128, .f32⟩
  | .hbm, ⟨8, _⟩ => ⟨S_, .f32⟩
  | .hbm, ⟨9, _⟩ => ⟨S160x128, .f32⟩
  | .hbm, ⟨10, _⟩ => ⟨S160x128, .f32⟩
  | .hbm, ⟨11, _⟩ => ⟨S_, .f32⟩
  | .hbm, ⟨12, _⟩ => ⟨S160x128, .f32⟩
  | .hbm, ⟨13, _⟩ => ⟨S160x128, .f32⟩
  | .hbm, ⟨14, _⟩ => ⟨S_, .f32⟩
  | .hbm, ⟨15, _⟩ => ⟨S160x128, .f32⟩
  | .hbm, ⟨16, _⟩ => ⟨S160x128, .f32⟩
  | .hbm, ⟨17, _⟩ => ⟨S160x128, .f32⟩
  | .hbm, ⟨18, _⟩ => ⟨S_, .f32⟩
  | .hbm, ⟨19, _⟩ => ⟨S160x128, .f32⟩
  | .hbm, ⟨20, _⟩ => ⟨S160x128, .f32⟩
  | .hbm, ⟨21, _⟩ => ⟨S160x128, .f32⟩
  | .hbm, ⟨22, _⟩ => ⟨S_, .f32⟩
  | .hbm, ⟨23, _⟩ => ⟨S160x128, .f32⟩
  | .hbm, ⟨24, _⟩ => ⟨S160x128, .f32⟩
  | .hbm, ⟨25, _⟩ => ⟨S160x128, .f32⟩
  | .hbm, ⟨26, _⟩ => ⟨S_, .f32⟩
  | .hbm, ⟨27, _⟩ => ⟨S160x128, .f32⟩
  | .hbm, ⟨28, _⟩ => ⟨S160x128, .f32⟩
  | .hbm, ⟨29, _⟩ => ⟨S_, .f32⟩
  | .hbm, ⟨30, _⟩ => ⟨S160x128, .f32⟩
  | .hbm, ⟨31, _⟩ => ⟨S160x128, .f32⟩
  | .hbm, ⟨32, _⟩ => ⟨S160x128, .f32⟩
  | .hbm, ⟨33, _⟩ => ⟨S_, .f32⟩
  | .hbm, ⟨34, _⟩ => ⟨S160x128, .f32⟩
  | .hbm, ⟨35, _⟩ => ⟨S160x128, .f32⟩
  | .hbm, ⟨36, _⟩ => ⟨S160x128, .f32⟩
  | .hbm, ⟨37, _⟩ => ⟨S_, .f32⟩
  | .hbm, ⟨38, _⟩ => ⟨S160x128, .f32⟩
  | .hbm, ⟨39, _⟩ => ⟨S160x128, .f32⟩
  | .hbm, ⟨40, _⟩ => ⟨S160x128, .f32⟩
  | .hbm, ⟨41, _⟩ => ⟨S_, .f32⟩
  | .hbm, ⟨42, _⟩ => ⟨S160x128, .f32⟩
  | .hbm, ⟨43, _⟩ => ⟨S160x128, .f32⟩
  | _, _ => ⟨S160x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Proof.Run.PointA.lean ====
/- The body's run at the first grid point: the two branches on the point are decided there, the sinks' gradient is stored afresh. -/
module

public import proofs.«01_k».proof.Proof.Gen.KernelIdeal.Frame.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 16000000 in
/-- The pieces the body writes into each output block there, the last written first, with the proof that from the input blocks
    at their contents the body runs to its end, leaves the inputs as they were and writes those pieces. -/
noncomputable def kernelRun0_A (c : Dev nD) (i : grid0.Coords) (arg1 : Memref sig .tc .vmem S16x128x32 .f32) (harg1 : arg1.IsWhole) (arg2 : Memref sig .tc .vmem S16x128x32 .f32) (harg2 : arg2.IsWhole) (arg3 : Memref sig .tc .vmem S2x128x32 .f32) (harg3 : arg3.IsWhole) (arg4 : Memref sig .tc .vmem S2x128x32 .f32) (harg4 : arg4.IsWhole) (arg5 : Memref sig .tc .vmem S2x128x32 .f32) (harg5 : arg5.IsWhole) (arg6 : Memref sig .tc .vmem S2x128x32 .f32) (harg6 : arg6.IsWhole) (arg7 : Memref sig .tc .vmem S2x128x64 .f32) (harg7 : arg7.IsWhole) (arg8 : Memref sig .tc .vmem S2x128x64 .f32) (harg8 : arg8.IsWhole) (arg9 : Memref sig .tc .vmem S128x32 .f32) (harg9 : arg9.IsWhole) (arg10 : Memref sig .tc .vmem S128x32 .f32) (harg10 : arg10.IsWhole) (arg11 : Memref sig .tc .vmem S128x32 .f32) (harg11 : arg11.IsWhole) (arg12 : Memref sig .tc .vmem S128x32 .f32) (harg12 : arg12.IsWhole) (arg13 : Memref sig .tc .vmem S2x8x1 .f32) (harg13 : arg13.IsWhole) (arg14 : Memref sig .tc .vmem S16x128x64 .f32) (harg14 : arg14.IsWhole) (arg15 : Memref sig .tc .vmem S16x128x32 .f32) (harg15 : arg15.IsWhole) (arg16 : Memref sig .tc .vmem S16x128x32 .f32) (harg16 : arg16.IsWhole) (arg17 : Memref sig .tc .vmem S2x128x32 .f32) (harg17 : arg17.IsWhole) (arg18 : Memref sig .tc .vmem S2x128x32 .f32) (harg18 : arg18.IsWhole) (arg19 : Memref sig .tc .vmem S2x128x32 .f32) (harg19 : arg19.IsWhole) (arg20 : Memref sig .tc .vmem S2x128x32 .f32) (harg20 : arg20.IsWhole) (arg21 : Memref sig .tc .vmem S2x128x64 .f32) (harg21 : arg21.IsWhole) (arg22 : Memref sig .tc .vmem S2x128x64 .f32) (harg22 : arg22.IsWhole) (arg23 : Memref sig .tc .vmem S2x8x1 .f32) (harg23 : arg23.IsWhole) (hc0 : cond0_0 i) (hc1 : ¬cond0_1 i)
    (x0 : Vec F S16x128x32 .f32) (x1 : Vec F S16x128x32 .f32) (x2 : Vec F S2x128x32 .f32) (x3 : Vec F S2x128x32 .f32) (x4 : Vec F S2x128x32 .f32) (x5 : Vec F S2x128x32 .f32) (x6 : Vec F S2x128x64 .f32) (x7 : Vec F S2x128x64 .f32) (x8 : Vec F S128x32 .f32) (x9 : Vec F S128x32 .f32) (x10 : Vec F S128x32 .f32) (x11 : Vec F S128x32 .f32) (x12 : Vec F S2x8x1 .f32) (x13 : Vec F S16x128x64 .f32) :
    Σ' (L14 : List (View.Piece (Elt F) S16x128x32 .f32)), Σ' (L15 : List (View.Piece (Elt F) S16x128x32 .f32)), Σ' (L16 : List (View.Piece (Elt F) S2x128x32 .f32)), Σ' (L17 : List (View.Piece (Elt F) S2x128x32 .f32)), Σ' (L18 : List (View.Piece (Elt F) S2x128x32 .f32)), Σ' (L19 : List (View.Piece (Elt F) S2x128x32 .f32)), Σ' (L20 : List (View.Piece (Elt F) S2x128x64 .f32)), Σ' (L21 : List (View.Piece (Elt F) S2x128x64 .f32)), { L22 : List (View.Piece (Elt F) S2x8x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22)) -∗ K ⟨⟩))
          ⊢ wp frame (wpE (defs₀ (F := F)) Variants.none c none) E (cc0_swa_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, fun E K => ?run⟩
  case run =>
    simp only [cc0_swa_bwd_eq_skeleton]; unfold cc0_swa_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iexists _; iexact H22

end Cert.KernelIdeal.Gen

end
-- ==== Proof.Run.PointB.lean ====
/- The body's run at a later grid point: the sinks' gradient is added to what the point before left. -/
module

public import proofs.«01_k».proof.Proof.Run.PointA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 16000000 in
/-- The pieces the body writes into each output block there, the last written first, with the proof that from the input blocks
    at their contents the body runs to its end, leaves the inputs as they were and writes those pieces. -/
noncomputable def kernelRun0_B (c : Dev nD) (i : grid0.Coords) (arg1 : Memref sig .tc .vmem S16x128x32 .f32) (harg1 : arg1.IsWhole) (arg2 : Memref sig .tc .vmem S16x128x32 .f32) (harg2 : arg2.IsWhole) (arg3 : Memref sig .tc .vmem S2x128x32 .f32) (harg3 : arg3.IsWhole) (arg4 : Memref sig .tc .vmem S2x128x32 .f32) (harg4 : arg4.IsWhole) (arg5 : Memref sig .tc .vmem S2x128x32 .f32) (harg5 : arg5.IsWhole) (arg6 : Memref sig .tc .vmem S2x128x32 .f32) (harg6 : arg6.IsWhole) (arg7 : Memref sig .tc .vmem S2x128x64 .f32) (harg7 : arg7.IsWhole) (arg8 : Memref sig .tc .vmem S2x128x64 .f32) (harg8 : arg8.IsWhole) (arg9 : Memref sig .tc .vmem S128x32 .f32) (harg9 : arg9.IsWhole) (arg10 : Memref sig .tc .vmem S128x32 .f32) (harg10 : arg10.IsWhole) (arg11 : Memref sig .tc .vmem S128x32 .f32) (harg11 : arg11.IsWhole) (arg12 : Memref sig .tc .vmem S128x32 .f32) (harg12 : arg12.IsWhole) (arg13 : Memref sig .tc .vmem S2x8x1 .f32) (harg13 : arg13.IsWhole) (arg14 : Memref sig .tc .vmem S16x128x64 .f32) (harg14 : arg14.IsWhole) (arg15 : Memref sig .tc .vmem S16x128x32 .f32) (harg15 : arg15.IsWhole) (arg16 : Memref sig .tc .vmem S16x128x32 .f32) (harg16 : arg16.IsWhole) (arg17 : Memref sig .tc .vmem S2x128x32 .f32) (harg17 : arg17.IsWhole) (arg18 : Memref sig .tc .vmem S2x128x32 .f32) (harg18 : arg18.IsWhole) (arg19 : Memref sig .tc .vmem S2x128x32 .f32) (harg19 : arg19.IsWhole) (arg20 : Memref sig .tc .vmem S2x128x32 .f32) (harg20 : arg20.IsWhole) (arg21 : Memref sig .tc .vmem S2x128x64 .f32) (harg21 : arg21.IsWhole) (arg22 : Memref sig .tc .vmem S2x128x64 .f32) (harg22 : arg22.IsWhole) (arg23 : Memref sig .tc .vmem S2x8x1 .f32) (harg23 : arg23.IsWhole) (hc0 : ¬cond0_0 i) (hc1 : cond0_1 i)
    (x0 : Vec F S16x128x32 .f32) (x1 : Vec F S16x128x32 .f32) (x2 : Vec F S2x128x32 .f32) (x3 : Vec F S2x128x32 .f32) (x4 : Vec F S2x128x32 .f32) (x5 : Vec F S2x128x32 .f32) (x6 : Vec F S2x128x64 .f32) (x7 : Vec F S2x128x64 .f32) (x8 : Vec F S128x32 .f32) (x9 : Vec F S128x32 .f32) (x10 : Vec F S128x32 .f32) (x11 : Vec F S128x32 .f32) (x12 : Vec F S2x8x1 .f32) (x13 : Vec F S16x128x64 .f32) (xo22 : Vec F S2x8x1 .f32) :
    Σ' (L14 : List (View.Piece (Elt F) S16x128x32 .f32)), Σ' (L15 : List (View.Piece (Elt F) S16x128x32 .f32)), Σ' (L16 : List (View.Piece (Elt F) S2x128x32 .f32)), Σ' (L17 : List (View.Piece (Elt F) S2x128x32 .f32)), Σ' (L18 : List (View.Piece (Elt F) S2x128x32 .f32)), Σ' (L19 : List (View.Piece (Elt F) S2x128x32 .f32)), Σ' (L20 : List (View.Piece (Elt F) S2x128x64 .f32)), Σ' (L21 : List (View.Piece (Elt F) S2x128x64 .f32)), { L22 : List (View.Piece (Elt F) S2x8x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare xo22
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22)) -∗ K ⟨⟩))
          ⊢ wp frame (wpE (defs₀ (F := F)) Variants.none c none) E (cc0_swa_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, fun E K => ?run⟩
  case run =>
    simp only [cc0_swa_bwd_eq_skeleton]; unfold cc0_swa_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%f22, %hf22, H22⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg23.eq_unread hf22
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iexists _; iexact H22

end Cert.KernelIdeal.Gen

end
-- ==== Proof.Run.Frame.lean ====
/-
  The run of the whole program around the kernel body.

  What the nine output windows hold after each grid point is a tuple: at point 0 what the body leaves there
  (`tupA`), at a later point what it leaves over the sink gradients of the point before (`tupB`).  From the body's
  triple at a point (PointA, PointB) follow the obligation of the launch, the final state `run_main`, and the frame.
-/
module

public import proofs.«01_k».proof.Proof.Run.PointB
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem lt16 (t : Fin cfg0.N) : t.val < 16 := lt_of_lt_of_eq t.isLt (show cfg0.N = 16 from N_0)

theorem first0 {t : Fin cfg0.N} (h : t.val = 0) : cond0_0 (grid0.coords t) := (hcond0_0 t).mpr (by omega)
theorem first1 {t : Fin cfg0.N} (h : t.val = 0) : ¬cond0_1 (grid0.coords t) := fun k => by have := (hcond0_1 t).mp k; omega
theorem later0 {t : Fin cfg0.N} (h : t.val ≠ 0) : ¬cond0_0 (grid0.coords t) := fun k => by
  have := (hcond0_0 t).mp k; have := lt16 t; omega
theorem later1 {t : Fin cfg0.N} (h : t.val ≠ 0) : cond0_1 (grid0.coords t) := (hcond0_1 t).mpr (by omega)

/-- The body's run at the first point, on the point's own blocks. -/
def runA (c : Dev nD) (t : Fin cfg0.N) (h : t.val = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (first0 h) (first1 h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The body's run at a later point, the sink gradients so far being `x`. -/
def runB (c : Dev nD) (t : Fin cfg0.N) (h : t.val ≠ 0) (x : Vec F S2x8x1 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (later0 h) (later1 h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) x

/-- The nine output blocks. -/
abbrev Outs (F : FTy → Type) := Vec F S16x128x32 .f32 × Vec F S16x128x32 .f32 × Vec F S2x128x32 .f32 × Vec F S2x128x32 .f32 × Vec F S2x128x32 .f32 × Vec F S2x128x32 .f32 × Vec F S2x128x64 .f32 × Vec F S2x128x64 .f32 × Vec F S2x8x1 .f32

theorem coverA_14 (c : Dev nD) (t : Fin cfg0.N) (h : t.val = 0) (y : S16x128x32.Idx) :
    ∃ pc ∈ (runA m c t h).1, y ∈ pc.1.set :=
  View.cover_of_tiledL (runA m c t h).1 S8x128x32.size (by sl_kernel_rfl) y

theorem coverA_15 (c : Dev nD) (t : Fin cfg0.N) (h : t.val = 0) (y : S16x128x32.Idx) :
    ∃ pc ∈ (runA m c t h).2.1, y ∈ pc.1.set :=
  View.cover_of_tiledL (runA m c t h).2.1 S8x128x32.size (by sl_kernel_rfl) y

theorem coverA_16 (c : Dev nD) (t : Fin cfg0.N) (h : t.val = 0) (y : S2x128x32.Idx) :
    ∃ pc ∈ (runA m c t h).2.2.1, y ∈ pc.1.set :=
  View.cover_of_tiledL (runA m c t h).2.2.1 S1x128x32.size (by sl_kernel_rfl) y

theorem coverA_17 (c : Dev nD) (t : Fin cfg0.N) (h : t.val = 0) (y : S2x128x32.Idx) :
    ∃ pc ∈ (runA m c t h).2.2.2.1, y ∈ pc.1.set :=
  View.cover_of_tiledL (runA m c t h).2.2.2.1 S1x128x32.size (by sl_kernel_rfl) y

theorem coverA_18 (c : Dev nD) (t : Fin cfg0.N) (h : t.val = 0) (y : S2x128x32.Idx) :
    ∃ pc ∈ (runA m c t h).2.2.2.2.1, y ∈ pc.1.set :=
  View.cover_of_tiledL (runA m c t h).2.2.2.2.1 S1x128x32.size (by sl_kernel_rfl) y

theorem coverA_19 (c : Dev nD) (t : Fin cfg0.N) (h : t.val = 0) (y : S2x128x32.Idx) :
    ∃ pc ∈ (runA m c t h).2.2.2.2.2.1, y ∈ pc.1.set :=
  View.cover_of_tiledL (runA m c t h).2.2.2.2.2.1 S1x128x32.size (by sl_kernel_rfl) y

theorem coverA_20 (c : Dev nD) (t : Fin cfg0.N) (h : t.val = 0) (y : S2x128x64.Idx) :
    ∃ pc ∈ (runA m c t h).2.2.2.2.2.2.1, y ∈ pc.1.set :=
  View.cover_of_tiledL (runA m c t h).2.2.2.2.2.2.1 S1x128x64.size (by sl_kernel_rfl) y

theorem coverA_21 (c : Dev nD) (t : Fin cfg0.N) (h : t.val = 0) (y : S2x128x64.Idx) :
    ∃ pc ∈ (runA m c t h).2.2.2.2.2.2.2.1, y ∈ pc.1.set :=
  View.cover_of_tiledL (runA m c t h).2.2.2.2.2.2.2.1 S1x128x64.size (by sl_kernel_rfl) y

theorem coverA_22 (c : Dev nD) (t : Fin cfg0.N) (h : t.val = 0) (y : S2x8x1.Idx) :
    ∃ pc ∈ (runA m c t h).2.2.2.2.2.2.2.2.1, y ∈ pc.1.set :=
  View.cover_of_tiledL (runA m c t h).2.2.2.2.2.2.2.2.1 S2x8x1.size (by sl_kernel_rfl) y

/-- What the body leaves in the output blocks at the first point. -/
def tupA (c : Dev nD) (t : Fin cfg0.N) (h : t.val = 0) : Outs F :=
   (VO0_14.read (Elt F) (VO0_14.writes (Elt F) VO0_14.junk (runA m c t h).1),
    VO0_15.read (Elt F) (VO0_15.writes (Elt F) VO0_15.junk (runA m c t h).2.1),
    VO0_16.read (Elt F) (VO0_16.writes (Elt F) VO0_16.junk (runA m c t h).2.2.1),
    VO0_17.read (Elt F) (VO0_17.writes (Elt F) VO0_17.junk (runA m c t h).2.2.2.1),
    VO0_18.read (Elt F) (VO0_18.writes (Elt F) VO0_18.junk (runA m c t h).2.2.2.2.1),
    VO0_19.read (Elt F) (VO0_19.writes (Elt F) VO0_19.junk (runA m c t h).2.2.2.2.2.1),
    VO0_20.read (Elt F) (VO0_20.writes (Elt F) VO0_20.junk (runA m c t h).2.2.2.2.2.2.1),
    VO0_21.read (Elt F) (VO0_21.writes (Elt F) VO0_21.junk (runA m c t h).2.2.2.2.2.2.2.1),
    VO0_22.read (Elt F) (VO0_22.writes (Elt F) VO0_22.junk (runA m c t h).2.2.2.2.2.2.2.2.1))

theorem coverB_14 (c : Dev nD) (t : Fin cfg0.N) (h : t.val ≠ 0) (x : Vec F S2x8x1 .f32) (y : S16x128x32.Idx) :
    ∃ pc ∈ (runB m c t h x).1, y ∈ pc.1.set :=
  View.cover_of_tiledL (runB m c t h x).1 S8x128x32.size (by sl_kernel_rfl) y

theorem coverB_15 (c : Dev nD) (t : Fin cfg0.N) (h : t.val ≠ 0) (x : Vec F S2x8x1 .f32) (y : S16x128x32.Idx) :
    ∃ pc ∈ (runB m c t h x).2.1, y ∈ pc.1.set :=
  View.cover_of_tiledL (runB m c t h x).2.1 S8x128x32.size (by sl_kernel_rfl) y

theorem coverB_16 (c : Dev nD) (t : Fin cfg0.N) (h : t.val ≠ 0) (x : Vec F S2x8x1 .f32) (y : S2x128x32.Idx) :
    ∃ pc ∈ (runB m c t h x).2.2.1, y ∈ pc.1.set :=
  View.cover_of_tiledL (runB m c t h x).2.2.1 S1x128x32.size (by sl_kernel_rfl) y

theorem coverB_17 (c : Dev nD) (t : Fin cfg0.N) (h : t.val ≠ 0) (x : Vec F S2x8x1 .f32) (y : S2x128x32.Idx) :
    ∃ pc ∈ (runB m c t h x).2.2.2.1, y ∈ pc.1.set :=
  View.cover_of_tiledL (runB m c t h x).2.2.2.1 S1x128x32.size (by sl_kernel_rfl) y

theorem coverB_18 (c : Dev nD) (t : Fin cfg0.N) (h : t.val ≠ 0) (x : Vec F S2x8x1 .f32) (y : S2x128x32.Idx) :
    ∃ pc ∈ (runB m c t h x).2.2.2.2.1, y ∈ pc.1.set :=
  View.cover_of_tiledL (runB m c t h x).2.2.2.2.1 S1x128x32.size (by sl_kernel_rfl) y

theorem coverB_19 (c : Dev nD) (t : Fin cfg0.N) (h : t.val ≠ 0) (x : Vec F S2x8x1 .f32) (y : S2x128x32.Idx) :
    ∃ pc ∈ (runB m c t h x).2.2.2.2.2.1, y ∈ pc.1.set :=
  View.cover_of_tiledL (runB m c t h x).2.2.2.2.2.1 S1x128x32.size (by sl_kernel_rfl) y

theorem coverB_20 (c : Dev nD) (t : Fin cfg0.N) (h : t.val ≠ 0) (x : Vec F S2x8x1 .f32) (y : S2x128x64.Idx) :
    ∃ pc ∈ (runB m c t h x).2.2.2.2.2.2.1, y ∈ pc.1.set :=
  View.cover_of_tiledL (runB m c t h x).2.2.2.2.2.2.1 S1x128x64.size (by sl_kernel_rfl) y

theorem coverB_21 (c : Dev nD) (t : Fin cfg0.N) (h : t.val ≠ 0) (x : Vec F S2x8x1 .f32) (y : S2x128x64.Idx) :
    ∃ pc ∈ (runB m c t h x).2.2.2.2.2.2.2.1, y ∈ pc.1.set :=
  View.cover_of_tiledL (runB m c t h x).2.2.2.2.2.2.2.1 S1x128x64.size (by sl_kernel_rfl) y

theorem coverB_22 (c : Dev nD) (t : Fin cfg0.N) (h : t.val ≠ 0) (x : Vec F S2x8x1 .f32) (y : S2x8x1.Idx) :
    ∃ pc ∈ (runB m c t h x).2.2.2.2.2.2.2.2.1, y ∈ pc.1.set :=
  View.cover_of_tiledL (runB m c t h x).2.2.2.2.2.2.2.2.1 S2x8x1.size (by sl_kernel_rfl) y

/-- What the body leaves in the output blocks at a later point. -/
def tupB (c : Dev nD) (t : Fin cfg0.N) (h : t.val ≠ 0) (x : Vec F S2x8x1 .f32) : Outs F :=
   (VO0_14.read (Elt F) (VO0_14.writes (Elt F) VO0_14.junk (runB m c t h x).1),
    VO0_15.read (Elt F) (VO0_15.writes (Elt F) VO0_15.junk (runB m c t h x).2.1),
    VO0_16.read (Elt F) (VO0_16.writes (Elt F) VO0_16.junk (runB m c t h x).2.2.1),
    VO0_17.read (Elt F) (VO0_17.writes (Elt F) VO0_17.junk (runB m c t h x).2.2.2.1),
    VO0_18.read (Elt F) (VO0_18.writes (Elt F) VO0_18.junk (runB m c t h x).2.2.2.2.1),
    VO0_19.read (Elt F) (VO0_19.writes (Elt F) VO0_19.junk (runB m c t h x).2.2.2.2.2.1),
    VO0_20.read (Elt F) (VO0_20.writes (Elt F) VO0_20.junk (runB m c t h x).2.2.2.2.2.2.1),
    VO0_21.read (Elt F) (VO0_21.writes (Elt F) VO0_21.junk (runB m c t h x).2.2.2.2.2.2.2.1),
    VO0_22.read (Elt F) (VO0_22.writes (Elt F) VO0_22.junk (runB m c t h x).2.2.2.2.2.2.2.2.1))

/-- The output blocks after point `n`. -/
def outs (c : Dev nD) : (n : ℕ) → n < cfg0.N → Outs F
  | 0, hn => tupA m c ⟨0, hn⟩ rfl
  | n + 1, hn => tupB m c ⟨n + 1, hn⟩ (Nat.succ_ne_zero n) (outs c n (Nat.lt_of_succ_lt hn)).2.2.2.2.2.2.2.2

theorem outs_A (c : Dev nD) (t : Fin cfg0.N) (h : t.val = 0) : outs m c t.val t.isLt = tupA m c t h := by
  obtain ⟨n, hn⟩ := t
  cases n with
  | zero => rfl
  | succ n => exact absurd h (Nat.succ_ne_zero n)

theorem outs_B (c : Dev nD) (t : Fin cfg0.N) (h : t.val ≠ 0) : outs m c t.val t.isLt
    = tupB m c t h (outs m c (t.val - 1) (Nat.lt_of_le_of_lt (Nat.sub_le _ _) t.isLt)).2.2.2.2.2.2.2.2 := by
  obtain ⟨n, hn⟩ := t
  cases n with
  | zero => exact absurd rfl h
  | succ n => rfl

/-- The proof data of the launch: the arrays as the host lines before it leave them, and the window contents above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outs m c t.val t.isLt).1
    | ⟨15, _⟩ => (outs m c t.val t.isLt).2.1
    | ⟨16, _⟩ => (outs m c t.val t.isLt).2.2.1
    | ⟨17, _⟩ => (outs m c t.val t.isLt).2.2.2.1
    | ⟨18, _⟩ => (outs m c t.val t.isLt).2.2.2.2.1
    | ⟨19, _⟩ => (outs m c t.val t.isLt).2.2.2.2.2.1
    | ⟨20, _⟩ => (outs m c t.val t.isLt).2.2.2.2.2.2.1
    | ⟨21, _⟩ => (outs m c t.val t.isLt).2.2.2.2.2.2.2.1
    | ⟨22, _⟩ => (outs m c t.val t.isLt).2.2.2.2.2.2.2.2
    | ⟨_ + 23, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (outs m c t.val t.isLt).1 := by dsimp only [dats]
theorem after0_15 (c : Dev nD) (t : Fin cfg0.N) : (dats m 0 c).after 15 t = (outs m c t.val t.isLt).2.1 := by dsimp only [dats]
theorem after0_16 (c : Dev nD) (t : Fin cfg0.N) : (dats m 0 c).after 16 t = (outs m c t.val t.isLt).2.2.1 := by dsimp only [dats]
theorem after0_17 (c : Dev nD) (t : Fin cfg0.N) : (dats m 0 c).after 17 t = (outs m c t.val t.isLt).2.2.2.1 := by dsimp only [dats]
theorem after0_18 (c : Dev nD) (t : Fin cfg0.N) : (dats m 0 c).after 18 t = (outs m c t.val t.isLt).2.2.2.2.1 := by dsimp only [dats]
theorem after0_19 (c : Dev nD) (t : Fin cfg0.N) : (dats m 0 c).after 19 t = (outs m c t.val t.isLt).2.2.2.2.2.1 := by dsimp only [dats]
theorem after0_20 (c : Dev nD) (t : Fin cfg0.N) : (dats m 0 c).after 20 t = (outs m c t.val t.isLt).2.2.2.2.2.2.1 := by dsimp only [dats]
theorem after0_21 (c : Dev nD) (t : Fin cfg0.N) : (dats m 0 c).after 21 t = (outs m c t.val t.isLt).2.2.2.2.2.2.2.1 := by dsimp only [dats]
theorem after0_22 (c : Dev nD) (t : Fin cfg0.N) : (dats m 0 c).after 22 t = (outs m c t.val t.isLt).2.2.2.2.2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

theorem leaves0_0 (c : Dev nD) (t : Fin cfg0.N) : (dats m 0 c).leavesExact 0 t
    = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t
    = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t
    = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t
    = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t
    = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t
    = owns (c : Thread nD τ) (ms0_5 t) fullShare (iblk m c 5 t) := by
  unfold Dat.leavesExact; rw [liveAt0_5 t, after0_5]
theorem leaves0_6 (c : Dev nD) (t : Fin cfg0.N) : (dats m 0 c).leavesExact 6 t
    = owns (c : Thread nD τ) (ms0_6 t) fullShare (iblk m c 6 t) := by
  unfold Dat.leavesExact; rw [liveAt0_6 t, after0_6]
theorem leaves0_7 (c : Dev nD) (t : Fin cfg0.N) : (dats m 0 c).leavesExact 7 t
    = owns (c : Thread nD τ) (ms0_7 t) fullShare (iblk m c 7 t) := by
  unfold Dat.leavesExact; rw [liveAt0_7 t, after0_7]
theorem leaves0_8 (c : Dev nD) (t : Fin cfg0.N) : (dats m 0 c).leavesExact 8 t
    = owns (c : Thread nD τ) (ms0_8 t) fullShare (iblk m c 8 t) := by
  unfold Dat.leavesExact; rw [liveAt0_8 t, after0_8]
theorem leaves0_9 (c : Dev nD) (t : Fin cfg0.N) : (dats m 0 c).leavesExact 9 t
    = owns (c : Thread nD τ) (ms0_9 t) fullShare (iblk m c 9 t) := by
  unfold Dat.leavesExact; rw [liveAt0_9 t, after0_9]
theorem leaves0_10 (c : Dev nD) (t : Fin cfg0.N) : (dats m 0 c).leavesExact 10 t
    = owns (c : Thread nD τ) (ms0_10 t) fullShare (iblk m c 10 t) := by
  unfold Dat.leavesExact; rw [liveAt0_10 t, after0_10]
theorem leaves0_11 (c : Dev nD) (t : Fin cfg0.N) : (dats m 0 c).leavesExact 11 t
    = owns (c : Thread nD τ) (ms0_11 t) fullShare (iblk m c 11 t) := by
  unfold Dat.leavesExact; rw [liveAt0_11 t, after0_11]
theorem leaves0_12 (c : Dev nD) (t : Fin cfg0.N) : (dats m 0 c).leavesExact 12 t
    = owns (c : Thread nD τ) (ms0_12 t) fullShare (iblk m c 12 t) := by
  unfold Dat.leavesExact; rw [liveAt0_12 t, after0_12]
theorem leaves0_13 (c : Dev nD) (t : Fin cfg0.N) : (dats m 0 c).leavesExact 13 t
    = owns (c : Thread nD τ) (ms0_13 t) fullShare (iblk m c 13 t) := by
  unfold Dat.leavesExact; rw [liveAt0_13 t, after0_13]
theorem leaves0_14 (c : Dev nD) (t : Fin cfg0.N) : (dats m 0 c).leavesExact 14 t
    = owns (c : Thread nD τ) (ms0_14 t) fullShare ((outs m c t.val t.isLt).1) := by
  unfold Dat.leavesExact; rw [liveAt0_14 t, after0_14]
theorem leaves0_15 (c : Dev nD) (t : Fin cfg0.N) : (dats m 0 c).leavesExact 15 t
    = owns (c : Thread nD τ) (ms0_15 t) fullShare ((outs m c t.val t.isLt).2.1) := by
  unfold Dat.leavesExact; rw [liveAt0_15 t, after0_15]
theorem leaves0_16 (c : Dev nD) (t : Fin cfg0.N) : (dats m 0 c).leavesExact 16 t
    = owns (c : Thread nD τ) (ms0_16 t) fullShare ((outs m c t.val t.isLt).2.2.1) := by
  unfold Dat.leavesExact; rw [liveAt0_16 t, after0_16]
theorem leaves0_17 (c : Dev nD) (t : Fin cfg0.N) : (dats m 0 c).leavesExact 17 t
    = owns (c : Thread nD τ) (ms0_17 t) fullShare ((outs m c t.val t.isLt).2.2.2.1) := by
  unfold Dat.leavesExact; rw [liveAt0_17 t, after0_17]
theorem leaves0_18 (c : Dev nD) (t : Fin cfg0.N) : (dats m 0 c).leavesExact 18 t
    = owns (c : Thread nD τ) (ms0_18 t) fullShare ((outs m c t.val t.isLt).2.2.2.2.1) := by
  unfold Dat.leavesExact; rw [liveAt0_18 t, after0_18]
theorem leaves0_19 (c : Dev nD) (t : Fin cfg0.N) : (dats m 0 c).leavesExact 19 t
    = owns (c : Thread nD τ) (ms0_19 t) fullShare ((outs m c t.val t.isLt).2.2.2.2.2.1) := by
  unfold Dat.leavesExact; rw [liveAt0_19 t, after0_19]
theorem leaves0_20 (c : Dev nD) (t : Fin cfg0.N) : (dats m 0 c).leavesExact 20 t
    = owns (c : Thread nD τ) (ms0_20 t) fullShare ((outs m c t.val t.isLt).2.2.2.2.2.2.1) := by
  unfold Dat.leavesExact; rw [liveAt0_20 t, after0_20]
theorem leaves0_21 (c : Dev nD) (t : Fin cfg0.N) : (dats m 0 c).leavesExact 21 t
    = owns (c : Thread nD τ) (ms0_21 t) fullShare ((outs m c t.val t.isLt).2.2.2.2.2.2.2.1) := by
  unfold Dat.leavesExact; rw [liveAt0_21 t, after0_21]

theorem live22 (t : Fin cfg0.N) : cfg0.idle 22 (grid0.coords t) = false := by
  by_cases h : t.val = 0
  · exact liveAt0_22_A t (first0 h) (first1 h)
  · exact liveAt0_22_B t (later0 h) (later1 h)

theorem leaves0_22 (c : Dev nD) (t : Fin cfg0.N) : (dats m 0 c).leavesExact 22 t
    = owns (c : Thread nD τ) (ms0_22 t) fullShare (outs m c t.val t.isLt).2.2.2.2.2.2.2.2 := by
  unfold Dat.leavesExact; rw [live22 t, after0_22]

/-- At a later point the sink gradients' window still holds what the point before left. -/
theorem before0_22_B (c : Dev nD) (t : Fin cfg0.N) (h : t.val ≠ 0) (d) : (dats m 0 c).before 22 t d
    = (outs m c (t.val - 1) (Nat.lt_of_le_of_lt (Nat.sub_le _ _) t.isLt)).2.2.2.2.2.2.2.2 := by
  rw [Dat.before_out_traj _ 22 rfl (fun _ _ => rfl)
      (fun s _ hi _ => by rw [live22 s] at hi; exact absurd hi Bool.false_ne_true) t.val t rfl d,
    if_neg (by rw [notFresh0_22_B t (later0 h) (later1 h)]; exact Bool.false_ne_true)]
  dsimp only [dats]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t)

set_option maxHeartbeats 8000000 in
/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl]
  rw [leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18, leaves0_19, leaves0_20, leaves0_21, leaves0_22]
  by_cases h : t.val = 0
  · rw [outs_A m c t h]
    unfold tupA; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply ((runA m c t h).2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · unfold owns; iexists _; isplitr
      swap; · iexact H14
      ipureintro; exact View.read_writes_of_cover _ _ _ _ _ (coverA_14 m c t h)
    isplitl [H15]
    · unfold owns; iexists _; isplitr
      swap; · iexact H15
      ipureintro; exact View.read_writes_of_cover _ _ _ _ _ (coverA_15 m c t h)
    isplitl [H16]
    · unfold owns; iexists _; isplitr
      swap; · iexact H16
      ipureintro; exact View.read_writes_of_cover _ _ _ _ _ (coverA_16 m c t h)
    isplitl [H17]
    · unfold owns; iexists _; isplitr
      swap; · iexact H17
      ipureintro; exact View.read_writes_of_cover _ _ _ _ _ (coverA_17 m c t h)
    isplitl [H18]
    · unfold owns; iexists _; isplitr
      swap; · iexact H18
      ipureintro; exact View.read_writes_of_cover _ _ _ _ _ (coverA_18 m c t h)
    isplitl [H19]
    · unfold owns; iexists _; isplitr
      swap; · iexact H19
      ipureintro; exact View.read_writes_of_cover _ _ _ _ _ (coverA_19 m c t h)
    isplitl [H20]
    · unfold owns; iexists _; isplitr
      swap; · iexact H20
      ipureintro; exact View.read_writes_of_cover _ _ _ _ _ (coverA_20 m c t h)
    isplitl [H21]
    · unfold owns; iexists _; isplitr
      swap; · iexact H21
      ipureintro; exact View.read_writes_of_cover _ _ _ _ _ (coverA_21 m c t h)
    unfold owns; iexists _; isplitr
    swap; · iexact H22
    ipureintro; exact View.read_writes_of_cover _ _ _ _ _ (coverA_22 m c t h)
  · rw [outs_B m c t h]
    simp only [before0_22_B m c t h]
    unfold tupB; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply ((runB m c t h _).2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexact H22
    iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · unfold owns; iexists _; isplitr
      swap; · iexact H14
      ipureintro; exact View.read_writes_of_cover _ _ _ _ _ (coverB_14 m c t h _)
    isplitl [H15]
    · unfold owns; iexists _; isplitr
      swap; · iexact H15
      ipureintro; exact View.read_writes_of_cover _ _ _ _ _ (coverB_15 m c t h _)
    isplitl [H16]
    · unfold owns; iexists _; isplitr
      swap; · iexact H16
      ipureintro; exact View.read_writes_of_cover _ _ _ _ _ (coverB_16 m c t h _)
    isplitl [H17]
    · unfold owns; iexists _; isplitr
      swap; · iexact H17
      ipureintro; exact View.read_writes_of_cover _ _ _ _ _ (coverB_17 m c t h _)
    isplitl [H18]
    · unfold owns; iexists _; isplitr
      swap; · iexact H18
      ipureintro; exact View.read_writes_of_cover _ _ _ _ _ (coverB_18 m c t h _)
    isplitl [H19]
    · unfold owns; iexists _; isplitr
      swap; · iexact H19
      ipureintro; exact View.read_writes_of_cover _ _ _ _ _ (coverB_19 m c t h _)
    isplitl [H20]
    · unfold owns; iexists _; isplitr
      swap; · iexact H20
      ipureintro; exact View.read_writes_of_cover _ _ _ _ _ (coverB_20 m c t h _)
    isplitl [H21]
    · unfold owns; iexists _; isplitr
      swap; · iexact H21
      ipureintro; exact View.read_writes_of_cover _ _ _ _ _ (coverB_21 m c t h _)
    unfold owns; iexists _; isplitr
    swap; · iexact H22
    ipureintro; exact View.read_writes_of_cover _ _ _ _ _ (coverB_22 m c t h _)

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 4000000 in
/-- Every weakly fair execution terminates with the arrays of the launch at what the window contents make of them, the
    other buffers at what the host lines after it leave, and every semaphore at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the arguments end unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ))
    ((θ_run defs _ _).mono (fun _ h => h.2) (run_main_quiescent m ρ))

end Cert.KernelIdeal.Gen

end
-- ==== Proof.Attn.lean ====
/- The mathematics of one block of windowed attention with a sink, over the real numbers.

   A block has 128 query rows of eight heads that share one key/value head, and a band of 256 key rows.
   `Blk` holds the (already rotated) queries and keys, the values, the cotangent of the output, the
   sink logits and the window; the definitions below it are the softmax with a sink in its unnormalised
   form and its gradient. The two facts used of it are that the row's logits have gradients that add up
   to zero (so nothing flows through the row maximum) and that a key row no query sees does not matter. -/
module

public import Idealize.ShloMosaic.Lib.Pipeline.ValueKit

@[expose] public section

noncomputable section

namespace SwaGrad

open Idealize.ShloMosaic

/-! ## Extended reals that are real -/

theorem coe_sum {ι : Type} (s : Finset ι) (f : ι → ℝ) : ∑ i ∈ s, (f i : EReal) = ((∑ i ∈ s, f i : ℝ) : EReal) := by
  induction s using Finset.cons_induction with
  | empty => simp
  | cons a s h ih => rw [Finset.sum_cons, Finset.sum_cons, ih, EReal.coe_add]

/-- A sum of extended reals each of which is a real. -/
theorem sum_of {n : ℕ} {F : Fin n → EReal} {f : Fin n → ℝ} (h : ∀ i, F i = (f i : EReal)) :
    ∑ i, F i = ((∑ i, f i : ℝ) : EReal) := by
  rw [← coe_sum]; exact Finset.sum_congr rfl fun i _ => h i

/-- A quotient of reals, the divisor not zero. -/
theorem div_coe_coe (a : ℝ) {b : ℝ} (hb : b ≠ 0) : Ideal.div (a : EReal) (b : EReal) = ((a / b : ℝ) : EReal) := by
  rw [Ideal.div_coe hb, ← EReal.coe_mul, mul_one_div]

theorem exp_coe (a : ℝ) : Ideal.exp (a : EReal) = ((Real.exp a : ℝ) : EReal) := rfl

theorem exp_bot_sub (a : ℝ) : Ideal.exp ((⊥ : EReal) - (a : EReal)) = ((0 : ℝ) : EReal) := by
  rw [show (⊥ : EReal) - (a : EReal) = ⊥ from by rw [sub_eq_add_neg, EReal.bot_add]]; rfl

/-- The maximum of finitely many extended reals none of which is `⊤` is not `⊤`. -/
theorem fold_max_ne_top {n : ℕ} (F : Fin n → EReal) (h : ∀ i, F i ≠ ⊤) :
    Finset.univ.fold max (⊥ : EReal) F ≠ ⊤ := by
  have : Finset.univ.fold max (⊥ : EReal) F < ⊤ := by
    rw [Finset.fold_max_lt]; exact ⟨bot_lt_top, fun i _ => lt_top_iff_ne_top.2 (h i)⟩
  exact this.ne

/-- The maximum over a row is one of the row's entries. -/
theorem fold_max_mem {n : ℕ} [NeZero n] (F : Fin n → EReal) : ∃ i, F i = Finset.univ.fold max (⊥ : EReal) F := by
  have hs : Finset.univ.fold max (⊥ : EReal) F = Finset.univ.sup F := rfl
  obtain ⟨i, -, hi⟩ := Finset.exists_mem_eq_sup (Finset.univ : Finset (Fin n)) Finset.univ_nonempty F
  exact ⟨i, by rw [hs, hi]⟩

/-! ## One block -/

/-- What one block of the attention's gradient reads. -/
structure Blk where
  q1 : Fin 8 → Fin 128 → Fin 32 → ℝ
  q2 : Fin 8 → Fin 128 → Fin 32 → ℝ
  k1 : Fin 256 → Fin 32 → ℝ
  k2 : Fin 256 → Fin 32 → ℝ
  v : Fin 256 → Fin 64 → ℝ
  ct : Fin 8 → Fin 128 → Fin 64 → ℝ
  sk : Fin 8 → ℝ
  ok : Fin 128 → Fin 256 → Bool

namespace Blk

variable (b : Blk)

/-- The scaled scores. -/
def s (g : Fin 8) (i : Fin 128) (j : Fin 256) : ℝ :=
  (∑ d, b.q1 g i d * b.k1 j d + ∑ d, b.q2 g i d * b.k2 j d) * (1 / 8)

/-- The masked scores: −∞ outside the window. -/
def ms (g : Fin 8) (i : Fin 128) (j : Fin 256) : EReal := if b.ok i j then (b.s g i j : EReal) else ⊥

/-- The row maximum, the sink included. -/
def mx (g : Fin 8) (i : Fin 128) : ℝ :=
  (max (Finset.univ.fold max (⊥ : EReal) fun j => b.ms g i j) (b.sk g : EReal)).toReal

theorem ms_ne_top (g : Fin 8) (i : Fin 128) (j : Fin 256) : b.ms g i j ≠ ⊤ := by
  unfold ms; split
  · exact EReal.coe_ne_top _
  · exact bot_ne_top

theorem coe_mx (g : Fin 8) (i : Fin 128) :
    (b.mx g i : EReal) = max (Finset.univ.fold max (⊥ : EReal) fun j => b.ms g i j) (b.sk g : EReal) := by
  refine EReal.coe_toReal ?_ ?_
  · intro h
    rcases max_choice (Finset.univ.fold max (⊥ : EReal) fun j => b.ms g i j) (b.sk g : EReal) with h' | h'
    · exact fold_max_ne_top _ (b.ms_ne_top g i) (h' ▸ h)
    · exact EReal.coe_ne_top (b.sk g) (h' ▸ h)
  · exact ((EReal.bot_lt_coe (b.sk g)).trans_le (le_max_right _ _)).ne'

/-- The unnormalised weights, of the keys and of the sink, and their sum. -/
def e (g : Fin 8) (i : Fin 128) (j : Fin 256) : ℝ := if b.ok i j then Real.exp (b.s g i j - b.mx g i) else 0
def es (g : Fin 8) (i : Fin 128) : ℝ := Real.exp (b.sk g - b.mx g i)
def z (g : Fin 8) (i : Fin 128) : ℝ := ∑ j, b.e g i j + b.es g i

theorem exp_ms (g : Fin 8) (i : Fin 128) (j : Fin 256) :
    Ideal.exp (b.ms g i j - (b.mx g i : EReal)) = (b.e g i j : EReal) := by
  unfold ms e; split
  · rw [← EReal.coe_sub]; rfl
  · exact exp_bot_sub _

theorem e_nonneg (g : Fin 8) (i : Fin 128) (j : Fin 256) : 0 ≤ b.e g i j := by
  unfold e; split
  · exact (Real.exp_pos _).le
  · exact le_rfl

theorem z_pos (g : Fin 8) (i : Fin 128) : 0 < b.z g i :=
  add_pos_of_nonneg_of_pos (Finset.sum_nonneg fun j _ => b.e_nonneg g i j) (Real.exp_pos _)

theorem z_ne (g : Fin 8) (i : Fin 128) : b.z g i ≠ 0 := (b.z_pos g i).ne'

/-- The probabilities. -/
def p (g : Fin 8) (i : Fin 128) (j : Fin 256) : ℝ := b.e g i j / b.z g i

/-- Their cotangent. -/
def dp (g : Fin 8) (i : Fin 128) (j : Fin 256) : ℝ := ∑ c, b.ct g i c * b.v j c

/-- The cotangent of the row's normaliser. -/
def dz (g : Fin 8) (i : Fin 128) : ℝ := -∑ j, b.dp g i j * (1 / (b.z g i * b.z g i)) * b.e g i j

/-- The gradients of the masked scores and of the sink. -/
def ds (g : Fin 8) (i : Fin 128) (j : Fin 256) : ℝ := (b.dp g i j / b.z g i + b.dz g i) * b.e g i j
def des (g : Fin 8) (i : Fin 128) : ℝ := b.dz g i * b.es g i
def dsink (g : Fin 8) : ℝ := ∑ i, b.des g i

/-- The gradients of the rotated queries and keys, and of the values. -/
def dq1 (g : Fin 8) (i : Fin 128) (d : Fin 32) : ℝ := ∑ j, b.ds g i j * (1 / 8) * b.k1 j d
def dq2 (g : Fin 8) (i : Fin 128) (d : Fin 32) : ℝ := ∑ j, b.ds g i j * (1 / 8) * b.k2 j d
def dk1 (j : Fin 256) (d : Fin 32) : ℝ := ∑ g, ∑ i, b.ds g i j * (1 / 8) * b.q1 g i d
def dk2 (j : Fin 256) (d : Fin 32) : ℝ := ∑ g, ∑ i, b.ds g i j * (1 / 8) * b.q2 g i d
def dv (j : Fin 256) (c : Fin 64) : ℝ := ∑ g, ∑ i, b.p g i j * b.ct g i c

theorem e_of_not {i : Fin 128} {j : Fin 256} (h : b.ok i j = false) (g : Fin 8) : b.e g i j = 0 := by
  simp [e, h]

theorem ds_of_not {i : Fin 128} {j : Fin 256} (h : b.ok i j = false) (g : Fin 8) : b.ds g i j = 0 := by
  simp [ds, b.e_of_not h g]

/-- The gradients of one row's logits add up to zero. -/
theorem row_zero (g : Fin 8) (i : Fin 128) : (0 - b.dz g i * b.es g i) + ∑ j, (0 - b.ds g i j) = 0 := by
  have hz := b.z_ne g i
  have h1 : ∑ j, b.ds g i j = (∑ j, b.dp g i j * b.e g i j) / b.z g i + b.dz g i * ∑ j, b.e g i j := by
    rw [Finset.sum_div, Finset.mul_sum, ← Finset.sum_add_distrib]
    refine Finset.sum_congr rfl fun j _ => ?_
    unfold ds; ring
  have h2 : b.dz g i = -((∑ j, b.dp g i j * b.e g i j) * (1 / (b.z g i * b.z g i))) := by
    unfold dz; rw [Finset.sum_mul]
    refine congrArg _ (Finset.sum_congr rfl fun j _ => ?_); ring
  have h3 : ∑ j, b.e g i j = b.z g i - b.es g i := by unfold z; ring
  rw [Finset.sum_sub_distrib, Finset.sum_const_zero, h1, h3, h2]
  field_simp
  ring

end Blk

/-! ## Key rows that no query sees -/

/-- Two blocks that differ only in key and value rows outside every query's window. -/
structure Agree (a b : Blk) : Prop where
  q1 : ∀ g i d, a.q1 g i d = b.q1 g i d
  q2 : ∀ g i d, a.q2 g i d = b.q2 g i d
  ct : ∀ g i c, a.ct g i c = b.ct g i c
  sk : ∀ g, a.sk g = b.sk g
  ok : ∀ i j, a.ok i j = b.ok i j
  k1 : ∀ i j, b.ok i j = true → ∀ d, a.k1 j d = b.k1 j d
  k2 : ∀ i j, b.ok i j = true → ∀ d, a.k2 j d = b.k2 j d
  v : ∀ i j, b.ok i j = true → ∀ c, a.v j c = b.v j c

namespace Agree

variable {a b : Blk} (h : Agree a b)
include h

theorem s {i : Fin 128} {j : Fin 256} (hj : b.ok i j = true) (g : Fin 8) : a.s g i j = b.s g i j := by
  simp only [Blk.s, h.q1, h.q2, h.k1 i j hj, h.k2 i j hj]

theorem ms (g : Fin 8) (i : Fin 128) (j : Fin 256) : a.ms g i j = b.ms g i j := by
  simp only [Blk.ms, h.ok]
  split
  · next hj => rw [h.s hj]
  · rfl

theorem mx (g : Fin 8) (i : Fin 128) : a.mx g i = b.mx g i := by simp only [Blk.mx, h.ms, h.sk]

theorem e (g : Fin 8) (i : Fin 128) (j : Fin 256) : a.e g i j = b.e g i j := by
  simp only [Blk.e, h.ok, h.mx]
  split
  · next hj => rw [h.s hj]
  · rfl

theorem es (g : Fin 8) (i : Fin 128) : a.es g i = b.es g i := by simp only [Blk.es, h.sk, h.mx]
theorem z (g : Fin 8) (i : Fin 128) : a.z g i = b.z g i := by simp only [Blk.z, h.e, h.es]
theorem p (g : Fin 8) (i : Fin 128) (j : Fin 256) : a.p g i j = b.p g i j := by simp only [Blk.p, h.e, h.z]

theorem dp {i : Fin 128} {j : Fin 256} (hj : b.ok i j = true) (g : Fin 8) : a.dp g i j = b.dp g i j := by
  simp only [Blk.dp, h.ct, h.v i j hj]

theorem dz (g : Fin 8) (i : Fin 128) : a.dz g i = b.dz g i := by
  simp only [Blk.dz, h.z, h.e]
  refine congrArg _ (Finset.sum_congr rfl fun j _ => ?_)
  cases hj : b.ok i j with
  | false => rw [b.e_of_not hj, mul_zero, mul_zero]
  | true => rw [h.dp hj]

theorem ds (g : Fin 8) (i : Fin 128) (j : Fin 256) : a.ds g i j = b.ds g i j := by
  cases hj : b.ok i j with
  | false => rw [b.ds_of_not hj, a.ds_of_not ((h.ok i j).trans hj)]
  | true => simp only [Blk.ds, h.dp hj, h.z, h.dz, h.e]

theorem dsink (g : Fin 8) : a.dsink g = b.dsink g := by simp only [Blk.dsink, Blk.des, h.dz, h.es]

theorem dq1 (g : Fin 8) (i : Fin 128) (d : Fin 32) : a.dq1 g i d = b.dq1 g i d := by
  simp only [Blk.dq1, h.ds]
  refine Finset.sum_congr rfl fun j _ => ?_
  cases hj : b.ok i j with
  | false => rw [b.ds_of_not hj, zero_mul, zero_mul, zero_mul]
  | true => rw [h.k1 i j hj]

theorem dq2 (g : Fin 8) (i : Fin 128) (d : Fin 32) : a.dq2 g i d = b.dq2 g i d := by
  simp only [Blk.dq2, h.ds]
  refine Finset.sum_congr rfl fun j _ => ?_
  cases hj : b.ok i j with
  | false => rw [b.ds_of_not hj, zero_mul, zero_mul, zero_mul]
  | true => rw [h.k2 i j hj]

theorem dk1 (j : Fin 256) (d : Fin 32) : a.dk1 j d = b.dk1 j d := by simp only [Blk.dk1, h.ds, h.q1]
theorem dk2 (j : Fin 256) (d : Fin 32) : a.dk2 j d = b.dk2 j d := by simp only [Blk.dk2, h.ds, h.q2]
theorem dv (j : Fin 256) (c : Fin 64) : a.dv j c = b.dv j c := by simp only [Blk.dv, h.p, h.ct]

end Agree

end SwaGrad
-- ==== Proof.Model.lean ====
/- The gradient of the whole rotated, windowed attention, over the real numbers.

   `Inp` holds the projected rows (16 query heads, 2 key heads and 2 value heads of 64 columns each), the
   sink logits, the cotangent of the attention's output and the cosines and sines of the rotation. Every block of
   128 rows and every key/value head gives one `Blk`; the gradients of the rows are put together from
   the blocks, a key or value row getting what its own block and the next one give it. -/
module

public import proofs.«01_k».proof.Proof.Attn

@[expose] public section

noncomputable section

namespace SwaGrad

/-- The window of a query row `i` of block `m` over its band of 256 key rows. -/
def inWin (m : ℕ) (i : Fin 128) (j : Fin 256) : Bool := decide (i.val < j.val ∧ j.val ≤ i.val + 128 ∧ (128 ≤ j.val ∨ 0 < m))

structure Inp where
  za : Fin 2048 → Fin 1280 → ℝ
  sk : Fin 16 → ℝ
  ct : Fin 16 → Fin 2048 → Fin 64 → ℝ
  C : Fin 2048 → Fin 32 → ℝ
  S : Fin 2048 → Fin 32 → ℝ

/-- Row `i` of block `n`. -/
def row (n : Fin 16) (i : Fin 128) : Fin 2048 := ⟨n.val * 128 + i.val, by omega⟩
/-- Row `j` of the band of block `n`; the band of block 0 starts with block 0 itself. -/
def bandRow (n : Fin 16) (j : Fin 256) : Fin 2048 :=
  ⟨if j.val < 128 then (n.val - 1) * 128 + j.val else n.val * 128 + (j.val - 128), by split <;> omega⟩
/-- Query head `g` of key/value head `kv`. -/
def head (kv : Fin 2) (g : Fin 8) : Fin 16 := ⟨kv.val * 8 + g.val, by omega⟩

theorem bandRow_prev (n : Fin 16) (i : Fin 128) : bandRow n ⟨i.val, by omega⟩ = row ⟨n.val - 1, by omega⟩ i :=
  Fin.ext (by simp [bandRow, row, i.isLt])
theorem bandRow_cur (n : Fin 16) (i : Fin 128) : bandRow n ⟨128 + i.val, by omega⟩ = row n i :=
  Fin.ext (by simp [bandRow, row])

namespace Inp

variable (x : Inp)

/-- The two halves of a head's columns. -/
def qa (h : Fin 16) (t : Fin 2048) (d : Fin 32) : ℝ := x.za t ⟨h.val * 64 + d.val, by omega⟩
def qb (h : Fin 16) (t : Fin 2048) (d : Fin 32) : ℝ := x.za t ⟨h.val * 64 + (32 + d.val), by omega⟩
def ka (h : Fin 2) (t : Fin 2048) (d : Fin 32) : ℝ := x.za t ⟨1024 + (h.val * 64 + d.val), by omega⟩
def kb (h : Fin 2) (t : Fin 2048) (d : Fin 32) : ℝ := x.za t ⟨1024 + (h.val * 64 + (32 + d.val)), by omega⟩
def v (h : Fin 2) (t : Fin 2048) (c : Fin 64) : ℝ := x.za t ⟨1152 + (h.val * 64 + c.val), by omega⟩

/-- Their rotations. -/
def q1 (h : Fin 16) (t : Fin 2048) (d : Fin 32) : ℝ := x.qa h t d * x.C t d - x.qb h t d * x.S t d
def q2 (h : Fin 16) (t : Fin 2048) (d : Fin 32) : ℝ := x.qb h t d * x.C t d + x.qa h t d * x.S t d
def k1 (h : Fin 2) (t : Fin 2048) (d : Fin 32) : ℝ := x.ka h t d * x.C t d - x.kb h t d * x.S t d
def k2 (h : Fin 2) (t : Fin 2048) (d : Fin 32) : ℝ := x.kb h t d * x.C t d + x.ka h t d * x.S t d

/-- The block of key/value head `kv` and rows `n`. The rows before the first are zero when `w` is set (as the
    reference has them) and the first block's own otherwise (as the kernel has them). -/
def blk (w : Bool) (kv : Fin 2) (n : Fin 16) : Blk where
  q1 g i d := x.q1 (head kv g) (row n i) d
  q2 g i d := x.q2 (head kv g) (row n i) d
  k1 j d := if w = true ∧ j.val < 128 ∧ n.val = 0 then 0 else x.k1 kv (bandRow n j) d
  k2 j d := if w = true ∧ j.val < 128 ∧ n.val = 0 then 0 else x.k2 kv (bandRow n j) d
  v j c := if w = true ∧ j.val < 128 ∧ n.val = 0 then 0 else x.v kv (bandRow n j) c
  ct g i c := x.ct (head kv g) (row n i) c
  sk g := x.sk (head kv g)
  ok i j := inWin n.val i j

/-- The two differ only where no query sees. -/
theorem agree (kv : Fin 2) (n : Fin 16) : Agree (x.blk false kv n) (x.blk true kv n) := by
  have key : ∀ (i : Fin 128) (j : Fin 256), inWin n.val i j = true → ¬(true = true ∧ j.val < 128 ∧ n.val = 0) := by
    intro i j h
    simp only [inWin, decide_eq_true_eq] at h
    omega
  refine ⟨fun _ _ _ => rfl, fun _ _ _ => rfl, fun _ _ _ => rfl, fun _ => rfl, fun _ _ => rfl, ?_, ?_, ?_⟩ <;>
  · intro i j h d
    have k := key i j h
    simp only [blk, true_and] at k ⊢
    rw [if_neg k, if_neg (by simp)]

variable (w : Bool)

/-- The gradients of the rotated rows. -/
def dq1 (kv : Fin 2) (g : Fin 8) (n : Fin 16) (i : Fin 128) (d : Fin 32) : ℝ := (x.blk w kv n).dq1 g i d
def dq2 (kv : Fin 2) (g : Fin 8) (n : Fin 16) (i : Fin 128) (d : Fin 32) : ℝ := (x.blk w kv n).dq2 g i d

/-- What the next block gives the rows of block `n`: nothing after the last. -/
def nxt (n : Fin 16) (f : Fin 16 → ℝ) : ℝ := if h : n.val + 1 < 16 then f ⟨n.val + 1, h⟩ else 0

def dk1 (kv : Fin 2) (n : Fin 16) (i : Fin 128) (d : Fin 32) : ℝ :=
  (x.blk w kv n).dk1 ⟨128 + i.val, by omega⟩ d + nxt n fun n' => (x.blk w kv n').dk1 ⟨i.val, by omega⟩ d
def dk2 (kv : Fin 2) (n : Fin 16) (i : Fin 128) (d : Fin 32) : ℝ :=
  (x.blk w kv n).dk2 ⟨128 + i.val, by omega⟩ d + nxt n fun n' => (x.blk w kv n').dk2 ⟨i.val, by omega⟩ d
def dv (kv : Fin 2) (n : Fin 16) (i : Fin 128) (c : Fin 64) : ℝ :=
  (x.blk w kv n).dv ⟨128 + i.val, by omega⟩ c + nxt n fun n' => (x.blk w kv n').dv ⟨i.val, by omega⟩ c

/-- The gradients of the two halves before the rotation. -/
def dqa (kv : Fin 2) (g : Fin 8) (n : Fin 16) (i : Fin 128) (d : Fin 32) : ℝ :=
  x.dq1 w kv g n i d * x.C (row n i) d + x.dq2 w kv g n i d * x.S (row n i) d
def dqb (kv : Fin 2) (g : Fin 8) (n : Fin 16) (i : Fin 128) (d : Fin 32) : ℝ :=
  x.dq2 w kv g n i d * x.C (row n i) d - x.dq1 w kv g n i d * x.S (row n i) d
def dka (kv : Fin 2) (n : Fin 16) (i : Fin 128) (d : Fin 32) : ℝ :=
  x.dk1 w kv n i d * x.C (row n i) d + x.dk2 w kv n i d * x.S (row n i) d
def dkb (kv : Fin 2) (n : Fin 16) (i : Fin 128) (d : Fin 32) : ℝ :=
  x.dk2 w kv n i d * x.C (row n i) d - x.dk1 w kv n i d * x.S (row n i) d

/-- The gradient of a sink logit. -/
def dsk (kv : Fin 2) (g : Fin 8) : ℝ := ∑ n, (x.blk w kv n).dsink g

theorem dqa_eq (kv g n i d) : x.dqa false kv g n i d = x.dqa true kv g n i d := by
  simp only [dqa, dq1, dq2, (x.agree kv n).dq1, (x.agree kv n).dq2]
theorem dqb_eq (kv g n i d) : x.dqb false kv g n i d = x.dqb true kv g n i d := by
  simp only [dqb, dq1, dq2, (x.agree kv n).dq1, (x.agree kv n).dq2]
theorem dka_eq (kv n i d) : x.dka false kv n i d = x.dka true kv n i d := by
  simp only [dka, dk1, dk2, (x.agree kv _).dk1, (x.agree kv _).dk2]
theorem dkb_eq (kv n i d) : x.dkb false kv n i d = x.dkb true kv n i d := by
  simp only [dkb, dk1, dk2, (x.agree kv _).dk1, (x.agree kv _).dk2]
theorem dv_eq (kv n i c) : x.dv false kv n i c = x.dv true kv n i c := by
  simp only [dv, (x.agree kv _).dv]
theorem dsk_eq (kv g) : x.dsk false kv g = x.dsk true kv g := by
  simp only [dsk, (x.agree kv _).dsink]

/-- The gradient of a key row's half, put together from what its block and the next give it after the rotation. -/
theorem dka_split (kv : Fin 2) (n : Fin 16) (i : Fin 128) (d : Fin 32) : x.dka w kv n i d
    = ((x.blk w kv n).dk1 ⟨128 + i.val, by omega⟩ d * x.C (row n i) d + (x.blk w kv n).dk2 ⟨128 + i.val, by omega⟩ d * x.S (row n i) d)
      + nxt n fun n' => (x.blk w kv n').dk1 ⟨i.val, by omega⟩ d * x.C (row n i) d + (x.blk w kv n').dk2 ⟨i.val, by omega⟩ d * x.S (row n i) d := by
  unfold dka dk1 dk2 nxt; split <;> ring
theorem dkb_split (kv : Fin 2) (n : Fin 16) (i : Fin 128) (d : Fin 32) : x.dkb w kv n i d
    = ((x.blk w kv n).dk2 ⟨128 + i.val, by omega⟩ d * x.C (row n i) d - (x.blk w kv n).dk1 ⟨128 + i.val, by omega⟩ d * x.S (row n i) d)
      + nxt n fun n' => (x.blk w kv n').dk2 ⟨i.val, by omega⟩ d * x.C (row n i) d - (x.blk w kv n').dk1 ⟨i.val, by omega⟩ d * x.S (row n i) d := by
  unfold dkb dk1 dk2 nxt; split <;> ring

/-- An array of 2048 rows and 1280 columns is the gradient of the projected rows: its columns are, head by head, the two
    halves of the queries, the two halves of the keys, and the values. -/
structure IsGrad (f : Fin 2048 → Fin 1280 → EReal) : Prop where
  qa : ∀ (kv : Fin 2) (g : Fin 8) (n : Fin 16) (i : Fin 128) (d : Fin 32),
    f (row n i) ⟨(head kv g).val * 64 + d.val, by omega⟩ = (x.dqa true kv g n i d : EReal)
  qb : ∀ (kv : Fin 2) (g : Fin 8) (n : Fin 16) (i : Fin 128) (d : Fin 32),
    f (row n i) ⟨(head kv g).val * 64 + (32 + d.val), by omega⟩ = (x.dqb true kv g n i d : EReal)
  ka : ∀ (h : Fin 2) (n : Fin 16) (i : Fin 128) (d : Fin 32),
    f (row n i) ⟨1024 + (h.val * 64 + d.val), by omega⟩ = (x.dka true h n i d : EReal)
  kb : ∀ (h : Fin 2) (n : Fin 16) (i : Fin 128) (d : Fin 32),
    f (row n i) ⟨1024 + (h.val * 64 + (32 + d.val)), by omega⟩ = (x.dkb true h n i d : EReal)
  v : ∀ (h : Fin 2) (n : Fin 16) (i : Fin 128) (c : Fin 64),
    f (row n i) ⟨1152 + (h.val * 64 + c.val), by omega⟩ = (x.dv true h n i c : EReal)

variable {x}

/-- There is one such array. -/
theorem IsGrad.unique {f g : Fin 2048 → Fin 1280 → EReal} (hf : x.IsGrad f) (hg : x.IsGrad g) (t : Fin 2048) (c : Fin 1280) :
    f t c = g t c := by
  obtain ⟨n, i, rfl⟩ : ∃ n i, t = row n i := ⟨⟨t.val / 128, by omega⟩, ⟨t.val % 128, by omega⟩, Fin.ext (by simp [row]; omega)⟩
  rcases Nat.lt_or_ge c.val 1024 with h1 | h1
  · rcases Nat.lt_or_ge (c.val % 64) 32 with h2 | h2
    · have e : c = ⟨(head ⟨c.val / 512, by omega⟩ ⟨c.val / 64 % 8, by omega⟩).val * 64 + (⟨c.val % 64, h2⟩ : Fin 32).val, by simp only [head]; omega⟩ :=
        Fin.ext (by simp only [head]; omega)
      rw [e, hf.qa, hg.qa]
    · have e : c = ⟨(head ⟨c.val / 512, by omega⟩ ⟨c.val / 64 % 8, by omega⟩).val * 64 + (32 + (⟨c.val % 64 - 32, by omega⟩ : Fin 32).val), by simp only [head]; omega⟩ :=
        Fin.ext (by simp only [head]; omega)
      rw [e, hf.qb, hg.qb]
  · rcases Nat.lt_or_ge c.val 1152 with h3 | h3
    · rcases Nat.lt_or_ge (c.val % 64) 32 with h2 | h2
      · have e : c = ⟨1024 + ((⟨(c.val - 1024) / 64, by omega⟩ : Fin 2).val * 64 + (⟨c.val % 64, h2⟩ : Fin 32).val), by simp only []; omega⟩ :=
          Fin.ext (by simp only []; omega)
        rw [e, hf.ka, hg.ka]
      · have e : c = ⟨1024 + ((⟨(c.val - 1024) / 64, by omega⟩ : Fin 2).val * 64 + (32 + (⟨c.val % 64 - 32, by omega⟩ : Fin 32).val)), by simp only []; omega⟩ :=
          Fin.ext (by simp only []; omega)
        rw [e, hf.kb, hg.kb]
    · have e : c = ⟨1152 + ((⟨(c.val - 1152) / 64, by omega⟩ : Fin 2).val * 64 + (⟨c.val % 64, by omega⟩ : Fin 64).val), by simp only []; omega⟩ :=
        Fin.ext (by simp only []; omega)
      rw [e, hf.v, hg.v]

end Inp

end SwaGrad
-- ==== Proof.Angle.lean ====
/- The angles of the rotation, and that their cosines and sines are real. -/
module

public import Idealize.ShloMosaic.Lib.Pipeline.ValueKit
public import proofs.«01_k».proof.Proof.Attn
public import proofs.«01_k».proof.Proof.Model

@[expose] public section

noncomputable section

namespace SwaGrad

open Idealize.ShloMosaic

/-- The angle of row `t` and column `d`: the row times 10000 to the power of −2·d/64. -/
def angle (t d : ℕ) : EReal :=
  (FloatOps.sitofp .f32 (BitVec.ofNat 32 t) : Ideal .f32) * Ideal.pow (Ideal.ofBits .f32 0x461C4000#32)
    (Ideal.div (-(Ideal.ofBits .f32 0x40000000#32 * (FloatOps.sitofp .f32 (BitVec.ofNat 32 d) : Ideal .f32))) (Ideal.ofBits .f32 0x42800000#32))

theorem ofBits_64 : Ideal.ofBits .f32 0x42800000#32 = ((64 : ℝ) : EReal) := by
  simp [Ideal.ofBits, Ideal.ieee, -EReal.coe_mul]; norm_num
theorem ofBits_2 : Ideal.ofBits .f32 0x40000000#32 = ((2 : ℝ) : EReal) := by
  simp [Ideal.ofBits, Ideal.ieee, -EReal.coe_mul]; norm_num
theorem ofBits_10000 : Ideal.ofBits .f32 0x461C4000#32 = ((10000 : ℝ) : EReal) := by
  simp [Ideal.ofBits, Ideal.ieee, -EReal.coe_mul]; norm_num

theorem angle_real (t d : ℕ) : ∃ r : ℝ, angle t d = (r : EReal) := by
  unfold angle
  rw [ofBits_64, ofBits_2, ofBits_10000]
  rw [show (FloatOps.sitofp .f32 (BitVec.ofNat 32 t) : Ideal .f32) = (((BitVec.ofNat 32 t).toInt : ℝ) : EReal) from rfl,
    show (FloatOps.sitofp .f32 (BitVec.ofNat 32 d) : Ideal .f32) = (((BitVec.ofNat 32 d).toInt : ℝ) : EReal) from rfl]
  rw [← EReal.coe_mul, ← EReal.coe_neg, div_coe_coe _ (by norm_num), Ideal.pow_coe_coe, ← EReal.coe_mul]
  exact ⟨_, rfl⟩

/-- The cosines and sines, as reals. -/
def cosT (t d : ℕ) : ℝ := (Ideal.cos (angle t d)).toReal
def sinT (t d : ℕ) : ℝ := (Ideal.sin (angle t d)).toReal

theorem cos_angle (t d : ℕ) : Ideal.cos (angle t d) = (cosT t d : EReal) := by
  obtain ⟨r, hr⟩ := angle_real t d
  unfold cosT; rw [hr]; rfl
theorem sin_angle (t d : ℕ) : Ideal.sin (angle t d) = (sinT t d : EReal) := by
  obtain ⟨r, hr⟩ := angle_real t d
  unfold sinT; rw [hr]; rfl

end SwaGrad
-- ==== Proof.Reads.lean ====
/- What the program prepares for the kernel: the angles' cosines and sines, the two halves of the query and key heads and
   the value heads, entry by entry, and what each window shows of them at a grid point. -/
module

public import proofs.«01_k».proof.Proof.Run.Frame
public import proofs.«01_k».proof.Proof.Angle
public import Idealize.ShloMosaic.Lib.Pipeline.ValueKit
public import Idealize.ShloMosaic.Lib.StableHlo.RunRead

@[expose] public section

set_option maxRecDepth 16384

noncomputable section

namespace SwaGrad

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The program's arguments on a device, and its angles, hold what `x` says. -/
structure KHolds (x : Inp) : Prop where
  za : ∀ t j, ((m ((c.tc : Thread nD τ).loc main_arg0) : FVec Ideal S2048x1280 .f32) (ix2 t j) : EReal) = (x.za t j : EReal)
  sk : ∀ h, ((m ((c.tc : Thread nD τ).loc main_arg1) : FVec Ideal S1x16 .f32) (ix2 0 h) : EReal) = (x.sk h : EReal)
  ct : ∀ h t j, ((m ((c.tc : Thread nD τ).loc main_arg2) : FVec Ideal S16x2048x64 .f32) (ix3 h t j) : EReal) = (x.ct h t j : EReal)
  C : ∀ t d, x.C t d = cosT t.val d.val
  S : ∀ t d, x.S t d = sinT t.val d.val

variable {x : Inp} (H : KHolds m c x)
include H

theorem e16 (t : Fin 2048) (d : Fin 32) : ((V m c main_v16 : FVec Ideal S2048x32 .f32) (ix2 t d) : EReal) = (x.C t d : EReal) := by
  unfold V
  unfold_abbrev_sides
  after_reads_simp
  rw [H.C, ← cos_angle]
  unfold angle
  pointwise
theorem e17 (t : Fin 2048) (d : Fin 32) : ((V m c main_v17 : FVec Ideal S2048x32 .f32) (ix2 t d) : EReal) = (x.S t d : EReal) := by
  unfold V
  unfold_abbrev_sides
  after_reads_simp
  rw [H.S, ← sin_angle]
  unfold angle
  pointwise
theorem e18 (kv : Fin 2) (g : Fin 8) : ((V m c main_v18 : FVec Ideal S2x8x1 .f32) (ix3 kv g 0) : EReal) = (x.sk (head kv g) : EReal) := by
  unfold V
  unfold_abbrev_sides
  after_reads_simp
  refine Eq.trans ?_ (H.sk _)
  pointwise
  rfl
theorem e21 (h : Fin 16) (t : Fin 2048) (d : Fin 32) : ((V m c main_v21 : FVec Ideal S16x2048x32 .f32) (ix3 h t d) : EReal) = (x.qa h t d : EReal) := by
  unfold V
  unfold_abbrev_sides
  after_reads_simp
  refine Eq.trans ?_ (H.za _ _)
  pointwise
theorem e22 (h : Fin 16) (t : Fin 2048) (d : Fin 32) : ((V m c main_v22 : FVec Ideal S16x2048x32 .f32) (ix3 h t d) : EReal) = (x.qb h t d : EReal) := by
  unfold V
  unfold_abbrev_sides
  after_reads_simp
  refine Eq.trans ?_ (H.za _ _)
  pointwise
theorem e23 (h : Fin 2) (t : Fin 2048) (d : Fin 32) : ((V m c main_v23 : FVec Ideal S2x2048x32 .f32) (ix3 h t d) : EReal) = (x.ka h t d : EReal) := by
  unfold V
  unfold_abbrev_sides
  after_reads_simp
  refine Eq.trans ?_ ((H.za t ⟨(16 + h.val) * 64 + d.val, by omega⟩).trans (congrArg (fun j => ((x.za t j : ℝ) : EReal)) (Fin.ext (by simp only []; omega))))
  pointwise
theorem e24 (h : Fin 2) (t : Fin 2048) (d : Fin 32) : ((V m c main_v24 : FVec Ideal S2x2048x32 .f32) (ix3 h t d) : EReal) = (x.kb h t d : EReal) := by
  unfold V
  unfold_abbrev_sides
  after_reads_simp
  refine Eq.trans ?_ ((H.za t ⟨(16 + h.val) * 64 + (32 + d.val), by omega⟩).trans (congrArg (fun j => ((x.za t j : ℝ) : EReal)) (Fin.ext (by simp only []; omega))))
  pointwise
theorem e25 (h : Fin 2) (t : Fin 2048) (d : Fin 64) : ((V m c main_v25 : FVec Ideal S2x2048x64 .f32) (ix3 h t d) : EReal) = (x.v h t d : EReal) := by
  unfold V
  unfold_abbrev_sides
  after_reads_simp
  refine Eq.trans ?_ ((H.za t ⟨(18 + h.val) * 64 + d.val, by omega⟩).trans (congrArg (fun j => ((x.za t j : ℝ) : EReal)) (Fin.ext (by simp only []; omega))))
  pointwise
theorem earg2 (h : Fin 16) (t : Fin 2048) (d : Fin 64) : ((V m c main_arg2 : FVec Ideal S16x2048x64 .f32) (ix3 h t d) : EReal) = (x.ct h t d : EReal) := by
  unfold V
  unfold_abbrev_sides
  after_reads_simp
  exact H.ct _ _ _

omit H in
/-- The block of each window at a grid point. -/
theorem idx : ∀ t : Fin cfg0.N, win0_0.index t = ![0, t.val, 0] ∧ win0_1.index t = ![0, t.val, 0]
    ∧ win0_2.index t = ![0, t.val - 1, 0] ∧ win0_3.index t = ![0, t.val, 0] ∧ win0_4.index t = ![0, t.val - 1, 0]
    ∧ win0_5.index t = ![0, t.val, 0] ∧ win0_6.index t = ![0, t.val - 1, 0] ∧ win0_7.index t = ![0, t.val, 0]
    ∧ win0_8.index t = ![t.val, 0] ∧ win0_9.index t = ![t.val, 0] ∧ win0_10.index t = ![t.val - 1, 0]
    ∧ win0_11.index t = ![t.val - 1, 0] ∧ win0_12.index t = ![0, 0, 0] ∧ win0_13.index t = ![0, t.val, 0] :=
  (by decide +kernel : ∀ t : Fin grid0.N, _)
omit H in
theorem idxo : ∀ t : Fin cfg0.N, win0_14.index t = ![0, t.val, 0] ∧ win0_15.index t = ![0, t.val, 0]
    ∧ win0_16.index t = ![0, t.val, 0] ∧ win0_17.index t = ![0, t.val, 0] ∧ win0_18.index t = ![0, t.val, 0]
    ∧ win0_19.index t = ![0, t.val, 0] ∧ win0_20.index t = ![0, t.val, 0] ∧ win0_21.index t = ![0, t.val, 0]
    ∧ win0_22.index t = ![0, 0, 0] :=
  (by decide +kernel : ∀ t : Fin grid0.N, _)

/-- The block before a grid point's, the first block's own at the first. -/
abbrev prev (t : Fin 16) : Fin 16 := ⟨t.val - 1, by omega⟩

theorem b0 (t : Fin 16) (h : Fin 16) (i : Fin 128) (d : Fin 32) :
    ((iblk m c 0 t : FVec Ideal S16x128x32 .f32) (ix3 h i d) : EReal) = (x.qa h (row t i) d : EReal) := by
  rw [← e21 m c H]
  obtain ⟨i0, i1, i2, i3, i4, i5, i6, i7, i8, i9, i10, i11, i12, i13⟩ := idx t
  unfold iblk
  blk_ext <;> simp [i0, row]
theorem b1 (t : Fin 16) (h : Fin 16) (i : Fin 128) (d : Fin 32) :
    ((iblk m c 1 t : FVec Ideal S16x128x32 .f32) (ix3 h i d) : EReal) = (x.qb h (row t i) d : EReal) := by
  rw [← e22 m c H]
  obtain ⟨i0, i1, i2, i3, i4, i5, i6, i7, i8, i9, i10, i11, i12, i13⟩ := idx t
  unfold iblk
  blk_ext <;> simp [i1, row]
theorem b2 (t : Fin 16) (h : Fin 2) (i : Fin 128) (d : Fin 32) :
    ((iblk m c 2 t : FVec Ideal S2x128x32 .f32) (ix3 h i d) : EReal) = (x.ka h (row (prev t) i) d : EReal) := by
  rw [← e23 m c H]
  obtain ⟨i0, i1, i2, i3, i4, i5, i6, i7, i8, i9, i10, i11, i12, i13⟩ := idx t
  unfold iblk
  blk_ext <;> simp [i2, row]
theorem b3 (t : Fin 16) (h : Fin 2) (i : Fin 128) (d : Fin 32) :
    ((iblk m c 3 t : FVec Ideal S2x128x32 .f32) (ix3 h i d) : EReal) = (x.ka h (row t i) d : EReal) := by
  rw [← e23 m c H]
  obtain ⟨i0, i1, i2, i3, i4, i5, i6, i7, i8, i9, i10, i11, i12, i13⟩ := idx t
  unfold iblk
  blk_ext <;> simp [i3, row]
theorem b4 (t : Fin 16) (h : Fin 2) (i : Fin 128) (d : Fin 32) :
    ((iblk m c 4 t : FVec Ideal S2x128x32 .f32) (ix3 h i d) : EReal) = (x.kb h (row (prev t) i) d : EReal) := by
  rw [← e24 m c H]
  obtain ⟨i0, i1, i2, i3, i4, i5, i6, i7, i8, i9, i10, i11, i12, i13⟩ := idx t
  unfold iblk
  blk_ext <;> simp [i4, row]
theorem b5 (t : Fin 16) (h : Fin 2) (i : Fin 128) (d : Fin 32) :
    ((iblk m c 5 t : FVec Ideal S2x128x32 .f32) (ix3 h i d) : EReal) = (x.kb h (row t i) d : EReal) := by
  rw [← e24 m c H]
  obtain ⟨i0, i1, i2, i3, i4, i5, i6, i7, i8, i9, i10, i11, i12, i13⟩ := idx t
  unfold iblk
  blk_ext <;> simp [i5, row]
theorem b6 (t : Fin 16) (h : Fin 2) (i : Fin 128) (d : Fin 64) :
    ((iblk m c 6 t : FVec Ideal S2x128x64 .f32) (ix3 h i d) : EReal) = (x.v h (row (prev t) i) d : EReal) := by
  rw [← e25 m c H]
  obtain ⟨i0, i1, i2, i3, i4, i5, i6, i7, i8, i9, i10, i11, i12, i13⟩ := idx t
  unfold iblk
  blk_ext <;> simp [i6, row]
theorem b7 (t : Fin 16) (h : Fin 2) (i : Fin 128) (d : Fin 64) :
    ((iblk m c 7 t : FVec Ideal S2x128x64 .f32) (ix3 h i d) : EReal) = (x.v h (row t i) d : EReal) := by
  rw [← e25 m c H]
  obtain ⟨i0, i1, i2, i3, i4, i5, i6, i7, i8, i9, i10, i11, i12, i13⟩ := idx t
  unfold iblk
  blk_ext <;> simp [i7, row]
theorem b13 (t : Fin 16) (h : Fin 16) (i : Fin 128) (d : Fin 64) :
    ((iblk m c 13 t : FVec Ideal S16x128x64 .f32) (ix3 h i d) : EReal) = (x.ct h (row t i) d : EReal) := by
  rw [← earg2 m c H]
  obtain ⟨i0, i1, i2, i3, i4, i5, i6, i7, i8, i9, i10, i11, i12, i13⟩ := idx t
  unfold iblk
  blk_ext <;> simp [i13, row]
theorem b8 (t : Fin 16) (i : Fin 128) (d : Fin 32) :
    ((iblk m c 8 t : FVec Ideal S128x32 .f32) (ix2 i d) : EReal) = (x.C (row t i) d : EReal) := by
  rw [← e16 m c H]
  obtain ⟨i0, i1, i2, i3, i4, i5, i6, i7, i8, i9, i10, i11, i12, i13⟩ := idx t
  unfold iblk
  blk_ext <;> simp [i8, row]
theorem b9 (t : Fin 16) (i : Fin 128) (d : Fin 32) :
    ((iblk m c 9 t : FVec Ideal S128x32 .f32) (ix2 i d) : EReal) = (x.S (row t i) d : EReal) := by
  rw [← e17 m c H]
  obtain ⟨i0, i1, i2, i3, i4, i5, i6, i7, i8, i9, i10, i11, i12, i13⟩ := idx t
  unfold iblk
  blk_ext <;> simp [i9, row]
theorem b10 (t : Fin 16) (i : Fin 128) (d : Fin 32) :
    ((iblk m c 10 t : FVec Ideal S128x32 .f32) (ix2 i d) : EReal) = (x.C (row (prev t) i) d : EReal) := by
  rw [← e16 m c H]
  obtain ⟨i0, i1, i2, i3, i4, i5, i6, i7, i8, i9, i10, i11, i12, i13⟩ := idx t
  unfold iblk
  blk_ext <;> simp [i10, row]
theorem b11 (t : Fin 16) (i : Fin 128) (d : Fin 32) :
    ((iblk m c 11 t : FVec Ideal S128x32 .f32) (ix2 i d) : EReal) = (x.S (row (prev t) i) d : EReal) := by
  rw [← e17 m c H]
  obtain ⟨i0, i1, i2, i3, i4, i5, i6, i7, i8, i9, i10, i11, i12, i13⟩ := idx t
  unfold iblk
  blk_ext <;> simp [i11, row]
theorem b12 (t : Fin 16) (kv : Fin 2) (g : Fin 8) :
    ((iblk m c 12 t : FVec Ideal S2x8x1 .f32) (ix3 kv g 0) : EReal) = (x.sk (head kv g) : EReal) := by
  rw [← e18 m c H]
  obtain ⟨i0, i1, i2, i3, i4, i5, i6, i7, i8, i9, i10, i11, i12, i13⟩ := idx t
  unfold iblk
  blk_ext <;> simp [i12]

end SwaGrad
-- ==== Proof.Consts.lean ====
/- The float constants the programs spell, as the extended reals they denote. -/
module

public import Idealize.ShloMosaic.Lib.Pipeline.ValueKit
public import proofs.«01_k».proof.Proof.Gen.KernelIdeal

@[expose] public section

noncomputable section

namespace SwaGrad

open Idealize.ShloMosaic

theorem ofBits_eighth : Ideal.ofBits .f32 0x3E000000#32 = ((1 / 8 : ℝ) : EReal) := by
  simp [Ideal.ofBits, Ideal.ieee, -EReal.coe_mul]; norm_num

theorem ofBits_neg_inf : Ideal.ofBits .f32 0xFF800000#32 = (⊥ : EReal) := by
  simp [Ideal.ofBits, Ideal.ieee]

theorem ofBits_inf : Ideal.ofBits .f32 0x7F800000#32 = (⊤ : EReal) := by
  simp [Ideal.ofBits, Ideal.ieee]

/-- The mask constant the kernel names is −∞. -/
theorem named_mask : (Named.named (F := Ideal) Cert.KernelIdeal.κ "mask" (φ := .f32) 0xF149F2CA#32 : EReal) = ⊥ := rfl

end SwaGrad
-- ==== Proof.Head.lean ====
/- One key/value head of the kernel's body, in extended reals and in reals.

   `HeadIn` is what the body reads for one head, `HeadIn.*` its stages in the body's own order; `Holds` says that the
   vectors read hold a block's reals, and under it every stage holds the block's stage (module Attn). The branch of the
   gradient that runs through the row maximum carries a zero, whatever it is multiplied with. -/
module

public import Idealize.ShloMosaic.Lib.Pipeline.ValueKit
public import proofs.«01_k».proof.Proof.Gen.KernelIdeal.Skeleton
public import Idealize.ShloMosaic.Lib.WordCmp
public import proofs.«01_k».proof.Proof.Model
public import proofs.«01_k».proof.Proof.Consts

@[expose] public section

set_option maxRecDepth 16384

noncomputable section

namespace SwaGrad

open Idealize.ShloMosaic Idealize.ShloMosaic.TcCoe Idealize.SL.Sem
open Cert.KernelIdeal Cert.KernelIdeal.Gen

/-- What the body reads for one key/value head. -/
structure HeadIn where
  cq : FVec Ideal S128x32 .f32
  sq : FVec Ideal S128x32 .f32
  cp : FVec Ideal S128x32 .f32
  sp : FVec Ideal S128x32 .f32
  qa : FVec Ideal S8x128x32 .f32
  qb : FVec Ideal S8x128x32 .f32
  kap : FVec Ideal S1x128x32 .f32
  kac : FVec Ideal S1x128x32 .f32
  kbp : FVec Ideal S1x128x32 .f32
  kbc : FVec Ideal S1x128x32 .f32
  vp : FVec Ideal S1x128x64 .f32
  vc : FVec Ideal S1x128x64 .f32
  sk : FVec Ideal S1x8x1 .f32
  ct : FVec Ideal S8x128x64 .f32
  n : BitVec 32

namespace HeadIn

variable (H : HeadIn)

/-! ## The body's stages for one head, over its payloads -/

def q1 : FVec Ideal S1024x32 .f32 := k0_pay18 H.cq H.sq H.qa H.qb
def q2 : FVec Ideal S1024x32 .f32 := k0_pay19 H.cq H.sq H.qa H.qb
def k1 : FVec Ideal S256x32 .f32 := k0_pay24 H.cq H.sq H.cp H.sp H.kap H.kac H.kbp H.kbc
def k2 : FVec Ideal S256x32 .f32 := k0_pay25 H.cq H.sq H.cp H.sp H.kap H.kac H.kbp H.kbc
def vv : FVec Ideal S256x64 .f32 := k0_pay26 H.vp H.vc
def s : FVec Ideal S8x128x256 .f32 := k0_pay27 H.cq H.sq H.cp H.sp H.qa H.qb H.kap H.kac H.kbp H.kbc
def ok : IVec S8x128x256 1 := k0_pay31 k0_pay28 k0_pay29 (k0_pay30 H.n)
def ms : FVec Ideal S8x128x256 .f32 := k0_pay32 H.s k0_pay28 k0_pay29 (k0_pay30 H.n)
def eqm : FVec Ideal S8x128x256 .f32 := k0_pay35 H.s k0_pay28 k0_pay29 (k0_pay30 H.n)
def cnt : FVec Ideal S8x128 .f32 := k0_pay36 H.s k0_pay28 k0_pay29 (k0_pay30 H.n)
def mx : FVec Ideal S8x128x1 .f32 := k0_pay38 H.sk H.s k0_pay28 k0_pay29 (k0_pay30 H.n)
def wr : FVec Ideal S8x128x1 .f32 := k0_pay39 H.sk H.s k0_pay28 k0_pay29 (k0_pay30 H.n)
def ws : FVec Ideal S8x128x1 .f32 := k0_pay40 H.sk H.s k0_pay28 k0_pay29 (k0_pay30 H.n)
def e : FVec Ideal S8x128x256 .f32 := k0_pay41 H.sk H.s k0_pay28 k0_pay29 (k0_pay30 H.n)
def es : FVec Ideal S8x128x1 .f32 := k0_pay42 H.sk H.s k0_pay28 k0_pay29 (k0_pay30 H.n)
def z : FVec Ideal S8x128x1 .f32 := k0_pay43 H.sk H.s k0_pay28 k0_pay29 (k0_pay30 H.n)
def p : FVec Ideal S8x128x256 .f32 := k0_pay44 H.sk H.s k0_pay28 k0_pay29 (k0_pay30 H.n)
def zz : FVec Ideal S8x128x1 .f32 := k0_pay45 H.sk H.s k0_pay28 k0_pay29 (k0_pay30 H.n)
def dv : FVec Ideal S256x64 .f32 := k0_pay48 H.p H.ct
def dp : FVec Ideal S8x128x256 .f32 := k0_pay49 H.vv H.ct
def dz : FVec Ideal S8x128x1 .f32 := k0_pay50 H.vv H.e H.zz k0_pay46 H.ct
def des : FVec Ideal S8x128x1 .f32 := k0_pay51 H.vv H.e H.es H.zz k0_pay46 H.ct
def ds : FVec Ideal S8x128x256 .f32 := k0_pay52 H.vv H.e H.z H.zz k0_pay46 H.ct
def dmx : FVec Ideal S8x128x1 .f32 := k0_pay53 H.vv H.e H.es H.z H.zz k0_pay46 H.ct
def dsink : FVec Ideal S8x1x1 .f32 := k0_pay54 H.vv H.ws H.e H.es H.z H.zz k0_pay46 H.ct
def dst : FVec Ideal S8x128x256 .f32 := k0_pay55 H.vv H.eqm H.cnt H.wr H.e H.es H.z H.zz k0_pay46 H.ct
def dss : FVec Ideal S1024x256 .f32 := k0_pay57 H.ok H.dst
def dk2 : FVec Ideal S256x32 .f32 := k0_pay58 H.q2 H.ok H.dst
def dk1 : FVec Ideal S256x32 .f32 := k0_pay59 H.q1 H.ok H.dst
def dq2 : FVec Ideal S8x128x32 .f32 := k0_pay68 H.k2 H.ok H.dst
def dq1 : FVec Ideal S8x128x32 .f32 := k0_pay69 H.k1 H.ok H.dst
def cos2 : FVec Ideal S256x32 .f32 := k0_pay20 H.cq H.cp
def sin2 : FVec Ideal S256x32 .f32 := k0_pay21 H.sq H.sp
/-- The two halves of the queries' gradient. -/
def outqb : FVec Ideal S8x128x32 .f32 := k0_pay70 (k0_pay16 H.cq) (k0_pay17 H.sq) H.k1 H.k2 H.ok H.dst
def outqa : FVec Ideal S8x128x32 .f32 := k0_pay71 (k0_pay16 H.cq) (k0_pay17 H.sq) H.k1 H.k2 H.ok H.dst
/-- The two halves of the band's gradient. -/
def outkb : FVec Ideal S256x32 .f32 := k0_pay62 H.q1 H.q2 H.cos2 H.sin2 H.ok H.dst
def outka : FVec Ideal S256x32 .f32 := k0_pay63 H.q1 H.q2 H.cos2 H.sin2 H.ok H.dst

end HeadIn

/-- The vectors the body reads hold the block's reals. The block's rotated queries and keys are the
    rotations of what the body reads, by the cosines and sines of the band's positions. -/
structure Holds (H : HeadIn) (b : Blk) (c0 s0 c1 s1 : Fin 128 → Fin 32 → ℝ) (a0 b0 : Fin 8 → Fin 128 → Fin 32 → ℝ)
    (ka kb : Fin 256 → Fin 32 → ℝ) (m : ℕ) : Prop where
  cq : ∀ i d, H.cq (ix2 i d) = (c1 i d : EReal)
  sq : ∀ i d, H.sq (ix2 i d) = (s1 i d : EReal)
  cp : ∀ i d, H.cp (ix2 i d) = (c0 i d : EReal)
  sp : ∀ i d, H.sp (ix2 i d) = (s0 i d : EReal)
  qa : ∀ g i d, H.qa (ix3 g i d) = (a0 g i d : EReal)
  qb : ∀ g i d, H.qb (ix3 g i d) = (b0 g i d : EReal)
  kap : ∀ (i : Fin 128) d, H.kap (ix3 0 i d) = (ka ⟨i.val, by omega⟩ d : EReal)
  kac : ∀ (i : Fin 128) d, H.kac (ix3 0 i d) = (ka ⟨128 + i.val, by omega⟩ d : EReal)
  kbp : ∀ (i : Fin 128) d, H.kbp (ix3 0 i d) = (kb ⟨i.val, by omega⟩ d : EReal)
  kbc : ∀ (i : Fin 128) d, H.kbc (ix3 0 i d) = (kb ⟨128 + i.val, by omega⟩ d : EReal)
  vp : ∀ (i : Fin 128) c, H.vp (ix3 0 i c) = (b.v ⟨i.val, by omega⟩ c : EReal)
  vc : ∀ (i : Fin 128) c, H.vc (ix3 0 i c) = (b.v ⟨128 + i.val, by omega⟩ c : EReal)
  sk : ∀ g, H.sk (ix3 0 g 0) = (b.sk g : EReal)
  ct : ∀ g i c, H.ct (ix3 g i c) = (b.ct g i c : EReal)
  n : H.n = BitVec.ofNat 32 m
  hm : m < 16
  ok : ∀ i j, b.ok i j = inWin m i j
  q1 : ∀ g i d, b.q1 g i d = a0 g i d * c1 i d - b0 g i d * s1 i d
  q2 : ∀ g i d, b.q2 g i d = b0 g i d * c1 i d + a0 g i d * s1 i d
  k1p : ∀ (i : Fin 128) d, b.k1 ⟨i.val, by omega⟩ d = ka ⟨i.val, by omega⟩ d * c0 i d - kb ⟨i.val, by omega⟩ d * s0 i d
  k2p : ∀ (i : Fin 128) d, b.k2 ⟨i.val, by omega⟩ d = kb ⟨i.val, by omega⟩ d * c0 i d + ka ⟨i.val, by omega⟩ d * s0 i d
  k1c : ∀ (i : Fin 128) d, b.k1 ⟨128 + i.val, by omega⟩ d = ka ⟨128 + i.val, by omega⟩ d * c1 i d - kb ⟨128 + i.val, by omega⟩ d * s1 i d
  k2c : ∀ (i : Fin 128) d, b.k2 ⟨128 + i.val, by omega⟩ d = kb ⟨128 + i.val, by omega⟩ d * c1 i d + ka ⟨128 + i.val, by omega⟩ d * s1 i d

/-- A band row is a previous row or a current one. -/
theorem band_cases {P : Fin 256 → Prop} (hp : ∀ i : Fin 128, P ⟨i.val, by omega⟩) (hc : ∀ i : Fin 128, P ⟨128 + i.val, by omega⟩)
    (j : Fin 256) : P j := by
  by_cases h : j.val < 128
  · exact hp ⟨j.val, h⟩
  · have := hc ⟨j.val - 128, by omega⟩
    rwa [show (⟨128 + (j.val - 128), by omega⟩ : Fin 256) = j from Fin.ext (by simp only []; omega)] at this

/-- A sum over the rows of eight heads. -/
theorem sum_rows (f : Fin 1024 → EReal) (F : Fin 8 → Fin 128 → ℝ) (h : ∀ g i, f ⟨g.val * 128 + i.val, by omega⟩ = (F g i : EReal)) :
    ∑ r, f r = ((∑ g, ∑ i, F g i : ℝ) : EReal) := by
  rw [Fin.sum_univ_tiles 8 128 rfl f]
  exact sum_of fun g => sum_of fun i => h g i

namespace Holds

variable {H : HeadIn} {b : Blk} {c0 s0 c1 s1 : Fin 128 → Fin 32 → ℝ} {a0 b0 : Fin 8 → Fin 128 → Fin 32 → ℝ}
  {ka kb : Fin 256 → Fin 32 → ℝ} {m : ℕ} (h : Holds H b c0 s0 c1 s1 a0 b0 ka kb m)
include h

theorem r_q1 (g : Fin 8) (i : Fin 128) (d : Fin 32) : H.q1 (ix2 ⟨g.val * 128 + i.val, by omega⟩ d) = (b.q1 g i d : EReal) := by
  pointwise [HeadIn.q1, k0_pay18, k0_pay16, k0_pay17]
  rw [h.qa, h.qb, h.cq, h.sq, h.q1]; push_cast; rfl

theorem r_q2 (g : Fin 8) (i : Fin 128) (d : Fin 32) : H.q2 (ix2 ⟨g.val * 128 + i.val, by omega⟩ d) = (b.q2 g i d : EReal) := by
  pointwise [HeadIn.q2, k0_pay19, k0_pay16, k0_pay17]
  rw [h.qa, h.qb, h.cq, h.sq, h.q2]; push_cast; rfl

theorem r_k1 (j : Fin 256) (d : Fin 32) : H.k1 (ix2 j d) = (b.k1 j d : EReal) := by
  refine band_cases (P := fun j => H.k1 (ix2 j d) = (b.k1 j d : EReal)) (fun i => ?_) (fun i => ?_) j
  · pointwise [HeadIn.k1, k0_pay24, k0_pay20, k0_pay21, k0_pay22, k0_pay23]
    rw [h.kap, h.kbp, h.cp, h.sp, h.k1p]; push_cast; rfl
  · pointwise [HeadIn.k1, k0_pay24, k0_pay20, k0_pay21, k0_pay22, k0_pay23]
    rw [h.kac, h.kbc, h.cq, h.sq, h.k1c]; push_cast; rfl

theorem r_k2 (j : Fin 256) (d : Fin 32) : H.k2 (ix2 j d) = (b.k2 j d : EReal) := by
  refine band_cases (P := fun j => H.k2 (ix2 j d) = (b.k2 j d : EReal)) (fun i => ?_) (fun i => ?_) j
  · pointwise [HeadIn.k2, k0_pay25, k0_pay20, k0_pay21, k0_pay22, k0_pay23]
    rw [h.kap, h.kbp, h.cp, h.sp, h.k2p]; push_cast; rfl
  · pointwise [HeadIn.k2, k0_pay25, k0_pay20, k0_pay21, k0_pay22, k0_pay23]
    rw [h.kac, h.kbc, h.cq, h.sq, h.k2c]; push_cast; rfl

theorem r_vv (j : Fin 256) (c : Fin 64) : H.vv (ix2 j c) = (b.v j c : EReal) := by
  refine band_cases (P := fun j => H.vv (ix2 j c) = (b.v j c : EReal)) (fun i => ?_) (fun i => ?_) j
  · pointwise [HeadIn.vv, k0_pay26]
    rw [h.vp]
  · pointwise [HeadIn.vv, k0_pay26]
    rw [h.vc]

theorem r_s (g : Fin 8) (i : Fin 128) (j : Fin 256) : H.s (ix3 g i j) = (b.s g i j : EReal) := by
  have e1 : ∑ d, H.q1 (ix2 ⟨g.val * 128 + i.val, by omega⟩ d) * H.k1 (ix2 j d) = ((∑ d, b.q1 g i d * b.k1 j d : ℝ) : EReal) :=
    sum_of fun d => by rw [h.r_q1, h.r_k1, EReal.coe_mul]
  have e2 : ∑ d, H.q2 (ix2 ⟨g.val * 128 + i.val, by omega⟩ d) * H.k2 (ix2 j d) = ((∑ d, b.q2 g i d * b.k2 j d : ℝ) : EReal) :=
    sum_of fun d => by rw [h.r_q2, h.r_k2, EReal.coe_mul]
  have : H.s (ix3 g i j) = (∑ d, H.q1 (ix2 ⟨g.val * 128 + i.val, by omega⟩ d) * H.k1 (ix2 j d)
      + ∑ d, H.q2 (ix2 ⟨g.val * 128 + i.val, by omega⟩ d) * H.k2 (ix2 j d)) * Ideal.ofBits .f32 0x3E000000#32 := by
    unfold HeadIn.s
    pointwise [k0_pay27]
    rfl
  rw [this, e1, e2, ofBits_eighth, ← EReal.coe_add, ← EReal.coe_mul]; rfl

theorem r_ok (g : Fin 8) (i : Fin 128) (j : Fin 256) : H.ok (ix3 g i j) = BitVec.ofBool (b.ok i j) := by
  have hm := h.hm
  rw [h.ok]
  unfold HeadIn.ok; rw [h.n]
  pointwise [k0_pay31, k0_pay28, k0_pay29, k0_pay30]
  rw [show IntOp.addi (BitVec.ofNat 32 i.val) 128#32 = BitVec.ofNat 32 (i.val + 128) from BitVec.ofNat_add_ofNat i.val 128]
  simp (disch := word_cmp_side) only [hlo_ix]
  unfold inWin
  congr 1
  simp only [Bool.decide_and, Bool.decide_or, Bool.and_assoc]

theorem r_ms (g : Fin 8) (i : Fin 128) (j : Fin 256) : H.ms (ix3 g i j) = b.ms g i j := by
  have : H.ms (ix3 g i j) = Scalar.select (H.ok (ix3 g i j)) (H.s (ix3 g i j)) (⊥ : EReal) := by
    unfold HeadIn.ms HeadIn.ok
    pointwise [k0_pay32]
    rfl
  rw [this, h.r_ok, h.r_s]
  unfold Blk.ms
  cases b.ok i j <;> rfl

theorem r_rowmax (g : Fin 8) (i : Fin 128) : k0_pay34 H.s k0_pay28 k0_pay29 (k0_pay30 H.n) (ix2 g i)
    = Finset.univ.fold max (⊥ : EReal) fun j => b.ms g i j := by
  have : k0_pay34 H.s k0_pay28 k0_pay29 (k0_pay30 H.n) (ix2 g i)
      = Finset.univ.fold max (Ideal.ofBits .f32 0xFF800000#32) fun j => H.ms (ix3 g i j) := by
    unfold HeadIn.ms
    pointwise [k0_pay34]
  rw [this, ofBits_neg_inf]
  rw [show (fun j => H.ms (ix3 g i j)) = fun j => b.ms g i j from funext fun j => h.r_ms g i j]

theorem r_mx (g : Fin 8) (i : Fin 128) : H.mx (ix3 g i 0) = (b.mx g i : EReal) := by
  have : H.mx (ix3 g i 0) = max (k0_pay34 H.s k0_pay28 k0_pay29 (k0_pay30 H.n) (ix2 g i)) (H.sk (ix3 0 g 0)) := by
    unfold HeadIn.mx
    pointwise [k0_pay38, k0_pay37, k0_pay33]
  rw [this, h.r_rowmax, h.sk, b.coe_mx]

theorem r_e (g : Fin 8) (i : Fin 128) (j : Fin 256) : H.e (ix3 g i j) = (b.e g i j : EReal) := by
  have : H.e (ix3 g i j) = Ideal.exp (H.ms (ix3 g i j) - H.mx (ix3 g i 0)) := by
    unfold HeadIn.e HeadIn.ms HeadIn.mx
    pointwise [k0_pay41]
  rw [this, h.r_ms, h.r_mx, b.exp_ms]

theorem r_es (g : Fin 8) (i : Fin 128) : H.es (ix3 g i 0) = (b.es g i : EReal) := by
  have : H.es (ix3 g i 0) = Ideal.exp (H.sk (ix3 0 g 0) - H.mx (ix3 g i 0)) := by
    unfold HeadIn.es HeadIn.mx
    pointwise [k0_pay42, k0_pay33]
  rw [this, h.sk, h.r_mx, ← EReal.coe_sub, exp_coe]; rfl

theorem r_z (g : Fin 8) (i : Fin 128) : H.z (ix3 g i 0) = (b.z g i : EReal) := by
  have : H.z (ix3 g i 0) = ∑ j, H.e (ix3 g i j) + H.es (ix3 g i 0) := by
    unfold HeadIn.z HeadIn.e HeadIn.es
    pointwise [k0_pay43]
  rw [this, sum_of (h.r_e g i), h.r_es, ← EReal.coe_add]; rfl

theorem r_p (g : Fin 8) (i : Fin 128) (j : Fin 256) : H.p (ix3 g i j) = (b.p g i j : EReal) := by
  have : H.p (ix3 g i j) = Ideal.div (H.e (ix3 g i j)) (H.z (ix3 g i 0)) := by
    unfold HeadIn.p HeadIn.e HeadIn.z
    pointwise [k0_pay44]
  rw [this, h.r_e, h.r_z, div_coe_coe _ (b.z_ne g i)]; rfl

theorem r_zz (g : Fin 8) (i : Fin 128) : H.zz (ix3 g i 0) = ((b.z g i * b.z g i : ℝ) : EReal) := by
  have : H.zz (ix3 g i 0) = H.z (ix3 g i 0) * H.z (ix3 g i 0) := by
    unfold HeadIn.zz HeadIn.z
    pointwise [k0_pay45]
  rw [this, h.r_z, EReal.coe_mul]

theorem r_dp (g : Fin 8) (i : Fin 128) (j : Fin 256) : H.dp (ix3 g i j) = (b.dp g i j : EReal) := by
  have : H.dp (ix3 g i j) = ∑ c, H.ct (ix3 g i c) * H.vv (ix2 j c) := by
    unfold HeadIn.dp
    pointwise [k0_pay49, k0_pay47]
  rw [this, sum_of fun c => (by rw [h.ct, h.r_vv, EReal.coe_mul] :
    H.ct (ix3 g i c) * H.vv (ix2 j c) = ((b.ct g i c * b.v j c : ℝ) : EReal))]; rfl

theorem r_dz (g : Fin 8) (i : Fin 128) : H.dz (ix3 g i 0) = (b.dz g i : EReal) := by
  have : H.dz (ix3 g i 0) = 0 - ∑ j, H.dp (ix3 g i j) * Ideal.div 1 (H.zz (ix3 g i 0)) * H.e (ix3 g i j) := by
    unfold HeadIn.dz HeadIn.dp
    pointwise [k0_pay50, k0_pay46]
  rw [this, sum_of fun j => (by
    rw [h.r_dp, h.r_zz, h.r_e, ← EReal.coe_one, div_coe_coe _ (mul_ne_zero (b.z_ne g i) (b.z_ne g i)), ← EReal.coe_mul, ← EReal.coe_mul] :
    H.dp (ix3 g i j) * Ideal.div 1 (H.zz (ix3 g i 0)) * H.e (ix3 g i j)
      = ((b.dp g i j * (1 / (b.z g i * b.z g i)) * b.e g i j : ℝ) : EReal)), zero_sub, ← EReal.coe_neg]; rfl

theorem r_des (g : Fin 8) (i : Fin 128) : H.des (ix3 g i 0) = (b.des g i : EReal) := by
  have : H.des (ix3 g i 0) = H.dz (ix3 g i 0) * H.es (ix3 g i 0) := by
    unfold HeadIn.des HeadIn.dz
    pointwise [k0_pay51]
  rw [this, h.r_dz, h.r_es, ← EReal.coe_mul]; rfl

theorem r_ds (g : Fin 8) (i : Fin 128) (j : Fin 256) : H.ds (ix3 g i j) = (b.ds g i j : EReal) := by
  have : H.ds (ix3 g i j) = (Ideal.div (H.dp (ix3 g i j)) (H.z (ix3 g i 0)) + H.dz (ix3 g i 0)) * H.e (ix3 g i j) := by
    unfold HeadIn.ds HeadIn.dz HeadIn.dp
    pointwise [k0_pay52]
    rw [Fin.sum_univ_one]
  rw [this, h.r_dp, h.r_z, h.r_dz, h.r_e, div_coe_coe _ (b.z_ne g i), ← EReal.coe_add, ← EReal.coe_mul]; rfl

theorem r_dmx (g : Fin 8) (i : Fin 128) : H.dmx (ix3 g i 0) = 0 := by
  have : H.dmx (ix3 g i 0) = (0 - H.des (ix3 g i 0)) + ∑ j, (0 - H.ds (ix3 g i j)) := by
    unfold HeadIn.dmx HeadIn.des HeadIn.ds
    pointwise [k0_pay53]
  rw [this, sum_of fun j => (by rw [h.r_ds, ← EReal.coe_zero, ← EReal.coe_sub] : 0 - H.ds (ix3 g i j) = ((0 - b.ds g i j : ℝ) : EReal)),
    h.r_des, ← EReal.coe_zero, ← EReal.coe_sub, ← EReal.coe_add]
  exact congrArg _ (b.row_zero g i)

theorem r_dsink (g : Fin 8) : H.dsink (ix3 g 0 0) = (b.dsink g : EReal) := by
  have : H.dsink (ix3 g 0 0) = ∑ i, H.des (ix3 g i 0) + ∑ i, H.dmx (ix3 g i 0) * H.ws (ix3 g i 0) := by
    unfold HeadIn.dsink HeadIn.des HeadIn.dmx
    pointwise [k0_pay54]
  rw [this, sum_of fun i => h.r_des g i,
    Finset.sum_eq_zero (f := fun i => H.dmx (ix3 g i 0) * H.ws (ix3 g i 0)) fun i _ => by rw [h.r_dmx, zero_mul], add_zero]; rfl

/-- The row's maximum is attained, so the number of its places is not zero. -/
theorem r_cnt (g : Fin 8) (i : Fin 128) : H.cnt (ix2 g i) ≠ 0 := by
  have e1 : ∀ j, H.eqm (ix3 g i j) = (((if H.ms (ix3 g i j) = k0_pay34 H.s k0_pay28 k0_pay29 (k0_pay30 H.n) (ix2 g i) then 1 else 0 : ℝ)) : EReal) := fun j => by
    have : H.eqm (ix3 g i j) = FloatOps.sitofp (F := Ideal) .f32 (BitVec.setWidth 32 (BitVec.ofBool
        (decide (H.ms (ix3 g i j) = k0_pay34 H.s k0_pay28 k0_pay29 (k0_pay30 H.n) (ix2 g i))))) := by
      unfold HeadIn.eqm HeadIn.ms
      pointwise [k0_pay35]
    rw [this]
    by_cases hq : H.ms (ix3 g i j) = k0_pay34 H.s k0_pay28 k0_pay29 (k0_pay30 H.n) (ix2 g i)
    · rw [if_pos hq, decide_eq_true hq]
      show (((BitVec.setWidth 32 (BitVec.ofBool true)).toInt : ℝ) : EReal) = _
      rw [show (BitVec.setWidth 32 (BitVec.ofBool true)).toInt = 1 from by decide, Int.cast_one]
    · rw [if_neg hq, decide_eq_false hq]
      show (((BitVec.setWidth 32 (BitVec.ofBool false)).toInt : ℝ) : EReal) = _
      rw [show (BitVec.setWidth 32 (BitVec.ofBool false)).toInt = 0 from by decide, Int.cast_zero]
  have : H.cnt (ix2 g i) = ∑ j, H.eqm (ix3 g i j) := by
    unfold HeadIn.cnt HeadIn.eqm
    pointwise [k0_pay36]
  rw [this, sum_of e1]
  obtain ⟨j, hj⟩ := fold_max_mem fun j => b.ms g i j
  refine EReal.coe_ne_zero.2 (ne_of_gt (Finset.sum_pos' (fun k _ => by split <;> norm_num) ⟨j, Finset.mem_univ _, ?_⟩))
  rw [if_pos (by rw [h.r_ms, h.r_rowmax]; exact hj)]
  norm_num

theorem r_dst (g : Fin 8) (i : Fin 128) (j : Fin 256) : H.dst (ix3 g i j) = (b.ds g i j : EReal) := by
  have : H.dst (ix3 g i j) = H.ds (ix3 g i j)
      + Ideal.div (∑ x : Fin 1, H.dmx (ix3 g i x) * H.wr (ix3 g i x)) (H.cnt (ix2 g i)) * H.eqm (ix3 g i j) := by
    unfold HeadIn.dst HeadIn.ds HeadIn.dmx
    pointwise [k0_pay55]
  rw [this, h.r_ds, Fin.sum_univ_one, h.r_dmx, zero_mul, Ideal.zero_div (h.r_cnt g i), zero_mul, add_zero]

theorem r_dss (g : Fin 8) (i : Fin 128) (j : Fin 256) :
    H.dss (ix2 ⟨g.val * 128 + i.val, by omega⟩ j) = ((b.ds g i j * (1 / 8) : ℝ) : EReal) := by
  have : H.dss (ix2 ⟨g.val * 128 + i.val, by omega⟩ j)
      = Scalar.select (H.ok (ix3 g i j)) (H.dst (ix3 g i j)) 0 * Ideal.ofBits .f32 0x3E000000#32 := by
    unfold HeadIn.dss
    pointwise [k0_pay57]
  rw [this, h.r_ok, h.r_dst, ofBits_eighth, EReal.coe_mul]
  cases hj : b.ok i j
  · rw [b.ds_of_not hj, EReal.coe_zero]; rfl
  · rfl

theorem r_dk2 (j : Fin 256) (d : Fin 32) : H.dk2 (ix2 j d) = (b.dk2 j d : EReal) := by
  have : H.dk2 (ix2 j d) = ∑ r, H.dss (ix2 r j) * H.q2 (ix2 r d) := by
    unfold HeadIn.dk2 HeadIn.dss
    pointwise [k0_pay58]
  rw [this, sum_rows _ (fun g i => b.ds g i j * (1 / 8) * b.q2 g i d) fun g i => by rw [h.r_dss, h.r_q2, ← EReal.coe_mul]]; rfl

theorem r_dk1 (j : Fin 256) (d : Fin 32) : H.dk1 (ix2 j d) = (b.dk1 j d : EReal) := by
  have : H.dk1 (ix2 j d) = ∑ r, H.dss (ix2 r j) * H.q1 (ix2 r d) := by
    unfold HeadIn.dk1 HeadIn.dss
    pointwise [k0_pay59]
  rw [this, sum_rows _ (fun g i => b.ds g i j * (1 / 8) * b.q1 g i d) fun g i => by rw [h.r_dss, h.r_q1, ← EReal.coe_mul]]; rfl

theorem r_dv (j : Fin 256) (c : Fin 64) : H.dv (ix2 j c) = (b.dv j c : EReal) := by
  have : H.dv (ix2 j c) = ∑ r : Fin 1024, H.p (ix3 ⟨r.val / 128, by omega⟩ ⟨r.val % 128, by omega⟩ j)
      * H.ct (ix3 ⟨r.val / 128, by omega⟩ ⟨r.val % 128, by omega⟩ c) := by
    unfold HeadIn.dv
    pointwise [k0_pay48, k0_pay47]
  rw [this, sum_rows _ (fun g i => b.p g i j * b.ct g i c) fun g i => ?_]
  · rfl
  · have hg : (⟨(g.val * 128 + i.val) / 128, by omega⟩ : Fin 8) = g := Fin.ext (by simp only []; omega)
    have hi : (⟨(g.val * 128 + i.val) % 128, by omega⟩ : Fin 128) = i := Fin.ext (by simp only []; omega)
    rw [hg, hi, h.r_p, h.ct, ← EReal.coe_mul]

theorem r_dq2 (g : Fin 8) (i : Fin 128) (d : Fin 32) : H.dq2 (ix3 g i d) = (b.dq2 g i d : EReal) := by
  have : H.dq2 (ix3 g i d) = ∑ j, H.dss (ix2 ⟨g.val * 128 + i.val, by omega⟩ j) * H.k2 (ix2 j d) := by
    unfold HeadIn.dq2 HeadIn.dss
    pointwise [k0_pay68]
  rw [this, sum_of fun j => (by rw [h.r_dss, h.r_k2, ← EReal.coe_mul] : _ = ((b.ds g i j * (1 / 8) * b.k2 j d : ℝ) : EReal))]; rfl

theorem r_dq1 (g : Fin 8) (i : Fin 128) (d : Fin 32) : H.dq1 (ix3 g i d) = (b.dq1 g i d : EReal) := by
  have : H.dq1 (ix3 g i d) = ∑ j, H.dss (ix2 ⟨g.val * 128 + i.val, by omega⟩ j) * H.k1 (ix2 j d) := by
    unfold HeadIn.dq1 HeadIn.dss
    pointwise [k0_pay69]
  rw [this, sum_of fun j => (by rw [h.r_dss, h.r_k1, ← EReal.coe_mul] : _ = ((b.ds g i j * (1 / 8) * b.k1 j d : ℝ) : EReal))]; rfl

/-! ## What the body stores for one head -/

theorem r_outqb (g : Fin 8) (i : Fin 128) (d : Fin 32) :
    H.outqb (ix3 g i d) = ((b.dq2 g i d * c1 i d - b.dq1 g i d * s1 i d : ℝ) : EReal) := by
  have : H.outqb (ix3 g i d) = H.dq2 (ix3 g i d) * H.cq (ix2 i d) + (0 - H.dq1 (ix3 g i d)) * H.sq (ix2 i d) := by
    unfold HeadIn.outqb HeadIn.dq1 HeadIn.dq2
    pointwise [k0_pay70, k0_pay16, k0_pay17]
  rw [this, h.r_dq1, h.r_dq2, h.cq, h.sq, ← EReal.coe_zero, ← EReal.coe_sub, ← EReal.coe_mul, ← EReal.coe_mul, ← EReal.coe_add]
  exact congrArg _ (by ring)

theorem r_outqa (g : Fin 8) (i : Fin 128) (d : Fin 32) :
    H.outqa (ix3 g i d) = ((b.dq1 g i d * c1 i d + b.dq2 g i d * s1 i d : ℝ) : EReal) := by
  have : H.outqa (ix3 g i d) = H.dq2 (ix3 g i d) * H.sq (ix2 i d) + H.dq1 (ix3 g i d) * H.cq (ix2 i d) := by
    unfold HeadIn.outqa HeadIn.dq1 HeadIn.dq2
    pointwise [k0_pay71, k0_pay16, k0_pay17]
  rw [this, h.r_dq1, h.r_dq2, h.cq, h.sq, ← EReal.coe_mul, ← EReal.coe_mul, ← EReal.coe_add]
  exact congrArg _ (by ring)

theorem r_outkb_gen (j : Fin 256) (d : Fin 32) {c s : ℝ} (hc : H.cos2 (ix2 j d) = (c : EReal)) (hs : H.sin2 (ix2 j d) = (s : EReal)) :
    H.outkb (ix2 j d) = ((b.dk2 j d * c - b.dk1 j d * s : ℝ) : EReal) := by
  have : H.outkb (ix2 j d) = H.dk2 (ix2 j d) * H.cos2 (ix2 j d) + (0 - H.dk1 (ix2 j d)) * H.sin2 (ix2 j d) := by
    unfold HeadIn.outkb HeadIn.dk1 HeadIn.dk2
    pointwise [k0_pay62]
  rw [this, h.r_dk1, h.r_dk2, hc, hs, ← EReal.coe_zero, ← EReal.coe_sub, ← EReal.coe_mul, ← EReal.coe_mul, ← EReal.coe_add]
  exact congrArg _ (by ring)

theorem r_outka_gen (j : Fin 256) (d : Fin 32) {c s : ℝ} (hc : H.cos2 (ix2 j d) = (c : EReal)) (hs : H.sin2 (ix2 j d) = (s : EReal)) :
    H.outka (ix2 j d) = ((b.dk1 j d * c + b.dk2 j d * s : ℝ) : EReal) := by
  have : H.outka (ix2 j d) = H.dk2 (ix2 j d) * H.sin2 (ix2 j d) + H.dk1 (ix2 j d) * H.cos2 (ix2 j d) := by
    unfold HeadIn.outka HeadIn.dk1 HeadIn.dk2
    pointwise [k0_pay63]
  rw [this, h.r_dk1, h.r_dk2, hc, hs, ← EReal.coe_mul, ← EReal.coe_mul, ← EReal.coe_add]
  exact congrArg _ (by ring)

theorem r_cos2p (i : Fin 128) (d : Fin 32) : H.cos2 (ix2 ⟨i.val, by omega⟩ d) = (c0 i d : EReal) := by
  rw [← h.cp]; pointwise [HeadIn.cos2, k0_pay20]
theorem r_sin2p (i : Fin 128) (d : Fin 32) : H.sin2 (ix2 ⟨i.val, by omega⟩ d) = (s0 i d : EReal) := by
  rw [← h.sp]; pointwise [HeadIn.sin2, k0_pay21]
theorem r_cos2c (i : Fin 128) (d : Fin 32) : H.cos2 (ix2 ⟨128 + i.val, by omega⟩ d) = (c1 i d : EReal) := by
  rw [← h.cq]; pointwise [HeadIn.cos2, k0_pay20]
theorem r_sin2c (i : Fin 128) (d : Fin 32) : H.sin2 (ix2 ⟨128 + i.val, by omega⟩ d) = (s1 i d : EReal) := by
  rw [← h.sq]; pointwise [HeadIn.sin2, k0_pay21]

end Holds

end SwaGrad
-- ==== Proof.Head1.lean ====
/- The second key/value head of the kernel's body does the first one's operations.

   The body is written once per head and the two copies are cut into payloads at different places; here every payload of
   the second copy is one of the first's. -/
module

public import Idealize.ShloMosaic.Lib.Pipeline.ValueKit
public import proofs.«01_k».proof.Proof.Head

@[expose] public section

set_option maxRecDepth 16384

noncomputable section

namespace SwaGrad.Second

open Idealize.ShloMosaic Idealize.ShloMosaic.TcCoe Idealize.SL.Sem
open Cert.KernelIdeal Cert.KernelIdeal.Gen

section
variable (cq sq cp sp : FVec Ideal S128x32 .f32) (qa qb : FVec Ideal S8x128x32 .f32) (kap kac kbp kbc : FVec Ideal S1x128x32 .f32)
  (vp vc : FVec Ideal S1x128x64 .f32)

theorem qa_eq : k0_pay72 (F := Ideal) qa = k0_pay7 qa := rfl
theorem qb_eq : k0_pay73 (F := Ideal) qb = k0_pay8 qb := rfl
theorem kap_eq : k0_pay74 (F := Ideal) kap = k0_pay9 kap := rfl
theorem kac_eq : k0_pay75 (F := Ideal) kac = k0_pay10 kac := rfl
theorem sk_eq (sk : FVec Ideal S1x8x1 .f32) : k0_pay76 (F := Ideal) sk = k0_pay15 sk := rfl
theorem cq_eq : k0_pay77 cq = k0_pay16 cq := rfl
theorem sq_eq : k0_pay78 sq = k0_pay17 sq := rfl
theorem q1_eq : k0_pay79 cq sq qa qb = k0_pay18 cq sq qa qb := by simp only [k0_pay79, k0_pay18, k0_pay77, k0_pay78, k0_pay16, k0_pay17]
theorem q2_eq : k0_pay80 cq sq qa qb = k0_pay19 cq sq qa qb := by simp only [k0_pay80, k0_pay19, k0_pay77, k0_pay78, k0_pay16, k0_pay17]
theorem cos2_eq : k0_pay81 cq cp = k0_pay20 cq cp := rfl
theorem sin2_eq : k0_pay82 sq sp = k0_pay21 sq sp := rfl
theorem kb_eq : k0_pay84 (F := Ideal) kbp kbc = k0_pay23 (k0_pay11 kbp) (k0_pay12 kbc) := by simp only [k0_pay84, k0_pay23, k0_pay11, k0_pay12]
theorem k1_eq : k0_pay85 cq sq cp sp kap kac kbp kbc = k0_pay24 cq sq cp sp kap kac (k0_pay11 kbp) (k0_pay12 kbc) := by
  simp only [k0_pay85, k0_pay24, kb_eq, k0_pay83, k0_pay22, cos2_eq, sin2_eq]
theorem k2_eq : k0_pay86 cq sq cp sp kap kac kbp kbc = k0_pay25 cq sq cp sp kap kac (k0_pay11 kbp) (k0_pay12 kbc) := by
  simp only [k0_pay86, k0_pay25, kb_eq, k0_pay83, k0_pay22, cos2_eq, sin2_eq]
theorem vv_eq : k0_pay87 (F := Ideal) vp vc = k0_pay26 (k0_pay13 vp) (k0_pay14 vc) := by simp only [k0_pay87, k0_pay26, k0_pay13, k0_pay14]
theorem ok_eq (n : BitVec 32) : k0_pay89 n = k0_pay31 k0_pay28 k0_pay29 (k0_pay30 n) := by
  simp only [k0_pay89, k0_pay31, k0_pay28, k0_pay29, k0_pay30]
/-- The masked scores. -/
theorem ms_eq (n : BitVec 32) :
    k0_pay90 n (k0_pay19 cq sq qa qb) (k0_pay25 cq sq cp sp kap kac (k0_pay11 kbp) (k0_pay12 kbc)) (k0_pay88 cq sq cp sp qa qb kap kac kbp kbc)
      = k0_pay32 (k0_pay27 cq sq cp sp qa qb kap kac (k0_pay11 kbp) (k0_pay12 kbc)) k0_pay28 k0_pay29 (k0_pay30 n) := by
  simp only [k0_pay90, k0_pay88, k0_pay32, k0_pay27, ok_eq, q1_eq, k1_eq]
end

section
variable {n : BitVec 32} {q : FVec Ideal S1024x32 .f32} {k : FVec Ideal S256x32 .f32} {S : FVec Ideal S1024x256 .f32}
  {s : FVec Ideal S8x128x256 .f32} {b1 b2 b3 : IVec S128x256 1} (h : k0_pay90 n q k S = k0_pay32 s b1 b2 b3)
  (sk : FVec Ideal S1x8x1 .f32)
include h
theorem max_eq : k0_pay92 n q k S = k0_pay34 s b1 b2 b3 := by simp only [k0_pay92, k0_pay34, h]
theorem eqm_eq : k0_pay93 n q k S = k0_pay35 s b1 b2 b3 := by simp only [k0_pay93, k0_pay35, h, max_eq h]
theorem cnt_eq : k0_pay94 n q k S = k0_pay36 s b1 b2 b3 := by simp only [k0_pay94, k0_pay36, eqm_eq h]
theorem col_eq : k0_pay95 n q k S = k0_pay37 s b1 b2 b3 := by simp only [k0_pay95, k0_pay37, max_eq h]
theorem mx_eq : k0_pay96 n sk q k S = k0_pay38 sk s b1 b2 b3 := by simp only [k0_pay96, k0_pay38, col_eq h, k0_pay91, k0_pay33]
theorem wr_eq : k0_pay97 n sk q k S = k0_pay39 sk s b1 b2 b3 := by simp only [k0_pay97, k0_pay39, col_eq h, k0_pay91, k0_pay33]
theorem ws_eq : k0_pay100 (k0_pay98 n sk q k S) (k0_pay99 n sk q k S) = k0_pay40 sk s b1 b2 b3 := by
  simp only [k0_pay100, k0_pay98, k0_pay99, k0_pay40, col_eq h, k0_pay91, k0_pay33]
end

section
variable {ms : FVec Ideal S8x128x256 .f32} {mx : FVec Ideal S8x128x1 .f32}
  {s : FVec Ideal S8x128x256 .f32} {b1 b2 b3 : IVec S128x256 1} (sk : FVec Ideal S1x8x1 .f32)
  (h : ms = k0_pay32 s b1 b2 b3) (hx : mx = k0_pay38 sk s b1 b2 b3)
include h hx
theorem e_eq : k0_pay101 ms mx = k0_pay41 sk s b1 b2 b3 := by simp only [k0_pay101, k0_pay41, h, hx]
theorem es_eq : k0_pay102 (k0_pay91 sk) mx = k0_pay42 sk s b1 b2 b3 := by simp only [k0_pay102, k0_pay42, hx, k0_pay91, k0_pay33]
theorem z_eq : k0_pay103 ms (k0_pay91 sk) mx = k0_pay43 sk s b1 b2 b3 := by simp only [k0_pay103, k0_pay43, e_eq sk h hx, es_eq sk h hx]
theorem dv_eq (ct : FVec Ideal S8x128x64 .f32) : k0_pay105 ms (k0_pay91 sk) mx ct = k0_pay48 (k0_pay44 sk s b1 b2 b3) ct := by
  simp only [k0_pay105, k0_pay48, k0_pay44, k0_pay104, k0_pay47, e_eq sk h hx, z_eq sk h hx]
end

/-- What the gradient's stages of one head start from. -/
structure From (ms : FVec Ideal S8x128x256 .f32) (k : FVec Ideal S8x1x1 .f32) (mx : FVec Ideal S8x128x1 .f32)
    (e : FVec Ideal S8x128x256 .f32) (es z zz : FVec Ideal S8x128x1 .f32) : Prop where
  he : k0_pay101 ms mx = e
  hes : k0_pay102 k mx = es
  hz : k0_pay103 ms k mx = z
  hzz : mulf z z = zz

section
variable {vv : FVec Ideal S256x64 .f32} {ms : FVec Ideal S8x128x256 .f32} {k : FVec Ideal S8x1x1 .f32} {mx : FVec Ideal S8x128x1 .f32}
  {e : FVec Ideal S8x128x256 .f32} {es z zz : FVec Ideal S8x128x1 .f32} (h : From ms k mx e es z zz)
  (ct : FVec Ideal S8x128x64 .f32)

theorem dp_eq (vv : FVec Ideal S256x64 .f32) : k0_pay106 vv ct = k0_pay49 vv ct := by simp only [k0_pay106, k0_pay49, k0_pay104, k0_pay47]

include h
theorem dz_eq : k0_pay107 vv ms k mx ct = k0_pay50 vv e zz k0_pay46 ct := by
  simp only [k0_pay107, k0_pay50, k0_pay46, dp_eq, h.he, h.hz, h.hzz]
theorem des_eq : k0_pay109 vv ms k mx ct = k0_pay51 vv e es zz k0_pay46 ct := by simp only [k0_pay109, k0_pay51, dz_eq h, h.hes]
theorem ds_eq : k0_pay113 e (k0_pay108 vv ms k mx ct) (k0_pay112 vv ms k mx ct) = k0_pay52 vv e z zz k0_pay46 ct := by
  simp only [k0_pay113, k0_pay108, k0_pay112, k0_pay52, dp_eq, dz_eq h, h.hz]
theorem dmx_eq : k0_pay114 e (k0_pay108 vv ms k mx ct) (k0_pay111 vv ms k mx ct) (k0_pay112 vv ms k mx ct)
    = k0_pay53 vv e es z zz k0_pay46 ct := by
  simp only [k0_pay114, k0_pay111, k0_pay53, ds_eq h, des_eq h]
theorem dsink_eq (ws : FVec Ideal S8x128x1 .f32) :
    k0_pay115 ws e (k0_pay108 vv ms k mx ct) (k0_pay110 vv ms k mx ct) (k0_pay111 vv ms k mx ct) (k0_pay112 vv ms k mx ct)
      = k0_pay56 (k0_pay54 vv ws e es z zz k0_pay46 ct) := by
  simp only [k0_pay115, k0_pay110, k0_pay56, k0_pay54, dmx_eq h, des_eq h]
theorem dss_eq (ok : IVec S8x128x256 1) (eqm : FVec Ideal S8x128x256 .f32) (cnt : FVec Ideal S8x128 .f32) (wr : FVec Ideal S8x128x1 .f32) :
    k0_pay116 ok eqm cnt wr e (k0_pay108 vv ms k mx ct) (k0_pay111 vv ms k mx ct) (k0_pay112 vv ms k mx ct)
      = k0_pay57 ok (k0_pay55 vv eqm cnt wr e es z zz k0_pay46 ct) := by
  simp only [k0_pay116, k0_pay57, k0_pay55, dmx_eq h, ds_eq h]
end

section
variable {ok : IVec S8x128x256 1} {eqm : FVec Ideal S8x128x256 .f32} {cnt : FVec Ideal S8x128 .f32} {wr : FVec Ideal S8x128x1 .f32}
  {e x y : FVec Ideal S8x128x256 .f32} {u v : FVec Ideal S8x128x1 .f32} (h : k0_pay116 ok eqm cnt wr e x u v = k0_pay57 ok y)
include h
theorem outq (c s : FVec Ideal S1x128x32 .f32) (k1 k2 : FVec Ideal S256x32 .f32) :
    k0_pay131 c s (k0_pay117 k2 ok eqm cnt wr e x u v) (k0_pay119 k1 ok eqm cnt wr e x u v) = k0_pay70 c s k1 k2 ok y
    ∧ k0_pay132 c s (k0_pay117 k2 ok eqm cnt wr e x u v) (k0_pay119 k1 ok eqm cnt wr e x u v) = k0_pay71 c s k1 k2 ok y := by
  constructor
  · simp only [k0_pay131, k0_pay129, k0_pay130, k0_pay117, k0_pay119, k0_pay70, k0_pay68, k0_pay69, h]
  · simp only [k0_pay132, k0_pay129, k0_pay130, k0_pay117, k0_pay119, k0_pay71, k0_pay68, k0_pay69, h]
theorem outk (q1 q2 : FVec Ideal S1024x32 .f32) (c s : FVec Ideal S256x32 .f32) :
    k0_pay123 q1 q2 c s ok eqm cnt wr e x u v = k0_pay62 q1 q2 c s ok y
    ∧ k0_pay124 q1 q2 c s ok eqm cnt wr e x u v = k0_pay63 q1 q2 c s ok y := by
  constructor
  · simp only [k0_pay123, k0_pay118, k0_pay120, k0_pay62, k0_pay58, k0_pay59, h]
  · simp only [k0_pay124, k0_pay118, k0_pay120, k0_pay63, k0_pay58, k0_pay59, h]
end

end SwaGrad.Second
-- ==== Proof.Body.lean ====
/- What the kernel's body computes for its two key/value heads, named step by step: each head is the attention's backward pass
   on what the head reads. -/
module
public import proofs.«01_k».proof.Proof.Run.Frame
public import proofs.«01_k».proof.Proof.Head1
public import Idealize.ShloMosaic.Lib.Pipeline.ValueKit
@[expose] public section
set_option maxRecDepth 16384
noncomputable section
namespace SwaGrad
open Idealize.ShloMosaic Idealize.ShloMosaic.TcCoe Idealize.SL.Sem
open Cert.KernelIdeal Cert.KernelIdeal.Gen
variable (m : (ℓ : Loc nD τ sig) → Buf (Elt Ideal) ℓ)
/-- What the body reads for the first key/value head at a grid point. -/
def hd0 (c : Dev nD) (t : Fin cfg0.N) : HeadIn where
  cq := k0_pay3 (iblk m c 8 t)
  sq := k0_pay4 (iblk m c 9 t)
  cp := k0_pay5 (iblk m c 10 t)
  sp := k0_pay6 (iblk m c 11 t)
  qa := k0_pay7 (@View.ld (Elt Ideal) S16x128x32 .f32 (iblk m c 0 t) (Rect.unit ![0, 0, 0] ![8, 128, 32] inb_S16x128x32_S8x128x32_0_0_0))
  qb := k0_pay8 (@View.ld (Elt Ideal) S16x128x32 .f32 (iblk m c 1 t) (Rect.unit ![0, 0, 0] ![8, 128, 32] inb_S16x128x32_S8x128x32_0_0_0))
  kap := k0_pay9 (@View.ld (Elt Ideal) S2x128x32 .f32 (iblk m c 2 t) (Rect.unit ![0, 0, 0] ![1, 128, 32] inb_S2x128x32_S1x128x32_0_0_0))
  kac := k0_pay10 (@View.ld (Elt Ideal) S2x128x32 .f32 (iblk m c 3 t) (Rect.unit ![0, 0, 0] ![1, 128, 32] inb_S2x128x32_S1x128x32_0_0_0))
  kbp := k0_pay11 (@View.ld (Elt Ideal) S2x128x32 .f32 (iblk m c 4 t) (Rect.unit ![0, 0, 0] ![1, 128, 32] inb_S2x128x32_S1x128x32_0_0_0))
  kbc := k0_pay12 (@View.ld (Elt Ideal) S2x128x32 .f32 (iblk m c 5 t) (Rect.unit ![0, 0, 0] ![1, 128, 32] inb_S2x128x32_S1x128x32_0_0_0))
  vp := k0_pay13 (@View.ld (Elt Ideal) S2x128x64 .f32 (iblk m c 6 t) (Rect.unit ![0, 0, 0] ![1, 128, 64] inb_S2x128x64_S1x128x64_0_0_0))
  vc := k0_pay14 (@View.ld (Elt Ideal) S2x128x64 .f32 (iblk m c 7 t) (Rect.unit ![0, 0, 0] ![1, 128, 64] inb_S2x128x64_S1x128x64_0_0_0))
  sk := k0_pay15 (@View.ld (Elt Ideal) S2x8x1 .f32 (iblk m c 12 t) (Rect.unit ![0, 0, 0] ![1, 8, 1] inb_S2x8x1_S1x8x1_0_0_0))
  ct := @View.ld (Elt Ideal) S16x128x64 .f32 (iblk m c 13 t) (Rect.unit ![0, 0, 0] ![8, 128, 64] inb_S16x128x64_S8x128x64_0_0_0)
  n := BitVec.ofNat 32 (grid0.coords t 0).val

/-- What the body reads for the second key/value head at a grid point. -/
def hd1 (c : Dev nD) (t : Fin cfg0.N) : HeadIn where
  cq := k0_pay3 (iblk m c 8 t)
  sq := k0_pay4 (iblk m c 9 t)
  cp := k0_pay5 (iblk m c 10 t)
  sp := k0_pay6 (iblk m c 11 t)
  qa := k0_pay7 (@View.ld (Elt Ideal) S16x128x32 .f32 (iblk m c 0 t) (Rect.unit ![8, 0, 0] ![8, 128, 32] inb_S16x128x32_S8x128x32_8_0_0))
  qb := k0_pay8 (@View.ld (Elt Ideal) S16x128x32 .f32 (iblk m c 1 t) (Rect.unit ![8, 0, 0] ![8, 128, 32] inb_S16x128x32_S8x128x32_8_0_0))
  kap := k0_pay9 (@View.ld (Elt Ideal) S2x128x32 .f32 (iblk m c 2 t) (Rect.unit ![1, 0, 0] ![1, 128, 32] inb_S2x128x32_S1x128x32_1_0_0))
  kac := k0_pay10 (@View.ld (Elt Ideal) S2x128x32 .f32 (iblk m c 3 t) (Rect.unit ![1, 0, 0] ![1, 128, 32] inb_S2x128x32_S1x128x32_1_0_0))
  kbp := k0_pay11 (@View.ld (Elt Ideal) S2x128x32 .f32 (iblk m c 4 t) (Rect.unit ![1, 0, 0] ![1, 128, 32] inb_S2x128x32_S1x128x32_1_0_0))
  kbc := k0_pay12 (@View.ld (Elt Ideal) S2x128x32 .f32 (iblk m c 5 t) (Rect.unit ![1, 0, 0] ![1, 128, 32] inb_S2x128x32_S1x128x32_1_0_0))
  vp := k0_pay13 (@View.ld (Elt Ideal) S2x128x64 .f32 (iblk m c 6 t) (Rect.unit ![1, 0, 0] ![1, 128, 64] inb_S2x128x64_S1x128x64_1_0_0))
  vc := k0_pay14 (@View.ld (Elt Ideal) S2x128x64 .f32 (iblk m c 7 t) (Rect.unit ![1, 0, 0] ![1, 128, 64] inb_S2x128x64_S1x128x64_1_0_0))
  sk := k0_pay15 (@View.ld (Elt Ideal) S2x8x1 .f32 (iblk m c 12 t) (Rect.unit ![1, 0, 0] ![1, 8, 1] inb_S2x8x1_S1x8x1_1_0_0))
  ct := @View.ld (Elt Ideal) S16x128x64 .f32 (iblk m c 13 t) (Rect.unit ![8, 0, 0] ![8, 128, 64] inb_S16x128x64_S8x128x64_8_0_0)
  n := BitVec.ofNat 32 (grid0.coords t 0).val

/-- The current block's rows of a band's gradient, as the body stores them. -/
def rowsC (x : FVec Ideal S256x32 .f32) : FVec Ideal S1x128x32 .f32 := k0_pay125 x
/-- The previous block's rows of a band's gradient, as the body stores them. -/
def rowsP (x : FVec Ideal S256x32 .f32) : FVec Ideal S1x128x32 .f32 := k0_pay126 x
/-- The sinks' gradient, as the body lays it out. -/
def flat (x : FVec Ideal S8x1x1 .f32) : FVec Ideal S1x8x1 .f32 := k0_pay56 x

theorem hd0_q1 (c : Dev nD) (t : Fin cfg0.N) : k0_pay18 (k0_pay3 (iblk m c 8 t)) (k0_pay4 (iblk m c 9 t)) (k0_pay7 (@View.ld (Elt Ideal) S16x128x32 .f32 (iblk m c 0 t) (Rect.unit ![0, 0, 0] ![8, 128, 32] inb_S16x128x32_S8x128x32_0_0_0))) (k0_pay8 (@View.ld (Elt Ideal) S16x128x32 .f32 (iblk m c 1 t) (Rect.unit ![0, 0, 0] ![8, 128, 32] inb_S16x128x32_S8x128x32_0_0_0)))
    = (hd0 m c t).q1 :=
  by simp only [HeadIn.q1, hd0]

theorem hd0_q2 (c : Dev nD) (t : Fin cfg0.N) : k0_pay19 (k0_pay3 (iblk m c 8 t)) (k0_pay4 (iblk m c 9 t)) (k0_pay7 (@View.ld (Elt Ideal) S16x128x32 .f32 (iblk m c 0 t) (Rect.unit ![0, 0, 0] ![8, 128, 32] inb_S16x128x32_S8x128x32_0_0_0))) (k0_pay8 (@View.ld (Elt Ideal) S16x128x32 .f32 (iblk m c 1 t) (Rect.unit ![0, 0, 0] ![8, 128, 32] inb_S16x128x32_S8x128x32_0_0_0)))
    = (hd0 m c t).q2 :=
  by simp only [HeadIn.q2, hd0]

theorem hd0_cos2 (c : Dev nD) (t : Fin cfg0.N) : k0_pay20 (k0_pay3 (iblk m c 8 t)) (k0_pay5 (iblk m c 10 t))
    = (hd0 m c t).cos2 :=
  by simp only [HeadIn.cos2, hd0]

theorem hd0_sin2 (c : Dev nD) (t : Fin cfg0.N) : k0_pay21 (k0_pay4 (iblk m c 9 t)) (k0_pay6 (iblk m c 11 t))
    = (hd0 m c t).sin2 :=
  by simp only [HeadIn.sin2, hd0]

theorem hd0_k1 (c : Dev nD) (t : Fin cfg0.N) : k0_pay24 (k0_pay3 (iblk m c 8 t)) (k0_pay4 (iblk m c 9 t)) (k0_pay5 (iblk m c 10 t)) (k0_pay6 (iblk m c 11 t)) (k0_pay9 (@View.ld (Elt Ideal) S2x128x32 .f32 (iblk m c 2 t) (Rect.unit ![0, 0, 0] ![1, 128, 32] inb_S2x128x32_S1x128x32_0_0_0))) (k0_pay10 (@View.ld (Elt Ideal) S2x128x32 .f32 (iblk m c 3 t) (Rect.unit ![0, 0, 0] ![1, 128, 32] inb_S2x128x32_S1x128x32_0_0_0))) (k0_pay11 (@View.ld (Elt Ideal) S2x128x32 .f32 (iblk m c 4 t) (Rect.unit ![0, 0, 0] ![1, 128, 32] inb_S2x128x32_S1x128x32_0_0_0))) (k0_pay12 (@View.ld (Elt Ideal) S2x128x32 .f32 (iblk m c 5 t) (Rect.unit ![0, 0, 0] ![1, 128, 32] inb_S2x128x32_S1x128x32_0_0_0)))
    = (hd0 m c t).k1 :=
  by simp only [HeadIn.k1, hd0]

theorem hd0_k2 (c : Dev nD) (t : Fin cfg0.N) : k0_pay25 (k0_pay3 (iblk m c 8 t)) (k0_pay4 (iblk m c 9 t)) (k0_pay5 (iblk m c 10 t)) (k0_pay6 (iblk m c 11 t)) (k0_pay9 (@View.ld (Elt Ideal) S2x128x32 .f32 (iblk m c 2 t) (Rect.unit ![0, 0, 0] ![1, 128, 32] inb_S2x128x32_S1x128x32_0_0_0))) (k0_pay10 (@View.ld (Elt Ideal) S2x128x32 .f32 (iblk m c 3 t) (Rect.unit ![0, 0, 0] ![1, 128, 32] inb_S2x128x32_S1x128x32_0_0_0))) (k0_pay11 (@View.ld (Elt Ideal) S2x128x32 .f32 (iblk m c 4 t) (Rect.unit ![0, 0, 0] ![1, 128, 32] inb_S2x128x32_S1x128x32_0_0_0))) (k0_pay12 (@View.ld (Elt Ideal) S2x128x32 .f32 (iblk m c 5 t) (Rect.unit ![0, 0, 0] ![1, 128, 32] inb_S2x128x32_S1x128x32_0_0_0)))
    = (hd0 m c t).k2 :=
  by simp only [HeadIn.k2, hd0]

theorem hd0_vv (c : Dev nD) (t : Fin cfg0.N) : k0_pay26 (k0_pay13 (@View.ld (Elt Ideal) S2x128x64 .f32 (iblk m c 6 t) (Rect.unit ![0, 0, 0] ![1, 128, 64] inb_S2x128x64_S1x128x64_0_0_0))) (k0_pay14 (@View.ld (Elt Ideal) S2x128x64 .f32 (iblk m c 7 t) (Rect.unit ![0, 0, 0] ![1, 128, 64] inb_S2x128x64_S1x128x64_0_0_0)))
    = (hd0 m c t).vv :=
  by simp only [HeadIn.vv, hd0]

theorem hd0_s (c : Dev nD) (t : Fin cfg0.N) : k0_pay27 (k0_pay3 (iblk m c 8 t)) (k0_pay4 (iblk m c 9 t)) (k0_pay5 (iblk m c 10 t)) (k0_pay6 (iblk m c 11 t)) (k0_pay7 (@View.ld (Elt Ideal) S16x128x32 .f32 (iblk m c 0 t) (Rect.unit ![0, 0, 0] ![8, 128, 32] inb_S16x128x32_S8x128x32_0_0_0))) (k0_pay8 (@View.ld (Elt Ideal) S16x128x32 .f32 (iblk m c 1 t) (Rect.unit ![0, 0, 0] ![8, 128, 32] inb_S16x128x32_S8x128x32_0_0_0))) (k0_pay9 (@View.ld (Elt Ideal) S2x128x32 .f32 (iblk m c 2 t) (Rect.unit ![0, 0, 0] ![1, 128, 32] inb_S2x128x32_S1x128x32_0_0_0))) (k0_pay10 (@View.ld (Elt Ideal) S2x128x32 .f32 (iblk m c 3 t) (Rect.unit ![0, 0, 0] ![1, 128, 32] inb_S2x128x32_S1x128x32_0_0_0))) (k0_pay11 (@View.ld (Elt Ideal) S2x128x32 .f32 (iblk m c 4 t) (Rect.unit ![0, 0, 0] ![1, 128, 32] inb_S2x128x32_S1x128x32_0_0_0))) (k0_pay12 (@View.ld (Elt Ideal) S2x128x32 .f32 (iblk m c 5 t) (Rect.unit ![0, 0, 0] ![1, 128, 32] inb_S2x128x32_S1x128x32_0_0_0)))
    = (hd0 m c t).s :=
  by simp only [HeadIn.s, hd0]

theorem hd0_ok (c : Dev nD) (t : Fin cfg0.N) : k0_pay31 k0_pay28 k0_pay29 (k0_pay30 (BitVec.ofNat 32 (grid0.coords t 0).val))
    = (hd0 m c t).ok :=
  by simp only [HeadIn.ok, hd0]

theorem hd0_eqm (c : Dev nD) (t : Fin cfg0.N) : k0_pay35 (hd0 m c t).s k0_pay28 k0_pay29 (k0_pay30 (BitVec.ofNat 32 (grid0.coords t 0).val))
    = (hd0 m c t).eqm :=
  by simp only [HeadIn.eqm, hd0]

theorem hd0_cnt (c : Dev nD) (t : Fin cfg0.N) : k0_pay36 (hd0 m c t).s k0_pay28 k0_pay29 (k0_pay30 (BitVec.ofNat 32 (grid0.coords t 0).val))
    = (hd0 m c t).cnt :=
  by simp only [HeadIn.cnt, hd0]

theorem hd0_wr (c : Dev nD) (t : Fin cfg0.N) : k0_pay39 (k0_pay15 (@View.ld (Elt Ideal) S2x8x1 .f32 (iblk m c 12 t) (Rect.unit ![0, 0, 0] ![1, 8, 1] inb_S2x8x1_S1x8x1_0_0_0))) (hd0 m c t).s k0_pay28 k0_pay29 (k0_pay30 (BitVec.ofNat 32 (grid0.coords t 0).val))
    = (hd0 m c t).wr :=
  by simp only [HeadIn.wr, hd0]

theorem hd0_ws (c : Dev nD) (t : Fin cfg0.N) : k0_pay40 (k0_pay15 (@View.ld (Elt Ideal) S2x8x1 .f32 (iblk m c 12 t) (Rect.unit ![0, 0, 0] ![1, 8, 1] inb_S2x8x1_S1x8x1_0_0_0))) (hd0 m c t).s k0_pay28 k0_pay29 (k0_pay30 (BitVec.ofNat 32 (grid0.coords t 0).val))
    = (hd0 m c t).ws :=
  by simp only [HeadIn.ws, hd0]

theorem hd0_e (c : Dev nD) (t : Fin cfg0.N) : k0_pay41 (k0_pay15 (@View.ld (Elt Ideal) S2x8x1 .f32 (iblk m c 12 t) (Rect.unit ![0, 0, 0] ![1, 8, 1] inb_S2x8x1_S1x8x1_0_0_0))) (hd0 m c t).s k0_pay28 k0_pay29 (k0_pay30 (BitVec.ofNat 32 (grid0.coords t 0).val))
    = (hd0 m c t).e :=
  by simp only [HeadIn.e, hd0]

theorem hd0_es (c : Dev nD) (t : Fin cfg0.N) : k0_pay42 (k0_pay15 (@View.ld (Elt Ideal) S2x8x1 .f32 (iblk m c 12 t) (Rect.unit ![0, 0, 0] ![1, 8, 1] inb_S2x8x1_S1x8x1_0_0_0))) (hd0 m c t).s k0_pay28 k0_pay29 (k0_pay30 (BitVec.ofNat 32 (grid0.coords t 0).val))
    = (hd0 m c t).es :=
  by simp only [HeadIn.es, hd0]

theorem hd0_z (c : Dev nD) (t : Fin cfg0.N) : k0_pay43 (k0_pay15 (@View.ld (Elt Ideal) S2x8x1 .f32 (iblk m c 12 t) (Rect.unit ![0, 0, 0] ![1, 8, 1] inb_S2x8x1_S1x8x1_0_0_0))) (hd0 m c t).s k0_pay28 k0_pay29 (k0_pay30 (BitVec.ofNat 32 (grid0.coords t 0).val))
    = (hd0 m c t).z :=
  by simp only [HeadIn.z, hd0]

theorem hd0_p (c : Dev nD) (t : Fin cfg0.N) : k0_pay44 (k0_pay15 (@View.ld (Elt Ideal) S2x8x1 .f32 (iblk m c 12 t) (Rect.unit ![0, 0, 0] ![1, 8, 1] inb_S2x8x1_S1x8x1_0_0_0))) (hd0 m c t).s k0_pay28 k0_pay29 (k0_pay30 (BitVec.ofNat 32 (grid0.coords t 0).val))
    = (hd0 m c t).p :=
  by simp only [HeadIn.p, hd0]

theorem hd0_zz (c : Dev nD) (t : Fin cfg0.N) : k0_pay45 (k0_pay15 (@View.ld (Elt Ideal) S2x8x1 .f32 (iblk m c 12 t) (Rect.unit ![0, 0, 0] ![1, 8, 1] inb_S2x8x1_S1x8x1_0_0_0))) (hd0 m c t).s k0_pay28 k0_pay29 (k0_pay30 (BitVec.ofNat 32 (grid0.coords t 0).val))
    = (hd0 m c t).zz :=
  by simp only [HeadIn.zz, hd0]

theorem hd0_dv (c : Dev nD) (t : Fin cfg0.N) : k0_pay48 (hd0 m c t).p (@View.ld (Elt Ideal) S16x128x64 .f32 (iblk m c 13 t) (Rect.unit ![0, 0, 0] ![8, 128, 64] inb_S16x128x64_S8x128x64_0_0_0))
    = (hd0 m c t).dv :=
  by simp only [HeadIn.dv, hd0]

theorem hd0_dsink (c : Dev nD) (t : Fin cfg0.N) : k0_pay54 (hd0 m c t).vv (hd0 m c t).ws (hd0 m c t).e (hd0 m c t).es (hd0 m c t).z (hd0 m c t).zz k0_pay46 (@View.ld (Elt Ideal) S16x128x64 .f32 (iblk m c 13 t) (Rect.unit ![0, 0, 0] ![8, 128, 64] inb_S16x128x64_S8x128x64_0_0_0))
    = (hd0 m c t).dsink :=
  by simp only [HeadIn.dsink, hd0]

theorem hd0_dst (c : Dev nD) (t : Fin cfg0.N) : k0_pay55 (hd0 m c t).vv (hd0 m c t).eqm (hd0 m c t).cnt (hd0 m c t).wr (hd0 m c t).e (hd0 m c t).es (hd0 m c t).z (hd0 m c t).zz k0_pay46 (@View.ld (Elt Ideal) S16x128x64 .f32 (iblk m c 13 t) (Rect.unit ![0, 0, 0] ![8, 128, 64] inb_S16x128x64_S8x128x64_0_0_0))
    = (hd0 m c t).dst :=
  by simp only [HeadIn.dst, hd0]

theorem hd0_kbc (c : Dev nD) (t : Fin cfg0.N) : k0_pay64 (hd0 m c t).q1 (hd0 m c t).q2 (hd0 m c t).cos2 (hd0 m c t).sin2 (hd0 m c t).ok (hd0 m c t).dst
    = rowsC (hd0 m c t).outkb :=
  by simp only [rowsC, HeadIn.outkb, k0_pay64, k0_pay125]

theorem hd0_kbp (c : Dev nD) (t : Fin cfg0.N) : k0_pay65 (hd0 m c t).q1 (hd0 m c t).q2 (hd0 m c t).cos2 (hd0 m c t).sin2 (hd0 m c t).ok (hd0 m c t).dst
    = rowsP (hd0 m c t).outkb :=
  by simp only [rowsP, HeadIn.outkb, k0_pay65, k0_pay126]

theorem hd0_kac (c : Dev nD) (t : Fin cfg0.N) : k0_pay66 (hd0 m c t).q1 (hd0 m c t).q2 (hd0 m c t).cos2 (hd0 m c t).sin2 (hd0 m c t).ok (hd0 m c t).dst
    = rowsC (hd0 m c t).outka :=
  by simp only [rowsC, HeadIn.outka, k0_pay66, k0_pay125]

theorem hd0_kap (c : Dev nD) (t : Fin cfg0.N) : k0_pay67 (hd0 m c t).q1 (hd0 m c t).q2 (hd0 m c t).cos2 (hd0 m c t).sin2 (hd0 m c t).ok (hd0 m c t).dst
    = rowsP (hd0 m c t).outka :=
  by simp only [rowsP, HeadIn.outka, k0_pay67, k0_pay126]

theorem hd0_outqb (c : Dev nD) (t : Fin cfg0.N) : k0_pay70 (k0_pay16 (k0_pay3 (iblk m c 8 t))) (k0_pay17 (k0_pay4 (iblk m c 9 t))) (hd0 m c t).k1 (hd0 m c t).k2 (hd0 m c t).ok (hd0 m c t).dst
    = (hd0 m c t).outqb :=
  by simp only [HeadIn.outqb, hd0]

theorem hd0_outqa (c : Dev nD) (t : Fin cfg0.N) : k0_pay71 (k0_pay16 (k0_pay3 (iblk m c 8 t))) (k0_pay17 (k0_pay4 (iblk m c 9 t))) (hd0 m c t).k1 (hd0 m c t).k2 (hd0 m c t).ok (hd0 m c t).dst
    = (hd0 m c t).outqa :=
  by simp only [HeadIn.outqa, hd0]

theorem hd0_sink (c : Dev nD) (t : Fin cfg0.N) : k0_pay56 (hd0 m c t).dsink
    = flat (hd0 m c t).dsink :=
  rfl

theorem hd1_q1 (c : Dev nD) (t : Fin cfg0.N) : k0_pay79 (k0_pay3 (iblk m c 8 t)) (k0_pay4 (iblk m c 9 t)) (k0_pay7 (@View.ld (Elt Ideal) S16x128x32 .f32 (iblk m c 0 t) (Rect.unit ![8, 0, 0] ![8, 128, 32] inb_S16x128x32_S8x128x32_8_0_0))) (k0_pay8 (@View.ld (Elt Ideal) S16x128x32 .f32 (iblk m c 1 t) (Rect.unit ![8, 0, 0] ![8, 128, 32] inb_S16x128x32_S8x128x32_8_0_0)))
    = (hd1 m c t).q1 :=
  by simp only [HeadIn.q1, hd1]; exact Second.q1_eq _ _ _ _

theorem hd1_q2 (c : Dev nD) (t : Fin cfg0.N) : k0_pay80 (k0_pay3 (iblk m c 8 t)) (k0_pay4 (iblk m c 9 t)) (k0_pay7 (@View.ld (Elt Ideal) S16x128x32 .f32 (iblk m c 0 t) (Rect.unit ![8, 0, 0] ![8, 128, 32] inb_S16x128x32_S8x128x32_8_0_0))) (k0_pay8 (@View.ld (Elt Ideal) S16x128x32 .f32 (iblk m c 1 t) (Rect.unit ![8, 0, 0] ![8, 128, 32] inb_S16x128x32_S8x128x32_8_0_0)))
    = (hd1 m c t).q2 :=
  by simp only [HeadIn.q2, hd1]; exact Second.q2_eq _ _ _ _

theorem hd1_cos2 (c : Dev nD) (t : Fin cfg0.N) : k0_pay81 (k0_pay3 (iblk m c 8 t)) (k0_pay5 (iblk m c 10 t))
    = (hd1 m c t).cos2 :=
  by simp only [HeadIn.cos2, hd1]; exact Second.cos2_eq _ _

theorem hd1_sin2 (c : Dev nD) (t : Fin cfg0.N) : k0_pay82 (k0_pay4 (iblk m c 9 t)) (k0_pay6 (iblk m c 11 t))
    = (hd1 m c t).sin2 :=
  by simp only [HeadIn.sin2, hd1]; exact Second.sin2_eq _ _

theorem hd1_k1 (c : Dev nD) (t : Fin cfg0.N) : k0_pay85 (k0_pay3 (iblk m c 8 t)) (k0_pay4 (iblk m c 9 t)) (k0_pay5 (iblk m c 10 t)) (k0_pay6 (iblk m c 11 t)) (k0_pay9 (@View.ld (Elt Ideal) S2x128x32 .f32 (iblk m c 2 t) (Rect.unit ![1, 0, 0] ![1, 128, 32] inb_S2x128x32_S1x128x32_1_0_0))) (k0_pay10 (@View.ld (Elt Ideal) S2x128x32 .f32 (iblk m c 3 t) (Rect.unit ![1, 0, 0] ![1, 128, 32] inb_S2x128x32_S1x128x32_1_0_0))) (@View.ld (Elt Ideal) S2x128x32 .f32 (iblk m c 4 t) (Rect.unit ![1, 0, 0] ![1, 128, 32] inb_S2x128x32_S1x128x32_1_0_0)) (@View.ld (Elt Ideal) S2x128x32 .f32 (iblk m c 5 t) (Rect.unit ![1, 0, 0] ![1, 128, 32] inb_S2x128x32_S1x128x32_1_0_0))
    = (hd1 m c t).k1 :=
  by simp only [HeadIn.k1, hd1]; exact Second.k1_eq _ _ _ _ _ _ _ _

theorem hd1_k2 (c : Dev nD) (t : Fin cfg0.N) : k0_pay86 (k0_pay3 (iblk m c 8 t)) (k0_pay4 (iblk m c 9 t)) (k0_pay5 (iblk m c 10 t)) (k0_pay6 (iblk m c 11 t)) (k0_pay9 (@View.ld (Elt Ideal) S2x128x32 .f32 (iblk m c 2 t) (Rect.unit ![1, 0, 0] ![1, 128, 32] inb_S2x128x32_S1x128x32_1_0_0))) (k0_pay10 (@View.ld (Elt Ideal) S2x128x32 .f32 (iblk m c 3 t) (Rect.unit ![1, 0, 0] ![1, 128, 32] inb_S2x128x32_S1x128x32_1_0_0))) (@View.ld (Elt Ideal) S2x128x32 .f32 (iblk m c 4 t) (Rect.unit ![1, 0, 0] ![1, 128, 32] inb_S2x128x32_S1x128x32_1_0_0)) (@View.ld (Elt Ideal) S2x128x32 .f32 (iblk m c 5 t) (Rect.unit ![1, 0, 0] ![1, 128, 32] inb_S2x128x32_S1x128x32_1_0_0))
    = (hd1 m c t).k2 :=
  by simp only [HeadIn.k2, hd1]; exact Second.k2_eq _ _ _ _ _ _ _ _

theorem hd1_vv (c : Dev nD) (t : Fin cfg0.N) : k0_pay87 (@View.ld (Elt Ideal) S2x128x64 .f32 (iblk m c 6 t) (Rect.unit ![1, 0, 0] ![1, 128, 64] inb_S2x128x64_S1x128x64_1_0_0)) (@View.ld (Elt Ideal) S2x128x64 .f32 (iblk m c 7 t) (Rect.unit ![1, 0, 0] ![1, 128, 64] inb_S2x128x64_S1x128x64_1_0_0))
    = (hd1 m c t).vv :=
  by simp only [HeadIn.vv, hd1]; exact Second.vv_eq _ _

theorem hd1_ok (c : Dev nD) (t : Fin cfg0.N) : k0_pay89 (BitVec.ofNat 32 (grid0.coords t 0).val)
    = (hd1 m c t).ok :=
  by simp only [HeadIn.ok, hd1]; exact Second.ok_eq _

theorem hd1_ms (c : Dev nD) (t : Fin cfg0.N) : k0_pay90 (BitVec.ofNat 32 (grid0.coords t 0).val) (hd1 m c t).q2 (hd1 m c t).k2 (k0_pay88 (k0_pay3 (iblk m c 8 t)) (k0_pay4 (iblk m c 9 t)) (k0_pay5 (iblk m c 10 t)) (k0_pay6 (iblk m c 11 t)) (k0_pay7 (@View.ld (Elt Ideal) S16x128x32 .f32 (iblk m c 0 t) (Rect.unit ![8, 0, 0] ![8, 128, 32] inb_S16x128x32_S8x128x32_8_0_0))) (k0_pay8 (@View.ld (Elt Ideal) S16x128x32 .f32 (iblk m c 1 t) (Rect.unit ![8, 0, 0] ![8, 128, 32] inb_S16x128x32_S8x128x32_8_0_0))) (k0_pay9 (@View.ld (Elt Ideal) S2x128x32 .f32 (iblk m c 2 t) (Rect.unit ![1, 0, 0] ![1, 128, 32] inb_S2x128x32_S1x128x32_1_0_0))) (k0_pay10 (@View.ld (Elt Ideal) S2x128x32 .f32 (iblk m c 3 t) (Rect.unit ![1, 0, 0] ![1, 128, 32] inb_S2x128x32_S1x128x32_1_0_0))) (@View.ld (Elt Ideal) S2x128x32 .f32 (iblk m c 4 t) (Rect.unit ![1, 0, 0] ![1, 128, 32] inb_S2x128x32_S1x128x32_1_0_0)) (@View.ld (Elt Ideal) S2x128x32 .f32 (iblk m c 5 t) (Rect.unit ![1, 0, 0] ![1, 128, 32] inb_S2x128x32_S1x128x32_1_0_0)))
    = (hd1 m c t).ms :=
  by simp only [HeadIn.ms, HeadIn.s, HeadIn.q2, HeadIn.k2, hd1]; exact Second.ms_eq _ _ _ _ _ _ _ _ _ _ _

theorem hd1_eqm (c : Dev nD) (t : Fin cfg0.N) : k0_pay93 (BitVec.ofNat 32 (grid0.coords t 0).val) (hd1 m c t).q2 (hd1 m c t).k2 (k0_pay88 (k0_pay3 (iblk m c 8 t)) (k0_pay4 (iblk m c 9 t)) (k0_pay5 (iblk m c 10 t)) (k0_pay6 (iblk m c 11 t)) (k0_pay7 (@View.ld (Elt Ideal) S16x128x32 .f32 (iblk m c 0 t) (Rect.unit ![8, 0, 0] ![8, 128, 32] inb_S16x128x32_S8x128x32_8_0_0))) (k0_pay8 (@View.ld (Elt Ideal) S16x128x32 .f32 (iblk m c 1 t) (Rect.unit ![8, 0, 0] ![8, 128, 32] inb_S16x128x32_S8x128x32_8_0_0))) (k0_pay9 (@View.ld (Elt Ideal) S2x128x32 .f32 (iblk m c 2 t) (Rect.unit ![1, 0, 0] ![1, 128, 32] inb_S2x128x32_S1x128x32_1_0_0))) (k0_pay10 (@View.ld (Elt Ideal) S2x128x32 .f32 (iblk m c 3 t) (Rect.unit ![1, 0, 0] ![1, 128, 32] inb_S2x128x32_S1x128x32_1_0_0))) (@View.ld (Elt Ideal) S2x128x32 .f32 (iblk m c 4 t) (Rect.unit ![1, 0, 0] ![1, 128, 32] inb_S2x128x32_S1x128x32_1_0_0)) (@View.ld (Elt Ideal) S2x128x32 .f32 (iblk m c 5 t) (Rect.unit ![1, 0, 0] ![1, 128, 32] inb_S2x128x32_S1x128x32_1_0_0)))
    = (hd1 m c t).eqm :=
  Second.eqm_eq (hd1_ms m c t)

theorem hd1_cnt (c : Dev nD) (t : Fin cfg0.N) : k0_pay94 (BitVec.ofNat 32 (grid0.coords t 0).val) (hd1 m c t).q2 (hd1 m c t).k2 (k0_pay88 (k0_pay3 (iblk m c 8 t)) (k0_pay4 (iblk m c 9 t)) (k0_pay5 (iblk m c 10 t)) (k0_pay6 (iblk m c 11 t)) (k0_pay7 (@View.ld (Elt Ideal) S16x128x32 .f32 (iblk m c 0 t) (Rect.unit ![8, 0, 0] ![8, 128, 32] inb_S16x128x32_S8x128x32_8_0_0))) (k0_pay8 (@View.ld (Elt Ideal) S16x128x32 .f32 (iblk m c 1 t) (Rect.unit ![8, 0, 0] ![8, 128, 32] inb_S16x128x32_S8x128x32_8_0_0))) (k0_pay9 (@View.ld (Elt Ideal) S2x128x32 .f32 (iblk m c 2 t) (Rect.unit ![1, 0, 0] ![1, 128, 32] inb_S2x128x32_S1x128x32_1_0_0))) (k0_pay10 (@View.ld (Elt Ideal) S2x128x32 .f32 (iblk m c 3 t) (Rect.unit ![1, 0, 0] ![1, 128, 32] inb_S2x128x32_S1x128x32_1_0_0))) (@View.ld (Elt Ideal) S2x128x32 .f32 (iblk m c 4 t) (Rect.unit ![1, 0, 0] ![1, 128, 32] inb_S2x128x32_S1x128x32_1_0_0)) (@View.ld (Elt Ideal) S2x128x32 .f32 (iblk m c 5 t) (Rect.unit ![1, 0, 0] ![1, 128, 32] inb_S2x128x32_S1x128x32_1_0_0)))
    = (hd1 m c t).cnt :=
  Second.cnt_eq (hd1_ms m c t)

theorem hd1_mx (c : Dev nD) (t : Fin cfg0.N) : k0_pay96 (BitVec.ofNat 32 (grid0.coords t 0).val) (k0_pay15 (@View.ld (Elt Ideal) S2x8x1 .f32 (iblk m c 12 t) (Rect.unit ![1, 0, 0] ![1, 8, 1] inb_S2x8x1_S1x8x1_1_0_0))) (hd1 m c t).q2 (hd1 m c t).k2 (k0_pay88 (k0_pay3 (iblk m c 8 t)) (k0_pay4 (iblk m c 9 t)) (k0_pay5 (iblk m c 10 t)) (k0_pay6 (iblk m c 11 t)) (k0_pay7 (@View.ld (Elt Ideal) S16x128x32 .f32 (iblk m c 0 t) (Rect.unit ![8, 0, 0] ![8, 128, 32] inb_S16x128x32_S8x128x32_8_0_0))) (k0_pay8 (@View.ld (Elt Ideal) S16x128x32 .f32 (iblk m c 1 t) (Rect.unit ![8, 0, 0] ![8, 128, 32] inb_S16x128x32_S8x128x32_8_0_0))) (k0_pay9 (@View.ld (Elt Ideal) S2x128x32 .f32 (iblk m c 2 t) (Rect.unit ![1, 0, 0] ![1, 128, 32] inb_S2x128x32_S1x128x32_1_0_0))) (k0_pay10 (@View.ld (Elt Ideal) S2x128x32 .f32 (iblk m c 3 t) (Rect.unit ![1, 0, 0] ![1, 128, 32] inb_S2x128x32_S1x128x32_1_0_0))) (@View.ld (Elt Ideal) S2x128x32 .f32 (iblk m c 4 t) (Rect.unit ![1, 0, 0] ![1, 128, 32] inb_S2x128x32_S1x128x32_1_0_0)) (@View.ld (Elt Ideal) S2x128x32 .f32 (iblk m c 5 t) (Rect.unit ![1, 0, 0] ![1, 128, 32] inb_S2x128x32_S1x128x32_1_0_0)))
    = (hd1 m c t).mx :=
  Second.mx_eq (hd1_ms m c t) _

theorem hd1_wr (c : Dev nD) (t : Fin cfg0.N) : k0_pay97 (BitVec.ofNat 32 (grid0.coords t 0).val) (k0_pay15 (@View.ld (Elt Ideal) S2x8x1 .f32 (iblk m c 12 t) (Rect.unit ![1, 0, 0] ![1, 8, 1] inb_S2x8x1_S1x8x1_1_0_0))) (hd1 m c t).q2 (hd1 m c t).k2 (k0_pay88 (k0_pay3 (iblk m c 8 t)) (k0_pay4 (iblk m c 9 t)) (k0_pay5 (iblk m c 10 t)) (k0_pay6 (iblk m c 11 t)) (k0_pay7 (@View.ld (Elt Ideal) S16x128x32 .f32 (iblk m c 0 t) (Rect.unit ![8, 0, 0] ![8, 128, 32] inb_S16x128x32_S8x128x32_8_0_0))) (k0_pay8 (@View.ld (Elt Ideal) S16x128x32 .f32 (iblk m c 1 t) (Rect.unit ![8, 0, 0] ![8, 128, 32] inb_S16x128x32_S8x128x32_8_0_0))) (k0_pay9 (@View.ld (Elt Ideal) S2x128x32 .f32 (iblk m c 2 t) (Rect.unit ![1, 0, 0] ![1, 128, 32] inb_S2x128x32_S1x128x32_1_0_0))) (k0_pay10 (@View.ld (Elt Ideal) S2x128x32 .f32 (iblk m c 3 t) (Rect.unit ![1, 0, 0] ![1, 128, 32] inb_S2x128x32_S1x128x32_1_0_0))) (@View.ld (Elt Ideal) S2x128x32 .f32 (iblk m c 4 t) (Rect.unit ![1, 0, 0] ![1, 128, 32] inb_S2x128x32_S1x128x32_1_0_0)) (@View.ld (Elt Ideal) S2x128x32 .f32 (iblk m c 5 t) (Rect.unit ![1, 0, 0] ![1, 128, 32] inb_S2x128x32_S1x128x32_1_0_0)))
    = (hd1 m c t).wr :=
  Second.wr_eq (hd1_ms m c t) _

theorem hd1_ws (c : Dev nD) (t : Fin cfg0.N) : k0_pay100 (k0_pay98 (BitVec.ofNat 32 (grid0.coords t 0).val) (k0_pay15 (@View.ld (Elt Ideal) S2x8x1 .f32 (iblk m c 12 t) (Rect.unit ![1, 0, 0] ![1, 8, 1] inb_S2x8x1_S1x8x1_1_0_0))) (hd1 m c t).q2 (hd1 m c t).k2 (k0_pay88 (k0_pay3 (iblk m c 8 t)) (k0_pay4 (iblk m c 9 t)) (k0_pay5 (iblk m c 10 t)) (k0_pay6 (iblk m c 11 t)) (k0_pay7 (@View.ld (Elt Ideal) S16x128x32 .f32 (iblk m c 0 t) (Rect.unit ![8, 0, 0] ![8, 128, 32] inb_S16x128x32_S8x128x32_8_0_0))) (k0_pay8 (@View.ld (Elt Ideal) S16x128x32 .f32 (iblk m c 1 t) (Rect.unit ![8, 0, 0] ![8, 128, 32] inb_S16x128x32_S8x128x32_8_0_0))) (k0_pay9 (@View.ld (Elt Ideal) S2x128x32 .f32 (iblk m c 2 t) (Rect.unit ![1, 0, 0] ![1, 128, 32] inb_S2x128x32_S1x128x32_1_0_0))) (k0_pay10 (@View.ld (Elt Ideal) S2x128x32 .f32 (iblk m c 3 t) (Rect.unit ![1, 0, 0] ![1, 128, 32] inb_S2x128x32_S1x128x32_1_0_0))) (@View.ld (Elt Ideal) S2x128x32 .f32 (iblk m c 4 t) (Rect.unit ![1, 0, 0] ![1, 128, 32] inb_S2x128x32_S1x128x32_1_0_0)) (@View.ld (Elt Ideal) S2x128x32 .f32 (iblk m c 5 t) (Rect.unit ![1, 0, 0] ![1, 128, 32] inb_S2x128x32_S1x128x32_1_0_0)))) (k0_pay99 (BitVec.ofNat 32 (grid0.coords t 0).val) (k0_pay15 (@View.ld (Elt Ideal) S2x8x1 .f32 (iblk m c 12 t) (Rect.unit ![1, 0, 0] ![1, 8, 1] inb_S2x8x1_S1x8x1_1_0_0))) (hd1 m c t).q2 (hd1 m c t).k2 (k0_pay88 (k0_pay3 (iblk m c 8 t)) (k0_pay4 (iblk m c 9 t)) (k0_pay5 (iblk m c 10 t)) (k0_pay6 (iblk m c 11 t)) (k0_pay7 (@View.ld (Elt Ideal) S16x128x32 .f32 (iblk m c 0 t) (Rect.unit ![8, 0, 0] ![8, 128, 32] inb_S16x128x32_S8x128x32_8_0_0))) (k0_pay8 (@View.ld (Elt Ideal) S16x128x32 .f32 (iblk m c 1 t) (Rect.unit ![8, 0, 0] ![8, 128, 32] inb_S16x128x32_S8x128x32_8_0_0))) (k0_pay9 (@View.ld (Elt Ideal) S2x128x32 .f32 (iblk m c 2 t) (Rect.unit ![1, 0, 0] ![1, 128, 32] inb_S2x128x32_S1x128x32_1_0_0))) (k0_pay10 (@View.ld (Elt Ideal) S2x128x32 .f32 (iblk m c 3 t) (Rect.unit ![1, 0, 0] ![1, 128, 32] inb_S2x128x32_S1x128x32_1_0_0))) (@View.ld (Elt Ideal) S2x128x32 .f32 (iblk m c 4 t) (Rect.unit ![1, 0, 0] ![1, 128, 32] inb_S2x128x32_S1x128x32_1_0_0)) (@View.ld (Elt Ideal) S2x128x32 .f32 (iblk m c 5 t) (Rect.unit ![1, 0, 0] ![1, 128, 32] inb_S2x128x32_S1x128x32_1_0_0))))
    = (hd1 m c t).ws :=
  Second.ws_eq (hd1_ms m c t) _

theorem hd1_e (c : Dev nD) (t : Fin cfg0.N) : k0_pay101 (hd1 m c t).ms (hd1 m c t).mx
    = (hd1 m c t).e :=
  Second.e_eq _ rfl rfl

theorem hd1_h (c : Dev nD) (t : Fin cfg0.N) : (hd1 m c t).ms = k0_pay32 (hd1 m c t).s k0_pay28 k0_pay29 (k0_pay30 (hd1 m c t).n) := by rw [HeadIn.ms]

theorem hd1_hx (c : Dev nD) (t : Fin cfg0.N) : (hd1 m c t).mx = k0_pay38 (hd1 m c t).sk (hd1 m c t).s k0_pay28 k0_pay29 (k0_pay30 (hd1 m c t).n) := by rw [HeadIn.mx]

theorem hd1_from (c : Dev nD) (t : Fin cfg0.N) : Second.From (hd1 m c t).ms (k0_pay91 (k0_pay15 (@View.ld (Elt Ideal) S2x8x1 .f32 (iblk m c 12 t) (Rect.unit ![1, 0, 0] ![1, 8, 1] inb_S2x8x1_S1x8x1_1_0_0)))) (hd1 m c t).mx (hd1 m c t).e (hd1 m c t).es (hd1 m c t).z (hd1 m c t).zz :=
  ⟨hd1_e m c t, Second.es_eq (hd1 m c t).sk (hd1_h m c t) (hd1_hx m c t), Second.z_eq (hd1 m c t).sk (hd1_h m c t) (hd1_hx m c t), by simp only [HeadIn.zz, HeadIn.z, k0_pay45]⟩

theorem hd1_dv (c : Dev nD) (t : Fin cfg0.N) : k0_pay105 (hd1 m c t).ms (k0_pay91 (k0_pay15 (@View.ld (Elt Ideal) S2x8x1 .f32 (iblk m c 12 t) (Rect.unit ![1, 0, 0] ![1, 8, 1] inb_S2x8x1_S1x8x1_1_0_0)))) (hd1 m c t).mx (@View.ld (Elt Ideal) S16x128x64 .f32 (iblk m c 13 t) (Rect.unit ![8, 0, 0] ![8, 128, 64] inb_S16x128x64_S8x128x64_8_0_0))
    = (hd1 m c t).dv :=
  Second.dv_eq _ rfl rfl _

theorem hd1_sink (c : Dev nD) (t : Fin cfg0.N) : k0_pay115 (hd1 m c t).ws (hd1 m c t).e (k0_pay108 (hd1 m c t).vv (hd1 m c t).ms (k0_pay91 (k0_pay15 (@View.ld (Elt Ideal) S2x8x1 .f32 (iblk m c 12 t) (Rect.unit ![1, 0, 0] ![1, 8, 1] inb_S2x8x1_S1x8x1_1_0_0)))) (hd1 m c t).mx (@View.ld (Elt Ideal) S16x128x64 .f32 (iblk m c 13 t) (Rect.unit ![8, 0, 0] ![8, 128, 64] inb_S16x128x64_S8x128x64_8_0_0))) (k0_pay110 (hd1 m c t).vv (hd1 m c t).ms (k0_pay91 (k0_pay15 (@View.ld (Elt Ideal) S2x8x1 .f32 (iblk m c 12 t) (Rect.unit ![1, 0, 0] ![1, 8, 1] inb_S2x8x1_S1x8x1_1_0_0)))) (hd1 m c t).mx (@View.ld (Elt Ideal) S16x128x64 .f32 (iblk m c 13 t) (Rect.unit ![8, 0, 0] ![8, 128, 64] inb_S16x128x64_S8x128x64_8_0_0))) (k0_pay111 (hd1 m c t).vv (hd1 m c t).ms (k0_pay91 (k0_pay15 (@View.ld (Elt Ideal) S2x8x1 .f32 (iblk m c 12 t) (Rect.unit ![1, 0, 0] ![1, 8, 1] inb_S2x8x1_S1x8x1_1_0_0)))) (hd1 m c t).mx (@View.ld (Elt Ideal) S16x128x64 .f32 (iblk m c 13 t) (Rect.unit ![8, 0, 0] ![8, 128, 64] inb_S16x128x64_S8x128x64_8_0_0))) (k0_pay112 (hd1 m c t).vv (hd1 m c t).ms (k0_pay91 (k0_pay15 (@View.ld (Elt Ideal) S2x8x1 .f32 (iblk m c 12 t) (Rect.unit ![1, 0, 0] ![1, 8, 1] inb_S2x8x1_S1x8x1_1_0_0)))) (hd1 m c t).mx (@View.ld (Elt Ideal) S16x128x64 .f32 (iblk m c 13 t) (Rect.unit ![8, 0, 0] ![8, 128, 64] inb_S16x128x64_S8x128x64_8_0_0)))
    = flat (hd1 m c t).dsink :=
  Second.dsink_eq (hd1_from m c t) _ _

theorem hd1_outqb (c : Dev nD) (t : Fin cfg0.N) : k0_pay131 (k0_pay77 (k0_pay3 (iblk m c 8 t))) (k0_pay78 (k0_pay4 (iblk m c 9 t))) (k0_pay117 (hd1 m c t).k2 (hd1 m c t).ok (hd1 m c t).eqm (hd1 m c t).cnt (hd1 m c t).wr (hd1 m c t).e (k0_pay108 (hd1 m c t).vv (hd1 m c t).ms (k0_pay91 (k0_pay15 (@View.ld (Elt Ideal) S2x8x1 .f32 (iblk m c 12 t) (Rect.unit ![1, 0, 0] ![1, 8, 1] inb_S2x8x1_S1x8x1_1_0_0)))) (hd1 m c t).mx (@View.ld (Elt Ideal) S16x128x64 .f32 (iblk m c 13 t) (Rect.unit ![8, 0, 0] ![8, 128, 64] inb_S16x128x64_S8x128x64_8_0_0))) (k0_pay111 (hd1 m c t).vv (hd1 m c t).ms (k0_pay91 (k0_pay15 (@View.ld (Elt Ideal) S2x8x1 .f32 (iblk m c 12 t) (Rect.unit ![1, 0, 0] ![1, 8, 1] inb_S2x8x1_S1x8x1_1_0_0)))) (hd1 m c t).mx (@View.ld (Elt Ideal) S16x128x64 .f32 (iblk m c 13 t) (Rect.unit ![8, 0, 0] ![8, 128, 64] inb_S16x128x64_S8x128x64_8_0_0))) (k0_pay112 (hd1 m c t).vv (hd1 m c t).ms (k0_pay91 (k0_pay15 (@View.ld (Elt Ideal) S2x8x1 .f32 (iblk m c 12 t) (Rect.unit ![1, 0, 0] ![1, 8, 1] inb_S2x8x1_S1x8x1_1_0_0)))) (hd1 m c t).mx (@View.ld (Elt Ideal) S16x128x64 .f32 (iblk m c 13 t) (Rect.unit ![8, 0, 0] ![8, 128, 64] inb_S16x128x64_S8x128x64_8_0_0)))) (k0_pay119 (hd1 m c t).k1 (hd1 m c t).ok (hd1 m c t).eqm (hd1 m c t).cnt (hd1 m c t).wr (hd1 m c t).e (k0_pay108 (hd1 m c t).vv (hd1 m c t).ms (k0_pay91 (k0_pay15 (@View.ld (Elt Ideal) S2x8x1 .f32 (iblk m c 12 t) (Rect.unit ![1, 0, 0] ![1, 8, 1] inb_S2x8x1_S1x8x1_1_0_0)))) (hd1 m c t).mx (@View.ld (Elt Ideal) S16x128x64 .f32 (iblk m c 13 t) (Rect.unit ![8, 0, 0] ![8, 128, 64] inb_S16x128x64_S8x128x64_8_0_0))) (k0_pay111 (hd1 m c t).vv (hd1 m c t).ms (k0_pay91 (k0_pay15 (@View.ld (Elt Ideal) S2x8x1 .f32 (iblk m c 12 t) (Rect.unit ![1, 0, 0] ![1, 8, 1] inb_S2x8x1_S1x8x1_1_0_0)))) (hd1 m c t).mx (@View.ld (Elt Ideal) S16x128x64 .f32 (iblk m c 13 t) (Rect.unit ![8, 0, 0] ![8, 128, 64] inb_S16x128x64_S8x128x64_8_0_0))) (k0_pay112 (hd1 m c t).vv (hd1 m c t).ms (k0_pay91 (k0_pay15 (@View.ld (Elt Ideal) S2x8x1 .f32 (iblk m c 12 t) (Rect.unit ![1, 0, 0] ![1, 8, 1] inb_S2x8x1_S1x8x1_1_0_0)))) (hd1 m c t).mx (@View.ld (Elt Ideal) S16x128x64 .f32 (iblk m c 13 t) (Rect.unit ![8, 0, 0] ![8, 128, 64] inb_S16x128x64_S8x128x64_8_0_0))))
    = (hd1 m c t).outqb :=
  (Second.outq (Second.dss_eq (hd1_from m c t) _ _ _ _ _) _ _ _ _).1

theorem hd1_outqa (c : Dev nD) (t : Fin cfg0.N) : k0_pay132 (k0_pay77 (k0_pay3 (iblk m c 8 t))) (k0_pay78 (k0_pay4 (iblk m c 9 t))) (k0_pay117 (hd1 m c t).k2 (hd1 m c t).ok (hd1 m c t).eqm (hd1 m c t).cnt (hd1 m c t).wr (hd1 m c t).e (k0_pay108 (hd1 m c t).vv (hd1 m c t).ms (k0_pay91 (k0_pay15 (@View.ld (Elt Ideal) S2x8x1 .f32 (iblk m c 12 t) (Rect.unit ![1, 0, 0] ![1, 8, 1] inb_S2x8x1_S1x8x1_1_0_0)))) (hd1 m c t).mx (@View.ld (Elt Ideal) S16x128x64 .f32 (iblk m c 13 t) (Rect.unit ![8, 0, 0] ![8, 128, 64] inb_S16x128x64_S8x128x64_8_0_0))) (k0_pay111 (hd1 m c t).vv (hd1 m c t).ms (k0_pay91 (k0_pay15 (@View.ld (Elt Ideal) S2x8x1 .f32 (iblk m c 12 t) (Rect.unit ![1, 0, 0] ![1, 8, 1] inb_S2x8x1_S1x8x1_1_0_0)))) (hd1 m c t).mx (@View.ld (Elt Ideal) S16x128x64 .f32 (iblk m c 13 t) (Rect.unit ![8, 0, 0] ![8, 128, 64] inb_S16x128x64_S8x128x64_8_0_0))) (k0_pay112 (hd1 m c t).vv (hd1 m c t).ms (k0_pay91 (k0_pay15 (@View.ld (Elt Ideal) S2x8x1 .f32 (iblk m c 12 t) (Rect.unit ![1, 0, 0] ![1, 8, 1] inb_S2x8x1_S1x8x1_1_0_0)))) (hd1 m c t).mx (@View.ld (Elt Ideal) S16x128x64 .f32 (iblk m c 13 t) (Rect.unit ![8, 0, 0] ![8, 128, 64] inb_S16x128x64_S8x128x64_8_0_0)))) (k0_pay119 (hd1 m c t).k1 (hd1 m c t).ok (hd1 m c t).eqm (hd1 m c t).cnt (hd1 m c t).wr (hd1 m c t).e (k0_pay108 (hd1 m c t).vv (hd1 m c t).ms (k0_pay91 (k0_pay15 (@View.ld (Elt Ideal) S2x8x1 .f32 (iblk m c 12 t) (Rect.unit ![1, 0, 0] ![1, 8, 1] inb_S2x8x1_S1x8x1_1_0_0)))) (hd1 m c t).mx (@View.ld (Elt Ideal) S16x128x64 .f32 (iblk m c 13 t) (Rect.unit ![8, 0, 0] ![8, 128, 64] inb_S16x128x64_S8x128x64_8_0_0))) (k0_pay111 (hd1 m c t).vv (hd1 m c t).ms (k0_pay91 (k0_pay15 (@View.ld (Elt Ideal) S2x8x1 .f32 (iblk m c 12 t) (Rect.unit ![1, 0, 0] ![1, 8, 1] inb_S2x8x1_S1x8x1_1_0_0)))) (hd1 m c t).mx (@View.ld (Elt Ideal) S16x128x64 .f32 (iblk m c 13 t) (Rect.unit ![8, 0, 0] ![8, 128, 64] inb_S16x128x64_S8x128x64_8_0_0))) (k0_pay112 (hd1 m c t).vv (hd1 m c t).ms (k0_pay91 (k0_pay15 (@View.ld (Elt Ideal) S2x8x1 .f32 (iblk m c 12 t) (Rect.unit ![1, 0, 0] ![1, 8, 1] inb_S2x8x1_S1x8x1_1_0_0)))) (hd1 m c t).mx (@View.ld (Elt Ideal) S16x128x64 .f32 (iblk m c 13 t) (Rect.unit ![8, 0, 0] ![8, 128, 64] inb_S16x128x64_S8x128x64_8_0_0))))
    = (hd1 m c t).outqa :=
  (Second.outq (Second.dss_eq (hd1_from m c t) _ _ _ _ _) _ _ _ _).2

theorem hd1_outkb (c : Dev nD) (t : Fin cfg0.N) : k0_pay123 (hd1 m c t).q1 (hd1 m c t).q2 (hd1 m c t).cos2 (hd1 m c t).sin2 (hd1 m c t).ok (hd1 m c t).eqm (hd1 m c t).cnt (hd1 m c t).wr (hd1 m c t).e (k0_pay108 (hd1 m c t).vv (hd1 m c t).ms (k0_pay91 (k0_pay15 (@View.ld (Elt Ideal) S2x8x1 .f32 (iblk m c 12 t) (Rect.unit ![1, 0, 0] ![1, 8, 1] inb_S2x8x1_S1x8x1_1_0_0)))) (hd1 m c t).mx (@View.ld (Elt Ideal) S16x128x64 .f32 (iblk m c 13 t) (Rect.unit ![8, 0, 0] ![8, 128, 64] inb_S16x128x64_S8x128x64_8_0_0))) (k0_pay111 (hd1 m c t).vv (hd1 m c t).ms (k0_pay91 (k0_pay15 (@View.ld (Elt Ideal) S2x8x1 .f32 (iblk m c 12 t) (Rect.unit ![1, 0, 0] ![1, 8, 1] inb_S2x8x1_S1x8x1_1_0_0)))) (hd1 m c t).mx (@View.ld (Elt Ideal) S16x128x64 .f32 (iblk m c 13 t) (Rect.unit ![8, 0, 0] ![8, 128, 64] inb_S16x128x64_S8x128x64_8_0_0))) (k0_pay112 (hd1 m c t).vv (hd1 m c t).ms (k0_pay91 (k0_pay15 (@View.ld (Elt Ideal) S2x8x1 .f32 (iblk m c 12 t) (Rect.unit ![1, 0, 0] ![1, 8, 1] inb_S2x8x1_S1x8x1_1_0_0)))) (hd1 m c t).mx (@View.ld (Elt Ideal) S16x128x64 .f32 (iblk m c 13 t) (Rect.unit ![8, 0, 0] ![8, 128, 64] inb_S16x128x64_S8x128x64_8_0_0)))
    = (hd1 m c t).outkb :=
  (Second.outk (Second.dss_eq (hd1_from m c t) _ _ _ _ _) _ _ _ _).1

theorem hd1_outka (c : Dev nD) (t : Fin cfg0.N) : k0_pay124 (hd1 m c t).q1 (hd1 m c t).q2 (hd1 m c t).cos2 (hd1 m c t).sin2 (hd1 m c t).ok (hd1 m c t).eqm (hd1 m c t).cnt (hd1 m c t).wr (hd1 m c t).e (k0_pay108 (hd1 m c t).vv (hd1 m c t).ms (k0_pay91 (k0_pay15 (@View.ld (Elt Ideal) S2x8x1 .f32 (iblk m c 12 t) (Rect.unit ![1, 0, 0] ![1, 8, 1] inb_S2x8x1_S1x8x1_1_0_0)))) (hd1 m c t).mx (@View.ld (Elt Ideal) S16x128x64 .f32 (iblk m c 13 t) (Rect.unit ![8, 0, 0] ![8, 128, 64] inb_S16x128x64_S8x128x64_8_0_0))) (k0_pay111 (hd1 m c t).vv (hd1 m c t).ms (k0_pay91 (k0_pay15 (@View.ld (Elt Ideal) S2x8x1 .f32 (iblk m c 12 t) (Rect.unit ![1, 0, 0] ![1, 8, 1] inb_S2x8x1_S1x8x1_1_0_0)))) (hd1 m c t).mx (@View.ld (Elt Ideal) S16x128x64 .f32 (iblk m c 13 t) (Rect.unit ![8, 0, 0] ![8, 128, 64] inb_S16x128x64_S8x128x64_8_0_0))) (k0_pay112 (hd1 m c t).vv (hd1 m c t).ms (k0_pay91 (k0_pay15 (@View.ld (Elt Ideal) S2x8x1 .f32 (iblk m c 12 t) (Rect.unit ![1, 0, 0] ![1, 8, 1] inb_S2x8x1_S1x8x1_1_0_0)))) (hd1 m c t).mx (@View.ld (Elt Ideal) S16x128x64 .f32 (iblk m c 13 t) (Rect.unit ![8, 0, 0] ![8, 128, 64] inb_S16x128x64_S8x128x64_8_0_0)))
    = (hd1 m c t).outka :=
  (Second.outk (Second.dss_eq (hd1_from m c t) _ _ _ _ _) _ _ _ _).2
end SwaGrad
-- ==== Proof.Heads.lean ====
/- What the kernel's body reads for each key/value head at a grid point is the block of the attention there. -/
module

public import proofs.«01_k».proof.Proof.Reads
public import proofs.«01_k».proof.Proof.Body

@[expose] public section

set_option maxRecDepth 16384

noncomputable section

namespace SwaGrad

open Idealize.ShloMosaic Idealize.ShloMosaic.TcCoe Idealize.SL.Sem
open Cert.KernelIdeal Cert.KernelIdeal.Gen

variable (m : (ℓ : Loc nD τ sig) → Buf (Elt Ideal) ℓ) (c : Dev nD)

theorem coord : ∀ t : Fin 16, (grid0.coords t 0).val = t.val := by decide +kernel

/-- What a head of the body holds at block `n`, of key/value head `kv`. -/
abbrev HeadOf (x : Inp) (kv : Fin 2) (n : Fin 16) (h : HeadIn) : Prop :=
  Holds h (x.blk false kv n) (fun i d => x.C (row (prev n) i) d) (fun i d => x.S (row (prev n) i) d)
    (fun i d => x.C (row n i) d) (fun i d => x.S (row n i) d) (fun g i d => x.qa (head kv g) (row n i) d)
    (fun g i d => x.qb (head kv g) (row n i) d) (fun j d => x.ka kv (bandRow n j) d) (fun j d => x.kb kv (bandRow n j) d) n.val

variable {x : Inp} (H : KHolds m c x)
include H

theorem f_cq0 (t : Fin 16) (i : Fin 128) (d : Fin 32) : ((hd0 m c t).cq (ix2 i d) : EReal) = (x.C (row t i) d : EReal) := by
  refine Eq.trans ?_ (b8 m c H t i d)
  unfold hd0
  generalize iblk m c 8 t = B
  pointwise [k0_pay3]
theorem f_sq0 (t : Fin 16) (i : Fin 128) (d : Fin 32) : ((hd0 m c t).sq (ix2 i d) : EReal) = (x.S (row t i) d : EReal) := by
  refine Eq.trans ?_ (b9 m c H t i d)
  unfold hd0
  generalize iblk m c 9 t = B
  pointwise [k0_pay4]
theorem f_cp0 (t : Fin 16) (i : Fin 128) (d : Fin 32) : ((hd0 m c t).cp (ix2 i d) : EReal) = (x.C (row (prev t) i) d : EReal) := by
  refine Eq.trans ?_ (b10 m c H t i d)
  unfold hd0
  generalize iblk m c 10 t = B
  pointwise [k0_pay5]
theorem f_sp0 (t : Fin 16) (i : Fin 128) (d : Fin 32) : ((hd0 m c t).sp (ix2 i d) : EReal) = (x.S (row (prev t) i) d : EReal) := by
  refine Eq.trans ?_ (b11 m c H t i d)
  unfold hd0
  generalize iblk m c 11 t = B
  pointwise [k0_pay6]
theorem f_qa0 (t : Fin 16) (g : Fin 8) (i : Fin 128) (d : Fin 32) : ((hd0 m c t).qa (ix3 g i d) : EReal) = (x.qa (head 0 g) (row t i) d : EReal) := by
  refine Eq.trans ?_ (b0 m c H t (head 0 g) i d)
  unfold hd0
  generalize iblk m c 0 t = B
  pointwise [k0_pay7]
  blk_ext <;> simp only [head] <;> omega
theorem f_qb0 (t : Fin 16) (g : Fin 8) (i : Fin 128) (d : Fin 32) : ((hd0 m c t).qb (ix3 g i d) : EReal) = (x.qb (head 0 g) (row t i) d : EReal) := by
  refine Eq.trans ?_ (b1 m c H t (head 0 g) i d)
  unfold hd0
  generalize iblk m c 1 t = B
  pointwise [k0_pay8]
  blk_ext <;> simp only [head] <;> omega
theorem f_kap0 (t : Fin 16) (i : Fin 128) (d : Fin 32) : ((hd0 m c t).kap (ix3 0 i d) : EReal) = (x.ka 0 (bandRow t ⟨i.val, by omega⟩) d : EReal) := by
  rw [bandRow_prev]
  refine Eq.trans ?_ (b2 m c H t 0 i d)
  unfold hd0
  generalize iblk m c 2 t = B
  pointwise [k0_pay9]
theorem f_kac0 (t : Fin 16) (i : Fin 128) (d : Fin 32) : ((hd0 m c t).kac (ix3 0 i d) : EReal) = (x.ka 0 (bandRow t ⟨128 + i.val, by omega⟩) d : EReal) := by
  rw [bandRow_cur]
  refine Eq.trans ?_ (b3 m c H t 0 i d)
  unfold hd0
  generalize iblk m c 3 t = B
  pointwise [k0_pay10]
theorem f_kbp0 (t : Fin 16) (i : Fin 128) (d : Fin 32) : ((hd0 m c t).kbp (ix3 0 i d) : EReal) = (x.kb 0 (bandRow t ⟨i.val, by omega⟩) d : EReal) := by
  rw [bandRow_prev]
  refine Eq.trans ?_ (b4 m c H t 0 i d)
  unfold hd0
  generalize iblk m c 4 t = B
  pointwise [k0_pay11]
theorem f_kbc0 (t : Fin 16) (i : Fin 128) (d : Fin 32) : ((hd0 m c t).kbc (ix3 0 i d) : EReal) = (x.kb 0 (bandRow t ⟨128 + i.val, by omega⟩) d : EReal) := by
  rw [bandRow_cur]
  refine Eq.trans ?_ (b5 m c H t 0 i d)
  unfold hd0
  generalize iblk m c 5 t = B
  pointwise [k0_pay12]
theorem f_vp0 (t : Fin 16) (i : Fin 128) (d : Fin 64) : ((hd0 m c t).vp (ix3 0 i d) : EReal) = (x.v 0 (bandRow t ⟨i.val, by omega⟩) d : EReal) := by
  rw [bandRow_prev]
  refine Eq.trans ?_ (b6 m c H t 0 i d)
  unfold hd0
  generalize iblk m c 6 t = B
  pointwise [k0_pay13]
theorem f_vc0 (t : Fin 16) (i : Fin 128) (d : Fin 64) : ((hd0 m c t).vc (ix3 0 i d) : EReal) = (x.v 0 (bandRow t ⟨128 + i.val, by omega⟩) d : EReal) := by
  rw [bandRow_cur]
  refine Eq.trans ?_ (b7 m c H t 0 i d)
  unfold hd0
  generalize iblk m c 7 t = B
  pointwise [k0_pay14]
theorem f_sk0 (t : Fin 16) (g : Fin 8) : ((hd0 m c t).sk (ix3 0 g 0) : EReal) = (x.sk (head 0 g) : EReal) := by
  refine Eq.trans ?_ (b12 m c H t 0 g)
  unfold hd0
  generalize iblk m c 12 t = B
  pointwise [k0_pay15]
theorem f_ct0 (t : Fin 16) (g : Fin 8) (i : Fin 128) (d : Fin 64) : ((hd0 m c t).ct (ix3 g i d) : EReal) = (x.ct (head 0 g) (row t i) d : EReal) := by
  refine Eq.trans ?_ (b13 m c H t (head 0 g) i d)
  unfold hd0
  generalize iblk m c 13 t = B
  pointwise
  blk_ext <;> simp only [head] <;> omega
theorem holds0 (t : Fin 16) : HeadOf x 0 t (hd0 m c t) where
  cq := f_cq0 m c H t
  sq := f_sq0 m c H t
  cp := f_cp0 m c H t
  sp := f_sp0 m c H t
  qa := f_qa0 m c H t
  qb := f_qb0 m c H t
  kap := f_kap0 m c H t
  kac := f_kac0 m c H t
  kbp := f_kbp0 m c H t
  kbc := f_kbc0 m c H t
  vp i d := f_vp0 m c H t i d
  vc := f_vc0 m c H t
  sk := f_sk0 m c H t
  ct := f_ct0 m c H t
  n := congrArg (BitVec.ofNat 32) (coord t)
  hm := t.isLt
  ok _ _ := rfl
  q1 _ _ _ := rfl
  q2 _ _ _ := rfl
  k1p i d := congrArg (fun r => x.ka 0 (bandRow t ⟨i.val, by omega⟩) d * x.C r d - x.kb 0 (bandRow t ⟨i.val, by omega⟩) d * x.S r d) (bandRow_prev t i)
  k2p i d := congrArg (fun r => x.kb 0 (bandRow t ⟨i.val, by omega⟩) d * x.C r d + x.ka 0 (bandRow t ⟨i.val, by omega⟩) d * x.S r d) (bandRow_prev t i)
  k1c i d := congrArg (fun r => x.ka 0 (bandRow t ⟨128 + i.val, by omega⟩) d * x.C r d - x.kb 0 (bandRow t ⟨128 + i.val, by omega⟩) d * x.S r d) (bandRow_cur t i)
  k2c i d := congrArg (fun r => x.kb 0 (bandRow t ⟨128 + i.val, by omega⟩) d * x.C r d + x.ka 0 (bandRow t ⟨128 + i.val, by omega⟩) d * x.S r d) (bandRow_cur t i)

theorem f_cq1 (t : Fin 16) (i : Fin 128) (d : Fin 32) : ((hd1 m c t).cq (ix2 i d) : EReal) = (x.C (row t i) d : EReal) := by
  refine Eq.trans ?_ (b8 m c H t i d)
  unfold hd1
  generalize iblk m c 8 t = B
  pointwise [k0_pay3]
theorem f_sq1 (t : Fin 16) (i : Fin 128) (d : Fin 32) : ((hd1 m c t).sq (ix2 i d) : EReal) = (x.S (row t i) d : EReal) := by
  refine Eq.trans ?_ (b9 m c H t i d)
  unfold hd1
  generalize iblk m c 9 t = B
  pointwise [k0_pay4]
theorem f_cp1 (t : Fin 16) (i : Fin 128) (d : Fin 32) : ((hd1 m c t).cp (ix2 i d) : EReal) = (x.C (row (prev t) i) d : EReal) := by
  refine Eq.trans ?_ (b10 m c H t i d)
  unfold hd1
  generalize iblk m c 10 t = B
  pointwise [k0_pay5]
theorem f_sp1 (t : Fin 16) (i : Fin 128) (d : Fin 32) : ((hd1 m c t).sp (ix2 i d) : EReal) = (x.S (row (prev t) i) d : EReal) := by
  refine Eq.trans ?_ (b11 m c H t i d)
  unfold hd1
  generalize iblk m c 11 t = B
  pointwise [k0_pay6]
theorem f_qa1 (t : Fin 16) (g : Fin 8) (i : Fin 128) (d : Fin 32) : ((hd1 m c t).qa (ix3 g i d) : EReal) = (x.qa (head 1 g) (row t i) d : EReal) := by
  refine Eq.trans ?_ (b0 m c H t (head 1 g) i d)
  unfold hd1
  generalize iblk m c 0 t = B
  pointwise [k0_pay7]
  blk_ext <;> simp only [head] <;> omega
theorem f_qb1 (t : Fin 16) (g : Fin 8) (i : Fin 128) (d : Fin 32) : ((hd1 m c t).qb (ix3 g i d) : EReal) = (x.qb (head 1 g) (row t i) d : EReal) := by
  refine Eq.trans ?_ (b1 m c H t (head 1 g) i d)
  unfold hd1
  generalize iblk m c 1 t = B
  pointwise [k0_pay8]
  blk_ext <;> simp only [head] <;> omega
theorem f_kap1 (t : Fin 16) (i : Fin 128) (d : Fin 32) : ((hd1 m c t).kap (ix3 0 i d) : EReal) = (x.ka 1 (bandRow t ⟨i.val, by omega⟩) d : EReal) := by
  rw [bandRow_prev]
  refine Eq.trans ?_ (b2 m c H t 1 i d)
  unfold hd1
  generalize iblk m c 2 t = B
  pointwise [k0_pay9]
theorem f_kac1 (t : Fin 16) (i : Fin 128) (d : Fin 32) : ((hd1 m c t).kac (ix3 0 i d) : EReal) = (x.ka 1 (bandRow t ⟨128 + i.val, by omega⟩) d : EReal) := by
  rw [bandRow_cur]
  refine Eq.trans ?_ (b3 m c H t 1 i d)
  unfold hd1
  generalize iblk m c 3 t = B
  pointwise [k0_pay10]
theorem f_kbp1 (t : Fin 16) (i : Fin 128) (d : Fin 32) : ((hd1 m c t).kbp (ix3 0 i d) : EReal) = (x.kb 1 (bandRow t ⟨i.val, by omega⟩) d : EReal) := by
  rw [bandRow_prev]
  refine Eq.trans ?_ (b4 m c H t 1 i d)
  unfold hd1
  generalize iblk m c 4 t = B
  pointwise [k0_pay11]
theorem f_kbc1 (t : Fin 16) (i : Fin 128) (d : Fin 32) : ((hd1 m c t).kbc (ix3 0 i d) : EReal) = (x.kb 1 (bandRow t ⟨128 + i.val, by omega⟩) d : EReal) := by
  rw [bandRow_cur]
  refine Eq.trans ?_ (b5 m c H t 1 i d)
  unfold hd1
  generalize iblk m c 5 t = B
  pointwise [k0_pay12]
theorem f_vp1 (t : Fin 16) (i : Fin 128) (d : Fin 64) : ((hd1 m c t).vp (ix3 0 i d) : EReal) = (x.v 1 (bandRow t ⟨i.val, by omega⟩) d : EReal) := by
  rw [bandRow_prev]
  refine Eq.trans ?_ (b6 m c H t 1 i d)
  unfold hd1
  generalize iblk m c 6 t = B
  pointwise [k0_pay13]
theorem f_vc1 (t : Fin 16) (i : Fin 128) (d : Fin 64) : ((hd1 m c t).vc (ix3 0 i d) : EReal) = (x.v 1 (bandRow t ⟨128 + i.val, by omega⟩) d : EReal) := by
  rw [bandRow_cur]
  refine Eq.trans ?_ (b7 m c H t 1 i d)
  unfold hd1
  generalize iblk m c 7 t = B
  pointwise [k0_pay14]
theorem f_sk1 (t : Fin 16) (g : Fin 8) : ((hd1 m c t).sk (ix3 0 g 0) : EReal) = (x.sk (head 1 g) : EReal) := by
  refine Eq.trans ?_ (b12 m c H t 1 g)
  unfold hd1
  generalize iblk m c 12 t = B
  pointwise [k0_pay15]
theorem f_ct1 (t : Fin 16) (g : Fin 8) (i : Fin 128) (d : Fin 64) : ((hd1 m c t).ct (ix3 g i d) : EReal) = (x.ct (head 1 g) (row t i) d : EReal) := by
  refine Eq.trans ?_ (b13 m c H t (head 1 g) i d)
  unfold hd1
  generalize iblk m c 13 t = B
  pointwise
  blk_ext <;> simp only [head] <;> omega
theorem holds1 (t : Fin 16) : HeadOf x 1 t (hd1 m c t) where
  cq := f_cq1 m c H t
  sq := f_sq1 m c H t
  cp := f_cp1 m c H t
  sp := f_sp1 m c H t
  qa := f_qa1 m c H t
  qb := f_qb1 m c H t
  kap := f_kap1 m c H t
  kac := f_kac1 m c H t
  kbp := f_kbp1 m c H t
  kbc := f_kbc1 m c H t
  vp i d := f_vp1 m c H t i d
  vc := f_vc1 m c H t
  sk := f_sk1 m c H t
  ct := f_ct1 m c H t
  n := congrArg (BitVec.ofNat 32) (coord t)
  hm := t.isLt
  ok _ _ := rfl
  q1 _ _ _ := rfl
  q2 _ _ _ := rfl
  k1p i d := congrArg (fun r => x.ka 1 (bandRow t ⟨i.val, by omega⟩) d * x.C r d - x.kb 1 (bandRow t ⟨i.val, by omega⟩) d * x.S r d) (bandRow_prev t i)
  k2p i d := congrArg (fun r => x.kb 1 (bandRow t ⟨i.val, by omega⟩) d * x.C r d + x.ka 1 (bandRow t ⟨i.val, by omega⟩) d * x.S r d) (bandRow_prev t i)
  k1c i d := congrArg (fun r => x.ka 1 (bandRow t ⟨128 + i.val, by omega⟩) d * x.C r d - x.kb 1 (bandRow t ⟨128 + i.val, by omega⟩) d * x.S r d) (bandRow_cur t i)
  k2c i d := congrArg (fun r => x.kb 1 (bandRow t ⟨128 + i.val, by omega⟩) d * x.C r d + x.ka 1 (bandRow t ⟨128 + i.val, by omega⟩) d * x.S r d) (bandRow_cur t i)

end SwaGrad
-- ==== Proof.Put.lean ====
/- What the body writes into each output block, in the words of its two key/value heads. -/
module
public import proofs.«01_k».proof.Proof.Run.Frame
public import proofs.«01_k».proof.Proof.Body
public import Idealize.ShloMosaic.Lib.Pipeline.ValueKit
@[expose] public section
set_option maxRecDepth 16384
noncomputable section
namespace SwaGrad
open Idealize.ShloMosaic Idealize.ShloMosaic.TcCoe Idealize.SL.Sem
open Cert.KernelIdeal Cert.KernelIdeal.Gen
variable (m : (ℓ : Loc nD τ sig) → Buf (Elt Ideal) ℓ)

set_option maxHeartbeats 1000000

/-- The current block's rows of the values' gradient, as the body stores them. -/
def rowsCv (x : FVec Ideal S256x64 .f32) : FVec Ideal S1x128x64 .f32 := k0_pay60 x
/-- The previous block's rows of the values' gradient, as the body stores them. -/
def rowsPv (x : FVec Ideal S256x64 .f32) : FVec Ideal S1x128x64 .f32 := k0_pay61 x

/-- Window 14 at a grid point: the two heads' tiles. -/
theorem put14 (c : Dev nD) (t : Fin cfg0.N) : (outs m c t.val t.isLt).1
    = View.canon [⟨Rect.unit ![8, 0, 0] ![8, 128, 32] inb_S16x128x32_S8x128x32_8_0_0, (hd1 m c t).outqa⟩, ⟨Rect.unit ![0, 0, 0] ![8, 128, 32] inb_S16x128x32_S8x128x32_0_0_0, (hd0 m c t).outqa⟩] := by
  by_cases h : t.val = 0
  · rw [outs_A m c t h]
    unfold tupA runA
    frame_out
    simp only [Second.qa_eq, Second.qb_eq, Second.kap_eq, Second.kac_eq, Second.sk_eq, hd0_q1, hd0_q2, hd0_cos2, hd0_sin2, hd0_k1, hd0_k2, hd0_vv, hd0_s, hd0_ok m c t, hd0_eqm, hd0_cnt, hd0_wr, hd0_ws, hd0_e, hd0_es, hd0_z, hd0_p, hd0_zz, hd0_dv, hd0_dsink, hd0_dst, hd0_kbc, hd0_kbp, hd0_kac, hd0_kap, hd0_outqb, hd0_outqa, hd0_sink, hd1_q1, hd1_q2, hd1_cos2, hd1_sin2, hd1_k1, hd1_k2, hd1_vv, hd1_ok m c t, hd1_ms, hd1_eqm, hd1_cnt, hd1_mx, hd1_wr, hd1_ws, hd1_e, hd1_dv, hd1_sink, hd1_outqb, hd1_outqa, hd1_outkb, hd1_outka]
  · rw [outs_B m c t h]
    unfold tupB runB
    frame_out
    simp only [Second.qa_eq, Second.qb_eq, Second.kap_eq, Second.kac_eq, Second.sk_eq, hd0_q1, hd0_q2, hd0_cos2, hd0_sin2, hd0_k1, hd0_k2, hd0_vv, hd0_s, hd0_ok m c t, hd0_eqm, hd0_cnt, hd0_wr, hd0_ws, hd0_e, hd0_es, hd0_z, hd0_p, hd0_zz, hd0_dv, hd0_dsink, hd0_dst, hd0_kbc, hd0_kbp, hd0_kac, hd0_kap, hd0_outqb, hd0_outqa, hd0_sink, hd1_q1, hd1_q2, hd1_cos2, hd1_sin2, hd1_k1, hd1_k2, hd1_vv, hd1_ok m c t, hd1_ms, hd1_eqm, hd1_cnt, hd1_mx, hd1_wr, hd1_ws, hd1_e, hd1_dv, hd1_sink, hd1_outqb, hd1_outqa, hd1_outkb, hd1_outka]

/-- Window 15 at a grid point: the two heads' tiles. -/
theorem put15 (c : Dev nD) (t : Fin cfg0.N) : (outs m c t.val t.isLt).2.1
    = View.canon [⟨Rect.unit ![8, 0, 0] ![8, 128, 32] inb_S16x128x32_S8x128x32_8_0_0, (hd1 m c t).outqb⟩, ⟨Rect.unit ![0, 0, 0] ![8, 128, 32] inb_S16x128x32_S8x128x32_0_0_0, (hd0 m c t).outqb⟩] := by
  by_cases h : t.val = 0
  · rw [outs_A m c t h]
    unfold tupA runA
    frame_out
    simp only [Second.qa_eq, Second.qb_eq, Second.kap_eq, Second.kac_eq, Second.sk_eq, hd0_q1, hd0_q2, hd0_cos2, hd0_sin2, hd0_k1, hd0_k2, hd0_vv, hd0_s, hd0_ok m c t, hd0_eqm, hd0_cnt, hd0_wr, hd0_ws, hd0_e, hd0_es, hd0_z, hd0_p, hd0_zz, hd0_dv, hd0_dsink, hd0_dst, hd0_kbc, hd0_kbp, hd0_kac, hd0_kap, hd0_outqb, hd0_outqa, hd0_sink, hd1_q1, hd1_q2, hd1_cos2, hd1_sin2, hd1_k1, hd1_k2, hd1_vv, hd1_ok m c t, hd1_ms, hd1_eqm, hd1_cnt, hd1_mx, hd1_wr, hd1_ws, hd1_e, hd1_dv, hd1_sink, hd1_outqb, hd1_outqa, hd1_outkb, hd1_outka]
  · rw [outs_B m c t h]
    unfold tupB runB
    frame_out
    simp only [Second.qa_eq, Second.qb_eq, Second.kap_eq, Second.kac_eq, Second.sk_eq, hd0_q1, hd0_q2, hd0_cos2, hd0_sin2, hd0_k1, hd0_k2, hd0_vv, hd0_s, hd0_ok m c t, hd0_eqm, hd0_cnt, hd0_wr, hd0_ws, hd0_e, hd0_es, hd0_z, hd0_p, hd0_zz, hd0_dv, hd0_dsink, hd0_dst, hd0_kbc, hd0_kbp, hd0_kac, hd0_kap, hd0_outqb, hd0_outqa, hd0_sink, hd1_q1, hd1_q2, hd1_cos2, hd1_sin2, hd1_k1, hd1_k2, hd1_vv, hd1_ok m c t, hd1_ms, hd1_eqm, hd1_cnt, hd1_mx, hd1_wr, hd1_ws, hd1_e, hd1_dv, hd1_sink, hd1_outqb, hd1_outqa, hd1_outkb, hd1_outka]

/-- Window 16 at a grid point: the two heads' tiles. -/
theorem put16 (c : Dev nD) (t : Fin cfg0.N) : (outs m c t.val t.isLt).2.2.1
    = View.canon [⟨Rect.unit ![1, 0, 0] ![1, 128, 32] inb_S2x128x32_S1x128x32_1_0_0, rowsP (hd1 m c t).outka⟩, ⟨Rect.unit ![0, 0, 0] ![1, 128, 32] inb_S2x128x32_S1x128x32_0_0_0, rowsP (hd0 m c t).outka⟩] := by
  by_cases h : t.val = 0
  · rw [outs_A m c t h]
    unfold tupA runA
    frame_out
    simp only [Second.qa_eq, Second.qb_eq, Second.kap_eq, Second.kac_eq, Second.sk_eq, hd0_q1, hd0_q2, hd0_cos2, hd0_sin2, hd0_k1, hd0_k2, hd0_vv, hd0_s, hd0_ok m c t, hd0_eqm, hd0_cnt, hd0_wr, hd0_ws, hd0_e, hd0_es, hd0_z, hd0_p, hd0_zz, hd0_dv, hd0_dsink, hd0_dst, hd0_kbc, hd0_kbp, hd0_kac, hd0_kap, hd0_outqb, hd0_outqa, hd0_sink, hd1_q1, hd1_q2, hd1_cos2, hd1_sin2, hd1_k1, hd1_k2, hd1_vv, hd1_ok m c t, hd1_ms, hd1_eqm, hd1_cnt, hd1_mx, hd1_wr, hd1_ws, hd1_e, hd1_dv, hd1_sink, hd1_outqb, hd1_outqa, hd1_outkb, hd1_outka]
    rfl
  · rw [outs_B m c t h]
    unfold tupB runB
    frame_out
    simp only [Second.qa_eq, Second.qb_eq, Second.kap_eq, Second.kac_eq, Second.sk_eq, hd0_q1, hd0_q2, hd0_cos2, hd0_sin2, hd0_k1, hd0_k2, hd0_vv, hd0_s, hd0_ok m c t, hd0_eqm, hd0_cnt, hd0_wr, hd0_ws, hd0_e, hd0_es, hd0_z, hd0_p, hd0_zz, hd0_dv, hd0_dsink, hd0_dst, hd0_kbc, hd0_kbp, hd0_kac, hd0_kap, hd0_outqb, hd0_outqa, hd0_sink, hd1_q1, hd1_q2, hd1_cos2, hd1_sin2, hd1_k1, hd1_k2, hd1_vv, hd1_ok m c t, hd1_ms, hd1_eqm, hd1_cnt, hd1_mx, hd1_wr, hd1_ws, hd1_e, hd1_dv, hd1_sink, hd1_outqb, hd1_outqa, hd1_outkb, hd1_outka]
    rfl

/-- Window 17 at a grid point: the two heads' tiles. -/
theorem put17 (c : Dev nD) (t : Fin cfg0.N) : (outs m c t.val t.isLt).2.2.2.1
    = View.canon [⟨Rect.unit ![1, 0, 0] ![1, 128, 32] inb_S2x128x32_S1x128x32_1_0_0, rowsC (hd1 m c t).outka⟩, ⟨Rect.unit ![0, 0, 0] ![1, 128, 32] inb_S2x128x32_S1x128x32_0_0_0, rowsC (hd0 m c t).outka⟩] := by
  by_cases h : t.val = 0
  · rw [outs_A m c t h]
    unfold tupA runA
    frame_out
    simp only [Second.qa_eq, Second.qb_eq, Second.kap_eq, Second.kac_eq, Second.sk_eq, hd0_q1, hd0_q2, hd0_cos2, hd0_sin2, hd0_k1, hd0_k2, hd0_vv, hd0_s, hd0_ok m c t, hd0_eqm, hd0_cnt, hd0_wr, hd0_ws, hd0_e, hd0_es, hd0_z, hd0_p, hd0_zz, hd0_dv, hd0_dsink, hd0_dst, hd0_kbc, hd0_kbp, hd0_kac, hd0_kap, hd0_outqb, hd0_outqa, hd0_sink, hd1_q1, hd1_q2, hd1_cos2, hd1_sin2, hd1_k1, hd1_k2, hd1_vv, hd1_ok m c t, hd1_ms, hd1_eqm, hd1_cnt, hd1_mx, hd1_wr, hd1_ws, hd1_e, hd1_dv, hd1_sink, hd1_outqb, hd1_outqa, hd1_outkb, hd1_outka]
    rfl
  · rw [outs_B m c t h]
    unfold tupB runB
    frame_out
    simp only [Second.qa_eq, Second.qb_eq, Second.kap_eq, Second.kac_eq, Second.sk_eq, hd0_q1, hd0_q2, hd0_cos2, hd0_sin2, hd0_k1, hd0_k2, hd0_vv, hd0_s, hd0_ok m c t, hd0_eqm, hd0_cnt, hd0_wr, hd0_ws, hd0_e, hd0_es, hd0_z, hd0_p, hd0_zz, hd0_dv, hd0_dsink, hd0_dst, hd0_kbc, hd0_kbp, hd0_kac, hd0_kap, hd0_outqb, hd0_outqa, hd0_sink, hd1_q1, hd1_q2, hd1_cos2, hd1_sin2, hd1_k1, hd1_k2, hd1_vv, hd1_ok m c t, hd1_ms, hd1_eqm, hd1_cnt, hd1_mx, hd1_wr, hd1_ws, hd1_e, hd1_dv, hd1_sink, hd1_outqb, hd1_outqa, hd1_outkb, hd1_outka]
    rfl

/-- Window 18 at a grid point: the two heads' tiles. -/
theorem put18 (c : Dev nD) (t : Fin cfg0.N) : (outs m c t.val t.isLt).2.2.2.2.1
    = View.canon [⟨Rect.unit ![1, 0, 0] ![1, 128, 32] inb_S2x128x32_S1x128x32_1_0_0, rowsP (hd1 m c t).outkb⟩, ⟨Rect.unit ![0, 0, 0] ![1, 128, 32] inb_S2x128x32_S1x128x32_0_0_0, rowsP (hd0 m c t).outkb⟩] := by
  by_cases h : t.val = 0
  · rw [outs_A m c t h]
    unfold tupA runA
    frame_out
    simp only [Second.qa_eq, Second.qb_eq, Second.kap_eq, Second.kac_eq, Second.sk_eq, hd0_q1, hd0_q2, hd0_cos2, hd0_sin2, hd0_k1, hd0_k2, hd0_vv, hd0_s, hd0_ok m c t, hd0_eqm, hd0_cnt, hd0_wr, hd0_ws, hd0_e, hd0_es, hd0_z, hd0_p, hd0_zz, hd0_dv, hd0_dsink, hd0_dst, hd0_kbc, hd0_kbp, hd0_kac, hd0_kap, hd0_outqb, hd0_outqa, hd0_sink, hd1_q1, hd1_q2, hd1_cos2, hd1_sin2, hd1_k1, hd1_k2, hd1_vv, hd1_ok m c t, hd1_ms, hd1_eqm, hd1_cnt, hd1_mx, hd1_wr, hd1_ws, hd1_e, hd1_dv, hd1_sink, hd1_outqb, hd1_outqa, hd1_outkb, hd1_outka]
    rfl
  · rw [outs_B m c t h]
    unfold tupB runB
    frame_out
    simp only [Second.qa_eq, Second.qb_eq, Second.kap_eq, Second.kac_eq, Second.sk_eq, hd0_q1, hd0_q2, hd0_cos2, hd0_sin2, hd0_k1, hd0_k2, hd0_vv, hd0_s, hd0_ok m c t, hd0_eqm, hd0_cnt, hd0_wr, hd0_ws, hd0_e, hd0_es, hd0_z, hd0_p, hd0_zz, hd0_dv, hd0_dsink, hd0_dst, hd0_kbc, hd0_kbp, hd0_kac, hd0_kap, hd0_outqb, hd0_outqa, hd0_sink, hd1_q1, hd1_q2, hd1_cos2, hd1_sin2, hd1_k1, hd1_k2, hd1_vv, hd1_ok m c t, hd1_ms, hd1_eqm, hd1_cnt, hd1_mx, hd1_wr, hd1_ws, hd1_e, hd1_dv, hd1_sink, hd1_outqb, hd1_outqa, hd1_outkb, hd1_outka]
    rfl

/-- Window 19 at a grid point: the two heads' tiles. -/
theorem put19 (c : Dev nD) (t : Fin cfg0.N) : (outs m c t.val t.isLt).2.2.2.2.2.1
    = View.canon [⟨Rect.unit ![1, 0, 0] ![1, 128, 32] inb_S2x128x32_S1x128x32_1_0_0, rowsC (hd1 m c t).outkb⟩, ⟨Rect.unit ![0, 0, 0] ![1, 128, 32] inb_S2x128x32_S1x128x32_0_0_0, rowsC (hd0 m c t).outkb⟩] := by
  by_cases h : t.val = 0
  · rw [outs_A m c t h]
    unfold tupA runA
    frame_out
    simp only [Second.qa_eq, Second.qb_eq, Second.kap_eq, Second.kac_eq, Second.sk_eq, hd0_q1, hd0_q2, hd0_cos2, hd0_sin2, hd0_k1, hd0_k2, hd0_vv, hd0_s, hd0_ok m c t, hd0_eqm, hd0_cnt, hd0_wr, hd0_ws, hd0_e, hd0_es, hd0_z, hd0_p, hd0_zz, hd0_dv, hd0_dsink, hd0_dst, hd0_kbc, hd0_kbp, hd0_kac, hd0_kap, hd0_outqb, hd0_outqa, hd0_sink, hd1_q1, hd1_q2, hd1_cos2, hd1_sin2, hd1_k1, hd1_k2, hd1_vv, hd1_ok m c t, hd1_ms, hd1_eqm, hd1_cnt, hd1_mx, hd1_wr, hd1_ws, hd1_e, hd1_dv, hd1_sink, hd1_outqb, hd1_outqa, hd1_outkb, hd1_outka]
    rfl
  · rw [outs_B m c t h]
    unfold tupB runB
    frame_out
    simp only [Second.qa_eq, Second.qb_eq, Second.kap_eq, Second.kac_eq, Second.sk_eq, hd0_q1, hd0_q2, hd0_cos2, hd0_sin2, hd0_k1, hd0_k2, hd0_vv, hd0_s, hd0_ok m c t, hd0_eqm, hd0_cnt, hd0_wr, hd0_ws, hd0_e, hd0_es, hd0_z, hd0_p, hd0_zz, hd0_dv, hd0_dsink, hd0_dst, hd0_kbc, hd0_kbp, hd0_kac, hd0_kap, hd0_outqb, hd0_outqa, hd0_sink, hd1_q1, hd1_q2, hd1_cos2, hd1_sin2, hd1_k1, hd1_k2, hd1_vv, hd1_ok m c t, hd1_ms, hd1_eqm, hd1_cnt, hd1_mx, hd1_wr, hd1_ws, hd1_e, hd1_dv, hd1_sink, hd1_outqb, hd1_outqa, hd1_outkb, hd1_outka]
    rfl

/-- Window 20 at a grid point: the two heads' tiles. -/
theorem put20 (c : Dev nD) (t : Fin cfg0.N) : (outs m c t.val t.isLt).2.2.2.2.2.2.1
    = View.canon [⟨Rect.unit ![1, 0, 0] ![1, 128, 64] inb_S2x128x64_S1x128x64_1_0_0, rowsPv (hd1 m c t).dv⟩, ⟨Rect.unit ![0, 0, 0] ![1, 128, 64] inb_S2x128x64_S1x128x64_0_0_0, rowsPv (hd0 m c t).dv⟩] := by
  by_cases h : t.val = 0
  · rw [outs_A m c t h]
    unfold tupA runA
    frame_out
    simp only [Second.qa_eq, Second.qb_eq, Second.kap_eq, Second.kac_eq, Second.sk_eq, hd0_q1, hd0_q2, hd0_cos2, hd0_sin2, hd0_k1, hd0_k2, hd0_vv, hd0_s, hd0_ok m c t, hd0_eqm, hd0_cnt, hd0_wr, hd0_ws, hd0_e, hd0_es, hd0_z, hd0_p, hd0_zz, hd0_dv, hd0_dsink, hd0_dst, hd0_kbc, hd0_kbp, hd0_kac, hd0_kap, hd0_outqb, hd0_outqa, hd0_sink, hd1_q1, hd1_q2, hd1_cos2, hd1_sin2, hd1_k1, hd1_k2, hd1_vv, hd1_ok m c t, hd1_ms, hd1_eqm, hd1_cnt, hd1_mx, hd1_wr, hd1_ws, hd1_e, hd1_dv, hd1_sink, hd1_outqb, hd1_outqa, hd1_outkb, hd1_outka]
    rfl
  · rw [outs_B m c t h]
    unfold tupB runB
    frame_out
    simp only [Second.qa_eq, Second.qb_eq, Second.kap_eq, Second.kac_eq, Second.sk_eq, hd0_q1, hd0_q2, hd0_cos2, hd0_sin2, hd0_k1, hd0_k2, hd0_vv, hd0_s, hd0_ok m c t, hd0_eqm, hd0_cnt, hd0_wr, hd0_ws, hd0_e, hd0_es, hd0_z, hd0_p, hd0_zz, hd0_dv, hd0_dsink, hd0_dst, hd0_kbc, hd0_kbp, hd0_kac, hd0_kap, hd0_outqb, hd0_outqa, hd0_sink, hd1_q1, hd1_q2, hd1_cos2, hd1_sin2, hd1_k1, hd1_k2, hd1_vv, hd1_ok m c t, hd1_ms, hd1_eqm, hd1_cnt, hd1_mx, hd1_wr, hd1_ws, hd1_e, hd1_dv, hd1_sink, hd1_outqb, hd1_outqa, hd1_outkb, hd1_outka]
    rfl

/-- Window 21 at a grid point: the two heads' tiles. -/
theorem put21 (c : Dev nD) (t : Fin cfg0.N) : (outs m c t.val t.isLt).2.2.2.2.2.2.2.1
    = View.canon [⟨Rect.unit ![1, 0, 0] ![1, 128, 64] inb_S2x128x64_S1x128x64_1_0_0, rowsCv (hd1 m c t).dv⟩, ⟨Rect.unit ![0, 0, 0] ![1, 128, 64] inb_S2x128x64_S1x128x64_0_0_0, rowsCv (hd0 m c t).dv⟩] := by
  by_cases h : t.val = 0
  · rw [outs_A m c t h]
    unfold tupA runA
    frame_out
    simp only [Second.qa_eq, Second.qb_eq, Second.kap_eq, Second.kac_eq, Second.sk_eq, hd0_q1, hd0_q2, hd0_cos2, hd0_sin2, hd0_k1, hd0_k2, hd0_vv, hd0_s, hd0_ok m c t, hd0_eqm, hd0_cnt, hd0_wr, hd0_ws, hd0_e, hd0_es, hd0_z, hd0_p, hd0_zz, hd0_dv, hd0_dsink, hd0_dst, hd0_kbc, hd0_kbp, hd0_kac, hd0_kap, hd0_outqb, hd0_outqa, hd0_sink, hd1_q1, hd1_q2, hd1_cos2, hd1_sin2, hd1_k1, hd1_k2, hd1_vv, hd1_ok m c t, hd1_ms, hd1_eqm, hd1_cnt, hd1_mx, hd1_wr, hd1_ws, hd1_e, hd1_dv, hd1_sink, hd1_outqb, hd1_outqa, hd1_outkb, hd1_outka]
    rfl
  · rw [outs_B m c t h]
    unfold tupB runB
    frame_out
    simp only [Second.qa_eq, Second.qb_eq, Second.kap_eq, Second.kac_eq, Second.sk_eq, hd0_q1, hd0_q2, hd0_cos2, hd0_sin2, hd0_k1, hd0_k2, hd0_vv, hd0_s, hd0_ok m c t, hd0_eqm, hd0_cnt, hd0_wr, hd0_ws, hd0_e, hd0_es, hd0_z, hd0_p, hd0_zz, hd0_dv, hd0_dsink, hd0_dst, hd0_kbc, hd0_kbp, hd0_kac, hd0_kap, hd0_outqb, hd0_outqa, hd0_sink, hd1_q1, hd1_q2, hd1_cos2, hd1_sin2, hd1_k1, hd1_k2, hd1_vv, hd1_ok m c t, hd1_ms, hd1_eqm, hd1_cnt, hd1_mx, hd1_wr, hd1_ws, hd1_e, hd1_dv, hd1_sink, hd1_outqb, hd1_outqa, hd1_outkb, hd1_outka]
    rfl

/-- The sinks' window at the first point: the two heads' sums. -/
theorem put22_A (c : Dev nD) (t : Fin cfg0.N) (h : t.val = 0) : (outs m c t.val t.isLt).2.2.2.2.2.2.2.2
    = k0_pay1 (flat (hd0 m c t).dsink) (flat (hd1 m c t).dsink) := by
  rw [outs_A m c t h]
  unfold tupA runA
  frame_out
  simp only [Second.qa_eq, Second.qb_eq, Second.kap_eq, Second.kac_eq, Second.sk_eq, hd0_q1, hd0_q2, hd0_cos2, hd0_sin2, hd0_k1, hd0_k2, hd0_vv, hd0_s, hd0_ok m c t, hd0_eqm, hd0_cnt, hd0_wr, hd0_ws, hd0_e, hd0_es, hd0_z, hd0_p, hd0_zz, hd0_dv, hd0_dsink, hd0_dst, hd0_kbc, hd0_kbp, hd0_kac, hd0_kap, hd0_outqb, hd0_outqa, hd0_sink, hd1_q1, hd1_q2, hd1_cos2, hd1_sin2, hd1_k1, hd1_k2, hd1_vv, hd1_ok m c t, hd1_ms, hd1_eqm, hd1_cnt, hd1_mx, hd1_wr, hd1_ws, hd1_e, hd1_dv, hd1_sink, hd1_outqb, hd1_outqa, hd1_outkb, hd1_outka]

/-- The sinks' window at a later point: the two heads' sums are added. -/
theorem put22_B (c : Dev nD) (t : Fin cfg0.N) (h : t.val ≠ 0) : (outs m c t.val t.isLt).2.2.2.2.2.2.2.2
    = k0_pay2 (flat (hd0 m c t).dsink) (flat (hd1 m c t).dsink)
        (outs m c (t.val - 1) (Nat.lt_of_le_of_lt (Nat.sub_le _ _) t.isLt)).2.2.2.2.2.2.2.2 := by
  rw [outs_B m c t h]
  unfold tupB runB
  frame_out
  simp only [Second.qa_eq, Second.qb_eq, Second.kap_eq, Second.kac_eq, Second.sk_eq, hd0_q1, hd0_q2, hd0_cos2, hd0_sin2, hd0_k1, hd0_k2, hd0_vv, hd0_s, hd0_ok m c t, hd0_eqm, hd0_cnt, hd0_wr, hd0_ws, hd0_e, hd0_es, hd0_z, hd0_p, hd0_zz, hd0_dv, hd0_dsink, hd0_dst, hd0_kbc, hd0_kbp, hd0_kac, hd0_kap, hd0_outqb, hd0_outqa, hd0_sink, hd1_q1, hd1_q2, hd1_cos2, hd1_sin2, hd1_k1, hd1_k2, hd1_vv, hd1_ok m c t, hd1_ms, hd1_eqm, hd1_cnt, hd1_mx, hd1_wr, hd1_ws, hd1_e, hd1_dv, hd1_sink, hd1_outqb, hd1_outqa, hd1_outkb, hd1_outka]

theorem tiles_q (P1 P0 : Vec Ideal S8x128x32 .f32) (g : Fin 8) (i : Fin 128) (d : Fin 32) :
    View.canon (Val := Elt Ideal) (s := S16x128x32) (e := .f32) [⟨Rect.unit ![8, 0, 0] ![8, 128, 32] inb_S16x128x32_S8x128x32_8_0_0, P1⟩, ⟨Rect.unit ![0, 0, 0] ![8, 128, 32] inb_S16x128x32_S8x128x32_0_0_0, P0⟩]
      (ix3 ⟨g.val, by omega⟩ i d) = P0 (ix3 g i d)
    ∧ View.canon (Val := Elt Ideal) (s := S16x128x32) (e := .f32) [⟨Rect.unit ![8, 0, 0] ![8, 128, 32] inb_S16x128x32_S8x128x32_8_0_0, P1⟩, ⟨Rect.unit ![0, 0, 0] ![8, 128, 32] inb_S16x128x32_S8x128x32_0_0_0, P0⟩]
      (ix3 ⟨8 + g.val, by omega⟩ i d) = P1 (ix3 g i d) := by
  constructor
  · canon_tiles x h
    · exact absurd (show g.val = 8 + _ from h0) (by omega)
    · have e0 : g.val = _ := h0
      have e1 : i.val = _ := h1
      have e2 : d.val = _ := h2
      blk_ext
  · canon_tiles x h
    · have e0 : 8 + g.val = 8 + _ := h0
      have e1 : i.val = _ := h1
      have e2 : d.val = _ := h2
      blk_ext
    · exact absurd (show 8 + g.val = _ from h0) (by omega)

theorem tiles_k (P1 P0 : Vec Ideal S1x128x32 .f32) (g : Fin 1) (i : Fin 128) (d : Fin 32) :
    View.canon (Val := Elt Ideal) (s := S2x128x32) (e := .f32) [⟨Rect.unit ![1, 0, 0] ![1, 128, 32] inb_S2x128x32_S1x128x32_1_0_0, P1⟩, ⟨Rect.unit ![0, 0, 0] ![1, 128, 32] inb_S2x128x32_S1x128x32_0_0_0, P0⟩]
      (ix3 ⟨g.val, by omega⟩ i d) = P0 (ix3 g i d)
    ∧ View.canon (Val := Elt Ideal) (s := S2x128x32) (e := .f32) [⟨Rect.unit ![1, 0, 0] ![1, 128, 32] inb_S2x128x32_S1x128x32_1_0_0, P1⟩, ⟨Rect.unit ![0, 0, 0] ![1, 128, 32] inb_S2x128x32_S1x128x32_0_0_0, P0⟩]
      (ix3 ⟨1 + g.val, by omega⟩ i d) = P1 (ix3 g i d) := by
  constructor
  · canon_tiles x h
    · exact absurd (show g.val = 1 + _ from h0) (by omega)
    · have e0 : g.val = _ := h0
      have e1 : i.val = _ := h1
      have e2 : d.val = _ := h2
      blk_ext
  · canon_tiles x h
    · have e0 : 1 + g.val = 1 + _ := h0
      have e1 : i.val = _ := h1
      have e2 : d.val = _ := h2
      blk_ext
    · exact absurd (show 1 + g.val = _ from h0) (by omega)

theorem tiles_v (P1 P0 : Vec Ideal S1x128x64 .f32) (g : Fin 1) (i : Fin 128) (d : Fin 64) :
    View.canon (Val := Elt Ideal) (s := S2x128x64) (e := .f32) [⟨Rect.unit ![1, 0, 0] ![1, 128, 64] inb_S2x128x64_S1x128x64_1_0_0, P1⟩, ⟨Rect.unit ![0, 0, 0] ![1, 128, 64] inb_S2x128x64_S1x128x64_0_0_0, P0⟩]
      (ix3 ⟨g.val, by omega⟩ i d) = P0 (ix3 g i d)
    ∧ View.canon (Val := Elt Ideal) (s := S2x128x64) (e := .f32) [⟨Rect.unit ![1, 0, 0] ![1, 128, 64] inb_S2x128x64_S1x128x64_1_0_0, P1⟩, ⟨Rect.unit ![0, 0, 0] ![1, 128, 64] inb_S2x128x64_S1x128x64_0_0_0, P0⟩]
      (ix3 ⟨1 + g.val, by omega⟩ i d) = P1 (ix3 g i d) := by
  constructor
  · canon_tiles x h
    · exact absurd (show g.val = 1 + _ from h0) (by omega)
    · have e0 : g.val = _ := h0
      have e1 : i.val = _ := h1
      have e2 : d.val = _ := h2
      blk_ext
  · canon_tiles x h
    · have e0 : 1 + g.val = 1 + _ := h0
      have e1 : i.val = _ := h1
      have e2 : d.val = _ := h2
      blk_ext
    · exact absurd (show 1 + g.val = _ from h0) (by omega)

end SwaGrad
-- ==== Proof.Arrays.lean ====
/- The blocks the kernel writes at a grid point, entry by entry, and the arrays the launch leaves. -/
module

public import proofs.«01_k».proof.Proof.Heads
public import proofs.«01_k».proof.Proof.Put

@[expose] public section

set_option maxRecDepth 16384

noncomputable section

namespace SwaGrad

open Idealize.ShloMosaic Idealize.ShloMosaic.TcCoe Idealize.SL.Sem
open Cert.KernelIdeal Cert.KernelIdeal.Gen

theorem rowsP_at (f : FVec Ideal S256x32 .f32) (i : Fin 128) (d : Fin 32) : (rowsP f (ix3 0 i d) : EReal) = f (ix2 ⟨i.val, by omega⟩ d) := by
  pointwise [rowsP, k0_pay126]
theorem rowsC_at (f : FVec Ideal S256x32 .f32) (i : Fin 128) (d : Fin 32) : (rowsC f (ix3 0 i d) : EReal) = f (ix2 ⟨128 + i.val, by omega⟩ d) := by
  pointwise [rowsC, k0_pay125]
theorem rowsPv_at (f : FVec Ideal S256x64 .f32) (i : Fin 128) (d : Fin 64) : (rowsPv f (ix3 0 i d) : EReal) = f (ix2 ⟨i.val, by omega⟩ d) := by
  pointwise [rowsPv, k0_pay61]
theorem rowsCv_at (f : FVec Ideal S256x64 .f32) (i : Fin 128) (d : Fin 64) : (rowsCv f (ix3 0 i d) : EReal) = f (ix2 ⟨128 + i.val, by omega⟩ d) := by
  pointwise [rowsCv, k0_pay60]

namespace Inp
variable (x : Inp)
/-- What block `n` gives the previous block's and its own rows of a key head's halves and of a value head. -/
def pka (kv : Fin 2) (n : Fin 16) (i : Fin 128) (d : Fin 32) : ℝ :=
  (x.blk false kv n).dk1 ⟨i.val, by omega⟩ d * x.C (row (prev n) i) d + (x.blk false kv n).dk2 ⟨i.val, by omega⟩ d * x.S (row (prev n) i) d
def cka (kv : Fin 2) (n : Fin 16) (i : Fin 128) (d : Fin 32) : ℝ :=
  (x.blk false kv n).dk1 ⟨128 + i.val, by omega⟩ d * x.C (row n i) d + (x.blk false kv n).dk2 ⟨128 + i.val, by omega⟩ d * x.S (row n i) d
def pkb (kv : Fin 2) (n : Fin 16) (i : Fin 128) (d : Fin 32) : ℝ :=
  (x.blk false kv n).dk2 ⟨i.val, by omega⟩ d * x.C (row (prev n) i) d - (x.blk false kv n).dk1 ⟨i.val, by omega⟩ d * x.S (row (prev n) i) d
def ckb (kv : Fin 2) (n : Fin 16) (i : Fin 128) (d : Fin 32) : ℝ :=
  (x.blk false kv n).dk2 ⟨128 + i.val, by omega⟩ d * x.C (row n i) d - (x.blk false kv n).dk1 ⟨128 + i.val, by omega⟩ d * x.S (row n i) d
def pdv (kv : Fin 2) (n : Fin 16) (i : Fin 128) (d : Fin 64) : ℝ := (x.blk false kv n).dv ⟨i.val, by omega⟩ d
def cdv (kv : Fin 2) (n : Fin 16) (i : Fin 128) (d : Fin 64) : ℝ := (x.blk false kv n).dv ⟨128 + i.val, by omega⟩ d
end Inp

variable (m : (ℓ : Loc nD τ sig) → Buf (Elt Ideal) ℓ) (c : Dev nD)
variable {x : Inp} (H : KHolds m c x)

/-- A statement on the two key/value heads. -/
theorem two {P : Fin 2 → Prop} (h0 : P 0) (h1 : P 1) (kv : Fin 2) : P kv := by
  fin_cases kv
  · exact h0
  · exact h1
theorem head_one (g : Fin 8) : head 1 g = ⟨8 + g.val, by omega⟩ := Fin.ext (by simp only [head]; omega)
theorem head_zero (g : Fin 8) : head 0 g = ⟨g.val, by omega⟩ := Fin.ext (by simp only [head]; omega)

include H in
theorem fill14 (t : Fin cfg0.N) (kv : Fin 2) (g : Fin 8) (i : Fin 128) (d : Fin 32) :
    (((outs m c t.val t.isLt).1 : FVec Ideal S16x128x32 .f32) (ix3 (head kv g) i d) : EReal) = (x.dqa false kv g t i d : EReal) := by
  rw [put14]
  revert kv
  refine two ?_ ?_
  · rw [head_zero]
    exact (tiles_q _ _ g i d).1.trans ((holds0 m c H t).r_outqa g i d)
  · rw [head_one]
    exact (tiles_q _ _ g i d).2.trans ((holds1 m c H t).r_outqa g i d)
include H in
theorem fill15 (t : Fin cfg0.N) (kv : Fin 2) (g : Fin 8) (i : Fin 128) (d : Fin 32) :
    (((outs m c t.val t.isLt).2.1 : FVec Ideal S16x128x32 .f32) (ix3 (head kv g) i d) : EReal) = (x.dqb false kv g t i d : EReal) := by
  rw [put15]
  revert kv
  refine two ?_ ?_
  · rw [head_zero]
    exact (tiles_q _ _ g i d).1.trans ((holds0 m c H t).r_outqb g i d)
  · rw [head_one]
    exact (tiles_q _ _ g i d).2.trans ((holds1 m c H t).r_outqb g i d)
include H in
theorem fill16 (t : Fin cfg0.N) (kv : Fin 2) (i : Fin 128) (d : Fin 32) :
    (((outs m c t.val t.isLt).2.2.1 : FVec Ideal S2x128x32 .f32) (ix3 kv i d) : EReal) = (x.pka kv t i d : EReal) := by
  rw [put16]
  revert kv
  refine two ?_ ?_
  · exact (tiles_k _ _ 0 i d).1.trans ((rowsP_at _ i d).trans ((holds0 m c H t).r_outka_gen _ d ((holds0 m c H t).r_cos2p i d) ((holds0 m c H t).r_sin2p i d)))
  · exact (tiles_k _ _ 0 i d).2.trans ((rowsP_at _ i d).trans ((holds1 m c H t).r_outka_gen _ d ((holds1 m c H t).r_cos2p i d) ((holds1 m c H t).r_sin2p i d)))
include H in
theorem fill17 (t : Fin cfg0.N) (kv : Fin 2) (i : Fin 128) (d : Fin 32) :
    (((outs m c t.val t.isLt).2.2.2.1 : FVec Ideal S2x128x32 .f32) (ix3 kv i d) : EReal) = (x.cka kv t i d : EReal) := by
  rw [put17]
  revert kv
  refine two ?_ ?_
  · exact (tiles_k _ _ 0 i d).1.trans ((rowsC_at _ i d).trans ((holds0 m c H t).r_outka_gen _ d ((holds0 m c H t).r_cos2c i d) ((holds0 m c H t).r_sin2c i d)))
  · exact (tiles_k _ _ 0 i d).2.trans ((rowsC_at _ i d).trans ((holds1 m c H t).r_outka_gen _ d ((holds1 m c H t).r_cos2c i d) ((holds1 m c H t).r_sin2c i d)))
include H in
theorem fill18 (t : Fin cfg0.N) (kv : Fin 2) (i : Fin 128) (d : Fin 32) :
    (((outs m c t.val t.isLt).2.2.2.2.1 : FVec Ideal S2x128x32 .f32) (ix3 kv i d) : EReal) = (x.pkb kv t i d : EReal) := by
  rw [put18]
  revert kv
  refine two ?_ ?_
  · exact (tiles_k _ _ 0 i d).1.trans ((rowsP_at _ i d).trans ((holds0 m c H t).r_outkb_gen _ d ((holds0 m c H t).r_cos2p i d) ((holds0 m c H t).r_sin2p i d)))
  · exact (tiles_k _ _ 0 i d).2.trans ((rowsP_at _ i d).trans ((holds1 m c H t).r_outkb_gen _ d ((holds1 m c H t).r_cos2p i d) ((holds1 m c H t).r_sin2p i d)))
include H in
theorem fill19 (t : Fin cfg0.N) (kv : Fin 2) (i : Fin 128) (d : Fin 32) :
    (((outs m c t.val t.isLt).2.2.2.2.2.1 : FVec Ideal S2x128x32 .f32) (ix3 kv i d) : EReal) = (x.ckb kv t i d : EReal) := by
  rw [put19]
  revert kv
  refine two ?_ ?_
  · exact (tiles_k _ _ 0 i d).1.trans ((rowsC_at _ i d).trans ((holds0 m c H t).r_outkb_gen _ d ((holds0 m c H t).r_cos2c i d) ((holds0 m c H t).r_sin2c i d)))
  · exact (tiles_k _ _ 0 i d).2.trans ((rowsC_at _ i d).trans ((holds1 m c H t).r_outkb_gen _ d ((holds1 m c H t).r_cos2c i d) ((holds1 m c H t).r_sin2c i d)))
include H in
theorem fill20 (t : Fin cfg0.N) (kv : Fin 2) (i : Fin 128) (d : Fin 64) :
    (((outs m c t.val t.isLt).2.2.2.2.2.2.1 : FVec Ideal S2x128x64 .f32) (ix3 kv i d) : EReal) = (x.pdv kv t i d : EReal) := by
  rw [put20]
  revert kv
  refine two ?_ ?_
  · exact (tiles_v _ _ 0 i d).1.trans ((rowsPv_at _ i d).trans ((holds0 m c H t).r_dv _ d))
  · exact (tiles_v _ _ 0 i d).2.trans ((rowsPv_at _ i d).trans ((holds1 m c H t).r_dv _ d))
include H in
theorem fill21 (t : Fin cfg0.N) (kv : Fin 2) (i : Fin 128) (d : Fin 64) :
    (((outs m c t.val t.isLt).2.2.2.2.2.2.2.1 : FVec Ideal S2x128x64 .f32) (ix3 kv i d) : EReal) = (x.cdv kv t i d : EReal) := by
  rw [put21]
  revert kv
  refine two ?_ ?_
  · exact (tiles_v _ _ 0 i d).1.trans ((rowsCv_at _ i d).trans ((holds0 m c H t).r_dv _ d))
  · exact (tiles_v _ _ 0 i d).2.trans ((rowsCv_at _ i d).trans ((holds1 m c H t).r_dv _ d))

/-- Arrays of 2048 rows given block by block. -/
def atQ (F : Fin 2 → Fin 8 → Fin 16 → Fin 128 → Fin 32 → ℝ) (h : Fin 16) (t : Fin 2048) (d : Fin 32) : ℝ :=
  F ⟨h.val / 8, by omega⟩ ⟨h.val % 8, by omega⟩ ⟨t.val / 128, by omega⟩ ⟨t.val % 128, by omega⟩ d
def atK {n : ℕ} (F : Fin 2 → Fin 16 → Fin 128 → Fin n → ℝ) (h : Fin 2) (t : Fin 2048) (d : Fin n) : ℝ :=
  F h ⟨t.val / 128, by omega⟩ ⟨t.val % 128, by omega⟩ d
def rowsQ (F : Fin 2 → Fin 8 → Fin 16 → Fin 128 → Fin 32 → ℝ) : FVec Ideal S16x2048x32 .f32 := fun y => ((atQ F (y 0) (y 1) (y 2) : ℝ) : EReal)
def rowsK (F : Fin 2 → Fin 16 → Fin 128 → Fin 32 → ℝ) : FVec Ideal S2x2048x32 .f32 := fun y => ((atK F (y 0) (y 1) (y 2) : ℝ) : EReal)
def rowsV (F : Fin 2 → Fin 16 → Fin 128 → Fin 64 → ℝ) : FVec Ideal S2x2048x64 .f32 := fun y => ((atK F (y 0) (y 1) (y 2) : ℝ) : EReal)

theorem row_div (n : Fin 16) (i : Fin 128) (h) : (⟨(row n i).val / 128, h⟩ : Fin 16) = n := Fin.ext (by simp only [row]; omega)
theorem row_mod (n : Fin 16) (i : Fin 128) (h) : (⟨(row n i).val % 128, h⟩ : Fin 128) = i := Fin.ext (by simp only [row]; omega)
theorem head_div (kv : Fin 2) (g : Fin 8) (h) : (⟨(head kv g).val / 8, h⟩ : Fin 2) = kv := Fin.ext (by simp only [head]; omega)
theorem head_mod (kv : Fin 2) (g : Fin 8) (h) : (⟨(head kv g).val % 8, h⟩ : Fin 8) = g := Fin.ext (by simp only [head]; omega)

theorem rowsQ_at (F) (kv : Fin 2) (g : Fin 8) (n : Fin 16) (i : Fin 128) (d : Fin 32) :
    (rowsQ F (ix3 (head kv g) (row n i) d) : EReal) = (F kv g n i d : EReal) := by
  show ((atQ F (head kv g) (row n i) d : ℝ) : EReal) = _
  unfold atQ
  rw [row_div, row_mod, head_div, head_mod]
theorem rowsK_at (F) (kv : Fin 2) (n : Fin 16) (i : Fin 128) (d : Fin 32) :
    (rowsK F (ix3 kv (row n i) d) : EReal) = (F kv n i d : EReal) := by
  show ((atK F kv (row n i) d : ℝ) : EReal) = _
  unfold atK
  rw [row_div, row_mod]
theorem rowsV_at (F) (kv : Fin 2) (n : Fin 16) (i : Fin 128) (d : Fin 64) :
    (rowsV F (ix3 kv (row n i) d) : EReal) = (F kv n i d : EReal) := by
  show ((atK F kv (row n i) d : ℝ) : EReal) = _
  unfold atK
  rw [row_div, row_mod]

theorem head_of (h : Fin 16) : ∃ kv g, h = head kv g :=
  ⟨⟨h.val / 8, by omega⟩, ⟨h.val % 8, by omega⟩, Fin.ext (by simp only [head]; omega)⟩

include H in
theorem arr14 : ((dats m 0 c).arrAt 14 cfg0.N : FVec Ideal S16x2048x32 .f32) = rowsQ fun kv g n i d => x.dqa false kv g n i d := by
  refine (dats m 0 c).arrAt_eq_of_covers 14 _ (by decide +kernel) fun t hf y => ?_
  blk_simp
  rw [after0_14]
  obtain ⟨h, i, d, rfl⟩ : ∃ (h : Fin 16) (i : Fin 128) (d : Fin 32), y = ix3 h i d := ⟨y 0, y 1, y 2, by funext k; fin_cases k <;> rfl⟩
  obtain ⟨kv, g, rfl⟩ := head_of h
  refine (fill14 m c H t kv g i d).trans ((rowsQ_at _ kv g t i d).symm.trans ?_)
  obtain ⟨i14, i15, i16, i17, i18, i19, i20, i21, i22⟩ := idxo t
  blk_ext <;> simp [i14, row]
include H in
theorem arr15 : ((dats m 0 c).arrAt 15 cfg0.N : FVec Ideal S16x2048x32 .f32) = rowsQ fun kv g n i d => x.dqb false kv g n i d := by
  refine (dats m 0 c).arrAt_eq_of_covers 15 _ (by decide +kernel) fun t hf y => ?_
  blk_simp
  rw [after0_15]
  obtain ⟨h, i, d, rfl⟩ : ∃ (h : Fin 16) (i : Fin 128) (d : Fin 32), y = ix3 h i d := ⟨y 0, y 1, y 2, by funext k; fin_cases k <;> rfl⟩
  obtain ⟨kv, g, rfl⟩ := head_of h
  refine (fill15 m c H t kv g i d).trans ((rowsQ_at _ kv g t i d).symm.trans ?_)
  obtain ⟨i14, i15, i16, i17, i18, i19, i20, i21, i22⟩ := idxo t
  blk_ext <;> simp [i15, row]
include H in
theorem arr16 : ((dats m 0 c).arrAt 16 cfg0.N : FVec Ideal S2x2048x32 .f32) = rowsK fun kv n i d => x.pka kv n i d := by
  refine (dats m 0 c).arrAt_eq_of_covers 16 _ (by decide +kernel) fun t hf y => ?_
  blk_simp
  rw [after0_16]
  obtain ⟨kv, i, d, rfl⟩ : ∃ (h : Fin 2) (i : Fin 128) (d : Fin 32), y = ix3 h i d := ⟨y 0, y 1, y 2, by funext k; fin_cases k <;> rfl⟩
  refine (fill16 m c H t kv i d).trans ((rowsK_at _ kv t i d).symm.trans ?_)
  obtain ⟨i14, i15, i16, i17, i18, i19, i20, i21, i22⟩ := idxo t
  blk_ext <;> simp [i16, row]
include H in
theorem arr17 : ((dats m 0 c).arrAt 17 cfg0.N : FVec Ideal S2x2048x32 .f32) = rowsK fun kv n i d => x.cka kv n i d := by
  refine (dats m 0 c).arrAt_eq_of_covers 17 _ (by decide +kernel) fun t hf y => ?_
  blk_simp
  rw [after0_17]
  obtain ⟨kv, i, d, rfl⟩ : ∃ (h : Fin 2) (i : Fin 128) (d : Fin 32), y = ix3 h i d := ⟨y 0, y 1, y 2, by funext k; fin_cases k <;> rfl⟩
  refine (fill17 m c H t kv i d).trans ((rowsK_at _ kv t i d).symm.trans ?_)
  obtain ⟨i14, i15, i16, i17, i18, i19, i20, i21, i22⟩ := idxo t
  blk_ext <;> simp [i17, row]
include H in
theorem arr18 : ((dats m 0 c).arrAt 18 cfg0.N : FVec Ideal S2x2048x32 .f32) = rowsK fun kv n i d => x.pkb kv n i d := by
  refine (dats m 0 c).arrAt_eq_of_covers 18 _ (by decide +kernel) fun t hf y => ?_
  blk_simp
  rw [after0_18]
  obtain ⟨kv, i, d, rfl⟩ : ∃ (h : Fin 2) (i : Fin 128) (d : Fin 32), y = ix3 h i d := ⟨y 0, y 1, y 2, by funext k; fin_cases k <;> rfl⟩
  refine (fill18 m c H t kv i d).trans ((rowsK_at _ kv t i d).symm.trans ?_)
  obtain ⟨i14, i15, i16, i17, i18, i19, i20, i21, i22⟩ := idxo t
  blk_ext <;> simp [i18, row]
include H in
theorem arr19 : ((dats m 0 c).arrAt 19 cfg0.N : FVec Ideal S2x2048x32 .f32) = rowsK fun kv n i d => x.ckb kv n i d := by
  refine (dats m 0 c).arrAt_eq_of_covers 19 _ (by decide +kernel) fun t hf y => ?_
  blk_simp
  rw [after0_19]
  obtain ⟨kv, i, d, rfl⟩ : ∃ (h : Fin 2) (i : Fin 128) (d : Fin 32), y = ix3 h i d := ⟨y 0, y 1, y 2, by funext k; fin_cases k <;> rfl⟩
  refine (fill19 m c H t kv i d).trans ((rowsK_at _ kv t i d).symm.trans ?_)
  obtain ⟨i14, i15, i16, i17, i18, i19, i20, i21, i22⟩ := idxo t
  blk_ext <;> simp [i19, row]
include H in
theorem arr20 : ((dats m 0 c).arrAt 20 cfg0.N : FVec Ideal S2x2048x64 .f32) = rowsV fun kv n i d => x.pdv kv n i d := by
  refine (dats m 0 c).arrAt_eq_of_covers 20 _ (by decide +kernel) fun t hf y => ?_
  blk_simp
  rw [after0_20]
  obtain ⟨kv, i, d, rfl⟩ : ∃ (h : Fin 2) (i : Fin 128) (d : Fin 64), y = ix3 h i d := ⟨y 0, y 1, y 2, by funext k; fin_cases k <;> rfl⟩
  refine (fill20 m c H t kv i d).trans ((rowsV_at _ kv t i d).symm.trans ?_)
  obtain ⟨i14, i15, i16, i17, i18, i19, i20, i21, i22⟩ := idxo t
  blk_ext <;> simp [i20, row]
include H in
theorem arr21 : ((dats m 0 c).arrAt 21 cfg0.N : FVec Ideal S2x2048x64 .f32) = rowsV fun kv n i d => x.cdv kv n i d := by
  refine (dats m 0 c).arrAt_eq_of_covers 21 _ (by decide +kernel) fun t hf y => ?_
  blk_simp
  rw [after0_21]
  obtain ⟨kv, i, d, rfl⟩ : ∃ (h : Fin 2) (i : Fin 128) (d : Fin 64), y = ix3 h i d := ⟨y 0, y 1, y 2, by funext k; fin_cases k <;> rfl⟩
  refine (fill21 m c H t kv i d).trans ((rowsV_at _ kv t i d).symm.trans ?_)
  obtain ⟨i14, i15, i16, i17, i18, i19, i20, i21, i22⟩ := idxo t
  blk_ext <;> simp [i21, row]

end SwaGrad
-- ==== Proof.Tail.lean ====
/- What the program makes of the launch's arrays: each block's share of the previous rows is moved down one block and added,
   the halves are put side by side, the heads are laid out as columns, and the rows are summed. -/
module

public import proofs.«01_k».proof.Proof.Arrays
public import Idealize.ShloMosaic.Lib.StableHlo.RunRead

@[expose] public section

set_option maxRecDepth 16384

noncomputable section

namespace SwaGrad

open Idealize.ShloMosaic Idealize.ShloMosaic.TcCoe Idealize.SL.Sem
open Cert.KernelIdeal Cert.KernelIdeal.Gen

/-- The rows of the next block, zeros after the last. -/
def nextK (a : FVec Ideal S2x2048x32 .f32) : FVec Ideal S2x2048x32 .f32 :=
  concatenate S2x2048x32 1 [⟨S2x1920x32, extractStridedSlice S2x1920x32 ![0, 128, 0] a slices_S2x2048x32_S2x1920x32_0_128_0⟩,
    ⟨S2x128x32, broadcastInDim S2x128x32 ![] bcast_S_S2x128x32 (constant S_ .f32 0x00000000#32)⟩] concatenates_S2x1920x32_S2x128x32_S2x2048x32_d1
def nextV (a : FVec Ideal S2x2048x64 .f32) : FVec Ideal S2x2048x64 .f32 :=
  concatenate S2x2048x64 1 [⟨S2x1920x64, extractStridedSlice S2x1920x64 ![0, 128, 0] a slices_S2x2048x64_S2x1920x64_0_128_0⟩,
    ⟨S2x128x64, broadcastInDim S2x128x64 ![] bcast_S_S2x128x64 (constant S_ .f32 0x00000000#32)⟩] concatenates_S2x1920x64_S2x128x64_S2x2048x64_d1
/-- Two halves side by side. -/
def sideQ (a b : FVec Ideal S16x2048x32 .f32) : FVec Ideal S16x2048x64 .f32 :=
  concatenate S16x2048x64 2 [⟨S16x2048x32, a⟩, ⟨S16x2048x32, b⟩] concatenates_S16x2048x32_S16x2048x32_S16x2048x64_d2
def sideK (a b : FVec Ideal S2x2048x32 .f32) : FVec Ideal S2x2048x64 .f32 :=
  concatenate S2x2048x64 2 [⟨S2x2048x32, a⟩, ⟨S2x2048x32, b⟩] concatenates_S2x2048x32_S2x2048x32_S2x2048x64_d2
/-- The queries', keys' and values' heads, one after the other. -/
def stack (q : FVec Ideal S16x2048x64 .f32) (k v : FVec Ideal S2x2048x64 .f32) : FVec Ideal S20x2048x64 .f32 :=
  concatenate S20x2048x64 0 [⟨S16x2048x64, q⟩, ⟨S2x2048x64, k⟩, ⟨S2x2048x64, v⟩] concatenates_S16x2048x64_S2x2048x64_S2x2048x64_S20x2048x64_d0
/-- The heads as columns. -/
def cols (a : FVec Ideal S20x2048x64 .f32) : FVec Ideal S2048x1280 .f32 :=
  shapeCast S2048x1280 (transpose S2048x20x64 [1, 0, 2] a transposes_S20x2048x64_S2048x20x64_1_0_2) shapeCasts_S2048x20x64_S2048x1280
/-- The sum of the rows. -/
def total (a : FVec Ideal S2048x1280 .f32) : FVec Ideal S1x1280 .f32 :=
  broadcastInDim S1x1280 ![1] bcast_S1280_S1x1280_1 (Host.reduceAdd a (constant S_ .f32 0x00000000#32) reducesTo_S2048x1280_S1280_d0 h_S_)
/-- The sinks' gradient as one row. -/
def oneRow (a : FVec Ideal S2x8x1 .f32) : FVec Ideal S1x16 .f32 := shapeCast S1x16 a shapeCasts_S2x8x1_S1x16

def merged (a0 a1 : FVec Ideal S16x2048x32 .f32) (a2 a3 a4 a5 : FVec Ideal S2x2048x32 .f32) (a6 a7 : FVec Ideal S2x2048x64 .f32) :
    FVec Ideal S2048x1280 .f32 :=
  cols (stack (sideQ a0 a1) (sideK (addf a3 (nextK a2)) (addf a5 (nextK a4))) (addf a7 (nextV a6)))

theorem nextK_lt (a : FVec Ideal S2x2048x32 .f32) (h : Fin 2) (t : Fin 1920) (d : Fin 32) :
    (nextK a (ix3 h ⟨t.val, by omega⟩ d) : EReal) = a (ix3 h ⟨128 + t.val, by omega⟩ d) := by
  pointwise [nextK]
theorem nextK_ge (a : FVec Ideal S2x2048x32 .f32) (h : Fin 2) (i : Fin 128) (d : Fin 32) :
    (nextK a (ix3 h ⟨1920 + i.val, by omega⟩ d) : EReal) = 0 := by
  pointwise [nextK]
theorem nextV_lt (a : FVec Ideal S2x2048x64 .f32) (h : Fin 2) (t : Fin 1920) (d : Fin 64) :
    (nextV a (ix3 h ⟨t.val, by omega⟩ d) : EReal) = a (ix3 h ⟨128 + t.val, by omega⟩ d) := by
  pointwise [nextV]
theorem nextV_ge (a : FVec Ideal S2x2048x64 .f32) (h : Fin 2) (i : Fin 128) (d : Fin 64) :
    (nextV a (ix3 h ⟨1920 + i.val, by omega⟩ d) : EReal) = 0 := by
  pointwise [nextV]
theorem sideQ_a (a b) (h : Fin 16) (t : Fin 2048) (d : Fin 32) : (sideQ a b (ix3 h t ⟨d.val, by omega⟩) : EReal) = a (ix3 h t d) := by
  pointwise [sideQ]
theorem sideQ_b (a b) (h : Fin 16) (t : Fin 2048) (d : Fin 32) : (sideQ a b (ix3 h t ⟨32 + d.val, by omega⟩) : EReal) = b (ix3 h t d) := by
  pointwise [sideQ]
theorem sideK_a (a b) (h : Fin 2) (t : Fin 2048) (d : Fin 32) : (sideK a b (ix3 h t ⟨d.val, by omega⟩) : EReal) = a (ix3 h t d) := by
  pointwise [sideK]
theorem sideK_b (a b) (h : Fin 2) (t : Fin 2048) (d : Fin 32) : (sideK a b (ix3 h t ⟨32 + d.val, by omega⟩) : EReal) = b (ix3 h t d) := by
  pointwise [sideK]
theorem stack_q (q k v) (h : Fin 16) (t : Fin 2048) (c : Fin 64) : (stack q k v (ix3 ⟨h.val, by omega⟩ t c) : EReal) = q (ix3 h t c) := by
  pointwise [stack]
theorem stack_k (q k v) (h : Fin 2) (t : Fin 2048) (c : Fin 64) : (stack q k v (ix3 ⟨16 + h.val, by omega⟩ t c) : EReal) = k (ix3 h t c) := by
  pointwise [stack]
theorem stack_v (q k v) (h : Fin 2) (t : Fin 2048) (c : Fin 64) : (stack q k v (ix3 ⟨18 + h.val, by omega⟩ t c) : EReal) = v (ix3 h t c) := by
  pointwise [stack]
  rw [dif_neg (by omega), dif_neg (by omega)]
  exact congrArg (fun h => (v (ix3 h t c) : EReal)) (Fin.ext (by simp only []; omega))
theorem cols_at (a) (h : Fin 20) (t : Fin 2048) (c : Fin 64) : (cols a (ix2 t ⟨h.val * 64 + c.val, by omega⟩) : EReal) = a (ix3 h t c) := by
  pointwise [cols]
theorem oneRow_at (a) (kv : Fin 2) (g : Fin 8) : (oneRow a (ix2 0 (head kv g)) : EReal) = a (ix3 kv g 0) := by
  unfold head
  pointwise [oneRow]

/-- The rows of the next block, of an array given block by block. -/
theorem nextK_row (F : Fin 2 → Fin 16 → Fin 128 → Fin 32 → ℝ) (h : Fin 2) (n : Fin 16) (i : Fin 128) (d : Fin 32) :
    (nextK (rowsK F) (ix3 h (row n i) d) : EReal) = ((Inp.nxt n fun n' => F h n' i d : ℝ) : EReal) := by
  unfold Inp.nxt
  by_cases hn : n.val + 1 < 16
  · rw [dif_pos hn, ← rowsK_at F, show row n i = ⟨(⟨(row n i).val, by simp only [row]; omega⟩ : Fin 1920).val, by simp only [row]; omega⟩ from rfl, nextK_lt]
    exact congrArg (fun t => (rowsK F (ix3 h t d) : EReal)) (Fin.ext (by simp only [row]; omega))
  · rw [dif_neg hn, show row n i = ⟨1920 + i.val, by omega⟩ from Fin.ext (by simp only [row]; omega), nextK_ge]
    rfl
theorem nextV_row (F : Fin 2 → Fin 16 → Fin 128 → Fin 64 → ℝ) (h : Fin 2) (n : Fin 16) (i : Fin 128) (d : Fin 64) :
    (nextV (rowsV F) (ix3 h (row n i) d) : EReal) = ((Inp.nxt n fun n' => F h n' i d : ℝ) : EReal) := by
  unfold Inp.nxt
  by_cases hn : n.val + 1 < 16
  · rw [dif_pos hn, ← rowsV_at F, show row n i = ⟨(⟨(row n i).val, by simp only [row]; omega⟩ : Fin 1920).val, by simp only [row]; omega⟩ from rfl, nextV_lt]
    exact congrArg (fun t => (rowsV F (ix3 h t d) : EReal)) (Fin.ext (by simp only [row]; omega))
  · rw [dif_neg hn, show row n i = ⟨1920 + i.val, by omega⟩ from Fin.ext (by simp only [row]; omega), nextV_ge]
    rfl

/-- Two reals added. -/
theorem add_of {A B : EReal} {a b : ℝ} (hA : A = (a : EReal)) (hB : B = (b : EReal)) : A + B = ((a + b : ℝ) : EReal) := by
  rw [hA, hB, ← EReal.coe_add]

variable (x : Inp)

/-- The rows the program puts together are the gradient. -/
theorem merged_isGrad : x.IsGrad fun t j => (merged (rowsQ fun kv g n i d => x.dqa false kv g n i d) (rowsQ fun kv g n i d => x.dqb false kv g n i d)
    (rowsK fun kv n i d => x.pka kv n i d) (rowsK fun kv n i d => x.cka kv n i d) (rowsK fun kv n i d => x.pkb kv n i d)
    (rowsK fun kv n i d => x.ckb kv n i d) (rowsV fun kv n i d => x.pdv kv n i d) (rowsV fun kv n i d => x.cdv kv n i d) (ix2 t j) : EReal) where
  qa kv g n i d := by
    unfold merged
    refine (cols_at _ ⟨(head kv g).val, by omega⟩ (row n i) ⟨d.val, by omega⟩).trans ((stack_q _ _ _ (head kv g) _ _).trans ?_)
    rw [sideQ_a, rowsQ_at, x.dqa_eq]
  qb kv g n i d := by
    unfold merged
    refine (cols_at _ ⟨(head kv g).val, by omega⟩ (row n i) ⟨32 + d.val, by omega⟩).trans ((stack_q _ _ _ (head kv g) _ _).trans ?_)
    rw [sideQ_b, rowsQ_at, x.dqb_eq]
  ka h n i d := by
    unfold merged
    rw [show (⟨1024 + (h.val * 64 + d.val), by omega⟩ : Fin 1280) = ⟨(⟨16 + h.val, by omega⟩ : Fin 20).val * 64 + (⟨d.val, by omega⟩ : Fin 64).val, by simp only []; omega⟩
      from Fin.ext (by simp only []; omega)]
    refine (cols_at _ _ (row n i) _).trans ((stack_k _ _ _ h _ _).trans ((sideK_a _ _ _ _ _).trans ?_))
    refine (add_of (rowsK_at _ h n i d) (nextK_row _ h n i d)).trans (congrArg _ ?_)
    rw [← x.dka_eq, x.dka_split]
    unfold Inp.nxt Inp.cka Inp.pka
    split <;> rfl
  kb h n i d := by
    unfold merged
    rw [show (⟨1024 + (h.val * 64 + (32 + d.val)), by omega⟩ : Fin 1280) = ⟨(⟨16 + h.val, by omega⟩ : Fin 20).val * 64 + (⟨32 + d.val, by omega⟩ : Fin 64).val, by simp only []; omega⟩
      from Fin.ext (by simp only []; omega)]
    refine (cols_at _ _ (row n i) _).trans ((stack_k _ _ _ h _ _).trans ((sideK_b _ _ _ _ _).trans ?_))
    refine (add_of (rowsK_at _ h n i d) (nextK_row _ h n i d)).trans (congrArg _ ?_)
    rw [← x.dkb_eq, x.dkb_split]
    unfold Inp.nxt Inp.ckb Inp.pkb
    split <;> rfl
  v h n i c := by
    unfold merged
    rw [show (⟨1152 + (h.val * 64 + c.val), by omega⟩ : Fin 1280) = ⟨(⟨18 + h.val, by omega⟩ : Fin 20).val * 64 + c.val, by simp only []; omega⟩
      from Fin.ext (by simp only []; omega)]
    refine (cols_at _ _ (row n i) _).trans ((stack_v _ _ _ h _ _).trans ?_)
    refine (add_of (rowsV_at _ h n i c) (nextV_row _ h n i c)).trans (congrArg _ ?_)
    rw [← x.dv_eq]
    rfl

end SwaGrad
-- ==== Proof.Sink.lean ====
/- The sinks' gradient: the launch adds up what each grid point finds. -/
module

public import proofs.«01_k».proof.Proof.Arrays

@[expose] public section

set_option maxRecDepth 16384

noncomputable section

namespace SwaGrad

open Idealize.ShloMosaic Idealize.ShloMosaic.TcCoe Idealize.SL.Sem
open Cert.KernelIdeal Cert.KernelIdeal.Gen

theorem flat_at (f : FVec Ideal S8x1x1 .f32) (g : Fin 8) : (flat f (ix3 0 g 0) : EReal) = f (ix3 g 0 0) := by
  pointwise [flat, k0_pay56]
theorem pay1_at (a b : FVec Ideal S1x8x1 .f32) (g : Fin 8) :
    (k0_pay1 a b (ix3 0 g 0) : EReal) = a (ix3 0 g 0) ∧ (k0_pay1 a b (ix3 1 g 0) : EReal) = b (ix3 0 g 0) := by
  constructor
  · have := show (k0_pay1 a b (ix3 ⟨(0 : Fin 1).val, by omega⟩ g 0) : EReal) = a (ix3 0 g 0) by pointwise [k0_pay1]
    exact this
  · have := show (k0_pay1 a b (ix3 ⟨1 + (0 : Fin 1).val, by omega⟩ g 0) : EReal) = b (ix3 0 g 0) by pointwise [k0_pay1]
    exact this
theorem pay2_at (a b : FVec Ideal S1x8x1 .f32) (p : FVec Ideal S2x8x1 .f32) (kv : Fin 2) (g : Fin 8) :
    (k0_pay2 a b p (ix3 kv g 0) : EReal) = p (ix3 kv g 0) + k0_pay1 a b (ix3 kv g 0) := by
  generalize hq : k0_pay1 a b = q
  have := show (addf (shapeCast S2x8x1 p shapeCasts_S2x8x1_S2x8x1) q (ix3 kv g 0) : EReal) = p (ix3 kv g 0) + q (ix3 kv g 0) by pointwise
  rw [← this, ← hq]
  rfl

variable (m : (ℓ : Loc nD τ sig) → Buf (Elt Ideal) ℓ) (c : Dev nD)
variable {x : Inp} (H : KHolds m c x)

/-- A grid point's part of a sink's gradient, nothing beyond the last. -/
def part (x : Inp) (kv : Fin 2) (g : Fin 8) (n : ℕ) : ℝ := if h : n < 16 then (x.blk false kv ⟨n, h⟩).dsink g else 0

include H in
theorem found (t : Fin cfg0.N) (kv : Fin 2) (g : Fin 8) :
    (k0_pay1 (flat (hd0 m c t).dsink) (flat (hd1 m c t).dsink) (ix3 kv g 0) : EReal) = (part x kv g t.val : EReal) := by
  rw [show part x kv g t.val = (x.blk false kv t).dsink g from dif_pos t.isLt]
  revert kv
  refine two ?_ ?_
  · exact (pay1_at _ _ g).1.trans ((flat_at _ g).trans ((holds0 m c H t).r_dsink g))
  · exact (pay1_at _ _ g).2.trans ((flat_at _ g).trans ((holds1 m c H t).r_dsink g))

include H in
theorem sums (kv : Fin 2) (g : Fin 8) : ∀ (k : ℕ) (hk : k < cfg0.N),
    (((outs m c k hk).2.2.2.2.2.2.2.2 : FVec Ideal S2x8x1 .f32) (ix3 kv g 0) : EReal) = ((∑ n ∈ Finset.range (k + 1), part x kv g n : ℝ) : EReal) := by
  intro k
  induction k with
  | zero =>
    intro hk
    rw [show (outs m c 0 hk).2.2.2.2.2.2.2.2 = _ from put22_A m c ⟨0, hk⟩ rfl, Finset.sum_range_one]
    exact found m c H ⟨0, hk⟩ kv g
  | succ k ih =>
    intro hk
    rw [show (outs m c (k + 1) hk).2.2.2.2.2.2.2.2 = _ from put22_B m c ⟨k + 1, hk⟩ (Nat.succ_ne_zero k), Finset.sum_range_succ, EReal.coe_add]
    refine (pay2_at _ _ _ kv g).trans ?_
    rw [← ih (by omega), ← found m c H ⟨k + 1, hk⟩ kv g]
    rfl

/-- The last grid point. -/
def last : Fin cfg0.N := (⟨15, by decide⟩ : Fin grid0.N)

def sinkA (x : Inp) : FVec Ideal S2x8x1 .f32 := fun y => ((x.dsk false (y 0) (y 1) : ℝ) : EReal)

include H in
theorem arr22 : ((dats m 0 c).arrAt 22 cfg0.N : FVec Ideal S2x8x1 .f32) = sinkA x := by
  refine (dats m 0 c).arrAt_eq_of_after_last 22 last (by decide +kernel) _ fun j => ?_
  rw [after0_22]
  obtain ⟨kv, g, z, rfl⟩ : ∃ (h : Fin 2) (i : Fin 8) (d : Fin 1), j = ix3 h i d := ⟨j 0, j 1, j 2, by funext k; fin_cases k <;> rfl⟩
  obtain rfl : z = 0 := Subsingleton.elim _ _
  have e := sums m c H kv g 15 (by decide)
  have e2 : (∑ n ∈ Finset.range (15 + 1), part x kv g n) = x.dsk false kv g := by
    rw [Finset.sum_range]
    exact Finset.sum_congr rfl fun n _ => dif_pos n.isLt
  rw [e2] at e
  refine Eq.trans ?_ (e.trans ?_)
  · rfl
  · refine Eq.trans (show ((x.dsk false kv g : ℝ) : EReal) = sinkA x (ix3 kv g 0) from rfl) ?_
    obtain ⟨i14, i15, i16, i17, i18, i19, i20, i21, i22⟩ := idxo last
    blk_ext <;> simp [i22]

end SwaGrad
-- ==== Proof.Final.lean ====
/- The arrays the whole program leaves: the gradient of the projected rows, the sum of its rows, and the sinks' gradient. -/
module

public import proofs.«01_k».proof.Proof.Tail
public import proofs.«01_k».proof.Proof.Sink

@[expose] public section

set_option maxRecDepth 16384

noncomputable section

namespace SwaGrad

open Idealize.ShloMosaic Idealize.ShloMosaic.TcCoe Idealize.SL.Sem
open Cert.KernelIdeal Cert.KernelIdeal.Gen

/-- The gradient of the projected rows, as the program lays it out. -/
def gradK (x : Inp) : FVec Ideal S2048x1280 .f32 :=
  merged (rowsQ fun kv g n i d => x.dqa false kv g n i d) (rowsQ fun kv g n i d => x.dqb false kv g n i d)
    (rowsK fun kv n i d => x.pka kv n i d) (rowsK fun kv n i d => x.cka kv n i d) (rowsK fun kv n i d => x.pkb kv n i d)
    (rowsK fun kv n i d => x.ckb kv n i d) (rowsV fun kv n i d => x.pdv kv n i d) (rowsV fun kv n i d => x.cdv kv n i d)

variable (m : (ℓ : Loc nD τ sig) → Buf (Elt Ideal) ℓ) (c : Dev nD)

/-- The contents the launch leaves. -/
abbrev left : Valuation τ sig (Elt Ideal) :=
  Pipeline.withArrays (cfgs 0).spec c (V0 m c) fun w => (dats m 0 c).arrAt w (cfgs 0).N

theorem left_arr (w : Fin cfg0.W) : left m c (Proc.devRef .tc (Pipeline.arrRef spec0 w)) = (dats m 0 c).arrAt w cfg0.N :=
  Pipeline.withArrays_arr_shared spec0 c (V0 m c) _
    (fun w w' h e => Pipeline.Dat.arrAt_sharedIn (dats m 0 c) sharedIn0 (V0 m c) (fun w => A_eq m c w) cfg0.N w w' h e) w

variable {x : Inp} (H : KHolds m c x)
include H

theorem l0 : left m c (Proc.devRef .tc main_v26_0) = rowsQ fun kv g n i d => x.dqa false kv g n i d := (left_arr m c 14).trans (arr14 m c H)
theorem l1 : left m c (Proc.devRef .tc main_v26_1) = rowsQ fun kv g n i d => x.dqb false kv g n i d := (left_arr m c 15).trans (arr15 m c H)
theorem l2 : left m c (Proc.devRef .tc main_v26_2) = rowsK fun kv n i d => x.pka kv n i d := (left_arr m c 16).trans (arr16 m c H)
theorem l3 : left m c (Proc.devRef .tc main_v26_3) = rowsK fun kv n i d => x.cka kv n i d := (left_arr m c 17).trans (arr17 m c H)
theorem l4 : left m c (Proc.devRef .tc main_v26_4) = rowsK fun kv n i d => x.pkb kv n i d := (left_arr m c 18).trans (arr18 m c H)
theorem l5 : left m c (Proc.devRef .tc main_v26_5) = rowsK fun kv n i d => x.ckb kv n i d := (left_arr m c 19).trans (arr19 m c H)
theorem l6 : left m c (Proc.devRef .tc main_v26_6) = rowsV fun kv n i d => x.pdv kv n i d := (left_arr m c 20).trans (arr20 m c H)
theorem l7 : left m c (Proc.devRef .tc main_v26_7) = rowsV fun kv n i d => x.cdv kv n i d := (left_arr m c 21).trans (arr21 m c H)
theorem l8 : left m c (Proc.devRef .tc main_v26_8) = sinkA x := (left_arr m c 22).trans (arr22 m c H)

set_option maxHeartbeats 2000000 in
theorem start0 : (StableHlo.upto hostOps1 (left m c) 0 (Proc.devRef .tc main_v26_0) : FVec Ideal S16x2048x32 .f32) = (rowsQ fun kv g n i d => x.dqa false kv g n i d) := by
  unfold_abbrev_sides
  after_reads_simp
  show left m c (Proc.devRef .tc main_v26_0) = (rowsQ fun kv g n i d => x.dqa false kv g n i d)
  rw [l0 m c H]
set_option maxHeartbeats 2000000 in
theorem start1 : (StableHlo.upto hostOps1 (left m c) 0 (Proc.devRef .tc main_v26_1) : FVec Ideal S16x2048x32 .f32) = (rowsQ fun kv g n i d => x.dqb false kv g n i d) := by
  unfold_abbrev_sides
  after_reads_simp
  show left m c (Proc.devRef .tc main_v26_1) = (rowsQ fun kv g n i d => x.dqb false kv g n i d)
  rw [l1 m c H]
set_option maxHeartbeats 2000000 in
theorem shift2 : (StableHlo.upto hostOps1 (left m c) 5 (Proc.devRef .tc main_v28) : FVec Ideal S2x1920x32 .f32) = extractStridedSlice S2x1920x32 ![0, 128, 0] (rowsK fun kv n i d => x.pka kv n i d) slices_S2x2048x32_S2x1920x32_0_128_0 := by
  unfold_abbrev_sides
  after_reads_simp
  rw [l2 m c H]
set_option maxHeartbeats 2000000 in
theorem shift4 : (StableHlo.upto hostOps1 (left m c) 11 (Proc.devRef .tc main_v33) : FVec Ideal S2x1920x32 .f32) = extractStridedSlice S2x1920x32 ![0, 128, 0] (rowsK fun kv n i d => x.pkb kv n i d) slices_S2x2048x32_S2x1920x32_0_128_0 := by
  unfold_abbrev_sides
  after_reads_simp
  rw [l4 m c H]
set_option maxHeartbeats 2000000 in
theorem shift6 : (StableHlo.upto hostOps1 (left m c) 18 (Proc.devRef .tc main_v39) : FVec Ideal S2x1920x64 .f32) = extractStridedSlice S2x1920x64 ![0, 128, 0] (rowsV fun kv n i d => x.pdv kv n i d) slices_S2x2048x64_S2x1920x64_0_128_0 := by
  unfold_abbrev_sides
  after_reads_simp
  rw [l6 m c H]
set_option maxHeartbeats 2000000 in
omit H in
theorem zero2 : (StableHlo.upto hostOps1 (left m c) 5 (Proc.devRef .tc main_v30) : FVec Ideal S2x128x32 .f32) = broadcastInDim S2x128x32 ![] bcast_S_S2x128x32 (constant (F := Ideal) S_ .f32 0x00000000#32) := by
  unfold_abbrev_sides
  after_reads_simp
set_option maxHeartbeats 2000000 in
omit H in
theorem zero4 : (StableHlo.upto hostOps1 (left m c) 11 (Proc.devRef .tc main_v35) : FVec Ideal S2x128x32 .f32) = broadcastInDim S2x128x32 ![] bcast_S_S2x128x32 (constant (F := Ideal) S_ .f32 0x00000000#32) := by
  unfold_abbrev_sides
  after_reads_simp
set_option maxHeartbeats 2000000 in
omit H in
theorem zero6 : (StableHlo.upto hostOps1 (left m c) 18 (Proc.devRef .tc main_v41) : FVec Ideal S2x128x64 .f32) = broadcastInDim S2x128x64 ![] bcast_S_S2x128x64 (constant (F := Ideal) S_ .f32 0x00000000#32) := by
  unfold_abbrev_sides
  after_reads_simp
set_option maxHeartbeats 2000000 in
theorem keysA : (StableHlo.upto hostOps1 (left m c) 13 (Proc.devRef .tc main_v32) : FVec Ideal S2x2048x32 .f32) = addf (rowsK fun kv n i d => x.cka kv n i d) (nextK (rowsK fun kv n i d => x.pka kv n i d)) := by
  unfold_abbrev_sides
  after_reads_simp
  show addf (left m c (Proc.devRef .tc main_v26_3)) (concatenate S2x2048x32 1 [⟨S2x1920x32, ((StableHlo.upto hostOps1 (left m c) 5 (Proc.devRef .tc main_v28)) : FVec Ideal S2x1920x32 .f32)⟩, ⟨S2x128x32, ((StableHlo.upto hostOps1 (left m c) 5 (Proc.devRef .tc main_v30)) : FVec Ideal S2x128x32 .f32)⟩] concatenates_S2x1920x32_S2x128x32_S2x2048x32_d1) = addf (rowsK fun kv n i d => x.cka kv n i d) (nextK (rowsK fun kv n i d => x.pka kv n i d))
  rw [l3 m c H, shift2 m c H, zero2 m c]
  rfl
set_option maxHeartbeats 2000000 in
theorem keysB : (StableHlo.upto hostOps1 (left m c) 13 (Proc.devRef .tc main_v37) : FVec Ideal S2x2048x32 .f32) = addf (rowsK fun kv n i d => x.ckb kv n i d) (nextK (rowsK fun kv n i d => x.pkb kv n i d)) := by
  unfold_abbrev_sides
  after_reads_simp
  show addf (left m c (Proc.devRef .tc main_v26_5)) (concatenate S2x2048x32 1 [⟨S2x1920x32, ((StableHlo.upto hostOps1 (left m c) 11 (Proc.devRef .tc main_v33)) : FVec Ideal S2x1920x32 .f32)⟩, ⟨S2x128x32, ((StableHlo.upto hostOps1 (left m c) 11 (Proc.devRef .tc main_v35)) : FVec Ideal S2x128x32 .f32)⟩] concatenates_S2x1920x32_S2x128x32_S2x2048x32_d1) = addf (rowsK fun kv n i d => x.ckb kv n i d) (nextK (rowsK fun kv n i d => x.pkb kv n i d))
  rw [l5 m c H, shift4 m c H, zero4 m c]
  rfl
set_option maxHeartbeats 2000000 in
theorem gradV : (StableHlo.upto hostOps1 (left m c) 20 (Proc.devRef .tc main_v43) : FVec Ideal S2x2048x64 .f32) = addf (rowsV fun kv n i d => x.cdv kv n i d) (nextV (rowsV fun kv n i d => x.pdv kv n i d)) := by
  unfold_abbrev_sides
  after_reads_simp
  show addf (left m c (Proc.devRef .tc main_v26_7)) (concatenate S2x2048x64 1 [⟨S2x1920x64, ((StableHlo.upto hostOps1 (left m c) 18 (Proc.devRef .tc main_v39)) : FVec Ideal S2x1920x64 .f32)⟩, ⟨S2x128x64, ((StableHlo.upto hostOps1 (left m c) 18 (Proc.devRef .tc main_v41)) : FVec Ideal S2x128x64 .f32)⟩] concatenates_S2x1920x64_S2x128x64_S2x2048x64_d1) = addf (rowsV fun kv n i d => x.cdv kv n i d) (nextV (rowsV fun kv n i d => x.pdv kv n i d))
  rw [l7 m c H, shift6 m c H, zero6 m c]
  rfl
set_option maxHeartbeats 2000000 in
theorem gradQ : (StableHlo.upto hostOps1 (left m c) 20 (Proc.devRef .tc main_v27) : FVec Ideal S16x2048x64 .f32) = sideQ (rowsQ fun kv g n i d => x.dqa false kv g n i d) (rowsQ fun kv g n i d => x.dqb false kv g n i d) := by
  unfold_abbrev_sides
  after_reads_simp
  show sideQ (StableHlo.upto hostOps1 (left m c) 0 (Proc.devRef .tc main_v26_0)) (StableHlo.upto hostOps1 (left m c) 0 (Proc.devRef .tc main_v26_1)) = sideQ (rowsQ fun kv g n i d => x.dqa false kv g n i d) (rowsQ fun kv g n i d => x.dqb false kv g n i d)
  rw [start0 m c H, start1 m c H]
set_option maxHeartbeats 2000000 in
theorem gradKeys : (StableHlo.upto hostOps1 (left m c) 20 (Proc.devRef .tc main_v38) : FVec Ideal S2x2048x64 .f32) = sideK (addf (rowsK fun kv n i d => x.cka kv n i d) (nextK (rowsK fun kv n i d => x.pka kv n i d))) (addf (rowsK fun kv n i d => x.ckb kv n i d) (nextK (rowsK fun kv n i d => x.pkb kv n i d))) := by
  unfold_abbrev_sides
  after_reads_simp
  show sideK (StableHlo.upto hostOps1 (left m c) 13 (Proc.devRef .tc main_v32)) (StableHlo.upto hostOps1 (left m c) 13 (Proc.devRef .tc main_v37)) = sideK (addf (rowsK fun kv n i d => x.cka kv n i d) (nextK (rowsK fun kv n i d => x.pka kv n i d))) (addf (rowsK fun kv n i d => x.ckb kv n i d) (nextK (rowsK fun kv n i d => x.pkb kv n i d)))
  rw [keysA m c H, keysB m c H]
set_option maxHeartbeats 2000000 in
theorem res46 : (Pipeline.afterTail₀ cfgs (dats m) 0 (V0 m) [hostOps1] c main_v46 : FVec Ideal S2048x1280 .f32) = gradK x := by
  unfold Pipeline.afterTail₀
  simp only [List.flatten_cons, List.flatten_nil, List.append_nil]
  unfold_abbrev_sides
  after_reads_simp
  show cols (stack (StableHlo.upto hostOps1 (left m c) 20 (Proc.devRef .tc main_v27)) (StableHlo.upto hostOps1 (left m c) 20 (Proc.devRef .tc main_v38)) (StableHlo.upto hostOps1 (left m c) 20 (Proc.devRef .tc main_v43))) = gradK x
  rw [gradQ m c H, gradKeys m c H, gradV m c H]
  rfl
set_option maxHeartbeats 2000000 in
theorem res48 : (Pipeline.afterTail₀ cfgs (dats m) 0 (V0 m) [hostOps1] c main_v48 : FVec Ideal S1x1280 .f32) = total (gradK x) := by
  unfold Pipeline.afterTail₀
  simp only [List.flatten_cons, List.flatten_nil, List.append_nil]
  unfold_abbrev_sides
  after_reads_simp
  show total (cols (stack (StableHlo.upto hostOps1 (left m c) 20 (Proc.devRef .tc main_v27)) (StableHlo.upto hostOps1 (left m c) 20 (Proc.devRef .tc main_v38)) (StableHlo.upto hostOps1 (left m c) 20 (Proc.devRef .tc main_v43)))) = total (gradK x)
  rw [gradQ m c H, gradKeys m c H, gradV m c H]
  rfl
set_option maxHeartbeats 2000000 in
theorem res49 : (Pipeline.afterTail₀ cfgs (dats m) 0 (V0 m) [hostOps1] c main_v49 : FVec Ideal S1x16 .f32) = oneRow (sinkA x) := by
  unfold Pipeline.afterTail₀
  simp only [List.flatten_cons, List.flatten_nil, List.append_nil]
  unfold_abbrev_sides
  after_reads_simp
  have e8 := l8 m c H
  unfold left at e8
  rw [e8]
  rfl

end SwaGrad
-- ==== Proof.Finite.lean ====
/- Under the precondition the arguments are reals. -/
module

public import proofs.«01_k».proof.Defs
public import proofs.«01_k».proof.Proof.Reads
public import proofs.«01_k».proof.Proof.Consts
public import proofs.«01_k».proof.Proof.Gen.Pre_finite

@[expose] public section

set_option maxRecDepth 16384

noncomputable section

namespace SwaGrad

open Idealize.ShloMosaic Idealize.ShloMosaic.TcCoe Idealize.SL.Sem

/-- What is smaller than infinity in absolute value is a real. -/
theorem real_of (X : EReal) (h : (FloatOps.cmpf (F := Ideal) (φ := .f32) .olt (FloatOps.absf (F := Ideal) (φ := .f32) X) (Ideal.ofBits .f32 0x7F800000#32) : BitVec 1) = 1#1) :
    X = (X.toReal : EReal) := by
  rw [ofBits_inf] at h
  refine (EReal.coe_toReal ?_ ?_).symm
  · rintro rfl; revert h; simp [FloatOps.cmpf, FloatOps.absf, Ideal.cmp]
  · rintro rfl; revert h; simp [FloatOps.cmpf, FloatOps.absf, Ideal.cmp]

theorem fin0 (a b) (d) (h : (Cert.Pre_finite.fn (F := Ideal) a b d).1 = fun _ => 1#1) (i : Fin 2048) (j : Fin 1280) :
    (a (ix2 i j) : EReal) = ((a (ix2 i j) : EReal).toReal : EReal) := by
  refine real_of _ ((congrFun h (ix2 i j) : _).symm.trans ?_).symm
  pointwise [Cert.Pre_finite.fn]
theorem fin1 (a b) (d) (h : (Cert.Pre_finite.fn (F := Ideal) a b d).2.1 = fun _ => 1#1) (j : Fin 16) :
    (b (ix2 0 j) : EReal) = ((b (ix2 0 j) : EReal).toReal : EReal) := by
  refine real_of _ ((congrFun h (ix2 0 j) : _).symm.trans ?_).symm
  pointwise [Cert.Pre_finite.fn]
theorem fin2 (a b) (d) (h : (Cert.Pre_finite.fn (F := Ideal) a b d).2.2 = fun _ => 1#1) (i : Fin 16) (t : Fin 2048) (j : Fin 64) :
    (d (ix3 i t j) : EReal) = ((d (ix3 i t j) : EReal).toReal : EReal) := by
  refine real_of _ ((congrFun h (ix3 i t j) : _).symm.trans ?_).symm
  pointwise [Cert.Pre_finite.fn]

open Cert.KernelIdeal

/-- The reals a device's arguments are. -/
def inpOf (m : (ℓ : Loc nD τ sig) → Buf (Elt Ideal) ℓ) (c : Dev nD) : Inp where
  za t j := ((m ((c.tc : Thread nD τ).loc main_arg0) : FVec Ideal S2048x1280 .f32) (ix2 t j) : EReal).toReal
  sk h := ((m ((c.tc : Thread nD τ).loc main_arg1) : FVec Ideal S1x16 .f32) (ix2 0 h) : EReal).toReal
  ct h t j := ((m ((c.tc : Thread nD τ).loc main_arg2) : FVec Ideal S16x2048x64 .f32) (ix3 h t j) : EReal).toReal
  C t d := cosT t.val d.val
  S t d := sinT t.val d.val

theorem holds_of (m : (ℓ : Loc nD τ sig) → Buf (Elt Ideal) ℓ) (h : Cert.Pre_KernelIdeal_finite m) (c : Dev nD) : KHolds m c (inpOf m c) where
  za t j := fin0 _ _ _ (h c).1 t j
  sk g := fin1 _ _ _ (h c).2.1 g
  ct g t j := fin2 _ _ _ (h c).2.2 g t j
  C _ _ := rfl
  S _ _ := rfl

end SwaGrad
-- ==== Proof.Ref.Reduce.lean ====
/- Reductions of arrays of rank 6, read at an index of the result: over the last axis, over the two outer axes, and
   over every axis but the third and the fourth; and sums and maxima over 64 and 257 entries, taken apart. -/
module

public import Idealize.ShloMosaic.Lib.Pipeline.ValueKit
public import proofs.«01_k».proof.Proof.Attn

@[expose] public section

noncomputable section

namespace SwaGrad

open Idealize.ShloMosaic

section Rank6
variable {n0 n1 n2 n3 n4 n5 : ℕ}

/-- An index drops its last coordinate. -/
theorem drop_last (h : (⟨6, ![n0, n1, n2, n3, n4, n5]⟩ : Shape).ReducesTo [5] ⟨5, ![n0, n1, n2, n3, n4]⟩)
    (a : Fin n0) (b : Fin n1) (c : Fin n2) (d : Fin n3) (e : Fin n4) (i : (⟨6, ![n0, n1, n2, n3, n4, n5]⟩ : Shape).Idx) :
    h.drop i = ix5 a b c d e ↔ ∃ k : Fin n5, ix6 a b c d e k = i := by
  refine ⟨fun q => ⟨i 5, funext fun x => Fin.ext ?_⟩, ?_⟩
  · match x with
    | ⟨0, _⟩ => exact (congrArg Fin.val (congrFun q 0)).symm
    | ⟨1, _⟩ => exact (congrArg Fin.val (congrFun q 1)).symm
    | ⟨2, _⟩ => exact (congrArg Fin.val (congrFun q 2)).symm
    | ⟨3, _⟩ => exact (congrArg Fin.val (congrFun q 3)).symm
    | ⟨4, _⟩ => exact (congrArg Fin.val (congrFun q 4)).symm
    | ⟨5, _⟩ => rfl
  · rintro ⟨k, rfl⟩
    refine funext fun x => Fin.ext ?_
    match x with
    | ⟨0, _⟩ => rfl
    | ⟨1, _⟩ => rfl
    | ⟨2, _⟩ => rfl
    | ⟨3, _⟩ => rfl
    | ⟨4, _⟩ => rfl

theorem sum_last (h : (⟨6, ![n0, n1, n2, n3, n4, n5]⟩ : Shape).ReducesTo [5] ⟨5, ![n0, n1, n2, n3, n4]⟩)
    (v : (⟨6, ![n0, n1, n2, n3, n4, n5]⟩ : Shape).Idx → EReal) (init : EReal)
    (a : Fin n0) (b : Fin n1) (c : Fin n2) (d : Fin n3) (e : Fin n4) :
    Ideal.hostReduceAdd h v init (ix5 a b c d e) = init + ∑ k, v (ix6 a b c d e k) :=
  congrArg (init + ·) (Finset.sum_filter_eq_sum_of_fiber _ (fun k : Fin n5 => ix6 a b c d e k)
    (fun _ _ q => congrFun q 5) (drop_last h a b c d e) v)

theorem max_last (h : (⟨6, ![n0, n1, n2, n3, n4, n5]⟩ : Shape).ReducesTo [5] ⟨5, ![n0, n1, n2, n3, n4]⟩)
    (v : (⟨6, ![n0, n1, n2, n3, n4, n5]⟩ : Shape).Idx → EReal) (init : EReal)
    (a : Fin n0) (b : Fin n1) (c : Fin n2) (d : Fin n3) (e : Fin n4) :
    (Finset.univ.filter fun i => h.drop i = ix5 a b c d e).fold max init v
      = Finset.univ.fold max init fun k => v (ix6 a b c d e k) :=
  Finset.fold_filter_eq_fold_of_fiber max _ (fun k : Fin n5 => ix6 a b c d e k)
    (fun _ _ q => congrFun q 5) (drop_last h a b c d e) init v

theorem sum_ends (h : (⟨6, ![n0, n1, n2, n3, n4, n5]⟩ : Shape).ReducesTo [0, 5] ⟨4, ![n1, n2, n3, n4]⟩)
    (v : (⟨6, ![n0, n1, n2, n3, n4, n5]⟩ : Shape).Idx → EReal) (init : EReal)
    (b : Fin n1) (c : Fin n2) (d : Fin n3) (e : Fin n4) :
    Ideal.hostReduceAdd h v init (ix4 b c d e) = init + ∑ k : Fin n0, ∑ l : Fin n5, v (ix6 k b c d e l) := by
  refine congrArg (init + ·) ((Finset.sum_filter_eq_sum_of_fiber _ (fun k : Fin n0 × Fin n5 => ix6 k.1 b c d e k.2)
    (fun _ _ q => Prod.ext (congrFun q 0) (congrFun q 5)) (fun i => ?_) v).trans ?_)
  · refine ⟨fun q => ⟨(i 0, i 5), funext fun x => Fin.ext ?_⟩, ?_⟩
    · match x with
      | ⟨0, _⟩ => rfl
      | ⟨1, _⟩ => exact (congrArg Fin.val (congrFun q 0)).symm
      | ⟨2, _⟩ => exact (congrArg Fin.val (congrFun q 1)).symm
      | ⟨3, _⟩ => exact (congrArg Fin.val (congrFun q 2)).symm
      | ⟨4, _⟩ => exact (congrArg Fin.val (congrFun q 3)).symm
      | ⟨5, _⟩ => rfl
    · rintro ⟨k, rfl⟩
      refine funext fun x => Fin.ext ?_
      match x with
      | ⟨0, _⟩ => rfl
      | ⟨1, _⟩ => rfl
      | ⟨2, _⟩ => rfl
      | ⟨3, _⟩ => rfl
  · rw [Fintype.sum_prod_type]

theorem sum_outer (h : (⟨6, ![n0, n1, n2, n3, n4, n5]⟩ : Shape).ReducesTo [0, 1, 4, 5] ⟨2, ![n2, n3]⟩)
    (v : (⟨6, ![n0, n1, n2, n3, n4, n5]⟩ : Shape).Idx → EReal) (init : EReal) (c : Fin n2) (d : Fin n3) :
    Ideal.hostReduceAdd h v init (ix2 c d)
      = init + ∑ k : Fin n0, ∑ l : Fin n1, ∑ p : Fin n4, ∑ r : Fin n5, v (ix6 k l c d p r) := by
  refine congrArg (init + ·) ((Finset.sum_filter_eq_sum_of_fiber _
    (fun k : Fin n0 × Fin n1 × Fin n4 × Fin n5 => ix6 k.1 k.2.1 c d k.2.2.1 k.2.2.2)
    (fun _ _ q => Prod.ext (congrFun q 0) (Prod.ext (congrFun q 1) (Prod.ext (congrFun q 4) (congrFun q 5))))
    (fun i => ?_) v).trans ?_)
  · refine ⟨fun q => ⟨(i 0, i 1, i 4, i 5), funext fun x => Fin.ext ?_⟩, ?_⟩
    · match x with
      | ⟨0, _⟩ => rfl
      | ⟨1, _⟩ => rfl
      | ⟨2, _⟩ => exact (congrArg Fin.val (congrFun q 0)).symm
      | ⟨3, _⟩ => exact (congrArg Fin.val (congrFun q 1)).symm
      | ⟨4, _⟩ => rfl
      | ⟨5, _⟩ => rfl
    · rintro ⟨k, rfl⟩
      refine funext fun x => Fin.ext ?_
      match x with
      | ⟨0, _⟩ => rfl
      | ⟨1, _⟩ => rfl
  · simp only [Fintype.sum_prod_type]

end Rank6

/-- 64 columns are two halves of 32. -/
theorem sum_halves {M : Type} [AddCommMonoid M] (f : Fin 64 → M) :
    ∑ c, f c = ∑ d : Fin 32, f ⟨d.val, by omega⟩ + ∑ d : Fin 32, f ⟨32 + d.val, by omega⟩ :=
  Fin.sum_univ_add (a := 32) (b := 32) f

/-- 257 entries are 256 and one more. -/
theorem sum_257 {M : Type} [AddCommMonoid M] (f : Fin 257 → M) :
    ∑ j, f j = ∑ j : Fin 256, f ⟨j.val, by omega⟩ + f ⟨256, by omega⟩ :=
  Fin.sum_univ_castSucc f

theorem max_257 (f : Fin 257 → EReal) : Finset.univ.fold max (⊥ : EReal) f
    = max (Finset.univ.fold max (⊥ : EReal) fun j : Fin 256 => f ⟨j.val, by omega⟩) (f ⟨256, by omega⟩) := by
  have e (n : ℕ) (F : Fin n → EReal) : Finset.univ.fold max (⊥ : EReal) F = Finset.univ.sup F := rfl
  rw [e, e]
  refine le_antisymm (Finset.sup_le fun j _ => ?_) (max_le (Finset.sup_le fun j _ => ?_) ?_)
  · rcases Nat.lt_or_ge j.val 256 with h | h
    · exact le_max_of_le_left (Finset.le_sup (f := fun j : Fin 256 => f ⟨j.val, by omega⟩) (Finset.mem_univ ⟨j.val, h⟩))
    · have hj : j = ⟨256, by omega⟩ := Fin.ext (by simp; omega)
      exact le_max_of_le_right (le_of_eq (congrArg f hj))
  · exact Finset.le_sup (f := f) (Finset.mem_univ _)
  · exact Finset.le_sup (f := f) (Finset.mem_univ _)

end SwaGrad
-- ==== Proof.Ref.Input.lean ====
/- The reference's rotated queries and keys, values and window, block by block, over the reals. -/
module

public import proofs.«01_k».proof.Proof.Gen.ReferenceIdeal.Run
public import Idealize.ShloMosaic.Lib.Pipeline.ValueKit
public import Idealize.ShloMosaic.Lib.WordCmp
public import proofs.«01_k».proof.Proof.Angle
public import proofs.«01_k».proof.Proof.Consts
public import proofs.«01_k».proof.Proof.Ref.Reduce

@[expose] public section

set_option maxRecDepth 16384

noncomputable section

namespace SwaGrad.Ref

open Idealize.ShloMosaic Idealize.ShloMosaic.TcCoe Idealize.SL.Sem
open Cert.ReferenceIdeal Cert.ReferenceIdeal.Value

/-- The reference's arguments and its angles hold what `x` says. -/
structure Holds (V0 : Valuation τ sig (Elt Ideal)) (x : Inp) : Prop where
  za : ∀ t c, (V0 (Proc.devRef .tc main_arg0) (ix2 t c) : EReal) = (x.za t c : EReal)
  sk : ∀ h, (V0 (Proc.devRef .tc main_arg1) (ix2 0 h) : EReal) = (x.sk h : EReal)
  ct : ∀ h t c, (V0 (Proc.devRef .tc main_arg2) (ix3 h t c) : EReal) = (x.ct h t c : EReal)
  C : ∀ t d, x.C t d = cosT t.val d.val
  S : ∀ t d, x.S t d = sinT t.val d.val

theorem rot_sub {A B C D : EReal} {a b c d : ℝ} (hA : A = (a : EReal)) (hC : C = (c : EReal)) (hB : B = (b : EReal))
    (hD : D = (d : EReal)) : A * C - B * D = ((a * c - b * d : ℝ) : EReal) := by
  rw [hA, hB, hC, hD, ← EReal.coe_mul, ← EReal.coe_mul, ← EReal.coe_sub]
theorem rot_add {A B C D : EReal} {a b c d : ℝ} (hA : A = (a : EReal)) (hC : C = (c : EReal)) (hB : B = (b : EReal))
    (hD : D = (d : EReal)) : A * C + B * D = ((a * c + b * d : ℝ) : EReal) := by
  rw [hA, hB, hC, hD, ← EReal.coe_mul, ← EReal.coe_mul, ← EReal.coe_add]

variable {V0 : Valuation τ sig (Elt Ideal)} {x : Inp} (H : Holds V0 x)

theorem v24 (t : Fin 2048) (d : Fin 32) : (res_main_v24 V0 (ix2 t d) : EReal) = angle t.val d.val := by
  unfold angle
  pointwise [res_main_v24, res_main_v2]
theorem v56 (t : Fin 2048) (d : Fin 32) : (res_main_v56 V0 (ix2 t d) : EReal) = angle t.val d.val := by
  unfold angle
  pointwise [res_main_v56, res_main_v2]

include H

theorem v26 (t : Fin 2048) (d : Fin 32) : (res_main_v26 V0 (ix4 0 t 0 d) : EReal) = (x.C t d : EReal) := by
  rw [H.C, ← cos_angle, ← v24 (V0 := V0)]
  pointwise [res_main_v26]
theorem v28 (t : Fin 2048) (d : Fin 32) : (res_main_v28 V0 (ix4 0 t 0 d) : EReal) = (x.S t d : EReal) := by
  rw [H.S, ← sin_angle, ← v24 (V0 := V0)]
  pointwise [res_main_v28]
theorem v58 (t : Fin 2048) (d : Fin 32) : (res_main_v58 V0 (ix4 0 t 0 d) : EReal) = (x.C t d : EReal) := by
  rw [H.C, ← cos_angle, ← v56 (V0 := V0)]
  pointwise [res_main_v58]
theorem v60 (t : Fin 2048) (d : Fin 32) : (res_main_v60 V0 (ix4 0 t 0 d) : EReal) = (x.S t d : EReal) := by
  rw [H.S, ← sin_angle, ← v56 (V0 := V0)]
  pointwise [res_main_v60]

theorem v29 (t : Fin 2048) (h : Fin 16) (d : Fin 32) : (res_main_v29 V0 (ix4 0 t h d) : EReal) = (x.qa h t d : EReal) := by
  refine Eq.trans ?_ (H.za _ _)
  pointwise [res_main_v29, res_main_v5, res_main_v3]
theorem v30 (t : Fin 2048) (h : Fin 16) (d : Fin 32) : (res_main_v30 V0 (ix4 0 t h d) : EReal) = (x.qb h t d : EReal) := by
  refine Eq.trans ?_ (H.za _ _)
  pointwise [res_main_v30, res_main_v5, res_main_v3]
theorem v61 (t : Fin 2048) (h : Fin 2) (d : Fin 32) : (res_main_v61 V0 (ix4 0 t h d) : EReal) = (x.ka h t d : EReal) := by
  refine Eq.trans ?_ (H.za _ _)
  pointwise [res_main_v61, res_main_v7, res_main_v3]
theorem v62 (t : Fin 2048) (h : Fin 2) (d : Fin 32) : (res_main_v62 V0 (ix4 0 t h d) : EReal) = (x.kb h t d : EReal) := by
  refine Eq.trans ?_ (H.za _ _)
  pointwise [res_main_v62, res_main_v7, res_main_v3]

theorem v75a (n : Fin 16) (i : Fin 128) (h : Fin 2) (g : Fin 8) (d : Fin 32) :
    (res_main_v75 V0 (ix6 0 n i h g ⟨d.val, by omega⟩) : EReal) = (x.q1 (head h g) (row n i) d : EReal) := by
  pointwise [res_main_v75]
  exact rot_sub (v29 H _ _ _) (v26 H _ _) (v30 H _ _ _) (v28 H _ _)
theorem v75b (n : Fin 16) (i : Fin 128) (h : Fin 2) (g : Fin 8) (d : Fin 32) :
    (res_main_v75 V0 (ix6 0 n i h g ⟨32 + d.val, by omega⟩) : EReal) = (x.q2 (head h g) (row n i) d : EReal) := by
  pointwise [res_main_v75]
  exact rot_add (v30 H _ _ _) (v26 H _ _) (v29 H _ _ _) (v28 H _ _)
theorem v76a (n : Fin 16) (i : Fin 128) (h : Fin 2) (d : Fin 32) :
    (res_main_v76 V0 (ix5 0 n i h ⟨d.val, by omega⟩) : EReal) = (x.k1 h (row n i) d : EReal) := by
  pointwise [res_main_v76]
  exact rot_sub (v61 H _ _ _) (v58 H _ _) (v62 H _ _ _) (v60 H _ _)
theorem v76b (n : Fin 16) (i : Fin 128) (h : Fin 2) (d : Fin 32) :
    (res_main_v76 V0 (ix5 0 n i h ⟨32 + d.val, by omega⟩) : EReal) = (x.k2 h (row n i) d : EReal) := by
  pointwise [res_main_v76]
  exact rot_add (v62 H _ _ _) (v58 H _ _) (v61 H _ _ _) (v60 H _ _)
theorem v83 (n : Fin 16) (i : Fin 128) (h : Fin 2) (c : Fin 64) :
    (res_main_v83 V0 (ix5 0 n i h c) : EReal) = (x.v h (row n i) c : EReal) := by
  refine Eq.trans ?_ (H.za _ _)
  pointwise [res_main_v83, res_main_v3]
  rfl

omit H in
/-- A row of a band: of the previous block, zeros before the first, or of the block itself. -/
theorem band_of (n : Fin 16) (j : Fin 256) (f : Fin 2048 → ℝ) (P : Fin 256 → EReal)
    (h0 : ∀ i : Fin 128, P ⟨i.val, by omega⟩ = if h : n.val < 1 then 0 else ((f (row ⟨n.val - 1, by omega⟩ i) : ℝ) : EReal))
    (h1 : ∀ i : Fin 128, P ⟨128 + i.val, by omega⟩ = ((f (row n i) : ℝ) : EReal)) :
    P j = ((if true = true ∧ j.val < 128 ∧ n.val = 0 then 0 else f (bandRow n j) : ℝ) : EReal) := by
  rcases Nat.lt_or_ge j.val 128 with hj | hj
  · have e := h0 ⟨j.val, hj⟩
    rw [show (⟨j.val, by omega⟩ : Fin 256) = j from rfl] at e
    rw [e]
    by_cases hn : n.val = 0
    · rw [dif_pos (by omega), if_pos ⟨rfl, hj, hn⟩, EReal.coe_zero]
    · rw [dif_neg (by omega), if_neg (fun q => hn q.2.2), ← bandRow_prev]
  · have e := h1 ⟨j.val - 128, by omega⟩
    rw [show (⟨128 + (j.val - 128), by omega⟩ : Fin 256) = j from Fin.ext (by simp; omega)] at e
    rw [e, if_neg (fun q => absurd q.2.1 (by omega)), ← bandRow_cur]
    exact congrArg (fun j => ((f (bandRow n j) : ℝ) : EReal)) (Fin.ext (by simp; omega))

theorem v82a (n : Fin 16) (j : Fin 256) (h : Fin 2) (d : Fin 32) :
    (res_main_v82 V0 (ix5 0 n j h ⟨d.val, by omega⟩) : EReal) = ((x.blk true h n).k1 j d : EReal) := by
  refine band_of n j (fun t => x.k1 h t d) (fun j => res_main_v82 V0 (ix5 0 n j h ⟨d.val, by omega⟩)) (fun i => ?_) fun i => ?_
  · simp only [← v76a H]
    pointwise [res_main_v82]
  · simp only [← v76a H]
    pointwise [res_main_v82]
theorem v82b (n : Fin 16) (j : Fin 256) (h : Fin 2) (d : Fin 32) :
    (res_main_v82 V0 (ix5 0 n j h ⟨32 + d.val, by omega⟩) : EReal) = ((x.blk true h n).k2 j d : EReal) := by
  refine band_of n j (fun t => x.k2 h t d) (fun j => res_main_v82 V0 (ix5 0 n j h ⟨32 + d.val, by omega⟩)) (fun i => ?_) fun i => ?_
  · simp only [← v76b H]
    pointwise [res_main_v82]
  · simp only [← v76b H]
    pointwise [res_main_v82]
theorem v89 (n : Fin 16) (j : Fin 256) (h : Fin 2) (c : Fin 64) :
    (res_main_v89 V0 (ix5 0 n j h c) : EReal) = ((x.blk true h n).v j c : EReal) := by
  refine band_of n j (fun t => x.v h t c) (fun j => res_main_v89 V0 (ix5 0 n j h c)) (fun i => ?_) fun i => ?_
  · simp only [← v83 H]
    pointwise [res_main_v89]
  · simp only [← v83 H]
    pointwise [res_main_v89]
theorem v166 (n : Fin 16) (h : Fin 2) (g : Fin 8) (i : Fin 128) (c : Fin 64) :
    (res_main_v166 V0 (ix6 0 n h c g i) : EReal) = ((x.blk true h n).ct g i c : EReal) := by
  refine Eq.trans ?_ (H.ct _ _ _)
  pointwise [res_main_v166]
  rfl

omit H in
theorem v111 (n : Fin 16) (j : Fin 256) :
    (res_main_v111 V0 (ix2 n j) : BitVec 32) = (BitVec.ofNat 32 n.val - 1#32) * 128#32 + BitVec.ofNat 32 j.val := by
  pointwise [res_main_v111, res_main_v95]
  rfl
omit H in
theorem v116 (n : Fin 16) (i : Fin 128) (j : Fin 256) :
    (res_main_v116 V0 (ix3 n i j) : BitVec 32)
      = BitVec.ofNat 32 n.val * 128#32 + BitVec.ofNat 32 i.val - ((BitVec.ofNat 32 n.val - 1#32) * 128#32 + BitVec.ofNat 32 j.val) := by
  rw [← v111 (V0 := V0)]
  pointwise [res_main_v116, res_main_v95]
  rfl

omit H in
/-- The position of a band's row, as a signed word, and its distance to a query's row. -/
theorem kpos_int (n : Fin 16) (j : Fin 256) :
    ((BitVec.ofNat 32 n.val - 1#32) * 128#32 + BitVec.ofNat 32 j.val).toInt = (n.val : ℤ) * 128 - 128 + j.val := by
  have hn := n.isLt; have hj := j.isLt
  rw [BitVec.toInt_eq_toNat_cond]
  simp only [BitVec.toNat_add, BitVec.toNat_mul, BitVec.toNat_sub, BitVec.toNat_ofNat]
  split <;> omega
omit H in
theorem dist_int (n : Fin 16) (i : Fin 128) (j : Fin 256) :
    (BitVec.ofNat 32 n.val * 128#32 + BitVec.ofNat 32 i.val - ((BitVec.ofNat 32 n.val - 1#32) * 128#32 + BitVec.ofNat 32 j.val)).toInt
      = (i.val : ℤ) + 128 - j.val := by
  have hn := n.isLt; have hj := j.isLt; have hi := i.isLt
  rw [BitVec.toInt_eq_toNat_cond]
  simp only [BitVec.toNat_add, BitVec.toNat_mul, BitVec.toNat_sub, BitVec.toNat_ofNat]
  split <;> omega
omit H in
theorem ofBool_and (a b : Bool) : IntOp.andi (BitVec.ofBool a) (BitVec.ofBool b) = BitVec.ofBool (a && b) := by
  cases a <;> cases b <;> rfl

omit H in
theorem v128 (n : Fin 16) (h : Fin 2) (g : Fin 8) (i : Fin 128) (j : Fin 256) :
    (res_main_v128_1 V0 (ix6 0 n h g i j) : BitVec 1) = BitVec.ofBool (inWin n.val i j) := by
  have : (res_main_v128_1 V0 (ix6 0 n h g i j) : BitVec 1)
      = IntOp.andi (IntOp.andi (IntOp.cmpi .sge (res_main_v116 V0 (ix3 n i j)) 0#32)
          (IntOp.cmpi .slt (res_main_v116 V0 (ix3 n i j)) 128#32)) (IntOp.cmpi .sge (res_main_v111 V0 (ix2 n j)) 0#32) := by
    pointwise [res_main_v128_1]
  rw [this, v111, v116]
  have a := dist_int n i j
  have b := kpos_int n j
  generalize BitVec.ofNat 32 n.val * 128#32 + BitVec.ofNat 32 i.val - ((BitVec.ofNat 32 n.val - 1#32) * 128#32 + BitVec.ofNat 32 j.val) = A at a ⊢
  generalize (BitVec.ofNat 32 n.val - 1#32) * 128#32 + BitVec.ofNat 32 j.val = B at b ⊢
  rw [show IntOp.cmpi .sge A 0#32 = BitVec.ofBool ((0#32).sle A) from rfl, show IntOp.cmpi .slt A 128#32 = BitVec.ofBool (A.slt 128#32) from rfl,
    show IntOp.cmpi .sge B 0#32 = BitVec.ofBool ((0#32).sle B) from rfl, ofBool_and, ofBool_and]
  refine congrArg BitVec.ofBool ?_
  rw [Bool.eq_iff_iff]
  have e0 : (0#32 : BitVec 32).toInt = 0 := by decide
  have e1 : (128#32 : BitVec 32).toInt = 128 := by decide
  simp only [inWin, BitVec.sle, BitVec.slt, a, b, e0, e1, Bool.and_eq_true, decide_eq_true_eq]
  have hn := n.isLt; have hj := j.isLt; have hi := i.isLt
  omega

end SwaGrad.Ref
-- ==== Proof.Ref.Score.lean ====
/- The reference's masked scores, their maximum and the cotangent of its weights, block by block, over the reals. -/
module

public import proofs.«01_k».proof.Proof.Ref.Input

@[expose] public section

set_option maxRecDepth 16384

noncomputable section

namespace SwaGrad.Ref

open Idealize.ShloMosaic Idealize.ShloMosaic.TcCoe Idealize.SL.Sem
open Cert.ReferenceIdeal Cert.ReferenceIdeal.Gen Cert.ReferenceIdeal.Value

variable {V0 : Valuation τ sig (Elt Ideal)} {x : Inp} (H : Holds V0 x)
include H

theorem v132a (n : Fin 16) (h : Fin 2) (g : Fin 8) (i : Fin 128) (j : Fin 256) :
    (res_main_v132 V0 (ix6 0 n h g i ⟨j.val, by omega⟩) : EReal) = (x.blk true h n).ms g i j := by
  have e : ∑ c : Fin 64, (show EReal from res_main_v82 V0 (ix5 0 n j h c)) * (show EReal from res_main_v75 V0 (ix6 0 n i h g c))
      = ((∑ d, (x.blk true h n).q1 g i d * (x.blk true h n).k1 j d + ∑ d, (x.blk true h n).q2 g i d * (x.blk true h n).k2 j d : ℝ) : EReal) := by
    rw [sum_halves, EReal.coe_add]
    refine congrArg₂ _ (sum_of fun d => ?_) (sum_of fun d => ?_)
    · rw [EReal.coe_mul, mul_comm]
      exact congrArg₂ _ (v75a H n i h g d) (v82a H n j h d)
    · rw [EReal.coe_mul, mul_comm]
      exact congrArg₂ _ (v75b H n i h g d) (v82b H n j h d)
  pointwise [res_main_v132]
  rw [v128, ofBits_eighth]
  unfold Blk.ms
  rw [show (x.blk true h n).ok i j = inWin n.val i j from rfl]
  cases inWin n.val i j
  · exact ofBits_neg_inf
  · exact (congrArg (fun q : EReal => q * ((1 / 8 : ℝ) : EReal)) e).trans (EReal.coe_mul _ _).symm

theorem v132b (n : Fin 16) (h : Fin 2) (g : Fin 8) (i : Fin 128) :
    (res_main_v132 V0 (ix6 0 n h g i ⟨256, by omega⟩) : EReal) = ((x.blk true h n).sk g : EReal) := by
  refine Eq.trans ?_ (H.sk _)
  pointwise [res_main_v132]
  rfl

theorem v133 (n : Fin 16) (h : Fin 2) (g : Fin 8) (i : Fin 128) :
    (res_main_v133 V0 (ix5 0 n h g i) : EReal) = ((x.blk true h n).mx g i : EReal) := by
  refine ((Host.reduce_eq_fold (max : EReal → EReal → EReal) (res_main_v132 V0) _ reducesTo_S1x16x2x8x128x257_S1x16x2x8x128_d5 h_S_ _).trans
    (max_last reducesTo_S1x16x2x8x128x257_S1x16x2x8x128_d5 _ _ 0 n h g i)).trans ?_
  rw [show ((constant S_ .f32 0xFF800000#32 : FVec Ideal S_ .f32) (Shape.Idx.first h_S_) : EReal) = ⊥ from ofBits_neg_inf,
    max_257, Blk.coe_mx]
  exact congrArg₂ max (Finset.fold_congr fun j _ => v132a H n h g i j) (v132b H n h g i)

theorem vmx (n : Fin 16) (h : Fin 2) (g : Fin 8) (i : Fin 128) :
    max (Ideal.ofBits .f32 0xFF800000#32) (res_main_v133 V0 (ix5 0 n h g i) : EReal) = ((x.blk true h n).mx g i : EReal) := by
  rw [v133 H, ofBits_neg_inf]; exact max_eq_right bot_le

theorem v170a (n : Fin 16) (h : Fin 2) (g : Fin 8) (i : Fin 128) (j : Fin 256) :
    (res_main_v170 V0 (ix6 0 n h g i ⟨j.val, by omega⟩) : EReal) = ((x.blk true h n).dp g i j : EReal) := by
  pointwise [res_main_v170]
  unfold Blk.dp
  refine sum_of fun c => ?_
  rw [EReal.coe_mul]
  exact congrArg₂ _ (v166 H n h g i c) (v89 H n j h c)
theorem v170b (n : Fin 16) (h : Fin 2) (g : Fin 8) (i : Fin 128) :
    (res_main_v170 V0 (ix6 0 n h g i ⟨256, by omega⟩) : EReal) = (0 : EReal) := by
  pointwise [res_main_v170]
  try rfl

end SwaGrad.Ref
-- ==== Proof.Ref.Grad.lean ====
/- The reference's softmax and its gradient, block by block, over the reals. -/
module

public import proofs.«01_k».proof.Proof.Ref.Score

@[expose] public section

set_option maxRecDepth 16384

noncomputable section

namespace SwaGrad.Ref

open Idealize.ShloMosaic Idealize.ShloMosaic.TcCoe Idealize.SL.Sem
open Cert.ReferenceIdeal Cert.ReferenceIdeal.Gen Cert.ReferenceIdeal.Value

variable {V0 : Valuation τ sig (Elt Ideal)} {x : Inp} (H : Holds V0 x)
include H

omit H in
theorem sub_of (A : FVec Ideal S1x16x2x8x128x257 .f32) (B : FVec Ideal S1x16x2x8x128 .f32)
    (n : Fin 16) (h : Fin 2) (g : Fin 8) (i : Fin 128) (j : Fin 257) :
    (Host.exp (subf A (broadcastInDim S1x16x2x8x128x257 ![0, 1, 2, 3, 4, 5] bcast_S1x16x2x8x128x1_S1x16x2x8x128x257_0_1_2_3_4_5 (broadcastInDim S1x16x2x8x128x1 ![0, 1, 2, 3, 4] bcast_S1x16x2x8x128_S1x16x2x8x128x1_0_1_2_3_4 B))) (ix6 0 n h g i j) : EReal)
      = Ideal.exp (A (ix6 0 n h g i j) - B (ix5 0 n h g i)) := by
  pointwise
omit H in
theorem sink_max (B : FVec Ideal S1x16x2x8x128 .f32) (n : Fin 16) (h : Fin 2) (g : Fin 8) (i : Fin 128) :
    (maximumf (broadcastInDim S1x16x2x8x128 ![] bcast_S_S1x16x2x8x128 (constant S_ .f32 0xFF800000#32)) B (ix5 0 n h g i) : EReal)
      = max (Ideal.ofBits .f32 0xFF800000#32) (B (ix5 0 n h g i)) := rfl

theorem v153x (n : Fin 16) (h : Fin 2) (g : Fin 8) (i : Fin 128) (j : Fin 257) :
    (res_main_v153 V0 (ix6 0 n h g i j) : EReal)
      = (fun y : EReal => Ideal.exp (y - ((x.blk true h n).mx g i : EReal))) (res_main_v132 V0 (ix6 0 n h g i j)) := by
  have b := vmx H n h g i
  unfold res_main_v153
  generalize res_main_v132 V0 = A
  generalize res_main_v133 V0 = B at b ⊢
  exact (sub_of A _ n h g i j).trans (congrArg (fun y : EReal => (fun a : EReal => Ideal.exp (a - y)) (A (ix6 0 n h g i j))) ((sink_max B n h g i).trans b))
theorem v153a (n : Fin 16) (h : Fin 2) (g : Fin 8) (i : Fin 128) (j : Fin 256) :
    (res_main_v153 V0 (ix6 0 n h g i ⟨j.val, by omega⟩) : EReal) = ((x.blk true h n).e g i j : EReal) := by
  rw [← Blk.exp_ms, ← v132a H n h g i j]
  exact v153x H n h g i _
theorem v153b (n : Fin 16) (h : Fin 2) (g : Fin 8) (i : Fin 128) :
    (res_main_v153 V0 (ix6 0 n h g i ⟨256, by omega⟩) : EReal) = ((x.blk true h n).es g i : EReal) := by
  unfold Blk.es
  rw [← exp_coe, EReal.coe_sub, ← v132b H n h g i]
  exact v153x H n h g i _

omit H in
theorem drop_bcast {α : Type} (f : S1x16x2x8x128.Idx → α) (n : Fin 16) (h : Fin 2) (g : Fin 8) (i : Fin 128) :
    broadcastInDim S1x16x2x8x128x1 ![0, 1, 2, 3, 4] bcast_S1x16x2x8x128_S1x16x2x8x128x1_0_1_2_3_4 f (ix6 0 n h g i 0) = f (ix5 0 n h g i) := by
  pointwise

theorem v155 (n : Fin 16) (h : Fin 2) (g : Fin 8) (i : Fin 128) :
    (res_main_v155 V0 (ix6 0 n h g i 0) : EReal) = ((x.blk true h n).z g i : EReal) := by
  have a := fun j => v153a H n h g i j
  have b := v153b H n h g i
  unfold res_main_v155
  generalize res_main_v153 V0 = A at a b ⊢
  refine (drop_bcast _ n h g i).trans ?_
  refine (sum_last reducesTo_S1x16x2x8x128x257_S1x16x2x8x128_d5 A (Ideal.ofBits .f32 0x00000000#32) 0 n h g i).trans ?_
  rw [sum_257, Ideal.ofBits_zero_f32, zero_add]
  unfold Blk.z
  rw [EReal.coe_add, ← coe_sum]
  exact congrArg₂ _ (Finset.sum_congr rfl fun j _ => a j) b

theorem v161 (n : Fin 16) (h : Fin 2) (g : Fin 8) (i : Fin 128) (j : Fin 256) :
    (res_main_v161 V0 (ix6 0 n h g i j) : EReal) = ((x.blk true h n).p g i j : EReal) := by
  have a := v153a H n h g i j
  have b := v155 H n h g i
  unfold Blk.p res_main_v161
  rw [← div_coe_coe _ ((x.blk true h n).z_ne g i), ← a, ← b]
  generalize res_main_v153 V0 = A
  generalize res_main_v155 V0 = B
  pointwise

/-- The gradient of a value row, from the rows of its block. -/
theorem v169 (n : Fin 16) (h : Fin 2) (j : Fin 256) (c : Fin 64) :
    (res_main_v169 V0 (ix5 0 n j h c) : EReal) = ((x.blk true h n).dv j c : EReal) := by
  have a := fun g i => v161 H n h g i j
  have b := fun g i => v166 H n h g i c
  unfold Blk.dv res_main_v169
  generalize res_main_v161 V0 = A at a ⊢
  generalize res_main_v166 V0 = B at b ⊢
  pointwise
  refine sum_of fun g => sum_of fun i => ?_
  rw [EReal.coe_mul, mul_comm, ← a, ← b]

omit H in
/-- The gradient of a normalised logit, from the logit's cotangent and weight. -/
theorem grad_of (A B : FVec Ideal S1x16x2x8x128x257 .f32) (Z : FVec Ideal S1x16x2x8x128x1 .f32)
    (n : Fin 16) (h : Fin 2) (g : Fin 8) (i : Fin 128) (j : Fin 257) (R : FVec Ideal S16x2x8x128 .f32) :
    (mulf (addf (Host.divf A (broadcastInDim S1x16x2x8x128x257 ![0, 1, 2, 3, 4, 5] bcast_S1x16x2x8x128x1_S1x16x2x8x128x257_0_1_2_3_4_5 Z)) (broadcastInDim S1x16x2x8x128x257 ![0, 1, 2, 3, 4] bcast_S1x16x2x8x128_S1x16x2x8x128x257_0_1_2_3_4 (broadcastInDim S1x16x2x8x128 ![1, 2, 3, 4] bcast_S16x2x8x128_S1x16x2x8x128_1_2_3_4 R))) B (ix6 0 n h g i j) : EReal)
      = (Ideal.div (A (ix6 0 n h g i j)) (Z (ix6 0 n h g i 0)) + R (ix4 n h g i)) * B (ix6 0 n h g i j) := by
  pointwise
omit H in
theorem neg_of (R : FVec Ideal S1x16x2x8x128 .f32) (n : Fin 16) (h : Fin 2) (g : Fin 8) (i : Fin 128) :
    (Host.negf (shapeCast S1x16x2x8x128x1 R shapeCasts_S1x16x2x8x128_S1x16x2x8x128x1) (ix6 0 n h g i 0) : EReal) = - (R (ix5 0 n h g i)) := by
  pointwise
omit H in
theorem prod_of (A B : FVec Ideal S1x16x2x8x128x257 .f32) (Z : FVec Ideal S1x16x2x8x128x1 .f32)
    (n : Fin 16) (h : Fin 2) (g : Fin 8) (i : Fin 128) (j : Fin 257) :
    ((mulf (mulf A (broadcastInDim S1x16x2x8x128x257 ![0, 1, 2, 3, 4, 5] bcast_S1x16x2x8x128x1_S1x16x2x8x128x257_0_1_2_3_4_5 (Host.divf (broadcastInDim S1x16x2x8x128x1 ![] bcast_S_S1x16x2x8x128x1 (constant S_ .f32 0x3F800000#32)) (mulf Z Z)))) B) (ix6 0 n h g i j) : EReal)
      = A (ix6 0 n h g i j) * Ideal.div (Ideal.ofBits .f32 0x3F800000#32) (Z (ix6 0 n h g i 0) * Z (ix6 0 n h g i 0)) * B (ix6 0 n h g i j) := by
  pointwise

theorem v183x (n : Fin 16) (h : Fin 2) (g : Fin 8) (i : Fin 128) (j : Fin 257) {p q : ℝ}
    (hp : (res_main_v170 V0 (ix6 0 n h g i j) : EReal) = (p : EReal)) (hq : (res_main_v153 V0 (ix6 0 n h g i j) : EReal) = (q : EReal)) :
    (res_main_v183 V0 (ix6 0 n h g i j) : EReal)
      = (((p / (x.blk true h n).z g i + (x.blk true h n).dz g i) * q : ℝ) : EReal) := by
  have a := fun j => v153a H n h g i j
  have b := v153b H n h g i
  have c := fun j => v170a H n h g i j
  have d := v170b H n h g i
  have z := v155 H n h g i
  have hz := (x.blk true h n).z_ne g i
  unfold res_main_v183
  generalize res_main_v170 V0 = A at hp c d ⊢
  generalize res_main_v153 V0 = B at hq a b ⊢
  generalize res_main_v155 V0 = Z at z ⊢
  rw [grad_of, hp, hq, z, div_coe_coe _ hz, EReal.coe_mul, EReal.coe_add]
  refine congrArg (fun y : EReal => (_ + y) * _) ?_
  refine (sum_ends reducesTo_S1x16x2x8x128x1_S16x2x8x128_d0_5 _ (Ideal.ofBits .f32 0x00000000#32) n h g i).trans ?_
  rw [Fin.sum_univ_one, Fin.sum_univ_one, neg_of, Ideal.ofBits_zero_f32, zero_add]
  unfold Blk.dz
  rw [EReal.coe_neg]
  refine congrArg _ ((sum_last reducesTo_S1x16x2x8x128x257_S1x16x2x8x128_d5 _ (Ideal.ofBits .f32 0x00000000#32) 0 n h g i).trans ?_)
  rw [Ideal.ofBits_zero_f32, zero_add, sum_257, prod_of, d, zero_mul, zero_mul, add_zero]
  refine sum_of fun j => ?_
  rw [prod_of, a, c, z, Ideal.ofBits_one_f32, ← EReal.coe_one, ← EReal.coe_mul, div_coe_coe _ (mul_ne_zero hz hz), ← EReal.coe_mul, ← EReal.coe_mul]

theorem v183a (n : Fin 16) (h : Fin 2) (g : Fin 8) (i : Fin 128) (j : Fin 256) :
    (res_main_v183 V0 (ix6 0 n h g i ⟨j.val, by omega⟩) : EReal) = ((x.blk true h n).ds g i j : EReal) :=
  v183x H n h g i _ (v170a H n h g i j) (v153a H n h g i j)
theorem v183b (n : Fin 16) (h : Fin 2) (g : Fin 8) (i : Fin 128) :
    (res_main_v183 V0 (ix6 0 n h g i ⟨256, by omega⟩) : EReal) = ((x.blk true h n).des g i : EReal) := by
  rw [v183x H n h g i _ ((v170b H n h g i).trans EReal.coe_zero.symm) (v153b H n h g i), zero_div, zero_add]; rfl

theorem v193 (n : Fin 16) (h : Fin 2) (g : Fin 8) (i : Fin 128) (j : Fin 256) :
    (res_main_v193 V0 (ix6 0 n h j i g) : EReal) = (((x.blk true h n).ds g i j * (1 / 8) : ℝ) : EReal) := by
  have a := v183a H n h g i j
  have b := v128 (V0 := V0) n h g i j
  unfold res_main_v193
  generalize res_main_v183 V0 = A at a ⊢
  generalize res_main_v128_1 V0 = B at b ⊢
  pointwise
  rw [b, a, ofBits_eighth]
  cases hj : inWin n.val i j
  · rw [Blk.ds_of_not _ (show (x.blk true h n).ok i j = false from hj), zero_mul]
    exact EReal.coe_zero.symm
  · exact (EReal.coe_mul _ _).symm

/-- The gradients of the rotated keys and queries of a block. -/
theorem v197a (n : Fin 16) (h : Fin 2) (j : Fin 256) (d : Fin 32) :
    (res_main_v197 V0 (ix5 0 n j h ⟨d.val, by omega⟩) : EReal) = ((x.blk true h n).dk1 j d : EReal) := by
  have a := fun g i => v193 H n h g i j
  have b := fun g i => v75a H n i h g d
  unfold res_main_v197 Blk.dk1
  generalize res_main_v193 V0 = A at a ⊢
  generalize res_main_v75 V0 = B at b ⊢
  pointwise
  rw [Finset.sum_comm]
  refine sum_of fun g => sum_of fun i => ?_
  rw [EReal.coe_mul, ← a]
  exact congrArg _ (b g i)
theorem v197b (n : Fin 16) (h : Fin 2) (j : Fin 256) (d : Fin 32) :
    (res_main_v197 V0 (ix5 0 n j h ⟨32 + d.val, by omega⟩) : EReal) = ((x.blk true h n).dk2 j d : EReal) := by
  have a := fun g i => v193 H n h g i j
  have b := fun g i => v75b H n i h g d
  unfold res_main_v197 Blk.dk2
  generalize res_main_v193 V0 = A at a ⊢
  generalize res_main_v75 V0 = B at b ⊢
  pointwise
  rw [Finset.sum_comm]
  refine sum_of fun g => sum_of fun i => ?_
  rw [EReal.coe_mul, ← a]
  exact congrArg _ (b g i)
theorem v212a (n : Fin 16) (h : Fin 2) (g : Fin 8) (i : Fin 128) (d : Fin 32) :
    (res_main_v212 V0 (ix4 0 (row n i) (head h g) ⟨d.val, by omega⟩) : EReal) = ((x.blk true h n).dq1 g i d : EReal) := by
  have a := fun j => v193 H n h g i j
  have b := fun j => v82a H n j h d
  unfold res_main_v212 Blk.dq1 row head
  generalize res_main_v193 V0 = A at a ⊢
  generalize res_main_v82 V0 = B at b ⊢
  pointwise
  refine sum_of fun j => ?_
  rw [EReal.coe_mul, ← a]
  exact congrArg _ (b j)
theorem v212b (n : Fin 16) (h : Fin 2) (g : Fin 8) (i : Fin 128) (d : Fin 32) :
    (res_main_v212 V0 (ix4 0 (row n i) (head h g) ⟨32 + d.val, by omega⟩) : EReal) = ((x.blk true h n).dq2 g i d : EReal) := by
  have a := fun j => v193 H n h g i j
  have b := fun j => v82b H n j h d
  unfold res_main_v212 Blk.dq2 row head
  generalize res_main_v193 V0 = A at a ⊢
  generalize res_main_v82 V0 = B at b ⊢
  pointwise
  refine sum_of fun j => ?_
  rw [EReal.coe_mul, ← a]
  exact congrArg _ (b j)

end SwaGrad.Ref
-- ==== Proof.Ref.Out.lean ====
/- The reference's three results over the reals. -/
module

public import proofs.«01_k».proof.Proof.Ref.Grad

@[expose] public section

set_option maxRecDepth 16384

noncomputable section

namespace SwaGrad.Ref

open Idealize.ShloMosaic Idealize.ShloMosaic.TcCoe Idealize.SL.Sem
open Cert.ReferenceIdeal Cert.ReferenceIdeal.Gen Cert.ReferenceIdeal.Value

variable {V0 : Valuation τ sig (Elt Ideal)} {x : Inp} (H : Holds V0 x)
include H

omit H in
/-- What the next block gives, read off an array over the blocks. -/
theorem nxt_of {P : EReal} {n : Fin 16} {f : Fin 16 → EReal} {r : Fin 16 → ℝ} (hf : ∀ m, f m = (r m : EReal))
    (hP : P = if h : n.val < 15 then f ⟨1 + n.val, by omega⟩ else 0) : P = ((Inp.nxt n r : ℝ) : EReal) := by
  rw [hP]; unfold Inp.nxt
  by_cases h : n.val < 15
  · rw [dif_pos h, dif_pos (show n.val + 1 < 16 by omega), hf]
    exact congrArg (fun m => (r m : EReal)) (Fin.ext (Nat.add_comm _ _))
  · rw [dif_neg h, dif_neg (show ¬ n.val + 1 < 16 by omega), EReal.coe_zero]

theorem v205a (n : Fin 16) (h : Fin 2) (i : Fin 128) (d : Fin 32) :
    (res_main_v205 V0 (ix5 0 n i h ⟨d.val, by omega⟩) : EReal) = ((x.blk true h n).dk1 ⟨i.val, by omega⟩ d : EReal) := by
  have a := v197a H n h ⟨i.val, by omega⟩ d
  unfold res_main_v205
  generalize res_main_v197 V0 = A at a ⊢
  rw [← a]
  pointwise
theorem v205b (n : Fin 16) (h : Fin 2) (i : Fin 128) (d : Fin 32) :
    (res_main_v205 V0 (ix5 0 n i h ⟨32 + d.val, by omega⟩) : EReal) = ((x.blk true h n).dk2 ⟨i.val, by omega⟩ d : EReal) := by
  have a := v197b H n h ⟨i.val, by omega⟩ d
  unfold res_main_v205
  generalize res_main_v197 V0 = A at a ⊢
  rw [← a]
  pointwise
theorem v198 (n : Fin 16) (h : Fin 2) (i : Fin 128) (c : Fin 64) :
    (res_main_v198 V0 (ix5 0 n i h c) : EReal) = ((x.blk true h n).dv ⟨i.val, by omega⟩ c : EReal) := by
  have a := v169 H n h ⟨i.val, by omega⟩ c
  unfold res_main_v198
  generalize res_main_v169 V0 = A at a ⊢
  rw [← a]
  pointwise

/-- A row of the keys' gradient: what its block and the next one give. -/
theorem v214 (n : Fin 16) (h : Fin 2) (i : Fin 128) (d : Fin 32) :
    (res_main_v214 V0 (ix4 0 (row n i) h d) : EReal) = (x.dk1 true h n i d : EReal) := by
  have a := v197a H n h ⟨128 + i.val, by omega⟩ d
  have b := fun m => v205a H m h i d
  unfold res_main_v214 res_main_v211 row Inp.dk1
  generalize res_main_v197 V0 = A at a ⊢
  generalize res_main_v205 V0 = B at b ⊢
  rw [EReal.coe_add, ← a]
  pointwise
  refine congrArg _ (nxt_of b ?_)
  by_cases hn : n.val < 15
  · rw [dif_pos hn, dif_pos ⟨hn, by omega⟩]
  · rw [dif_neg hn, dif_neg (fun q => hn q.1)]
theorem v215 (n : Fin 16) (h : Fin 2) (i : Fin 128) (d : Fin 32) :
    (res_main_v215 V0 (ix4 0 (row n i) h d) : EReal) = (x.dk2 true h n i d : EReal) := by
  have a := v197b H n h ⟨128 + i.val, by omega⟩ d
  have b := fun m => v205b H m h i d
  unfold res_main_v215 res_main_v211 row Inp.dk2
  generalize res_main_v197 V0 = A at a ⊢
  generalize res_main_v205 V0 = B at b ⊢
  rw [EReal.coe_add, ← a]
  pointwise
  refine congrArg _ (nxt_of b ?_)
  by_cases hn : n.val < 15
  · rw [dif_pos hn, dif_pos ⟨hn, by omega⟩]
  · rw [dif_neg hn, dif_neg (fun q => hn q.1)]

theorem v230 (n : Fin 16) (h : Fin 2) (g : Fin 8) (i : Fin 128) (d : Fin 32) :
    (res_main_v230 V0 (ix4 0 (row n i) (head h g) d) : EReal) = (x.dq1 true h g n i d : EReal) := by
  have a := v212a H n h g i d
  unfold res_main_v230 Inp.dq1
  generalize res_main_v212 V0 = A at a ⊢
  rw [← a]
  pointwise
theorem v231 (n : Fin 16) (h : Fin 2) (g : Fin 8) (i : Fin 128) (d : Fin 32) :
    (res_main_v231 V0 (ix4 0 (row n i) (head h g) d) : EReal) = (x.dq2 true h g n i d : EReal) := by
  have a := v212b H n h g i d
  unfold res_main_v231 Inp.dq2
  generalize res_main_v212 V0 = A at a ⊢
  rw [← a]
  pointwise

/-! ## The gradients of the three groups of columns -/

def partV (A : FVec Ideal S1x16x256x2x64 .f32) (B : FVec Ideal S1x16x128x2x64 .f32) : FVec Ideal S1x2048x128 .f32 :=
  shapeCast _ (shapeCast _ (addf (extractStridedSlice S1x16x128x2x64 ![0, 0, 128, 0, 0] A slices_S1x16x256x2x64_S1x16x128x2x64_0_0_128_0_0) (pad S1x16x128x2x64 ![0, 0, 0, 0, 0] ![0, 1, 0, 0, 0] ![0, 0, 0, 0, 0] (extractStridedSlice S1x15x128x2x64 ![0, 1, 0, 0, 0] B slices_S1x16x128x2x64_S1x15x128x2x64_0_1_0_0_0) (constant S_ .f32 0x00000000#32) pads_S1x15x128x2x64_S1x16x128x2x64_000_010_000_000_000 h_S_)) shapeCasts_S1x16x128x2x64_S1x2048x2x64) shapeCasts_S1x2048x2x64_S1x2048x128

def partK (K1 K2 : FVec Ideal S1x2048x2x32 .f32) (C S : FVec Ideal S1x2048x1x32 .f32) : FVec Ideal S1x2048x128 .f32 :=
  shapeCast _ (addf (pad S1x2048x2x64 ![0, 0, 0, 32] ![0, 0, 0, 0] ![0, 0, 0, 0] (addf (mulf K2 (broadcastInDim S1x2048x2x32 ![0, 1, 2, 3] bcast_S1x2048x1x32_S1x2048x2x32_0_1_2_3 C)) (mulf (Host.negf K1) (broadcastInDim S1x2048x2x32 ![0, 1, 2, 3] bcast_S1x2048x1x32_S1x2048x2x32_0_1_2_3 S))) (constant S_ .f32 0x00000000#32) pads_S1x2048x2x32_S1x2048x2x64_000_000_000_3200 h_S_) (pad S1x2048x2x64 ![0, 0, 0, 0] ![0, 0, 0, 32] ![0, 0, 0, 0] (addf (mulf K2 (broadcastInDim S1x2048x2x32 ![0, 1, 2, 3] bcast_S1x2048x1x32_S1x2048x2x32_0_1_2_3 S)) (mulf K1 (broadcastInDim S1x2048x2x32 ![0, 1, 2, 3] bcast_S1x2048x1x32_S1x2048x2x32_0_1_2_3 C))) (constant S_ .f32 0x00000000#32) pads_S1x2048x2x32_S1x2048x2x64_000_000_000_0320 h_S_)) shapeCasts_S1x2048x2x64_S1x2048x128

def partQ (Q1 Q2 : FVec Ideal S1x2048x16x32 .f32) (C S : FVec Ideal S1x2048x1x32 .f32) : FVec Ideal S1x2048x1024 .f32 :=
  shapeCast _ (addf (pad S1x2048x16x64 ![0, 0, 0, 32] ![0, 0, 0, 0] ![0, 0, 0, 0] (addf (mulf Q2 (broadcastInDim S1x2048x16x32 ![0, 1, 2, 3] bcast_S1x2048x1x32_S1x2048x16x32_0_1_2_3 C)) (mulf (Host.negf Q1) (broadcastInDim S1x2048x16x32 ![0, 1, 2, 3] bcast_S1x2048x1x32_S1x2048x16x32_0_1_2_3 S))) (constant S_ .f32 0x00000000#32) pads_S1x2048x16x32_S1x2048x16x64_000_000_000_3200 h_S_) (pad S1x2048x16x64 ![0, 0, 0, 0] ![0, 0, 0, 32] ![0, 0, 0, 0] (addf (mulf Q2 (broadcastInDim S1x2048x16x32 ![0, 1, 2, 3] bcast_S1x2048x1x32_S1x2048x16x32_0_1_2_3 S)) (mulf Q1 (broadcastInDim S1x2048x16x32 ![0, 1, 2, 3] bcast_S1x2048x1x32_S1x2048x16x32_0_1_2_3 C))) (constant S_ .f32 0x00000000#32) pads_S1x2048x16x32_S1x2048x16x64_000_000_000_0320 h_S_)) shapeCasts_S1x2048x16x64_S1x2048x1024

def whole (V K : FVec Ideal S1x2048x128 .f32) (Q : FVec Ideal S1x2048x1024 .f32) : FVec Ideal S1x2048x1280 .f32 :=
  addf (addf (pad S1x2048x1280 ![0, 0, 1152] ![0, 0, 0] ![0, 0, 0] V (constant S_ .f32 0x00000000#32) pads_S1x2048x128_S1x2048x1280_000_000_115200 h_S_) (pad S1x2048x1280 ![0, 0, 1024] ![0, 0, 128] ![0, 0, 0] K (constant S_ .f32 0x00000000#32) pads_S1x2048x128_S1x2048x1280_000_000_10241280 h_S_)) (pad S1x2048x1280 ![0, 0, 0] ![0, 0, 256] ![0, 0, 0] Q (constant S_ .f32 0x00000000#32) pads_S1x2048x1024_S1x2048x1280_000_000_02560 h_S_)

omit H in
theorem partV_at (A : FVec Ideal S1x16x256x2x64 .f32) (B : FVec Ideal S1x16x128x2x64 .f32)
    (n : Fin 16) (i : Fin 128) (h : Fin 2) (c : Fin 64) :
    (partV A B (ix3 0 (row n i) ⟨h.val * 64 + c.val, by omega⟩) : EReal)
      = A (ix5 0 n ⟨128 + i.val, by omega⟩ h c) + if h' : n.val < 15 then B (ix5 0 ⟨1 + n.val, by omega⟩ i h c) else 0 := by
  unfold partV row
  pointwise
omit H in
theorem partK_a (K1 K2 : FVec Ideal S1x2048x2x32 .f32) (C S : FVec Ideal S1x2048x1x32 .f32) (t : Fin 2048) (h : Fin 2) (d : Fin 32) :
    (partK K1 K2 C S (ix3 0 t ⟨h.val * 64 + d.val, by omega⟩) : EReal)
      = K2 (ix4 0 t h d) * S (ix4 0 t 0 d) + K1 (ix4 0 t h d) * C (ix4 0 t 0 d) := by
  unfold partK
  pointwise
  have e : (h.val * 64 + d.val) % 64 = d.val := by omega
  rw [dif_neg (by omega), dif_pos (by omega), zero_add]
  simp only [e]
omit H in
theorem partK_b (K1 K2 : FVec Ideal S1x2048x2x32 .f32) (C S : FVec Ideal S1x2048x1x32 .f32) (t : Fin 2048) (h : Fin 2) (d : Fin 32) :
    (partK K1 K2 C S (ix3 0 t ⟨h.val * 64 + (32 + d.val), by omega⟩) : EReal)
      = K2 (ix4 0 t h d) * C (ix4 0 t 0 d) + -K1 (ix4 0 t h d) * S (ix4 0 t 0 d) := by
  unfold partK
  pointwise
  have e : (h.val * 64 + (32 + d.val)) % 64 - 32 = d.val := by omega
  have e1 : ¬ (h.val * 64 + (32 + d.val)) % 64 < 32 := by omega
  have e2 : 32 ≤ (h.val * 64 + (32 + d.val)) % 64 ∧ (h.val * 64 + (32 + d.val)) % 64 - 32 < 32 := by omega
  rw [dif_neg e1, dif_pos e2, add_zero]
  simp only [e]
omit H in
theorem partQ_a (K1 K2 : FVec Ideal S1x2048x16x32 .f32) (C S : FVec Ideal S1x2048x1x32 .f32) (t : Fin 2048) (h : Fin 16) (d : Fin 32) :
    (partQ K1 K2 C S (ix3 0 t ⟨h.val * 64 + d.val, by omega⟩) : EReal)
      = K2 (ix4 0 t h d) * S (ix4 0 t 0 d) + K1 (ix4 0 t h d) * C (ix4 0 t 0 d) := by
  unfold partQ
  pointwise
  have e : (h.val * 64 + d.val) % 64 = d.val := by omega
  rw [dif_neg (by omega), dif_pos (by omega), zero_add]
  simp only [e]
omit H in
theorem partQ_b (K1 K2 : FVec Ideal S1x2048x16x32 .f32) (C S : FVec Ideal S1x2048x1x32 .f32) (t : Fin 2048) (h : Fin 16) (d : Fin 32) :
    (partQ K1 K2 C S (ix3 0 t ⟨h.val * 64 + (32 + d.val), by omega⟩) : EReal)
      = K2 (ix4 0 t h d) * C (ix4 0 t 0 d) + -K1 (ix4 0 t h d) * S (ix4 0 t 0 d) := by
  unfold partQ
  pointwise
  have e : (h.val * 64 + (32 + d.val)) % 64 - 32 = d.val := by omega
  have e1 : ¬ (h.val * 64 + (32 + d.val)) % 64 < 32 := by omega
  have e2 : 32 ≤ (h.val * 64 + (32 + d.val)) % 64 ∧ (h.val * 64 + (32 + d.val)) % 64 - 32 < 32 := by omega
  rw [dif_neg e1, dif_pos e2, add_zero]
  simp only [e]
omit H in
theorem whole_q (V K : FVec Ideal S1x2048x128 .f32) (Q : FVec Ideal S1x2048x1024 .f32) (t : Fin 2048) (c : Fin 1024) :
    (whole V K Q (ix3 0 t ⟨c.val, by omega⟩) : EReal) = Q (ix3 0 t c) := by
  unfold whole
  pointwise
  rw [dif_neg (by omega), dif_neg (fun q => q.1), add_zero, zero_add]
omit H in
theorem whole_k (V K : FVec Ideal S1x2048x128 .f32) (Q : FVec Ideal S1x2048x1024 .f32) (t : Fin 2048) (c : Fin 128) :
    (whole V K Q (ix3 0 t ⟨1024 + c.val, by omega⟩) : EReal) = K (ix3 0 t c) := by
  unfold whole
  pointwise
  rw [dif_neg (by omega), zero_add]
omit H in
theorem whole_v (V K : FVec Ideal S1x2048x128 .f32) (Q : FVec Ideal S1x2048x1024 .f32) (t : Fin 2048) (c : Fin 128) :
    (whole V K Q (ix3 0 t ⟨1152 + c.val, by omega⟩) : EReal) = V (ix3 0 t c) := by
  unfold whole
  pointwise
  rw [dif_neg (by omega), dif_neg (by omega), add_zero, add_zero]

/-- The gradient of the projected rows, with a leading axis of size one. -/
def grad (V0 : Valuation τ sig (Elt Ideal)) : FVec Ideal S1x2048x1280 .f32 :=
  whole (partV (res_main_v169 V0) (res_main_v198 V0)) (partK (res_main_v214 V0) (res_main_v215 V0) (res_main_v58 V0) (res_main_v60 V0))
    (partQ (res_main_v230 V0) (res_main_v231 V0) (res_main_v26 V0) (res_main_v28 V0))

omit H in
theorem join_a {A B C D : EReal} {a b c d : ℝ} (hA : A = (a : EReal)) (hC : C = (c : EReal)) (hB : B = (b : EReal))
    (hD : D = (d : EReal)) : A * C + B * D = ((b * d + a * c : ℝ) : EReal) := by
  rw [hA, hB, hC, hD, ← EReal.coe_mul, ← EReal.coe_mul, ← EReal.coe_add, _root_.add_comm]
omit H in
theorem join_b {A B C D : EReal} {a b c d : ℝ} (hA : A = (a : EReal)) (hC : C = (c : EReal)) (hB : B = (b : EReal))
    (hD : D = (d : EReal)) : A * C + -B * D = ((a * c - b * d : ℝ) : EReal) := by
  rw [hA, hB, hC, hD, ← EReal.coe_neg, ← EReal.coe_mul, ← EReal.coe_mul, ← EReal.coe_add, sub_eq_add_neg, neg_mul]

theorem isGrad : x.IsGrad fun t c => grad V0 (ix3 0 t c) where
  qa kv g n i d := by
    refine (whole_q _ _ _ (row n i) ⟨(head kv g).val * 64 + d.val, by omega⟩).trans ((partQ_a _ _ _ _ (row n i) (head kv g) d).trans ?_)
    exact join_a (v231 H n kv g i d) (v28 H (row n i) d) (v230 H n kv g i d) (v26 H (row n i) d)
  qb kv g n i d := by
    refine (whole_q _ _ _ (row n i) ⟨(head kv g).val * 64 + (32 + d.val), by omega⟩).trans ((partQ_b _ _ _ _ (row n i) (head kv g) d).trans ?_)
    exact join_b (v231 H n kv g i d) (v26 H (row n i) d) (v230 H n kv g i d) (v28 H (row n i) d)
  ka h n i d := by
    refine (whole_k _ _ _ (row n i) ⟨h.val * 64 + d.val, by omega⟩).trans ((partK_a _ _ _ _ (row n i) h d).trans ?_)
    exact join_a (v215 H n h i d) (v60 H (row n i) d) (v214 H n h i d) (v58 H (row n i) d)
  kb h n i d := by
    refine (whole_k _ _ _ (row n i) ⟨h.val * 64 + (32 + d.val), by omega⟩).trans ((partK_b _ _ _ _ (row n i) h d).trans ?_)
    exact join_b (v215 H n h i d) (v58 H (row n i) d) (v214 H n h i d) (v60 H (row n i) d)
  v h n i c := by
    refine (whole_v _ _ _ (row n i) ⟨h.val * 64 + c.val, by omega⟩).trans ((partV_at _ _ n i h c).trans ?_)
    unfold Inp.dv
    rw [EReal.coe_add]
    exact congrArg₂ _ (v169 H n h ⟨128 + i.val, by omega⟩ c) (nxt_of (fun m => v198 H m h i c) rfl)

omit H in
theorem one_row (G : FVec Ideal S1x2048x1280 .f32) (t : Fin 2048) (c : Fin 1280) :
    (Host.reduceAdd G (constant S_ .f32 0x00000000#32) reducesTo_S1x2048x1280_S2048x1280_d0 h_S_ (ix2 t c) : EReal) = G (ix3 0 t c) := by
  pointwise
  exact Fin.sum_univ_one _
omit H in
theorem col_sum (G : FVec Ideal S2048x1280 .f32) (c : Fin 1280) :
    (broadcastInDim S1x1280 ![1] bcast_S1280_S1x1280_1 (Host.reduceAdd G (constant S_ .f32 0x00000000#32) reducesTo_S2048x1280_S1280_d0 h_S_) (ix2 0 c) : EReal)
      = ∑ t : Fin 2048, G (ix2 t c) := by
  pointwise

omit H in
theorem sink_row (A : FVec Ideal S2x8 .f32) (h : Fin 2) (g : Fin 8) :
    (broadcastInDim S1x16 ![1] bcast_S16_S1x16_1 (shapeCast _ A shapeCasts_S2x8_S16) (ix2 0 (head h g)) : EReal) = A (ix2 h g) := by
  unfold head
  pointwise
omit H in
theorem sink_spread (A : FVec Ideal S2x8 .f32) (h : Fin 2) (g : Fin 8) :
    (broadcastInDim S1x1x2x8x1x1 ![2, 3] bcast_S2x8_S1x1x2x8x1x1_2_3 A (ix6 0 0 h g 0 0) : EReal) = A (ix2 h g) := by
  pointwise
omit H in
theorem sink_slice (A : FVec Ideal S1x16x2x8x128x257 .f32) (n : Fin 16) (h : Fin 2) (g : Fin 8) (i : Fin 128) :
    (extractStridedSlice S1x16x2x8x128x1 ![0, 0, 0, 0, 0, 256] A slices_S1x16x2x8x128x257_S1x16x2x8x128x1_0_0_0_0_0_256 (ix6 0 n h g i 0) : EReal)
      = A (ix6 0 n h g i ⟨256, by omega⟩) := by
  pointwise

def sinkGrad (A : FVec Ideal S1x16x2x8x128x257 .f32) : FVec Ideal S1x16 .f32 :=
  broadcastInDim S1x16 ![1] bcast_S16_S1x16_1 (shapeCast _ (Host.reduceAdd (broadcastInDim S1x1x2x8x1x1 ![2, 3] bcast_S2x8_S1x1x2x8x1x1_2_3 (Host.reduceAdd (extractStridedSlice S1x16x2x8x128x1 ![0, 0, 0, 0, 0, 256] A slices_S1x16x2x8x128x257_S1x16x2x8x128x1_0_0_0_0_0_256) (constant S_ .f32 0x00000000#32) reducesTo_S1x16x2x8x128x1_S2x8_d0_1_4_5 h_S_)) (constant S_ .f32 0x00000000#32) reducesTo_S1x1x2x8x1x1_S2x8_d0_1_4_5 h_S_) shapeCasts_S2x8_S16)

theorem v213 (h : Fin 2) (g : Fin 8) : (sinkGrad (res_main_v183 V0) (ix2 0 (head h g)) : EReal) = (x.dsk true h g : EReal) := by
  have a := fun n i => v183b H n h g i
  unfold sinkGrad
  generalize res_main_v183 V0 = A at a ⊢
  rw [sink_row]
  refine (sum_outer reducesTo_S1x1x2x8x1x1_S2x8_d0_1_4_5 _ (Ideal.ofBits .f32 0x00000000#32) h g).trans ?_
  rw [Fin.sum_univ_one, Fin.sum_univ_one, Fin.sum_univ_one, Fin.sum_univ_one, sink_spread, Ideal.ofBits_zero_f32, zero_add]
  refine (sum_outer reducesTo_S1x16x2x8x128x1_S2x8_d0_1_4_5 _ (Ideal.ofBits .f32 0x00000000#32) h g).trans ?_
  rw [Fin.sum_univ_one, Ideal.ofBits_zero_f32, zero_add]
  unfold Inp.dsk
  refine sum_of fun n => ?_
  unfold Blk.dsink
  refine sum_of fun i => ?_
  rw [Fin.sum_univ_one, sink_slice, a]

end SwaGrad.Ref
-- ==== Proof.Same.lean ====
/- The program's three results and the reference's are the same arrays. -/
module

public import proofs.«01_k».proof.Proof.Final
public import proofs.«01_k».proof.Proof.Finite
public import proofs.«01_k».proof.Proof.Ref.Out

@[expose] public section

set_option maxRecDepth 16384

noncomputable section

namespace SwaGrad

open Idealize.ShloMosaic Idealize.ShloMosaic.TcCoe Idealize.SL.Sem

abbrev KMem : Type := (ℓ : Loc Cert.KernelIdeal.nD Cert.KernelIdeal.τ Cert.KernelIdeal.sig) → Buf (Elt Ideal) ℓ
abbrev RMem : Type := (ℓ : Loc Cert.ReferenceIdeal.nD Cert.ReferenceIdeal.τ Cert.ReferenceIdeal.sig) → Buf (Elt Ideal) ℓ

/-- Both programs are given the same arguments. -/
def SameArgs (m : KMem) (m' : RMem) : Prop := ∀ c : Dev Cert.KernelIdeal.nD,
  m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)

variable {m : KMem} {m' : RMem}

/-- What the reference starts from. -/
abbrev start (m' : RMem) (c : Dev Cert.ReferenceIdeal.nD) : Valuation Cert.ReferenceIdeal.τ Cert.ReferenceIdeal.sig (Elt Ideal) :=
  StableHlo.launchContents m' c

theorem ref_holds (h : SameArgs m m') (c : Dev Cert.KernelIdeal.nD) {x : Inp} (H : KHolds m c x) : Ref.Holds (start m' c) x where
  za t j := (congrFun (h c).1 (ix2 t j) : _).trans (H.za t j)
  sk g := (congrFun (h c).2.1 (ix2 0 g) : _).trans (H.sk g)
  ct g t j := (congrFun (h c).2.2 (ix3 g t j) : _).trans (H.ct g t j)
  C := H.C
  S := H.S

/-- The gradient of the projected rows: the reference sums it over its one batch. -/
theorem grad_eq (c : Dev Cert.ReferenceIdeal.nD) {x : Inp} (R : Ref.Holds (start m' c) x) :
    (Host.reduceAdd (Ref.grad (start m' c)) (constant (F := Ideal) Cert.ReferenceIdeal.S_ .f32 0x00000000#32)
      Cert.ReferenceIdeal.Gen.reducesTo_S1x2048x1280_S2048x1280_d0 Cert.ReferenceIdeal.Gen.h_S_ : FVec Ideal Cert.ReferenceIdeal.S2048x1280 .f32)
      = gradK x := by
  funext y
  rw [eq_ix2 y]
  exact (Ref.one_row _ (y 0) (y 1)).trans ((Ref.isGrad R).unique (merged_isGrad x) (y 0) (y 1))

/-- The sinks' gradient. -/
theorem sink_eq (c : Dev Cert.ReferenceIdeal.nD) {x : Inp} (R : Ref.Holds (start m' c) x) :
    (Ref.sinkGrad (Cert.ReferenceIdeal.Value.res_main_v183 (start m' c)) : FVec Ideal Cert.ReferenceIdeal.S1x16 .f32) = oneRow (sinkA x) := by
  funext y
  obtain ⟨kv, g, hg⟩ : ∃ (kv : Fin 2) (g : Fin 8), y 1 = head kv g := by
    have b := (y 1).isLt
    exact ⟨⟨(y 1).val / 8, by have : (y 1).val < 16 := b; omega⟩, ⟨(y 1).val % 8, by omega⟩, Fin.ext (by simp only [head]; omega)⟩
  have e : y = ix2 (0 : Fin 1) (head kv g) := by
    rw [eq_ix2 y, hg]
    exact congrArg (fun a => ix2 a (head kv g)) (Subsingleton.elim (α := Fin 1) (y 0) 0)
  rw [e]
  refine (Ref.v213 R kv g).trans (Eq.trans ?_ (oneRow_at (sinkA x) kv g).symm)
  exact congrArg (fun r : ℝ => (r : EReal)) (x.dsk_eq kv g).symm

end SwaGrad
-- ==== Proof.Ffn.DwHidden.lean ====
/- The gradients of the two hidden weights: the call's two arrays and the reference's are the products of the transposed
   rows with the gradients of the two branches. -/
module

public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

namespace FfnGrad.DwHidden

open Idealize.ShloMosaic Idealize.ShloMosaic.TcCoe Idealize.SL.Sem
open Cert.Kernel2Ideal Cert.Kernel2Ideal.Gen

/-- Shard by shard, the rows' transpose times the gradient of a branch. -/
def prod (h : FVec Ideal S2048x2048 .bf16) (g : FVec Ideal S8x2048x704 .bf16) : FVec Ideal S8x2048x704 .bf16 :=
  fun y => (∑ k : Fin 2048, (h (ix2 k (y 1)) : EReal) * (g (ix3 (y 0) k (y 2)) : EReal) : EReal)

theorem pay1_at (a : FVec Ideal S2048x1024 .bf16) (b : FVec Ideal S1x2048x704 .bf16) (r : Fin 1024) (n : Fin 704) :
    ((k0_pay1 a b : FVec Ideal S1x1024x704 .bf16) (ix3 0 r n) : EReal) = ∑ k : Fin 2048, (a (ix2 k r) : EReal) * (b (ix3 0 k n) : EReal) := by
  pointwise [k0_pay1]
theorem pay2_at (a : FVec Ideal S2048x1024 .bf16) (b : FVec Ideal S1x2048x704 .bf16) (r : Fin 1024) (n : Fin 704) :
    ((k0_pay2 a b : FVec Ideal S1x1024x704 .bf16) (ix3 0 r n) : EReal) = ∑ k : Fin 2048, (a (ix2 k r) : EReal) * (b (ix3 0 k n) : EReal) := by
  pointwise [k0_pay2]

variable (m : (ℓ : Loc nD τ sig) → Buf (Elt Ideal) ℓ) (c : Dev nD)

theorem idx : ∀ t : Fin cfg0.N, win0_0.index t = ![0, t.val % 2] ∧ win0_1.index t = ![t.val / 2, 0, 0]
    ∧ win0_2.index t = ![t.val / 2, 0, 0] ∧ win0_3.index t = ![t.val / 2, t.val % 2, 0] ∧ win0_4.index t = ![t.val / 2, t.val % 2, 0] :=
  (by decide +kernel : ∀ t : Fin grid0.N, _)

abbrev rows : FVec Ideal S2048x2048 .bf16 := m ((c.tc : Thread nD τ).loc main_arg0)
abbrev gate : FVec Ideal S8x2048x704 .bf16 := m ((c.tc : Thread nD τ).loc main_arg1)
abbrev up : FVec Ideal S8x2048x704 .bf16 := m ((c.tc : Thread nD τ).loc main_arg2)

theorem blk0 (t : Fin 16) (k : Fin 2048) (r : Fin 1024) :
    ((iblk m c 0 t : FVec Ideal S2048x1024 .bf16) (ix2 k r) : EReal) = rows m c (ix2 k ⟨t.val % 2 * 1024 + r.val, by omega⟩) := by
  obtain ⟨i0, i1, i2, i3, i4⟩ := idx t
  unfold iblk
  blk_ext <;> simp [i0]
theorem blk1 (t : Fin 16) (k : Fin 2048) (n : Fin 704) :
    ((iblk m c 1 t : FVec Ideal S1x2048x704 .bf16) (ix3 0 k n) : EReal) = gate m c (ix3 ⟨t.val / 2, by omega⟩ k n) := by
  obtain ⟨i0, i1, i2, i3, i4⟩ := idx t
  unfold iblk
  blk_ext <;> simp [i1]
theorem blk2 (t : Fin 16) (k : Fin 2048) (n : Fin 704) :
    ((iblk m c 2 t : FVec Ideal S1x2048x704 .bf16) (ix3 0 k n) : EReal) = up m c (ix3 ⟨t.val / 2, by omega⟩ k n) := by
  obtain ⟨i0, i1, i2, i3, i4⟩ := idx t
  unfold iblk
  blk_ext <;> simp [i2]

theorem prod_at (h : FVec Ideal S2048x2048 .bf16) (g : FVec Ideal S8x2048x704 .bf16) (j : Fin 8) (r : Fin 2048) (n : Fin 704) :
    (prod h g (ix3 j r n) : EReal) = ∑ k : Fin 2048, (h (ix2 k r) : EReal) * (g (ix3 j k n) : EReal) := rfl

theorem arr3 : ((dats m 0 c).arrAt 3 cfg0.N : FVec Ideal S8x2048x704 .bf16) = prod (rows m c) (gate m c) := by
  refine (dats m 0 c).arrAt_eq_of_covers 3 _ (by decide +kernel) fun t hf y => ?_
  blk_simp
  rw [after0_3]
  obtain ⟨z, r, n, rfl⟩ : ∃ (z : Fin 1) (r : Fin 1024) (n : Fin 704), y = ix3 z r n := ⟨y 0, y 1, y 2, by funext k; fin_cases k <;> rfl⟩
  obtain rfl : z = 0 := Subsingleton.elim _ _
  frame_out
  have b : t.val < 16 := t.isLt
  refine (pay1_at _ _ r n).trans ?_
  have e : (prod (rows m c) (gate m c) (ix3 ⟨t.val / 2, by omega⟩ ⟨t.val % 2 * 1024 + r.val, by omega⟩ n) : EReal)
      = prod (rows m c) (gate m c) (((View.whole main_v0_0).slice (win0_3.rect t)).emb (ix3 0 r n)) := by
    obtain ⟨i0, i1, i2, i3, i4⟩ := idx t
    blk_ext <;> simp [i3]
  refine Eq.trans ?_ e
  exact Finset.sum_congr rfl fun k _ => congr (congrArg _ (blk0 m c t k r)) (blk1 m c t k n)

theorem arr4 : ((dats m 0 c).arrAt 4 cfg0.N : FVec Ideal S8x2048x704 .bf16) = prod (rows m c) (up m c) := by
  refine (dats m 0 c).arrAt_eq_of_covers 4 _ (by decide +kernel) fun t hf y => ?_
  blk_simp
  rw [after0_4]
  obtain ⟨z, r, n, rfl⟩ : ∃ (z : Fin 1) (r : Fin 1024) (n : Fin 704), y = ix3 z r n := ⟨y 0, y 1, y 2, by funext k; fin_cases k <;> rfl⟩
  obtain rfl : z = 0 := Subsingleton.elim _ _
  frame_out
  have b : t.val < 16 := t.isLt
  refine (pay2_at _ _ r n).trans ?_
  have e : (prod (rows m c) (up m c) (ix3 ⟨t.val / 2, by omega⟩ ⟨t.val % 2 * 1024 + r.val, by omega⟩ n) : EReal)
      = prod (rows m c) (up m c) (((View.whole main_v0_1).slice (win0_4.rect t)).emb (ix3 0 r n)) := by
    obtain ⟨i0, i1, i2, i3, i4⟩ := idx t
    blk_ext <;> simp [i4]
  refine Eq.trans ?_ e
  exact Finset.sum_congr rfl fun k _ => congr (congrArg _ (blk0 m c t k r)) (blk2 m c t k n)

theorem ref17 (h : FVec Ideal S2048x2048 .bf16) (g : FVec Ideal S8x2048x704 .bf16) :
  truncf .bf16 (transpose Cert.Reference2Ideal.S8x2048x704 [1, 0, 2] (shapeCast _ (transpose Cert.Reference2Ideal.S2048x5632 [1, 0] (Host.dotGeneral Cert.Reference2Ideal.dot_S2048x5632_S2048x2048_S5632x2048_0_0_1_1_n_n none (shapeCast _ (transpose Cert.Reference2Ideal.S2048x8x704 [1, 0, 2] (extf .f32 g Cert.Reference2Ideal.Gen.bitsLt_bf16_f32) Cert.Reference2Ideal.Gen.transposes_S8x2048x704_S2048x8x704_1_0_2) Cert.Reference2Ideal.Gen.shapeCasts_S2048x8x704_S2048x5632) (extf .f32 h Cert.Reference2Ideal.Gen.bitsLt_bf16_f32)) Cert.Reference2Ideal.Gen.transposes_S5632x2048_S2048x5632_1_0) Cert.Reference2Ideal.Gen.shapeCasts_S2048x5632_S2048x8x704) Cert.Reference2Ideal.Gen.transposes_S2048x8x704_S8x2048x704_1_0_2) Cert.Reference2Ideal.Gen.bitsLt_bf16_f32
  = prod h g := by
  funext y
  obtain ⟨z, r, n, rfl⟩ : ∃ (z : Fin 8) (r : Fin 2048) (n : Fin 704), y = ix3 z r n := ⟨y 0, y 1, y 2, by funext k; fin_cases k <;> rfl⟩
  unfold prod
  pointwise
  exact Finset.sum_congr rfl fun k _ => mul_comm (G := EReal) _ _

end FfnGrad.DwHidden
-- ==== Proof.Ffn.Shards.lean ====
/- Sums over the 5632 columns of the layers, shard by shard, and sums of eight terms from left to right. -/
module

public import Mathlib.Data.EReal.Operations
public import Mathlib.Algebra.BigOperators.Fin
public import Mathlib.Logic.Equiv.Fin.Basic

@[expose] public section

namespace FfnGrad

/-- A sum over the columns is the sum over the shards of the sums over a shard's columns. -/
theorem sum_shards (f : Fin 8 → Fin 704 → EReal) :
    ∑ x : Fin 5632, f ⟨x.val / 704, by omega⟩ ⟨x.val % 704, by omega⟩ = ∑ j : Fin 8, ∑ n : Fin 704, f j n :=
  (Fintype.sum_equiv (finProdFinEquiv (m := 8) (n := 704)).symm _ (fun p => f p.1 p.2) (fun x => rfl)).trans (Fintype.sum_prod_type _)

/-- Eight terms added one after the other. -/
theorem chain (a : EReal) (s : Fin 8 → EReal) :
    a + s 0 + s 1 + s 2 + s 3 + s 4 + s 5 + s 6 + s 7 = a + ∑ j, s j := by
  rw [Fin.sum_univ_eight]
  simp only [add_assoc]

/-- A real that is not negative distributes over a sum. -/
theorem mul_sum {ι : Type*} (h : EReal) (h0 : 0 ≤ h) (h1 : h ≠ ⊤) (s : Finset ι) (f : ι → EReal) :
    h * ∑ k ∈ s, f k = ∑ k ∈ s, h * f k := by
  classical
  induction s using Finset.induction_on with
  | empty => simp
  | insert a s ha ih => rw [Finset.sum_insert ha, Finset.sum_insert ha, EReal.left_distrib_of_nonneg_of_ne_top h0 h1, ih]

end FfnGrad
-- ==== Proof.Ffn.Dh1.lean ====
/- The gradient of the layer's rows from one branch: the call's array and the reference's are the sum over the shards' columns. -/
module

public import proofs.«01_k».proof.Proof.Gen.Kernel3Ideal.Value
public import proofs.«01_k».proof.Proof.Gen.Reference3Ideal.Run
public import Idealize.ShloMosaic.Lib.Pipeline.ValueKit
public import proofs.«01_k».proof.Proof.Ffn.Shards

@[expose] public section

set_option maxRecDepth 16384

noncomputable section

namespace FfnGrad.Dh1

open Idealize.ShloMosaic Idealize.ShloMosaic.TcCoe Idealize.SL.Sem
open Cert.Kernel3Ideal Cert.Kernel3Ideal.Gen

/-- Over the shards, the gradient of a branch times the weights' transpose. -/
def prod (d w : FVec Ideal S8x2048x704 .bf16) : FVec Ideal S2048x2048 .f32 :=
  fun y => (∑ j : Fin 8, ∑ n : Fin 704, (d (ix3 j (y 0) n) : EReal) * (w (ix3 j (y 1) n) : EReal) : EReal)

theorem pay_at (a0 b0 a1 b1 a2 b2 a3 b3 a4 b4 a5 b5 a6 b6 a7 b7 : FVec Ideal S1x512x704 .bf16) (r n : Fin 512) :
    ((k0_pay1 (k0_pay2 a0 b0 a1 b1 a2 b2 a3 b3) a4 b4 a5 b5 a6 b6 a7 b7 : FVec Ideal S512x512 .f32) (ix2 r n) : EReal)
    = (∑ k : Fin 704, (a0 (ix3 0 r k) : EReal) * (b0 (ix3 0 n k) : EReal)) + (∑ k : Fin 704, (a1 (ix3 0 r k) : EReal) * (b1 (ix3 0 n k) : EReal)) + (∑ k : Fin 704, (a2 (ix3 0 r k) : EReal) * (b2 (ix3 0 n k) : EReal)) + (∑ k : Fin 704, (a3 (ix3 0 r k) : EReal) * (b3 (ix3 0 n k) : EReal)) + (∑ k : Fin 704, (a4 (ix3 0 r k) : EReal) * (b4 (ix3 0 n k) : EReal)) + (∑ k : Fin 704, (a5 (ix3 0 r k) : EReal) * (b5 (ix3 0 n k) : EReal)) + (∑ k : Fin 704, (a6 (ix3 0 r k) : EReal) * (b6 (ix3 0 n k) : EReal)) + (∑ k : Fin 704, (a7 (ix3 0 r k) : EReal) * (b7 (ix3 0 n k) : EReal)) := by
  pointwise [k0_pay1, k0_pay2]

theorem ld0 (x : FVec Ideal S8x512x704 .bf16) (r : Fin 512) (n : Fin 704) :
    ((View.ld (Val := Elt Ideal) (e' := .bf16) x r0_0 : FVec Ideal S1x512x704 .bf16) (ix3 0 r n) : EReal) = x (ix3 0 r n) := by
  refine congrArg x (funext fun k => Fin.ext ?_)
  fin_cases k <;> simp [LoadRect.idx_apply, Rect.unit]
theorem ld1 (x : FVec Ideal S8x512x704 .bf16) (r : Fin 512) (n : Fin 704) :
    ((View.ld (Val := Elt Ideal) (e' := .bf16) x r0_1 : FVec Ideal S1x512x704 .bf16) (ix3 0 r n) : EReal) = x (ix3 1 r n) := by
  refine congrArg x (funext fun k => Fin.ext ?_)
  fin_cases k <;> simp [LoadRect.idx_apply, Rect.unit]
theorem ld2 (x : FVec Ideal S8x512x704 .bf16) (r : Fin 512) (n : Fin 704) :
    ((View.ld (Val := Elt Ideal) (e' := .bf16) x r0_2 : FVec Ideal S1x512x704 .bf16) (ix3 0 r n) : EReal) = x (ix3 2 r n) := by
  refine congrArg x (funext fun k => Fin.ext ?_)
  fin_cases k <;> simp [LoadRect.idx_apply, Rect.unit]
theorem ld3 (x : FVec Ideal S8x512x704 .bf16) (r : Fin 512) (n : Fin 704) :
    ((View.ld (Val := Elt Ideal) (e' := .bf16) x r0_3 : FVec Ideal S1x512x704 .bf16) (ix3 0 r n) : EReal) = x (ix3 3 r n) := by
  refine congrArg x (funext fun k => Fin.ext ?_)
  fin_cases k <;> simp [LoadRect.idx_apply, Rect.unit]
theorem ld4 (x : FVec Ideal S8x512x704 .bf16) (r : Fin 512) (n : Fin 704) :
    ((View.ld (Val := Elt Ideal) (e' := .bf16) x r0_4 : FVec Ideal S1x512x704 .bf16) (ix3 0 r n) : EReal) = x (ix3 4 r n) := by
  refine congrArg x (funext fun k => Fin.ext ?_)
  fin_cases k <;> simp [LoadRect.idx_apply, Rect.unit]
theorem ld5 (x : FVec Ideal S8x512x704 .bf16) (r : Fin 512) (n : Fin 704) :
    ((View.ld (Val := Elt Ideal) (e' := .bf16) x r0_5 : FVec Ideal S1x512x704 .bf16) (ix3 0 r n) : EReal) = x (ix3 5 r n) := by
  refine congrArg x (funext fun k => Fin.ext ?_)
  fin_cases k <;> simp [LoadRect.idx_apply, Rect.unit]
theorem ld6 (x : FVec Ideal S8x512x704 .bf16) (r : Fin 512) (n : Fin 704) :
    ((View.ld (Val := Elt Ideal) (e' := .bf16) x r0_6 : FVec Ideal S1x512x704 .bf16) (ix3 0 r n) : EReal) = x (ix3 6 r n) := by
  refine congrArg x (funext fun k => Fin.ext ?_)
  fin_cases k <;> simp [LoadRect.idx_apply, Rect.unit]
theorem ld7 (x : FVec Ideal S8x512x704 .bf16) (r : Fin 512) (n : Fin 704) :
    ((View.ld (Val := Elt Ideal) (e' := .bf16) x r0_7 : FVec Ideal S1x512x704 .bf16) (ix3 0 r n) : EReal) = x (ix3 7 r n) := by
  refine congrArg x (funext fun k => Fin.ext ?_)
  fin_cases k <;> simp [LoadRect.idx_apply, Rect.unit]

variable (m : (ℓ : Loc nD τ sig) → Buf (Elt Ideal) ℓ) (c : Dev nD)

theorem idx : ∀ t : Fin cfg0.N, win0_0.index t = ![0, t.val / 4, 0] ∧ win0_1.index t = ![0, t.val % 4, 0]
    ∧ win0_2.index t = ![t.val / 4, t.val % 4] :=
  (by decide +kernel : ∀ t : Fin grid0.N, _)

abbrev dg : FVec Ideal S8x2048x704 .bf16 := m ((c.tc : Thread nD τ).loc main_arg0)
abbrev wt : FVec Ideal S8x2048x704 .bf16 := m ((c.tc : Thread nD τ).loc main_arg1)

theorem blk0 (t : Fin 16) (j : Fin 8) (r : Fin 512) (n : Fin 704) :
    ((iblk m c 0 t : FVec Ideal S8x512x704 .bf16) (ix3 j r n) : EReal) = dg m c (ix3 j ⟨t.val / 4 * 512 + r.val, by omega⟩ n) := by
  have i := (idx t).1
  unfold iblk
  blk_ext <;> simp [i]
theorem blk1 (t : Fin 16) (j : Fin 8) (r : Fin 512) (n : Fin 704) :
    ((iblk m c 1 t : FVec Ideal S8x512x704 .bf16) (ix3 j r n) : EReal) = wt m c (ix3 j ⟨t.val % 4 * 512 + r.val, by omega⟩ n) := by
  have i := (idx t).2.1
  unfold iblk
  blk_ext <;> simp [i]

/-- The call's array. -/
theorem arr2 : ((dats m 0 c).arrAt 2 cfg0.N : FVec Ideal S2048x2048 .f32) = prod (dg m c) (wt m c) := by
  refine (dats m 0 c).arrAt_eq_of_covers 2 _ (by decide +kernel) fun t hf y => ?_
  blk_simp
  rw [after0_2]
  obtain ⟨r, n, rfl⟩ : ∃ (r : Fin 512) (n : Fin 512), y = ix2 r n := ⟨y 0, y 1, by funext k; fin_cases k <;> rfl⟩
  frame_out
  have b : t.val < 16 := t.isLt
  refine (pay_at _ _ _ _ _ _ _ _ _ _ _ _ _ _ _ _ r n).trans ?_
  have e : (prod (dg m c) (wt m c) (ix2 ⟨t.val / 4 * 512 + r.val, by omega⟩ ⟨t.val % 4 * 512 + n.val, by omega⟩) : EReal)
      = prod (dg m c) (wt m c) (((View.whole main_v0).slice (win0_2.rect t)).emb (ix2 r n)) := by
    have i := (idx t).2.2
    blk_ext <;> simp [i]
  refine Eq.trans ?_ e
  refine Eq.trans ?_ ((Fin.sum_univ_eight fun j => ∑ k : Fin 704, (dg m c (ix3 j ⟨t.val / 4 * 512 + r.val, by omega⟩ k) : EReal) * (wt m c (ix3 j ⟨t.val % 4 * 512 + n.val, by omega⟩ k) : EReal)).symm)
  exact congrArg₂ (· + ·) (congrArg₂ (· + ·) (congrArg₂ (· + ·) (congrArg₂ (· + ·) (congrArg₂ (· + ·) (congrArg₂ (· + ·) (congrArg₂ (· + ·) (Finset.sum_congr rfl fun k _ => congr (congrArg _ ((ld0 _ _ _).trans (blk0 m c t 0 r k))) ((ld0 _ _ _).trans (blk1 m c t 0 n k))) (Finset.sum_congr rfl fun k _ => congr (congrArg _ ((ld1 _ _ _).trans (blk0 m c t 1 r k))) ((ld1 _ _ _).trans (blk1 m c t 1 n k)))) (Finset.sum_congr rfl fun k _ => congr (congrArg _ ((ld2 _ _ _).trans (blk0 m c t 2 r k))) ((ld2 _ _ _).trans (blk1 m c t 2 n k)))) (Finset.sum_congr rfl fun k _ => congr (congrArg _ ((ld3 _ _ _).trans (blk0 m c t 3 r k))) ((ld3 _ _ _).trans (blk1 m c t 3 n k)))) (Finset.sum_congr rfl fun k _ => congr (congrArg _ ((ld4 _ _ _).trans (blk0 m c t 4 r k))) ((ld4 _ _ _).trans (blk1 m c t 4 n k)))) (Finset.sum_congr rfl fun k _ => congr (congrArg _ ((ld5 _ _ _).trans (blk0 m c t 5 r k))) ((ld5 _ _ _).trans (blk1 m c t 5 n k)))) (Finset.sum_congr rfl fun k _ => congr (congrArg _ ((ld6 _ _ _).trans (blk0 m c t 6 r k))) ((ld6 _ _ _).trans (blk1 m c t 6 n k)))) (Finset.sum_congr rfl fun k _ => congr (congrArg _ ((ld7 _ _ _).trans (blk0 m c t 7 r k))) ((ld7 _ _ _).trans (blk1 m c t 7 n k)))

/-- The reference's array. -/
theorem ref8 (d w : FVec Ideal S8x2048x704 .bf16) :
  Host.dotGeneral Cert.Reference3Ideal.dot_S2048x5632_S2048x5632_S2048x2048_1_1_0_0_n_n none (shapeCast _ (transpose Cert.Reference3Ideal.S2048x8x704 [1, 0, 2] (extf .f32 d Cert.Reference3Ideal.Gen.bitsLt_bf16_f32) Cert.Reference3Ideal.Gen.transposes_S8x2048x704_S2048x8x704_1_0_2) Cert.Reference3Ideal.Gen.shapeCasts_S2048x8x704_S2048x5632) (shapeCast _ (transpose Cert.Reference3Ideal.S2048x8x704 [1, 0, 2] (extf .f32 w Cert.Reference3Ideal.Gen.bitsLt_bf16_f32) Cert.Reference3Ideal.Gen.transposes_S8x2048x704_S2048x8x704_1_0_2) Cert.Reference3Ideal.Gen.shapeCasts_S2048x8x704_S2048x5632)
  = prod d w := by
  funext y
  obtain ⟨r, n, rfl⟩ : ∃ (r : Fin 2048) (n : Fin 2048), y = ix2 r n := ⟨y 0, y 1, by funext k; fin_cases k <;> rfl⟩
  unfold prod
  pointwise
  exact FfnGrad.sum_shards fun j k => (d (ix3 j r k) : EReal) * (w (ix3 j n k) : EReal)

end FfnGrad.Dh1
-- ==== Proof.Ffn.Dh2.lean ====
/- The gradient of the layer's rows from the second branch, added to that from the first. -/
module

public import proofs.«01_k».proof.Proof.Gen.Kernel4Ideal.Value
public import proofs.«01_k».proof.Proof.Gen.Reference4Ideal.Run
public import Idealize.ShloMosaic.Lib.Pipeline.ValueKit
public import proofs.«01_k».proof.Proof.Ffn.Shards

@[expose] public section

set_option maxRecDepth 16384

noncomputable section

namespace FfnGrad.Dh2

open Idealize.ShloMosaic Idealize.ShloMosaic.TcCoe Idealize.SL.Sem
open Cert.Kernel4Ideal Cert.Kernel4Ideal.Gen

/-- Over the shards, the gradient of a branch times the weights' transpose, added to what is there. -/
def prod (d w : FVec Ideal S8x2048x704 .bf16) (x : FVec Ideal S2048x2048 .f32) : FVec Ideal S2048x2048 .f32 :=
  fun y => ((x y : EReal) + ∑ j : Fin 8, ∑ n : Fin 704, (d (ix3 j (y 0) n) : EReal) * (w (ix3 j (y 1) n) : EReal) : EReal)

theorem pay_at (x : FVec Ideal S512x512 .f32) (a0 b0 a1 b1 a2 b2 a3 b3 a4 b4 a5 b5 a6 b6 a7 b7 : FVec Ideal S1x512x704 .bf16) (r n : Fin 512) :
    ((k0_pay1 (k0_pay2 x a0 b0 a1 b1 a2 b2 a3 b3) a4 b4 a5 b5 a6 b6 a7 b7 : FVec Ideal S512x512 .f32) (ix2 r n) : EReal)
    = (x (ix2 r n) : EReal) + (∑ k : Fin 704, (a0 (ix3 0 r k) : EReal) * (b0 (ix3 0 n k) : EReal)) + (∑ k : Fin 704, (a1 (ix3 0 r k) : EReal) * (b1 (ix3 0 n k) : EReal)) + (∑ k : Fin 704, (a2 (ix3 0 r k) : EReal) * (b2 (ix3 0 n k) : EReal)) + (∑ k : Fin 704, (a3 (ix3 0 r k) : EReal) * (b3 (ix3 0 n k) : EReal)) + (∑ k : Fin 704, (a4 (ix3 0 r k) : EReal) * (b4 (ix3 0 n k) : EReal)) + (∑ k : Fin 704, (a5 (ix3 0 r k) : EReal) * (b5 (ix3 0 n k) : EReal)) + (∑ k : Fin 704, (a6 (ix3 0 r k) : EReal) * (b6 (ix3 0 n k) : EReal)) + (∑ k : Fin 704, (a7 (ix3 0 r k) : EReal) * (b7 (ix3 0 n k) : EReal)) := by
  pointwise [k0_pay1, k0_pay2]

theorem ld0 (x : FVec Ideal S8x512x704 .bf16) (r : Fin 512) (n : Fin 704) :
    ((View.ld (Val := Elt Ideal) (e' := .bf16) x r0_1 : FVec Ideal S1x512x704 .bf16) (ix3 0 r n) : EReal) = x (ix3 0 r n) := by
  refine congrArg x (funext fun k => Fin.ext ?_)
  fin_cases k <;> simp [LoadRect.idx_apply, Rect.unit]
theorem ld1 (x : FVec Ideal S8x512x704 .bf16) (r : Fin 512) (n : Fin 704) :
    ((View.ld (Val := Elt Ideal) (e' := .bf16) x r0_2 : FVec Ideal S1x512x704 .bf16) (ix3 0 r n) : EReal) = x (ix3 1 r n) := by
  refine congrArg x (funext fun k => Fin.ext ?_)
  fin_cases k <;> simp [LoadRect.idx_apply, Rect.unit]
theorem ld2 (x : FVec Ideal S8x512x704 .bf16) (r : Fin 512) (n : Fin 704) :
    ((View.ld (Val := Elt Ideal) (e' := .bf16) x r0_3 : FVec Ideal S1x512x704 .bf16) (ix3 0 r n) : EReal) = x (ix3 2 r n) := by
  refine congrArg x (funext fun k => Fin.ext ?_)
  fin_cases k <;> simp [LoadRect.idx_apply, Rect.unit]
theorem ld3 (x : FVec Ideal S8x512x704 .bf16) (r : Fin 512) (n : Fin 704) :
    ((View.ld (Val := Elt Ideal) (e' := .bf16) x r0_4 : FVec Ideal S1x512x704 .bf16) (ix3 0 r n) : EReal) = x (ix3 3 r n) := by
  refine congrArg x (funext fun k => Fin.ext ?_)
  fin_cases k <;> simp [LoadRect.idx_apply, Rect.unit]
theorem ld4 (x : FVec Ideal S8x512x704 .bf16) (r : Fin 512) (n : Fin 704) :
    ((View.ld (Val := Elt Ideal) (e' := .bf16) x r0_5 : FVec Ideal S1x512x704 .bf16) (ix3 0 r n) : EReal) = x (ix3 4 r n) := by
  refine congrArg x (funext fun k => Fin.ext ?_)
  fin_cases k <;> simp [LoadRect.idx_apply, Rect.unit]
theorem ld5 (x : FVec Ideal S8x512x704 .bf16) (r : Fin 512) (n : Fin 704) :
    ((View.ld (Val := Elt Ideal) (e' := .bf16) x r0_6 : FVec Ideal S1x512x704 .bf16) (ix3 0 r n) : EReal) = x (ix3 5 r n) := by
  refine congrArg x (funext fun k => Fin.ext ?_)
  fin_cases k <;> simp [LoadRect.idx_apply, Rect.unit]
theorem ld6 (x : FVec Ideal S8x512x704 .bf16) (r : Fin 512) (n : Fin 704) :
    ((View.ld (Val := Elt Ideal) (e' := .bf16) x r0_7 : FVec Ideal S1x512x704 .bf16) (ix3 0 r n) : EReal) = x (ix3 6 r n) := by
  refine congrArg x (funext fun k => Fin.ext ?_)
  fin_cases k <;> simp [LoadRect.idx_apply, Rect.unit]
theorem ld7 (x : FVec Ideal S8x512x704 .bf16) (r : Fin 512) (n : Fin 704) :
    ((View.ld (Val := Elt Ideal) (e' := .bf16) x r0_8 : FVec Ideal S1x512x704 .bf16) (ix3 0 r n) : EReal) = x (ix3 7 r n) := by
  refine congrArg x (funext fun k => Fin.ext ?_)
  fin_cases k <;> simp [LoadRect.idx_apply, Rect.unit]

variable (m : (ℓ : Loc nD τ sig) → Buf (Elt Ideal) ℓ) (c : Dev nD)

theorem idx : ∀ t : Fin cfg0.N, win0_0.index t = ![0, t.val / 4, 0] ∧ win0_1.index t = ![0, t.val % 4, 0]
    ∧ win0_2.index t = ![t.val / 4, t.val % 4] ∧ win0_3.index t = ![t.val / 4, t.val % 4] :=
  (by decide +kernel : ∀ t : Fin grid0.N, _)

abbrev dg : FVec Ideal S8x2048x704 .bf16 := m ((c.tc : Thread nD τ).loc main_arg0)
abbrev wt : FVec Ideal S8x2048x704 .bf16 := m ((c.tc : Thread nD τ).loc main_arg1)
abbrev old : FVec Ideal S2048x2048 .f32 := m ((c.tc : Thread nD τ).loc main_arg2)

theorem blk0 (t : Fin 16) (j : Fin 8) (r : Fin 512) (n : Fin 704) :
    ((iblk m c 0 t : FVec Ideal S8x512x704 .bf16) (ix3 j r n) : EReal) = dg m c (ix3 j ⟨t.val / 4 * 512 + r.val, by omega⟩ n) := by
  have i := (idx t).1
  unfold iblk
  blk_ext <;> simp [i]
theorem blk1 (t : Fin 16) (j : Fin 8) (r : Fin 512) (n : Fin 704) :
    ((iblk m c 1 t : FVec Ideal S8x512x704 .bf16) (ix3 j r n) : EReal) = wt m c (ix3 j ⟨t.val % 4 * 512 + r.val, by omega⟩ n) := by
  have i := (idx t).2.1
  unfold iblk
  blk_ext <;> simp [i]
theorem blk2 (t : Fin 16) (r n : Fin 512) :
    ((iblk m c 2 t : FVec Ideal S512x512 .f32) (ix2 r n) : EReal) = old m c (ix2 ⟨t.val / 4 * 512 + r.val, by omega⟩ ⟨t.val % 4 * 512 + n.val, by omega⟩) := by
  have i := (idx t).2.2.1
  unfold iblk
  blk_ext <;> simp [i]

/-- The call's array. -/
theorem arr3 : ((dats m 0 c).arrAt 3 cfg0.N : FVec Ideal S2048x2048 .f32) = prod (dg m c) (wt m c) (old m c) := by
  refine (dats m 0 c).arrAt_eq_of_covers 3 _ (by decide +kernel) fun t hf y => ?_
  blk_simp
  rw [after0_3]
  obtain ⟨r, n, rfl⟩ : ∃ (r : Fin 512) (n : Fin 512), y = ix2 r n := ⟨y 0, y 1, by funext k; fin_cases k <;> rfl⟩
  frame_out
  have b : t.val < 16 := t.isLt
  refine (pay_at _ _ _ _ _ _ _ _ _ _ _ _ _ _ _ _ _ r n).trans ?_
  have e : (prod (dg m c) (wt m c) (old m c) (ix2 ⟨t.val / 4 * 512 + r.val, by omega⟩ ⟨t.val % 4 * 512 + n.val, by omega⟩) : EReal)
      = prod (dg m c) (wt m c) (old m c) (((View.whole main_v0).slice (win0_3.rect t)).emb (ix2 r n)) := by
    have i := (idx t).2.2.2
    blk_ext <;> simp [i]
  refine Eq.trans ?_ e
  refine Eq.trans ?_ (chain _ fun j => ∑ k : Fin 704, (dg m c (ix3 j ⟨t.val / 4 * 512 + r.val, by omega⟩ k) : EReal) * (wt m c (ix3 j ⟨t.val % 4 * 512 + n.val, by omega⟩ k) : EReal))
  exact congrArg₂ (· + ·) (congrArg₂ (· + ·) (congrArg₂ (· + ·) (congrArg₂ (· + ·) (congrArg₂ (· + ·) (congrArg₂ (· + ·) (congrArg₂ (· + ·) (congrArg₂ (· + ·) (blk2 m c t r n) (Finset.sum_congr rfl fun k _ => congr (congrArg _ ((ld0 _ _ _).trans (blk0 m c t 0 r k))) ((ld0 _ _ _).trans (blk1 m c t 0 n k)))) (Finset.sum_congr rfl fun k _ => congr (congrArg _ ((ld1 _ _ _).trans (blk0 m c t 1 r k))) ((ld1 _ _ _).trans (blk1 m c t 1 n k)))) (Finset.sum_congr rfl fun k _ => congr (congrArg _ ((ld2 _ _ _).trans (blk0 m c t 2 r k))) ((ld2 _ _ _).trans (blk1 m c t 2 n k)))) (Finset.sum_congr rfl fun k _ => congr (congrArg _ ((ld3 _ _ _).trans (blk0 m c t 3 r k))) ((ld3 _ _ _).trans (blk1 m c t 3 n k)))) (Finset.sum_congr rfl fun k _ => congr (congrArg _ ((ld4 _ _ _).trans (blk0 m c t 4 r k))) ((ld4 _ _ _).trans (blk1 m c t 4 n k)))) (Finset.sum_congr rfl fun k _ => congr (congrArg _ ((ld5 _ _ _).trans (blk0 m c t 5 r k))) ((ld5 _ _ _).trans (blk1 m c t 5 n k)))) (Finset.sum_congr rfl fun k _ => congr (congrArg _ ((ld6 _ _ _).trans (blk0 m c t 6 r k))) ((ld6 _ _ _).trans (blk1 m c t 6 n k)))) (Finset.sum_congr rfl fun k _ => congr (congrArg _ ((ld7 _ _ _).trans (blk0 m c t 7 r k))) ((ld7 _ _ _).trans (blk1 m c t 7 n k)))

/-- The reference's array. -/
theorem ref9 (d w : FVec Ideal S8x2048x704 .bf16) (x : FVec Ideal S2048x2048 .f32) :
  addf x (Host.dotGeneral Cert.Reference4Ideal.dot_S2048x5632_S2048x5632_S2048x2048_1_1_0_0_n_n none (shapeCast _ (transpose Cert.Reference4Ideal.S2048x8x704 [1, 0, 2] (extf .f32 d Cert.Reference4Ideal.Gen.bitsLt_bf16_f32) Cert.Reference4Ideal.Gen.transposes_S8x2048x704_S2048x8x704_1_0_2) Cert.Reference4Ideal.Gen.shapeCasts_S2048x8x704_S2048x5632) (shapeCast _ (transpose Cert.Reference4Ideal.S2048x8x704 [1, 0, 2] (extf .f32 w Cert.Reference4Ideal.Gen.bitsLt_bf16_f32) Cert.Reference4Ideal.Gen.transposes_S8x2048x704_S2048x8x704_1_0_2) Cert.Reference4Ideal.Gen.shapeCasts_S2048x8x704_S2048x5632))
  = prod d w x := by
  funext y
  obtain ⟨r, n, rfl⟩ : ∃ (r : Fin 2048) (n : Fin 2048), y = ix2 r n := ⟨y 0, y 1, by funext k; fin_cases k <;> rfl⟩
  unfold prod
  pointwise
  exact congrArg _ (FfnGrad.sum_shards fun j k => (d (ix3 j r k) : EReal) * (w (ix3 j n k) : EReal))

end FfnGrad.Dh2
-- ==== Proof.Ffn.Real.lean ====
/- The half, the logistic function and the derivative of the SwiGLU's gate over the extended reals. -/
module

public import proofs.«01_k».proof.Proof.Ffn.Shards
public import Idealize.ShloMosaic.Lib.Pipeline.ValueKit

@[expose] public section

noncomputable section

namespace FfnGrad

open Idealize.ShloMosaic

theorem half_eq : Ideal.ofBits .f32 0x3F000000#32 = ((1 / 2 : ℝ) : EReal) := by
  simp [Ideal.ofBits, Ideal.ieee, -EReal.coe_mul]; norm_num

/-- One half times a sum is the sum of the halves. -/
theorem half_sum {ι : Type*} [Fintype ι] (f : ι → EReal) :
    Ideal.ofBits .f32 0x3F000000#32 * ∑ k, f k = ∑ k, Ideal.ofBits .f32 0x3F000000#32 * f k :=
  mul_sum _ (by rw [half_eq]; exact_mod_cast (by norm_num : (0 : ℝ) ≤ 1 / 2)) (by rw [half_eq]; exact EReal.coe_ne_top _) _ _

/-- The logistic function. -/
def lgs (g : EReal) : EReal := Ideal.div 1 (1 + Ideal.exp (-g))

theorem sig_bot : lgs ⊥ = 0 := by
  simp [lgs, Ideal.div, EReal.add_top_of_ne_bot (x := (1 : EReal)) (by decide)]
theorem sig_top : lgs ⊤ = 1 := by
  simp [lgs, Ideal.div]
theorem one_sub_one : (1 - 1 : EReal) = 0 := EReal.sub_self (by decide) (by decide)
theorem sig_coe (g : ℝ) : lgs (g : EReal) = ((1 / (1 + Real.exp (-g)) : ℝ) : EReal) := by
  have h : (1 + Ideal.exp (-(g : EReal)) : EReal) = ((1 + Real.exp (-g) : ℝ) : EReal) := by
    rw [← EReal.coe_neg]; exact (EReal.coe_add _ _).symm
  have p : (1 + Real.exp (-g) : ℝ) ≠ 0 := by positivity
  unfold lgs
  rw [h, Ideal.div_coe p, one_mul]

/-- The derivative of the gate's activation, multiplied out, for a real factor. -/
theorem gate_grad (x : ℝ) (g : EReal) :
    (x : EReal) * (lgs g + g * lgs g * (1 - lgs g)) = x * lgs g + g * x * (lgs g * (1 - lgs g)) := by
  induction g with
  | bot => simp [sig_bot]
  | top => simp [sig_top, one_sub_one]
  | coe g =>
    rw [sig_coe]
    norm_cast
    ring

/-- A product of reals' sum with a real is a real. -/
theorem real_dact {ι : Type*} [Fintype ι] (a b : ι → EReal) (u : EReal) (ha : ∀ k, a k = ((a k).toReal : EReal))
    (hb : ∀ k, b k = ((b k).toReal : EReal)) (hu : u = (u.toReal : EReal)) :
    ∃ x : ℝ, (Ideal.ofBits .f32 0x3F000000#32 * ∑ k, a k * b k) * u = (x : EReal) := by
  have h : ∀ s : Finset ι, ∃ x : ℝ, ∑ k ∈ s, a k * b k = (x : EReal) := by
    classical
    intro s
    induction s using Finset.induction_on with
    | empty => exact ⟨0, by simp⟩
    | insert k s hk ih =>
      obtain ⟨x, hx⟩ := ih
      refine ⟨(a k).toReal * (b k).toReal + x, ?_⟩
      rw [Finset.sum_insert hk, hx, EReal.coe_add, EReal.coe_mul, ← ha k, ← hb k]
  obtain ⟨x, hx⟩ := h Finset.univ
  refine ⟨1 / 2 * x * u.toReal, ?_⟩
  rw [hx, half_eq, EReal.coe_mul, EReal.coe_mul, ← hu]

end FfnGrad
-- ==== Proof.Ffn.DHidden.lean ====
/- The gradients of the two branches: half the rows' gradient times the output weights' transpose, through the activation. -/
module

public import proofs.«01_k».proof.Proof.Gen.Kernel5Ideal.Value
public import proofs.«01_k».proof.Proof.Gen.Reference5Ideal.Run
public import Idealize.ShloMosaic.Lib.Pipeline.ValueKit
public import proofs.«01_k».proof.Proof.Ffn.Real

@[expose] public section

set_option maxRecDepth 16384

noncomputable section

namespace FfnGrad.DHidden

open Idealize.ShloMosaic Idealize.ShloMosaic.TcCoe Idealize.SL.Sem
open Cert.Kernel5Ideal Cert.Kernel5Ideal.Gen

/-- The gradient of a branch that is the gate's: `D` the activation's gradient, `u` the other branch, `g` the gate. -/
def gateG (D u g : EReal) : EReal := D * u * (lgs g + g * lgs g * (1 - lgs g))
/-- The gradient of the other branch. -/
def upG (D g : EReal) : EReal := D * (g * lgs g)

/-- The activation's gradient. -/
def dact (d : FVec Ideal S2048x2048 .f32) (w : FVec Ideal S8x704x2048 .bf16) (j : Fin 8) (r : Fin 2048) (n : Fin 704) : EReal :=
  Ideal.ofBits .f32 0x3F000000#32 * ∑ k : Fin 2048, (d (ix2 r k) : EReal) * (w (ix3 j n k) : EReal)

def gate (d : FVec Ideal S2048x2048 .f32) (w : FVec Ideal S8x704x2048 .bf16) (g u : FVec Ideal S8x2048x704 .bf16) : FVec Ideal S8x2048x704 .bf16 :=
  fun y => (gateG (dact d w (y 0) (y 1) (y 2)) (u (ix3 (y 0) (y 1) (y 2))) (g (ix3 (y 0) (y 1) (y 2))) : EReal)
def up (d : FVec Ideal S2048x2048 .f32) (w : FVec Ideal S8x704x2048 .bf16) (g : FVec Ideal S8x2048x704 .bf16) : FVec Ideal S8x2048x704 .bf16 :=
  fun y => (upG (dact d w (y 0) (y 1) (y 2)) (g (ix3 (y 0) (y 1) (y 2))) : EReal)

theorem pay6_at (d : FVec Ideal S512x2048 .f32) (w : FVec Ideal S1x704x2048 .bf16) (g u : FVec Ideal S1x512x704 .bf16) (r : Fin 512) (n : Fin 704) :
    ((k0_pay6 d w g u : FVec Ideal S1x512x704 .bf16) (ix3 0 r n) : EReal)
      = gateG (Ideal.ofBits .f32 0x3F000000#32 * ∑ k : Fin 2048, (d (ix2 r k) : EReal) * (w (ix3 0 n k) : EReal)) (u (ix3 0 r n)) (g (ix3 0 r n)) := by
  unfold gateG lgs
  pointwise [k0_pay6, k0_pay5, k0_pay4, k0_pay3, k0_pay2]
  simp only [sub_eq_add_neg, zero_add]
theorem pay7_at (d : FVec Ideal S512x2048 .f32) (w : FVec Ideal S1x704x2048 .bf16) (g : FVec Ideal S1x512x704 .bf16) (r : Fin 512) (n : Fin 704) :
    ((k0_pay1 (k0_pay7 d w g) : FVec Ideal S1x512x704 .bf16) (ix3 0 r n) : EReal)
      = upG (Ideal.ofBits .f32 0x3F000000#32 * ∑ k : Fin 2048, (d (ix2 r k) : EReal) * (w (ix3 0 n k) : EReal)) (g (ix3 0 r n)) := by
  unfold upG lgs
  pointwise [k0_pay1, k0_pay7, k0_pay5, k0_pay4, k0_pay3, k0_pay2]
  simp only [sub_eq_add_neg, zero_add]

variable (m : (ℓ : Loc nD τ sig) → Buf (Elt Ideal) ℓ) (c : Dev nD)

theorem idx : ∀ t : Fin cfg0.N, win0_0.index t = ![t.val / 8, 0] ∧ win0_1.index t = ![t.val % 8, 0, 0]
    ∧ win0_2.index t = ![t.val % 8, t.val / 8, 0] ∧ win0_3.index t = ![t.val % 8, t.val / 8, 0]
    ∧ win0_4.index t = ![t.val % 8, t.val / 8, 0] ∧ win0_5.index t = ![t.val % 8, t.val / 8, 0] :=
  (by decide +kernel : ∀ t : Fin grid0.N, _)

abbrev grad : FVec Ideal S2048x2048 .f32 := m ((c.tc : Thread nD τ).loc main_arg0)
abbrev wt : FVec Ideal S8x704x2048 .bf16 := m ((c.tc : Thread nD τ).loc main_arg1)
abbrev gt : FVec Ideal S8x2048x704 .bf16 := m ((c.tc : Thread nD τ).loc main_arg2)
abbrev ut : FVec Ideal S8x2048x704 .bf16 := m ((c.tc : Thread nD τ).loc main_arg3)

theorem blk0 (t : Fin 32) (r : Fin 512) (k : Fin 2048) :
    ((iblk m c 0 t : FVec Ideal S512x2048 .f32) (ix2 r k) : EReal) = grad m c (ix2 ⟨t.val / 8 * 512 + r.val, by omega⟩ k) := by
  have i := (idx t).1
  unfold iblk
  blk_ext <;> simp [i]
theorem blk1 (t : Fin 32) (n : Fin 704) (k : Fin 2048) :
    ((iblk m c 1 t : FVec Ideal S1x704x2048 .bf16) (ix3 0 n k) : EReal) = wt m c (ix3 ⟨t.val % 8, by omega⟩ n k) := by
  have i := (idx t).2.1
  unfold iblk
  blk_ext <;> simp [i]
theorem blk2 (t : Fin 32) (r : Fin 512) (n : Fin 704) :
    ((iblk m c 2 t : FVec Ideal S1x512x704 .bf16) (ix3 0 r n) : EReal) = gt m c (ix3 ⟨t.val % 8, by omega⟩ ⟨t.val / 8 * 512 + r.val, by omega⟩ n) := by
  have i := (idx t).2.2.1
  unfold iblk
  blk_ext <;> simp [i]
theorem blk3 (t : Fin 32) (r : Fin 512) (n : Fin 704) :
    ((iblk m c 3 t : FVec Ideal S1x512x704 .bf16) (ix3 0 r n) : EReal) = ut m c (ix3 ⟨t.val % 8, by omega⟩ ⟨t.val / 8 * 512 + r.val, by omega⟩ n) := by
  have i := (idx t).2.2.2.1
  unfold iblk
  blk_ext <;> simp [i]

theorem dact_at (t : Fin 32) (r : Fin 512) (n : Fin 704) (X W : Fin 2048 → EReal)
    (hX : ∀ k, X k = grad m c (ix2 ⟨t.val / 8 * 512 + r.val, by omega⟩ k)) (hW : ∀ k, W k = wt m c (ix3 ⟨t.val % 8, by omega⟩ n k)) :
    Ideal.ofBits .f32 0x3F000000#32 * (∑ k : Fin 2048, X k * W k)
      = dact (grad m c) (wt m c) ⟨t.val % 8, by omega⟩ ⟨t.val / 8 * 512 + r.val, by omega⟩ n :=
  congrArg _ (Finset.sum_congr rfl fun k _ => congr (congrArg _ (hX k)) (hW k))

theorem arr4 : ((dats m 0 c).arrAt 4 cfg0.N : FVec Ideal S8x2048x704 .bf16) = gate (grad m c) (wt m c) (gt m c) (ut m c) := by
  refine (dats m 0 c).arrAt_eq_of_covers 4 _ (by decide +kernel) fun t hf y => ?_
  blk_simp
  rw [after0_4]
  obtain ⟨z, r, n, rfl⟩ : ∃ (z : Fin 1) (r : Fin 512) (n : Fin 704), y = ix3 z r n := ⟨y 0, y 1, y 2, by funext k; fin_cases k <;> rfl⟩
  obtain rfl : z = 0 := Subsingleton.elim _ _
  frame_out
  have b : t.val < 32 := t.isLt
  refine (pay6_at _ _ _ _ r n).trans ?_
  have e : (gate (grad m c) (wt m c) (gt m c) (ut m c) (ix3 ⟨t.val % 8, by omega⟩ ⟨t.val / 8 * 512 + r.val, by omega⟩ n) : EReal)
      = gate (grad m c) (wt m c) (gt m c) (ut m c) (((View.whole main_v0_0).slice (win0_4.rect t)).emb (ix3 0 r n)) := by
    have i := (idx t).2.2.2.2.1
    blk_ext <;> simp [i]
  refine Eq.trans ?_ e
  exact congr (congr (congrArg gateG (dact_at m c t r n _ _ (fun k => blk0 m c t r k) (fun k => blk1 m c t n k))) (blk3 m c t r n)) (blk2 m c t r n)

theorem arr5 : ((dats m 0 c).arrAt 5 cfg0.N : FVec Ideal S8x2048x704 .bf16) = up (grad m c) (wt m c) (gt m c) := by
  refine (dats m 0 c).arrAt_eq_of_covers 5 _ (by decide +kernel) fun t hf y => ?_
  blk_simp
  rw [after0_5]
  obtain ⟨z, r, n, rfl⟩ : ∃ (z : Fin 1) (r : Fin 512) (n : Fin 704), y = ix3 z r n := ⟨y 0, y 1, y 2, by funext k; fin_cases k <;> rfl⟩
  obtain rfl : z = 0 := Subsingleton.elim _ _
  frame_out
  have b : t.val < 32 := t.isLt
  refine (pay7_at _ _ _ r n).trans ?_
  have e : (up (grad m c) (wt m c) (gt m c) (ix3 ⟨t.val % 8, by omega⟩ ⟨t.val / 8 * 512 + r.val, by omega⟩ n) : EReal)
      = up (grad m c) (wt m c) (gt m c) (((View.whole main_v0_1).slice (win0_5.rect t)).emb (ix3 0 r n)) := by
    have i := (idx t).2.2.2.2.2
    blk_ext <;> simp [i]
  refine Eq.trans ?_ e
  exact congr (congrArg upG (dact_at m c t r n _ _ (fun k => blk0 m c t r k) (fun k => blk1 m c t n k))) (blk2 m c t r n)

/-- The half inside the products' sum or before it. -/
theorem dact_eq (d : FVec Ideal S2048x2048 .f32) (w : FVec Ideal S8x704x2048 .bf16) (j : Fin 8) (r : Fin 2048) (n : Fin 704) :
    (∑ k : Fin 2048, Ideal.ofBits .f32 0x3F000000#32 * (d (ix2 r k) : EReal) * (w (ix3 j n k) : EReal) : EReal) = dact d w j r n :=
  (Finset.sum_congr rfl fun k _ => mul_assoc (G := EReal) _ _ _).trans (half_sum _).symm

/-- The reference's gradient of the gate, on finite rows, weights and branch. -/
theorem ref21 (d : FVec Ideal S2048x2048 .f32) (w : FVec Ideal S8x704x2048 .bf16) (g u : FVec Ideal S8x2048x704 .bf16)
    (hd : ∀ r k, (d (ix2 r k) : EReal) = ((d (ix2 r k) : EReal).toReal : EReal))
    (hw : ∀ j n k, (w (ix3 j n k) : EReal) = ((w (ix3 j n k) : EReal).toReal : EReal))
    (hu : ∀ j r n, (u (ix3 j r n) : EReal) = ((u (ix3 j r n) : EReal).toReal : EReal)) :
  truncf .bf16 (transpose Cert.Reference5Ideal.S8x2048x704 [1, 0, 2] (shapeCast _ (addf (mulf (mulf (Host.dotGeneral Cert.Reference5Ideal.dot_S2048x2048_S5632x2048_S2048x5632_1_1_0_0_n_n none (mulf (broadcastInDim Cert.Reference5Ideal.S2048x2048 ![] Cert.Reference5Ideal.Gen.bcast_S_S2048x2048 (constant Cert.Reference5Ideal.S_ .f32 0x3F000000#32)) d) (shapeCast _ (extf .f32 w Cert.Reference5Ideal.Gen.bitsLt_bf16_f32) Cert.Reference5Ideal.Gen.shapeCasts_S8x704x2048_S5632x2048)) (shapeCast _ (transpose Cert.Reference5Ideal.S2048x8x704 [1, 0, 2] (extf .f32 u Cert.Reference5Ideal.Gen.bitsLt_bf16_f32) Cert.Reference5Ideal.Gen.transposes_S8x2048x704_S2048x8x704_1_0_2) Cert.Reference5Ideal.Gen.shapeCasts_S2048x8x704_S2048x5632)) (Host.divf (broadcastInDim Cert.Reference5Ideal.S2048x5632 ![] Cert.Reference5Ideal.Gen.bcast_S_S2048x5632 (constant Cert.Reference5Ideal.S_ .f32 0x3F800000#32)) (addf (broadcastInDim Cert.Reference5Ideal.S2048x5632 ![] Cert.Reference5Ideal.Gen.bcast_S_S2048x5632 (constant Cert.Reference5Ideal.S_ .f32 0x3F800000#32)) (Host.exp (Host.negf (shapeCast _ (transpose Cert.Reference5Ideal.S2048x8x704 [1, 0, 2] (extf .f32 g Cert.Reference5Ideal.Gen.bitsLt_bf16_f32) Cert.Reference5Ideal.Gen.transposes_S8x2048x704_S2048x8x704_1_0_2) Cert.Reference5Ideal.Gen.shapeCasts_S2048x8x704_S2048x5632)))))) (mulf (mulf (shapeCast _ (transpose Cert.Reference5Ideal.S2048x8x704 [1, 0, 2] (extf .f32 g Cert.Reference5Ideal.Gen.bitsLt_bf16_f32) Cert.Reference5Ideal.Gen.transposes_S8x2048x704_S2048x8x704_1_0_2) Cert.Reference5Ideal.Gen.shapeCasts_S2048x8x704_S2048x5632) (mulf (Host.dotGeneral Cert.Reference5Ideal.dot_S2048x2048_S5632x2048_S2048x5632_1_1_0_0_n_n none (mulf (broadcastInDim Cert.Reference5Ideal.S2048x2048 ![] Cert.Reference5Ideal.Gen.bcast_S_S2048x2048 (constant Cert.Reference5Ideal.S_ .f32 0x3F000000#32)) d) (shapeCast _ (extf .f32 w Cert.Reference5Ideal.Gen.bitsLt_bf16_f32) Cert.Reference5Ideal.Gen.shapeCasts_S8x704x2048_S5632x2048)) (shapeCast _ (transpose Cert.Reference5Ideal.S2048x8x704 [1, 0, 2] (extf .f32 u Cert.Reference5Ideal.Gen.bitsLt_bf16_f32) Cert.Reference5Ideal.Gen.transposes_S8x2048x704_S2048x8x704_1_0_2) Cert.Reference5Ideal.Gen.shapeCasts_S2048x8x704_S2048x5632))) (mulf (Host.divf (broadcastInDim Cert.Reference5Ideal.S2048x5632 ![] Cert.Reference5Ideal.Gen.bcast_S_S2048x5632 (constant Cert.Reference5Ideal.S_ .f32 0x3F800000#32)) (addf (broadcastInDim Cert.Reference5Ideal.S2048x5632 ![] Cert.Reference5Ideal.Gen.bcast_S_S2048x5632 (constant Cert.Reference5Ideal.S_ .f32 0x3F800000#32)) (Host.exp (Host.negf (shapeCast _ (transpose Cert.Reference5Ideal.S2048x8x704 [1, 0, 2] (extf .f32 g Cert.Reference5Ideal.Gen.bitsLt_bf16_f32) Cert.Reference5Ideal.Gen.transposes_S8x2048x704_S2048x8x704_1_0_2) Cert.Reference5Ideal.Gen.shapeCasts_S2048x8x704_S2048x5632))))) (subf (broadcastInDim Cert.Reference5Ideal.S2048x5632 ![] Cert.Reference5Ideal.Gen.bcast_S_S2048x5632 (constant Cert.Reference5Ideal.S_ .f32 0x3F800000#32)) (Host.divf (broadcastInDim Cert.Reference5Ideal.S2048x5632 ![] Cert.Reference5Ideal.Gen.bcast_S_S2048x5632 (constant Cert.Reference5Ideal.S_ .f32 0x3F800000#32)) (addf (broadcastInDim Cert.Reference5Ideal.S2048x5632 ![] Cert.Reference5Ideal.Gen.bcast_S_S2048x5632 (constant Cert.Reference5Ideal.S_ .f32 0x3F800000#32)) (Host.exp (Host.negf (shapeCast _ (transpose Cert.Reference5Ideal.S2048x8x704 [1, 0, 2] (extf .f32 g Cert.Reference5Ideal.Gen.bitsLt_bf16_f32) Cert.Reference5Ideal.Gen.transposes_S8x2048x704_S2048x8x704_1_0_2) Cert.Reference5Ideal.Gen.shapeCasts_S2048x8x704_S2048x5632))))))))) Cert.Reference5Ideal.Gen.shapeCasts_S2048x5632_S2048x8x704) Cert.Reference5Ideal.Gen.transposes_S2048x8x704_S8x2048x704_1_0_2) Cert.Reference5Ideal.Gen.bitsLt_bf16_f32
  = gate d w g u := by
  funext y
  obtain ⟨j, r, n, rfl⟩ : ∃ (j : Fin 8) (r : Fin 2048) (n : Fin 704), y = ix3 j r n := ⟨y 0, y 1, y 2, by funext k; fin_cases k <;> rfl⟩
  have E : (gate d w g u (ix3 j r n) : EReal) = dact d w j r n * u (ix3 j r n) * lgs (g (ix3 j r n))
      + g (ix3 j r n) * (dact d w j r n * u (ix3 j r n)) * (lgs (g (ix3 j r n)) * (1 - lgs (g (ix3 j r n)))) := by
    obtain ⟨x, hx⟩ := real_dact (fun k => (d (ix2 r k) : EReal)) (fun k => (w (ix3 j n k) : EReal)) (u (ix3 j r n)) (hd r) (hw j n) (hu j r n)
    have hx' : dact d w j r n * u (ix3 j r n) = (x : EReal) := hx
    show dact d w j r n * u (ix3 j r n) * (lgs (g (ix3 j r n)) + g (ix3 j r n) * lgs (g (ix3 j r n)) * (1 - lgs (g (ix3 j r n)))) = _
    rw [hx']
    exact gate_grad x _
  refine Eq.trans ?_ E.symm
  rw [← dact_eq]
  unfold lgs
  pointwise

/-- The reference's gradient of the other branch. -/
theorem ref24 (d : FVec Ideal S2048x2048 .f32) (w : FVec Ideal S8x704x2048 .bf16) (g : FVec Ideal S8x2048x704 .bf16) :
  truncf .bf16 (transpose Cert.Reference5Ideal.S8x2048x704 [1, 0, 2] (shapeCast _ (mulf (mulf (shapeCast _ (transpose Cert.Reference5Ideal.S2048x8x704 [1, 0, 2] (extf .f32 g Cert.Reference5Ideal.Gen.bitsLt_bf16_f32) Cert.Reference5Ideal.Gen.transposes_S8x2048x704_S2048x8x704_1_0_2) Cert.Reference5Ideal.Gen.shapeCasts_S2048x8x704_S2048x5632) (Host.divf (broadcastInDim Cert.Reference5Ideal.S2048x5632 ![] Cert.Reference5Ideal.Gen.bcast_S_S2048x5632 (constant Cert.Reference5Ideal.S_ .f32 0x3F800000#32)) (addf (broadcastInDim Cert.Reference5Ideal.S2048x5632 ![] Cert.Reference5Ideal.Gen.bcast_S_S2048x5632 (constant Cert.Reference5Ideal.S_ .f32 0x3F800000#32)) (Host.exp (Host.negf (shapeCast _ (transpose Cert.Reference5Ideal.S2048x8x704 [1, 0, 2] (extf .f32 g Cert.Reference5Ideal.Gen.bitsLt_bf16_f32) Cert.Reference5Ideal.Gen.transposes_S8x2048x704_S2048x8x704_1_0_2) Cert.Reference5Ideal.Gen.shapeCasts_S2048x8x704_S2048x5632)))))) (Host.dotGeneral Cert.Reference5Ideal.dot_S2048x2048_S5632x2048_S2048x5632_1_1_0_0_n_n none (mulf (broadcastInDim Cert.Reference5Ideal.S2048x2048 ![] Cert.Reference5Ideal.Gen.bcast_S_S2048x2048 (constant Cert.Reference5Ideal.S_ .f32 0x3F000000#32)) d) (shapeCast _ (extf .f32 w Cert.Reference5Ideal.Gen.bitsLt_bf16_f32) Cert.Reference5Ideal.Gen.shapeCasts_S8x704x2048_S5632x2048))) Cert.Reference5Ideal.Gen.shapeCasts_S2048x5632_S2048x8x704) Cert.Reference5Ideal.Gen.transposes_S2048x8x704_S8x2048x704_1_0_2) Cert.Reference5Ideal.Gen.bitsLt_bf16_f32
  = up d w g := by
  funext y
  obtain ⟨j, r, n, rfl⟩ : ∃ (j : Fin 8) (r : Fin 2048) (n : Fin 704), y = ix3 j r n := ⟨y 0, y 1, y 2, by funext k; fin_cases k <;> rfl⟩
  refine Eq.trans ?_ (mul_comm (G := EReal) (g (ix3 j r n) * lgs (g (ix3 j r n))) (dact d w j r n))
  rw [← dact_eq]
  unfold lgs
  pointwise

end FfnGrad.DHidden
-- ==== Proof.Ffn.DwDown.lean ====
/- The gradient of the output weights: shard by shard, half the activations' transpose times the rows' gradient. -/
module

public import proofs.«01_k».proof.Proof.Gen.Kernel6Ideal.Value
public import proofs.«01_k».proof.Proof.Gen.Reference6Ideal.Run
public import Idealize.ShloMosaic.Lib.Pipeline.ValueKit
public import proofs.«01_k».proof.Proof.Ffn.Real

@[expose] public section

set_option maxRecDepth 16384

noncomputable section

namespace FfnGrad.DwDown

open Idealize.ShloMosaic Idealize.ShloMosaic.TcCoe Idealize.SL.Sem
open Cert.Kernel6Ideal Cert.Kernel6Ideal.Gen

/-- Shard by shard, half the activations' transpose times the rows' gradient. -/
def prod (a : FVec Ideal S8x2048x704 .bf16) (d : FVec Ideal S2048x2048 .f32) : FVec Ideal S8x704x2048 .bf16 :=
  fun y => (Ideal.ofBits .f32 0x3F000000#32 * ∑ k : Fin 2048, (a (ix3 (y 0) k (y 1)) : EReal) * (d (ix2 k (y 2)) : EReal) : EReal)

theorem pay1_at (a : FVec Ideal S1x2048x704 .bf16) (b : FVec Ideal S2048x1024 .f32) (n : Fin 704) (e : Fin 1024) :
    ((k0_pay1 a b : FVec Ideal S1x704x1024 .bf16) (ix3 0 n e) : EReal)
      = Ideal.ofBits .f32 0x3F000000#32 * ∑ k : Fin 2048, (a (ix3 0 k n) : EReal) * (b (ix2 k e) : EReal) := by
  pointwise [k0_pay1]

variable (m : (ℓ : Loc nD τ sig) → Buf (Elt Ideal) ℓ) (c : Dev nD)

theorem idx : ∀ t : Fin cfg0.N, win0_0.index t = ![t.val / 2, 0, 0] ∧ win0_1.index t = ![0, t.val % 2]
    ∧ win0_2.index t = ![t.val / 2, 0, t.val % 2] :=
  (by decide +kernel : ∀ t : Fin grid0.N, _)

abbrev act : FVec Ideal S8x2048x704 .bf16 := m ((c.tc : Thread nD τ).loc main_arg0)
abbrev grad : FVec Ideal S2048x2048 .f32 := m ((c.tc : Thread nD τ).loc main_arg1)

theorem blk0 (t : Fin 16) (k : Fin 2048) (n : Fin 704) :
    ((iblk m c 0 t : FVec Ideal S1x2048x704 .bf16) (ix3 0 k n) : EReal) = act m c (ix3 ⟨t.val / 2, by omega⟩ k n) := by
  have i := (idx t).1
  unfold iblk
  blk_ext <;> simp [i]
theorem blk1 (t : Fin 16) (k : Fin 2048) (e : Fin 1024) :
    ((iblk m c 1 t : FVec Ideal S2048x1024 .f32) (ix2 k e) : EReal) = grad m c (ix2 k ⟨t.val % 2 * 1024 + e.val, by omega⟩) := by
  have i := (idx t).2.1
  unfold iblk
  blk_ext <;> simp [i]

/-- The call's array. -/
theorem arr2 : ((dats m 0 c).arrAt 2 cfg0.N : FVec Ideal S8x704x2048 .bf16) = prod (act m c) (grad m c) := by
  refine (dats m 0 c).arrAt_eq_of_covers 2 _ (by decide +kernel) fun t hf y => ?_
  blk_simp
  rw [after0_2]
  obtain ⟨z, n, e, rfl⟩ : ∃ (z : Fin 1) (n : Fin 704) (e : Fin 1024), y = ix3 z n e := ⟨y 0, y 1, y 2, by funext k; fin_cases k <;> rfl⟩
  obtain rfl : z = 0 := Subsingleton.elim _ _
  frame_out
  have b : t.val < 16 := t.isLt
  refine (pay1_at _ _ n e).trans ?_
  have q : (prod (act m c) (grad m c) (ix3 ⟨t.val / 2, by omega⟩ n ⟨t.val % 2 * 1024 + e.val, by omega⟩) : EReal)
      = prod (act m c) (grad m c) (((View.whole main_v0).slice (win0_2.rect t)).emb (ix3 0 n e)) := by
    have i := (idx t).2.2
    blk_ext <;> simp [i]
  refine Eq.trans ?_ q
  exact congrArg _ (Finset.sum_congr rfl fun k _ => congr (congrArg _ (blk0 m c t k n)) (blk1 m c t k e))

/-- The reference's array. -/
theorem ref12 (a : FVec Ideal S8x2048x704 .bf16) (d : FVec Ideal S2048x2048 .f32) :
  shapeCast _ (truncf .bf16 (transpose Cert.Reference6Ideal.S5632x2048 [1, 0] (Host.dotGeneral Cert.Reference6Ideal.dot_S2048x2048_S2048x5632_S2048x5632_0_0_1_1_n_n none (mulf (broadcastInDim Cert.Reference6Ideal.S2048x2048 ![] Cert.Reference6Ideal.Gen.bcast_S_S2048x2048 (constant Cert.Reference6Ideal.S_ .f32 0x3F000000#32)) d) (shapeCast _ (transpose Cert.Reference6Ideal.S2048x8x704 [1, 0, 2] (extf .f32 a Cert.Reference6Ideal.Gen.bitsLt_bf16_f32) Cert.Reference6Ideal.Gen.transposes_S8x2048x704_S2048x8x704_1_0_2) Cert.Reference6Ideal.Gen.shapeCasts_S2048x8x704_S2048x5632)) Cert.Reference6Ideal.Gen.transposes_S2048x5632_S5632x2048_1_0) Cert.Reference6Ideal.Gen.bitsLt_bf16_f32) Cert.Reference6Ideal.Gen.shapeCasts_S5632x2048_S8x704x2048
  = prod a d := by
  funext y
  obtain ⟨j, n, e, rfl⟩ : ∃ (j : Fin 8) (n : Fin 704) (e : Fin 2048), y = ix3 j n e := ⟨y 0, y 1, y 2, by funext k; fin_cases k <;> rfl⟩
  unfold prod
  pointwise
  refine Eq.trans ?_ (half_sum _).symm
  exact Finset.sum_congr rfl fun k _ => (mul_assoc (G := EReal) _ _ _).trans (congrArg _ (mul_comm (G := EReal) _ _))

end FfnGrad.DwDown
-- ==== Proof.Ffn.FiniteFfn.lean ====
/- Under the SwiGLU layer's precondition the rows' gradient, the output weights and the second branch are reals. -/
module

public import proofs.«01_k».proof.Defs
public import proofs.«01_k».proof.Proof.Finite
public import proofs.«01_k».proof.Proof.Gen.Pre_finite_ffn

@[expose] public section

noncomputable section

namespace FfnGrad.DHidden

open Idealize.ShloMosaic

theorem fin0 (a b) (g) (u) (h : (Cert.Pre_finite_ffn.fn (F := Ideal) a b g u).1 = fun _ => 1#1) (i j : Fin 2048) :
    (a (ix2 i j) : EReal) = ((a (ix2 i j) : EReal).toReal : EReal) := by
  refine SwaGrad.real_of _ ((congrFun h (ix2 i j) : _).symm.trans ?_).symm
  pointwise [Cert.Pre_finite_ffn.fn]
theorem fin1 (a b) (g) (u) (h : (Cert.Pre_finite_ffn.fn (F := Ideal) a b g u).2.1 = fun _ => 1#1) (i : Fin 8) (j : Fin 704) (k : Fin 2048) :
    (b (ix3 i j k) : EReal) = ((b (ix3 i j k) : EReal).toReal : EReal) := by
  refine SwaGrad.real_of _ ((congrFun h (ix3 i j k) : _).symm.trans ?_).symm
  pointwise [Cert.Pre_finite_ffn.fn]
theorem fin2 (a b) (g) (u) (h : (Cert.Pre_finite_ffn.fn (F := Ideal) a b g u).2.2 = fun _ => 1#1) (i : Fin 8) (j : Fin 2048) (k : Fin 704) :
    (u (ix3 i j k) : EReal) = ((u (ix3 i j k) : EReal).toReal : EReal) := by
  refine SwaGrad.real_of _ ((congrFun h (ix3 i j k) : _).symm.trans ?_).symm
  pointwise [Cert.Pre_finite_ffn.fn]

end FfnGrad.DHidden
-- ==== Proof.Ffn.EqualLayer.lean ====
/- The calls of the backward pass of the SwiGLU layer: their references' frames, and the equality with the references. -/
module

public import proofs.«01_k».proof.Defs
public import proofs.«01_k».proof.Proof.Ffn.DwHidden
public import proofs.«01_k».proof.Proof.Gen.Kernel2Ideal.Value
public import proofs.«01_k».proof.Proof.Gen.Reference2Ideal.Run
public import proofs.«01_k».proof.Proof.Ffn.Dh1
public import proofs.«01_k».proof.Proof.Gen.Kernel3Ideal.Value
public import proofs.«01_k».proof.Proof.Gen.Reference3Ideal.Run
public import proofs.«01_k».proof.Proof.Ffn.Dh2
public import proofs.«01_k».proof.Proof.Gen.Kernel4Ideal.Value
public import proofs.«01_k».proof.Proof.Gen.Reference4Ideal.Run
public import proofs.«01_k».proof.Proof.Ffn.DHidden
public import proofs.«01_k».proof.Proof.Gen.Kernel5Ideal.Value
public import proofs.«01_k».proof.Proof.Gen.Reference5Ideal.Run
public import proofs.«01_k».proof.Proof.Ffn.DwDown
public import proofs.«01_k».proof.Proof.Gen.Kernel6Ideal.Value
public import proofs.«01_k».proof.Proof.Gen.Reference6Ideal.Run
public import proofs.«01_k».proof.Proof.Ffn.FiniteFfn
public import Idealize.ShloMosaic.Adequacy
public import Idealize.ShloMosaic.Init

@[expose] public section

noncomputable section

namespace FfnGrad

open Cert Idealize.ShloMosaic Idealize.SL.Sem

/-- The reference's frame, and the equality of the call `_ffn_dw_hidden` with its reference. -/
theorem quiet2 : quiescent_Reference2Ideal (hReference2Ideal := Cert.Reference2Ideal.Gen.facts) := fun m g _ =>
  (θ_run _ _ _).mono (fun r h => ⟨fun c => (h c).2.2, sem_eq_zero_of_no_sems (by decide) r.2⟩) (Cert.Reference2Ideal.Value.run m g)
theorem equal2 : algebraic_Kernel2Ideal_Reference2Ideal (hKernel2Ideal := Cert.Kernel2Ideal.Gen.facts) (hReference2Ideal := Cert.Reference2Ideal.Gen.facts) := by
  intro m g m' g' hp ha
  refine ⟨fun c => DwHidden.prod (DwHidden.rows m c) (DwHidden.gate m c), fun c => DwHidden.prod (DwHidden.rows m c) (DwHidden.up m c), ?_, ?_⟩
  · refine (θ_run _ _ _).mono (fun r h c => ?_) (Cert.Kernel2Ideal.Value.run_blocks m g)
    obtain ⟨h0, h1, h2, h3, h4⟩ := h c
    exact ⟨h0.trans (DwHidden.arr3 m c), h1.trans (DwHidden.arr4 m c), h2, h3, h4⟩
  · refine (θ_run _ _ _).mono (fun r h c => ?_) (Cert.Reference2Ideal.Value.run m' g')
    obtain ⟨h0, h1, h2, h3, h4⟩ := h c
    obtain ⟨a0, a1, a2⟩ := ha c
    exact ⟨h0.trans ((DwHidden.ref17 _ _).trans (congr (congrArg DwHidden.prod a0) a1)),
      h1.trans ((DwHidden.ref17 _ _).trans (congr (congrArg DwHidden.prod a0) a2)), h2, h3, h4⟩

/-- The reference's frame, and the equality of the call `_ffn_dh, the gate's` with its reference. -/
theorem quiet3 : quiescent_Reference3Ideal (hReference3Ideal := Cert.Reference3Ideal.Gen.facts) := fun m g _ =>
  (θ_run _ _ _).mono (fun r h => ⟨fun c => (h c).2, sem_eq_zero_of_no_sems (by decide) r.2⟩) (Cert.Reference3Ideal.Value.run m g)
theorem equal3 : algebraic_Kernel3Ideal_Reference3Ideal (hKernel3Ideal := Cert.Kernel3Ideal.Gen.facts) (hReference3Ideal := Cert.Reference3Ideal.Gen.facts) := by
  intro m g m' g' hp ha
  refine ⟨fun c => Dh1.prod (Dh1.dg m c) (Dh1.wt m c), ?_, ?_⟩
  · refine (θ_run _ _ _).mono (fun r h c => ?_) (Cert.Kernel3Ideal.Value.run_blocks m g)
    obtain ⟨h0, h1, h2⟩ := h c
    exact ⟨h0.trans (Dh1.arr2 m c), h1, h2⟩
  · refine (θ_run _ _ _).mono (fun r h c => ?_) (Cert.Reference3Ideal.Value.run m' g')
    obtain ⟨h0, h1, h2⟩ := h c
    obtain ⟨a0, a1⟩ := ha c
    exact ⟨h0.trans ((Dh1.ref8 _ _).trans (congr (congrArg Dh1.prod a0) a1)), h1, h2⟩

/-- The reference's frame, and the equality of the call `_ffn_dh, the other branch's` with its reference. -/
theorem quiet4 : quiescent_Reference4Ideal (hReference4Ideal := Cert.Reference4Ideal.Gen.facts) := fun m g _ =>
  (θ_run _ _ _).mono (fun r h => ⟨fun c => (h c).2, sem_eq_zero_of_no_sems (by decide) r.2⟩) (Cert.Reference4Ideal.Value.run m g)
theorem equal4 : algebraic_Kernel4Ideal_Reference4Ideal (hKernel4Ideal := Cert.Kernel4Ideal.Gen.facts) (hReference4Ideal := Cert.Reference4Ideal.Gen.facts) := by
  intro m g m' g' hp ha
  refine ⟨fun c => Dh2.prod (Dh2.dg m c) (Dh2.wt m c) (Dh2.old m c), ?_, ?_⟩
  · refine (θ_run _ _ _).mono (fun r h c => ?_) (Cert.Kernel4Ideal.Value.run_blocks m g)
    obtain ⟨h0, h1, h2, h3⟩ := h c
    exact ⟨h0.trans (Dh2.arr3 m c), h1, h2, h3⟩
  · refine (θ_run _ _ _).mono (fun r h c => ?_) (Cert.Reference4Ideal.Value.run m' g')
    obtain ⟨h0, h1, h2, h3⟩ := h c
    obtain ⟨a0, a1, a2⟩ := ha c
    exact ⟨h0.trans ((Dh2.ref9 _ _ _).trans (congr (congr (congrArg Dh2.prod a0) a1) a2)), h1, h2, h3⟩

/-- The reference's frame, and the equality of the call `_ffn_dhidden` with its reference. -/
theorem quiet5 : quiescent_Reference5Ideal (hReference5Ideal := Cert.Reference5Ideal.Gen.facts) := fun m g _ =>
  (θ_run _ _ _).mono (fun r h => ⟨fun c => (h c).2.2, sem_eq_zero_of_no_sems (by decide) r.2⟩) (Cert.Reference5Ideal.Value.run m g)
theorem equal5 : algebraic_Kernel5Ideal_Reference5Ideal_pre_finite_ffn (hKernel5Ideal := Cert.Kernel5Ideal.Gen.facts) (hReference5Ideal := Cert.Reference5Ideal.Gen.facts) (hPre_finite_ffn := Cert.Pre_finite_ffn.Gen.facts) := by
  intro m g m' g' hp ha
  refine ⟨fun c => DHidden.gate (DHidden.grad m c) (DHidden.wt m c) (DHidden.gt m c) (DHidden.ut m c), fun c => DHidden.up (DHidden.grad m c) (DHidden.wt m c) (DHidden.gt m c), ?_, ?_⟩
  · refine (θ_run _ _ _).mono (fun r h c => ?_) (Cert.Kernel5Ideal.Value.run_blocks m g)
    obtain ⟨h0, h1, h2, h3, h4, h5⟩ := h c
    exact ⟨h0.trans (DHidden.arr4 m c), h1.trans (DHidden.arr5 m c), h2, h3, h4, h5⟩
  · refine (θ_run _ _ _).mono (fun r h c => ?_) (Cert.Reference5Ideal.Value.run m' g')
    obtain ⟨h0, h1, h2, h3, h4, h5⟩ := h c
    obtain ⟨a0, a1, a2, a3⟩ := ha c
    have e : Cert.Pre_finite_ffn.fn (F := Ideal) _ _ _ _ = _ := congr (congr (congr (congrArg (Cert.Pre_finite_ffn.fn (F := Ideal)) a0) a1) a2) a3
    have e0 := DHidden.ref21 _ _ (m' ((c.tc : Thread Cert.Reference5Ideal.nD Cert.Reference5Ideal.τ).loc Cert.Reference5Ideal.main_arg2)) _
      (DHidden.fin0 _ _ (m' ((c.tc : Thread Cert.Reference5Ideal.nD Cert.Reference5Ideal.τ).loc Cert.Reference5Ideal.main_arg2)) _ ((congrArg Prod.fst e).trans (hp c).1))
      (DHidden.fin1 _ _ _ _ ((congrArg (fun z => z.2.1) e).trans (hp c).2.1))
      (DHidden.fin2 _ _ _ _ ((congrArg (fun z => z.2.2) e).trans (hp c).2.2))
    exact ⟨h0.trans (e0.trans (congr (congr (congr (congrArg DHidden.gate a0) a1) a2) a3)),
      h1.trans ((DHidden.ref24 _ _ _).trans (congr (congr (congrArg DHidden.up a0) a1) a2)), h2, h3, h4, h5⟩

/-- The reference's frame, and the equality of the call `_ffn_dw_down` with its reference. -/
theorem quiet6 : quiescent_Reference6Ideal (hReference6Ideal := Cert.Reference6Ideal.Gen.facts) := fun m g _ =>
  (θ_run _ _ _).mono (fun r h => ⟨fun c => (h c).2, sem_eq_zero_of_no_sems (by decide) r.2⟩) (Cert.Reference6Ideal.Value.run m g)
theorem equal6 : algebraic_Kernel6Ideal_Reference6Ideal (hKernel6Ideal := Cert.Kernel6Ideal.Gen.facts) (hReference6Ideal := Cert.Reference6Ideal.Gen.facts) := by
  intro m g m' g' hp ha
  refine ⟨fun c => DwDown.prod (DwDown.act m c) (DwDown.grad m c), ?_, ?_⟩
  · refine (θ_run _ _ _).mono (fun r h c => ?_) (Cert.Kernel6Ideal.Value.run_blocks m g)
    obtain ⟨h0, h1, h2⟩ := h c
    exact ⟨h0.trans (DwDown.arr2 m c), h1, h2⟩
  · refine (θ_run _ _ _).mono (fun r h c => ?_) (Cert.Reference6Ideal.Value.run m' g')
    obtain ⟨h0, h1, h2⟩ := h c
    obtain ⟨a0, a1⟩ := ha c
    exact ⟨h0.trans ((DwDown.ref12 _ _).trans (congr (congrArg DwDown.prod a0) a1)), h1, h2⟩

end FfnGrad
-- ==== Proof.Ffn.Hidden.lean ====
/- The forward pass of the hidden part: the two branches and the activation, shard by shard. -/
module

public import proofs.«01_k».proof.Proof.Gen.Kernel7Ideal.Value
public import proofs.«01_k».proof.Proof.Gen.Reference7Ideal.Run
public import Idealize.ShloMosaic.Lib.Pipeline.ValueKit
public import proofs.«01_k».proof.Proof.Ffn.Real

@[expose] public section

set_option maxRecDepth 16384

noncomputable section

namespace FfnGrad.Hidden

open Idealize.ShloMosaic Idealize.ShloMosaic.TcCoe Idealize.SL.Sem
open Cert.Kernel7Ideal Cert.Kernel7Ideal.Gen

/-- Shard by shard, the rows times the weights. -/
def prod (h : FVec Ideal S2048x2048 .bf16) (w : FVec Ideal S8x2048x704 .bf16) : FVec Ideal S8x2048x704 .bf16 :=
  fun y => (∑ k : Fin 2048, (h (ix2 (y 1) k) : EReal) * (w (ix3 (y 0) k (y 2)) : EReal) : EReal)

/-- The activation of the two branches. -/
def swiglu (g u : FVec Ideal S8x2048x704 .bf16) : FVec Ideal S8x2048x704 .bf16 :=
  fun y => ((g y : EReal) * lgs (g y) * (u y : EReal) : EReal)

theorem pay3_at (a : FVec Ideal S1024x2048 .bf16) (b : FVec Ideal S1x2048x704 .bf16) (r : Fin 1024) (n : Fin 704) :
    ((k0_pay3 a b : FVec Ideal S1x1024x704 .bf16) (ix3 0 r n) : EReal) = ∑ k : Fin 2048, (a (ix2 r k) : EReal) * (b (ix3 0 k n) : EReal) := by
  pointwise [k0_pay3, k0_pay1]
theorem pay4_at (a : FVec Ideal S1024x2048 .bf16) (b : FVec Ideal S1x2048x704 .bf16) (r : Fin 1024) (n : Fin 704) :
    ((k0_pay4 a b : FVec Ideal S1x1024x704 .bf16) (ix3 0 r n) : EReal) = ∑ k : Fin 2048, (a (ix2 r k) : EReal) * (b (ix3 0 k n) : EReal) := by
  pointwise [k0_pay4, k0_pay2]
theorem pay5_at (a : FVec Ideal S1024x2048 .bf16) (b c : FVec Ideal S1x2048x704 .bf16) (r : Fin 1024) (n : Fin 704) :
    ((k0_pay5 a b c : FVec Ideal S1x1024x704 .bf16) (ix3 0 r n) : EReal)
      = (fun g u : EReal => g * lgs g * u) (∑ k : Fin 2048, (a (ix2 r k) : EReal) * (b (ix3 0 k n) : EReal))
          (∑ k : Fin 2048, (a (ix2 r k) : EReal) * (c (ix3 0 k n) : EReal)) := by
  pointwise [k0_pay5, k0_pay1, k0_pay2]
  rfl

variable (m : (ℓ : Loc nD τ sig) → Buf (Elt Ideal) ℓ) (c : Dev nD)

theorem idx : ∀ t : Fin cfg0.N, win0_0.index t = ![t.val / 8, 0] ∧ win0_1.index t = ![t.val % 8, 0, 0]
    ∧ win0_2.index t = ![t.val % 8, 0, 0] ∧ win0_3.index t = ![t.val % 8, t.val / 8, 0]
    ∧ win0_4.index t = ![t.val % 8, t.val / 8, 0] ∧ win0_5.index t = ![t.val % 8, t.val / 8, 0] :=
  (by decide +kernel : ∀ t : Fin grid0.N, _)

abbrev rows : FVec Ideal S2048x2048 .bf16 := m ((c.tc : Thread nD τ).loc main_arg0)
abbrev wg : FVec Ideal S8x2048x704 .bf16 := m ((c.tc : Thread nD τ).loc main_arg1)
abbrev wu : FVec Ideal S8x2048x704 .bf16 := m ((c.tc : Thread nD τ).loc main_arg2)

theorem blk0 (t : Fin 16) (r : Fin 1024) (k : Fin 2048) :
    ((iblk m c 0 t : FVec Ideal S1024x2048 .bf16) (ix2 r k) : EReal) = rows m c (ix2 ⟨t.val / 8 * 1024 + r.val, by omega⟩ k) := by
  have i := (idx t).1
  unfold iblk
  blk_ext <;> simp [i]
theorem blk1 (t : Fin 16) (k : Fin 2048) (n : Fin 704) :
    ((iblk m c 1 t : FVec Ideal S1x2048x704 .bf16) (ix3 0 k n) : EReal) = wg m c (ix3 ⟨t.val % 8, by omega⟩ k n) := by
  have i := (idx t).2.1
  unfold iblk
  blk_ext <;> simp [i]
theorem blk2 (t : Fin 16) (k : Fin 2048) (n : Fin 704) :
    ((iblk m c 2 t : FVec Ideal S1x2048x704 .bf16) (ix3 0 k n) : EReal) = wu m c (ix3 ⟨t.val % 8, by omega⟩ k n) := by
  have i := (idx t).2.2.1
  unfold iblk
  blk_ext <;> simp [i]

theorem arr3 : ((dats m 0 c).arrAt 3 cfg0.N : FVec Ideal S8x2048x704 .bf16) = prod (rows m c) (wg m c) := by
  refine (dats m 0 c).arrAt_eq_of_covers 3 _ (by decide +kernel) fun t hf y => ?_
  blk_simp
  rw [after0_3]
  obtain ⟨z, r, n, rfl⟩ : ∃ (z : Fin 1) (r : Fin 1024) (n : Fin 704), y = ix3 z r n := ⟨y 0, y 1, y 2, by funext k; fin_cases k <;> rfl⟩
  obtain rfl : z = 0 := Subsingleton.elim _ _
  frame_out
  have b : t.val < 16 := t.isLt
  refine (pay3_at _ _ r n).trans ?_
  have e : (prod (rows m c) (wg m c) (ix3 ⟨t.val % 8, by omega⟩ ⟨t.val / 8 * 1024 + r.val, by omega⟩ n) : EReal)
      = prod (rows m c) (wg m c) (((View.whole main_v0_0).slice (win0_3.rect t)).emb (ix3 0 r n)) := by
    have i := (idx t).2.2.2.1
    blk_ext <;> simp [i]
  refine Eq.trans ?_ e
  exact (Finset.sum_congr rfl fun k _ => congr (congrArg _ (blk0 m c t r k)) (blk1 m c t k n))

theorem arr4 : ((dats m 0 c).arrAt 4 cfg0.N : FVec Ideal S8x2048x704 .bf16) = prod (rows m c) (wu m c) := by
  refine (dats m 0 c).arrAt_eq_of_covers 4 _ (by decide +kernel) fun t hf y => ?_
  blk_simp
  rw [after0_4]
  obtain ⟨z, r, n, rfl⟩ : ∃ (z : Fin 1) (r : Fin 1024) (n : Fin 704), y = ix3 z r n := ⟨y 0, y 1, y 2, by funext k; fin_cases k <;> rfl⟩
  obtain rfl : z = 0 := Subsingleton.elim _ _
  frame_out
  have b : t.val < 16 := t.isLt
  refine (pay4_at _ _ r n).trans ?_
  have e : (prod (rows m c) (wu m c) (ix3 ⟨t.val % 8, by omega⟩ ⟨t.val / 8 * 1024 + r.val, by omega⟩ n) : EReal)
      = prod (rows m c) (wu m c) (((View.whole main_v0_1).slice (win0_4.rect t)).emb (ix3 0 r n)) := by
    have i := (idx t).2.2.2.2.1
    blk_ext <;> simp [i]
  refine Eq.trans ?_ e
  exact (Finset.sum_congr rfl fun k _ => congr (congrArg _ (blk0 m c t r k)) (blk2 m c t k n))

theorem arr5 : ((dats m 0 c).arrAt 5 cfg0.N : FVec Ideal S8x2048x704 .bf16) = swiglu (prod (rows m c) (wg m c)) (prod (rows m c) (wu m c)) := by
  refine (dats m 0 c).arrAt_eq_of_covers 5 _ (by decide +kernel) fun t hf y => ?_
  blk_simp
  rw [after0_5]
  obtain ⟨z, r, n, rfl⟩ : ∃ (z : Fin 1) (r : Fin 1024) (n : Fin 704), y = ix3 z r n := ⟨y 0, y 1, y 2, by funext k; fin_cases k <;> rfl⟩
  obtain rfl : z = 0 := Subsingleton.elim _ _
  frame_out
  have b : t.val < 16 := t.isLt
  refine (pay5_at _ _ _ r n).trans ?_
  have e : (swiglu (prod (rows m c) (wg m c)) (prod (rows m c) (wu m c)) (ix3 ⟨t.val % 8, by omega⟩ ⟨t.val / 8 * 1024 + r.val, by omega⟩ n) : EReal)
      = swiglu (prod (rows m c) (wg m c)) (prod (rows m c) (wu m c)) (((View.whole main_v0_2).slice (win0_5.rect t)).emb (ix3 0 r n)) := by
    have i := (idx t).2.2.2.2.2
    blk_ext <;> simp [i]
  refine Eq.trans ?_ e
  exact congrArg₂ (fun g u : EReal => g * lgs g * u) (Finset.sum_congr rfl fun k _ => congr (congrArg _ (blk0 m c t r k)) (blk1 m c t k n)) (Finset.sum_congr rfl fun k _ => congr (congrArg _ (blk0 m c t r k)) (blk2 m c t k n))

theorem ref12 (h : FVec Ideal S2048x2048 .bf16) (g : FVec Ideal S8x2048x704 .bf16) :
  truncf .bf16 (transpose Cert.Reference7Ideal.S8x2048x704 [1, 0, 2] (shapeCast _ (Host.dotGeneral Cert.Reference7Ideal.dot_S2048x2048_S2048x5632_S2048x5632_1_0_0_1_n_n none (extf .f32 h Cert.Reference7Ideal.Gen.bitsLt_bf16_f32) (shapeCast _ (transpose Cert.Reference7Ideal.S2048x8x704 [1, 0, 2] (extf .f32 g Cert.Reference7Ideal.Gen.bitsLt_bf16_f32) Cert.Reference7Ideal.Gen.transposes_S8x2048x704_S2048x8x704_1_0_2) Cert.Reference7Ideal.Gen.shapeCasts_S2048x8x704_S2048x5632)) Cert.Reference7Ideal.Gen.shapeCasts_S2048x5632_S2048x8x704) Cert.Reference7Ideal.Gen.transposes_S2048x8x704_S8x2048x704_1_0_2) Cert.Reference7Ideal.Gen.bitsLt_bf16_f32
  = prod h g := by
  funext y
  obtain ⟨z, r, n, rfl⟩ : ∃ (z : Fin 8) (r : Fin 2048) (n : Fin 704), y = ix3 z r n := ⟨y 0, y 1, y 2, by funext k; fin_cases k <;> rfl⟩
  unfold prod
  pointwise

theorem ref20 (h : FVec Ideal S2048x2048 .bf16) (g u : FVec Ideal S8x2048x704 .bf16) :
  truncf .bf16 (transpose Cert.Reference7Ideal.S8x2048x704 [1, 0, 2] (shapeCast _ (mulf (mulf (Host.dotGeneral Cert.Reference7Ideal.dot_S2048x2048_S2048x5632_S2048x5632_1_0_0_1_n_n none (extf .f32 h Cert.Reference7Ideal.Gen.bitsLt_bf16_f32) (shapeCast _ (transpose Cert.Reference7Ideal.S2048x8x704 [1, 0, 2] (extf .f32 g Cert.Reference7Ideal.Gen.bitsLt_bf16_f32) Cert.Reference7Ideal.Gen.transposes_S8x2048x704_S2048x8x704_1_0_2) Cert.Reference7Ideal.Gen.shapeCasts_S2048x8x704_S2048x5632)) (Host.divf (broadcastInDim Cert.Reference7Ideal.S2048x5632 ![] Cert.Reference7Ideal.Gen.bcast_S_S2048x5632 (constant Cert.Reference7Ideal.S_ .f32 0x3F800000#32)) (addf (broadcastInDim Cert.Reference7Ideal.S2048x5632 ![] Cert.Reference7Ideal.Gen.bcast_S_S2048x5632 (constant Cert.Reference7Ideal.S_ .f32 0x3F800000#32)) (Host.exp (Host.negf (Host.dotGeneral Cert.Reference7Ideal.dot_S2048x2048_S2048x5632_S2048x5632_1_0_0_1_n_n none (extf .f32 h Cert.Reference7Ideal.Gen.bitsLt_bf16_f32) (shapeCast _ (transpose Cert.Reference7Ideal.S2048x8x704 [1, 0, 2] (extf .f32 g Cert.Reference7Ideal.Gen.bitsLt_bf16_f32) Cert.Reference7Ideal.Gen.transposes_S8x2048x704_S2048x8x704_1_0_2) Cert.Reference7Ideal.Gen.shapeCasts_S2048x8x704_S2048x5632))))))) (Host.dotGeneral Cert.Reference7Ideal.dot_S2048x2048_S2048x5632_S2048x5632_1_0_0_1_n_n none (extf .f32 h Cert.Reference7Ideal.Gen.bitsLt_bf16_f32) (shapeCast _ (transpose Cert.Reference7Ideal.S2048x8x704 [1, 0, 2] (extf .f32 u Cert.Reference7Ideal.Gen.bitsLt_bf16_f32) Cert.Reference7Ideal.Gen.transposes_S8x2048x704_S2048x8x704_1_0_2) Cert.Reference7Ideal.Gen.shapeCasts_S2048x8x704_S2048x5632))) Cert.Reference7Ideal.Gen.shapeCasts_S2048x5632_S2048x8x704) Cert.Reference7Ideal.Gen.transposes_S2048x8x704_S8x2048x704_1_0_2) Cert.Reference7Ideal.Gen.bitsLt_bf16_f32
  = swiglu (prod h g) (prod h u) := by
  funext y
  obtain ⟨z, r, n, rfl⟩ : ∃ (z : Fin 8) (r : Fin 2048) (n : Fin 704), y = ix3 z r n := ⟨y 0, y 1, y 2, by funext k; fin_cases k <;> rfl⟩
  unfold swiglu prod
  pointwise
  rfl

end FfnGrad.Hidden
-- ==== Proof.Ffn.Out.lean ====
/- The forward pass of the output part: half the activations times the output weights, added to the rows. -/
module

public import proofs.«01_k».proof.Proof.Gen.Kernel8Ideal.Value
public import proofs.«01_k».proof.Proof.Gen.Reference8Ideal.Run
public import Idealize.ShloMosaic.Lib.Pipeline.ValueKit
public import proofs.«01_k».proof.Proof.Ffn.Real

@[expose] public section

set_option maxRecDepth 16384

noncomputable section

namespace FfnGrad.Out

open Idealize.ShloMosaic Idealize.ShloMosaic.TcCoe Idealize.SL.Sem
open Cert.Kernel8Ideal Cert.Kernel8Ideal.Gen

/-- The rows, and half the activations times the output weights over the shards. -/
def prod (a : FVec Ideal S8x2048x704 .bf16) (w : FVec Ideal S8x704x2048 .bf16) (x : FVec Ideal S2048x2048 .f32) : FVec Ideal S2048x2048 .f32 :=
  fun y => ((x y : EReal) + Ideal.ofBits .f32 0x3F000000#32 * ∑ j : Fin 8, ∑ k : Fin 704, (a (ix3 j (y 0) k) : EReal) * (w (ix3 j k (y 1)) : EReal) : EReal)

theorem pay_at (x : FVec Ideal S512x512 .f32) (a0 a1 a2 a3 a4 a5 a6 a7 : FVec Ideal S1x512x704 .bf16) (b0 b1 b2 b3 b4 b5 b6 b7 : FVec Ideal S1x704x512 .bf16) (r n : Fin 512) :
    ((k0_pay1 (k0_pay4 (k0_pay2 x a0 b0 a1 b1 a2 b2) (k0_pay3 a3) b3 a4 b4 a5 b5 a6 b6) a7 b7 : FVec Ideal S512x512 .f32) (ix2 r n) : EReal)
    = (x (ix2 r n) : EReal) + Ideal.ofBits .f32 0x3F000000#32 * (∑ k : Fin 704, (a0 (ix3 0 r k) : EReal) * (b0 (ix3 0 k n) : EReal)) + Ideal.ofBits .f32 0x3F000000#32 * (∑ k : Fin 704, (a1 (ix3 0 r k) : EReal) * (b1 (ix3 0 k n) : EReal)) + Ideal.ofBits .f32 0x3F000000#32 * (∑ k : Fin 704, (a2 (ix3 0 r k) : EReal) * (b2 (ix3 0 k n) : EReal)) + Ideal.ofBits .f32 0x3F000000#32 * (∑ k : Fin 704, (a3 (ix3 0 r k) : EReal) * (b3 (ix3 0 k n) : EReal)) + Ideal.ofBits .f32 0x3F000000#32 * (∑ k : Fin 704, (a4 (ix3 0 r k) : EReal) * (b4 (ix3 0 k n) : EReal)) + Ideal.ofBits .f32 0x3F000000#32 * (∑ k : Fin 704, (a5 (ix3 0 r k) : EReal) * (b5 (ix3 0 k n) : EReal)) + Ideal.ofBits .f32 0x3F000000#32 * (∑ k : Fin 704, (a6 (ix3 0 r k) : EReal) * (b6 (ix3 0 k n) : EReal)) + Ideal.ofBits .f32 0x3F000000#32 * (∑ k : Fin 704, (a7 (ix3 0 r k) : EReal) * (b7 (ix3 0 k n) : EReal)) := by
  pointwise [k0_pay1, k0_pay2, k0_pay3, k0_pay4]

theorem lda0 (x : FVec Ideal S8x512x704 .bf16) (r : Fin 512) (n : Fin 704) :
    ((View.ld (Val := Elt Ideal) (e' := .bf16) x r0_1 : FVec Ideal S1x512x704 .bf16) (ix3 0 r n) : EReal) = x (ix3 0 r n) := by
  refine congrArg x (funext fun k => Fin.ext ?_)
  fin_cases k <;> simp [LoadRect.idx_apply, Rect.unit]
theorem ldb0 (x : FVec Ideal S8x704x512 .bf16) (r : Fin 704) (n : Fin 512) :
    ((View.ld (Val := Elt Ideal) (e' := .bf16) x r0_2 : FVec Ideal S1x704x512 .bf16) (ix3 0 r n) : EReal) = x (ix3 0 r n) := by
  refine congrArg x (funext fun k => Fin.ext ?_)
  fin_cases k <;> simp [LoadRect.idx_apply, Rect.unit]
theorem lda1 (x : FVec Ideal S8x512x704 .bf16) (r : Fin 512) (n : Fin 704) :
    ((View.ld (Val := Elt Ideal) (e' := .bf16) x r0_3 : FVec Ideal S1x512x704 .bf16) (ix3 0 r n) : EReal) = x (ix3 1 r n) := by
  refine congrArg x (funext fun k => Fin.ext ?_)
  fin_cases k <;> simp [LoadRect.idx_apply, Rect.unit]
theorem ldb1 (x : FVec Ideal S8x704x512 .bf16) (r : Fin 704) (n : Fin 512) :
    ((View.ld (Val := Elt Ideal) (e' := .bf16) x r0_4 : FVec Ideal S1x704x512 .bf16) (ix3 0 r n) : EReal) = x (ix3 1 r n) := by
  refine congrArg x (funext fun k => Fin.ext ?_)
  fin_cases k <;> simp [LoadRect.idx_apply, Rect.unit]
theorem lda2 (x : FVec Ideal S8x512x704 .bf16) (r : Fin 512) (n : Fin 704) :
    ((View.ld (Val := Elt Ideal) (e' := .bf16) x r0_5 : FVec Ideal S1x512x704 .bf16) (ix3 0 r n) : EReal) = x (ix3 2 r n) := by
  refine congrArg x (funext fun k => Fin.ext ?_)
  fin_cases k <;> simp [LoadRect.idx_apply, Rect.unit]
theorem ldb2 (x : FVec Ideal S8x704x512 .bf16) (r : Fin 704) (n : Fin 512) :
    ((View.ld (Val := Elt Ideal) (e' := .bf16) x r0_6 : FVec Ideal S1x704x512 .bf16) (ix3 0 r n) : EReal) = x (ix3 2 r n) := by
  refine congrArg x (funext fun k => Fin.ext ?_)
  fin_cases k <;> simp [LoadRect.idx_apply, Rect.unit]
theorem lda3 (x : FVec Ideal S8x512x704 .bf16) (r : Fin 512) (n : Fin 704) :
    ((View.ld (Val := Elt Ideal) (e' := .bf16) x r0_7 : FVec Ideal S1x512x704 .bf16) (ix3 0 r n) : EReal) = x (ix3 3 r n) := by
  refine congrArg x (funext fun k => Fin.ext ?_)
  fin_cases k <;> simp [LoadRect.idx_apply, Rect.unit]
theorem ldb3 (x : FVec Ideal S8x704x512 .bf16) (r : Fin 704) (n : Fin 512) :
    ((View.ld (Val := Elt Ideal) (e' := .bf16) x r0_8 : FVec Ideal S1x704x512 .bf16) (ix3 0 r n) : EReal) = x (ix3 3 r n) := by
  refine congrArg x (funext fun k => Fin.ext ?_)
  fin_cases k <;> simp [LoadRect.idx_apply, Rect.unit]
theorem lda4 (x : FVec Ideal S8x512x704 .bf16) (r : Fin 512) (n : Fin 704) :
    ((View.ld (Val := Elt Ideal) (e' := .bf16) x r0_9 : FVec Ideal S1x512x704 .bf16) (ix3 0 r n) : EReal) = x (ix3 4 r n) := by
  refine congrArg x (funext fun k => Fin.ext ?_)
  fin_cases k <;> simp [LoadRect.idx_apply, Rect.unit]
theorem ldb4 (x : FVec Ideal S8x704x512 .bf16) (r : Fin 704) (n : Fin 512) :
    ((View.ld (Val := Elt Ideal) (e' := .bf16) x r0_10 : FVec Ideal S1x704x512 .bf16) (ix3 0 r n) : EReal) = x (ix3 4 r n) := by
  refine congrArg x (funext fun k => Fin.ext ?_)
  fin_cases k <;> simp [LoadRect.idx_apply, Rect.unit]
theorem lda5 (x : FVec Ideal S8x512x704 .bf16) (r : Fin 512) (n : Fin 704) :
    ((View.ld (Val := Elt Ideal) (e' := .bf16) x r0_11 : FVec Ideal S1x512x704 .bf16) (ix3 0 r n) : EReal) = x (ix3 5 r n) := by
  refine congrArg x (funext fun k => Fin.ext ?_)
  fin_cases k <;> simp [LoadRect.idx_apply, Rect.unit]
theorem ldb5 (x : FVec Ideal S8x704x512 .bf16) (r : Fin 704) (n : Fin 512) :
    ((View.ld (Val := Elt Ideal) (e' := .bf16) x r0_12 : FVec Ideal S1x704x512 .bf16) (ix3 0 r n) : EReal) = x (ix3 5 r n) := by
  refine congrArg x (funext fun k => Fin.ext ?_)
  fin_cases k <;> simp [LoadRect.idx_apply, Rect.unit]
theorem lda6 (x : FVec Ideal S8x512x704 .bf16) (r : Fin 512) (n : Fin 704) :
    ((View.ld (Val := Elt Ideal) (e' := .bf16) x r0_13 : FVec Ideal S1x512x704 .bf16) (ix3 0 r n) : EReal) = x (ix3 6 r n) := by
  refine congrArg x (funext fun k => Fin.ext ?_)
  fin_cases k <;> simp [LoadRect.idx_apply, Rect.unit]
theorem ldb6 (x : FVec Ideal S8x704x512 .bf16) (r : Fin 704) (n : Fin 512) :
    ((View.ld (Val := Elt Ideal) (e' := .bf16) x r0_14 : FVec Ideal S1x704x512 .bf16) (ix3 0 r n) : EReal) = x (ix3 6 r n) := by
  refine congrArg x (funext fun k => Fin.ext ?_)
  fin_cases k <;> simp [LoadRect.idx_apply, Rect.unit]
theorem lda7 (x : FVec Ideal S8x512x704 .bf16) (r : Fin 512) (n : Fin 704) :
    ((View.ld (Val := Elt Ideal) (e' := .bf16) x r0_15 : FVec Ideal S1x512x704 .bf16) (ix3 0 r n) : EReal) = x (ix3 7 r n) := by
  refine congrArg x (funext fun k => Fin.ext ?_)
  fin_cases k <;> simp [LoadRect.idx_apply, Rect.unit]
theorem ldb7 (x : FVec Ideal S8x704x512 .bf16) (r : Fin 704) (n : Fin 512) :
    ((View.ld (Val := Elt Ideal) (e' := .bf16) x r0_16 : FVec Ideal S1x704x512 .bf16) (ix3 0 r n) : EReal) = x (ix3 7 r n) := by
  refine congrArg x (funext fun k => Fin.ext ?_)
  fin_cases k <;> simp [LoadRect.idx_apply, Rect.unit]

variable (m : (ℓ : Loc nD τ sig) → Buf (Elt Ideal) ℓ) (c : Dev nD)

theorem idx : ∀ t : Fin cfg0.N, win0_0.index t = ![0, t.val / 4, 0] ∧ win0_1.index t = ![0, 0, t.val % 4]
    ∧ win0_2.index t = ![t.val / 4, t.val % 4] ∧ win0_3.index t = ![t.val / 4, t.val % 4] :=
  (by decide +kernel : ∀ t : Fin grid0.N, _)

abbrev act : FVec Ideal S8x2048x704 .bf16 := m ((c.tc : Thread nD τ).loc main_arg0)
abbrev wt : FVec Ideal S8x704x2048 .bf16 := m ((c.tc : Thread nD τ).loc main_arg1)
abbrev old : FVec Ideal S2048x2048 .f32 := m ((c.tc : Thread nD τ).loc main_arg2)

theorem blk0 (t : Fin 16) (j : Fin 8) (r : Fin 512) (n : Fin 704) :
    ((iblk m c 0 t : FVec Ideal S8x512x704 .bf16) (ix3 j r n) : EReal) = act m c (ix3 j ⟨t.val / 4 * 512 + r.val, by omega⟩ n) := by
  have i := (idx t).1
  unfold iblk
  blk_ext <;> simp [i]
theorem blk1 (t : Fin 16) (j : Fin 8) (k : Fin 704) (n : Fin 512) :
    ((iblk m c 1 t : FVec Ideal S8x704x512 .bf16) (ix3 j k n) : EReal) = wt m c (ix3 j k ⟨t.val % 4 * 512 + n.val, by omega⟩) := by
  have i := (idx t).2.1
  unfold iblk
  blk_ext <;> simp [i]
theorem blk2 (t : Fin 16) (r n : Fin 512) :
    ((iblk m c 2 t : FVec Ideal S512x512 .f32) (ix2 r n) : EReal) = old m c (ix2 ⟨t.val / 4 * 512 + r.val, by omega⟩ ⟨t.val % 4 * 512 + n.val, by omega⟩) := by
  have i := (idx t).2.2.1
  unfold iblk
  blk_ext <;> simp [i]

/-- The call's array. -/
theorem arr3 : ((dats m 0 c).arrAt 3 cfg0.N : FVec Ideal S2048x2048 .f32) = prod (act m c) (wt m c) (old m c) := by
  refine (dats m 0 c).arrAt_eq_of_covers 3 _ (by decide +kernel) fun t hf y => ?_
  blk_simp
  rw [after0_3]
  obtain ⟨r, n, rfl⟩ : ∃ (r : Fin 512) (n : Fin 512), y = ix2 r n := ⟨y 0, y 1, by funext k; fin_cases k <;> rfl⟩
  frame_out
  have b : t.val < 16 := t.isLt
  refine (pay_at _ _ _ _ _ _ _ _ _ _ _ _ _ _ _ _ _ r n).trans ?_
  have e : (prod (act m c) (wt m c) (old m c) (ix2 ⟨t.val / 4 * 512 + r.val, by omega⟩ ⟨t.val % 4 * 512 + n.val, by omega⟩) : EReal)
      = prod (act m c) (wt m c) (old m c) (((View.whole main_v0).slice (win0_3.rect t)).emb (ix2 r n)) := by
    have i := (idx t).2.2.2
    blk_ext <;> simp [i]
  refine Eq.trans ?_ e
  refine Eq.trans ?_ (congrArg (fun z : EReal => (old m c (ix2 ⟨t.val / 4 * 512 + r.val, by omega⟩ ⟨t.val % 4 * 512 + n.val, by omega⟩) : EReal) + z) (half_sum fun j => ∑ k : Fin 704, (act m c (ix3 j ⟨t.val / 4 * 512 + r.val, by omega⟩ k) : EReal) * (wt m c (ix3 j k ⟨t.val % 4 * 512 + n.val, by omega⟩) : EReal)).symm)
  refine Eq.trans ?_ (chain _ fun j => Ideal.ofBits .f32 0x3F000000#32 * ∑ k : Fin 704, (act m c (ix3 j ⟨t.val / 4 * 512 + r.val, by omega⟩ k) : EReal) * (wt m c (ix3 j k ⟨t.val % 4 * 512 + n.val, by omega⟩) : EReal))
  exact congrArg₂ (· + ·) (congrArg₂ (· + ·) (congrArg₂ (· + ·) (congrArg₂ (· + ·) (congrArg₂ (· + ·) (congrArg₂ (· + ·) (congrArg₂ (· + ·) (congrArg₂ (· + ·) (blk2 m c t r n) (congrArg _ (Finset.sum_congr rfl fun k _ => congr (congrArg _ ((lda0 _ _ _).trans (blk0 m c t 0 r k))) ((ldb0 _ _ _).trans (blk1 m c t 0 k n))))) (congrArg _ (Finset.sum_congr rfl fun k _ => congr (congrArg _ ((lda1 _ _ _).trans (blk0 m c t 1 r k))) ((ldb1 _ _ _).trans (blk1 m c t 1 k n))))) (congrArg _ (Finset.sum_congr rfl fun k _ => congr (congrArg _ ((lda2 _ _ _).trans (blk0 m c t 2 r k))) ((ldb2 _ _ _).trans (blk1 m c t 2 k n))))) (congrArg _ (Finset.sum_congr rfl fun k _ => congr (congrArg _ ((lda3 _ _ _).trans (blk0 m c t 3 r k))) ((ldb3 _ _ _).trans (blk1 m c t 3 k n))))) (congrArg _ (Finset.sum_congr rfl fun k _ => congr (congrArg _ ((lda4 _ _ _).trans (blk0 m c t 4 r k))) ((ldb4 _ _ _).trans (blk1 m c t 4 k n))))) (congrArg _ (Finset.sum_congr rfl fun k _ => congr (congrArg _ ((lda5 _ _ _).trans (blk0 m c t 5 r k))) ((ldb5 _ _ _).trans (blk1 m c t 5 k n))))) (congrArg _ (Finset.sum_congr rfl fun k _ => congr (congrArg _ ((lda6 _ _ _).trans (blk0 m c t 6 r k))) ((ldb6 _ _ _).trans (blk1 m c t 6 k n))))) (congrArg _ (Finset.sum_congr rfl fun k _ => congr (congrArg _ ((lda7 _ _ _).trans (blk0 m c t 7 r k))) ((ldb7 _ _ _).trans (blk1 m c t 7 k n))))

/-- The reference's array. -/
theorem ref8 (a : FVec Ideal S8x2048x704 .bf16) (w : FVec Ideal S8x704x2048 .bf16) (x : FVec Ideal S2048x2048 .f32) :
  addf x (mulf (broadcastInDim Cert.Reference8Ideal.S2048x2048 ![] Cert.Reference8Ideal.Gen.bcast_S_S2048x2048 (constant Cert.Reference8Ideal.S_ .f32 0x3F000000#32)) (Host.dotGeneral Cert.Reference8Ideal.dot_S2048x5632_S5632x2048_S2048x2048_1_0_0_1_n_n none (shapeCast _ (transpose Cert.Reference8Ideal.S2048x8x704 [1, 0, 2] (extf .f32 a Cert.Reference8Ideal.Gen.bitsLt_bf16_f32) Cert.Reference8Ideal.Gen.transposes_S8x2048x704_S2048x8x704_1_0_2) Cert.Reference8Ideal.Gen.shapeCasts_S2048x8x704_S2048x5632) (shapeCast _ (extf .f32 w Cert.Reference8Ideal.Gen.bitsLt_bf16_f32) Cert.Reference8Ideal.Gen.shapeCasts_S8x704x2048_S5632x2048)))
  = prod a w x := by
  funext y
  obtain ⟨r, n, rfl⟩ : ∃ (r : Fin 2048) (n : Fin 2048), y = ix2 r n := ⟨y 0, y 1, by funext k; fin_cases k <;> rfl⟩
  unfold prod
  pointwise
  exact congrArg _ (congrArg _ (FfnGrad.sum_shards fun j k => (a (ix3 j r k) : EReal) * (w (ix3 j k n) : EReal)))

end FfnGrad.Out
-- ==== Proof.Ffn.EqualForward.lean ====
/- The calls of the forward pass of the SwiGLU layer: their references' frames, and the equality with the references. -/
module

public import proofs.«01_k».proof.Defs
public import proofs.«01_k».proof.Proof.Ffn.Hidden
public import proofs.«01_k».proof.Proof.Gen.Kernel7Ideal.Value
public import proofs.«01_k».proof.Proof.Gen.Reference7Ideal.Run
public import proofs.«01_k».proof.Proof.Ffn.Out
public import proofs.«01_k».proof.Proof.Gen.Kernel8Ideal.Value
public import proofs.«01_k».proof.Proof.Gen.Reference8Ideal.Run
public import Idealize.ShloMosaic.Adequacy
public import Idealize.ShloMosaic.Init

@[expose] public section

noncomputable section

namespace FfnGrad

open Cert Idealize.ShloMosaic Idealize.SL.Sem

/-- The reference's frame, and the equality of the call `_ffn_hidden` with its reference. -/
theorem quiet7 : quiescent_Reference7Ideal (hReference7Ideal := Cert.Reference7Ideal.Gen.facts) := fun m g _ =>
  (θ_run _ _ _).mono (fun r h => ⟨fun c => (h c).2.2.2, sem_eq_zero_of_no_sems (by decide) r.2⟩) (Cert.Reference7Ideal.Value.run m g)
theorem equal7 : algebraic_Kernel7Ideal_Reference7Ideal (hKernel7Ideal := Cert.Kernel7Ideal.Gen.facts) (hReference7Ideal := Cert.Reference7Ideal.Gen.facts) := by
  intro m g m' g' hp ha
  refine ⟨fun c => Hidden.prod (Hidden.rows m c) (Hidden.wg m c), fun c => Hidden.prod (Hidden.rows m c) (Hidden.wu m c), fun c => Hidden.swiglu (Hidden.prod (Hidden.rows m c) (Hidden.wg m c)) (Hidden.prod (Hidden.rows m c) (Hidden.wu m c)), ?_, ?_⟩
  · refine (θ_run _ _ _).mono (fun r h c => ?_) (Cert.Kernel7Ideal.Value.run_blocks m g)
    obtain ⟨h0, h1, h2, h3, h4, h5⟩ := h c
    exact ⟨h0.trans (Hidden.arr3 m c), h1.trans (Hidden.arr4 m c), h2.trans (Hidden.arr5 m c), h3, h4, h5⟩
  · refine (θ_run _ _ _).mono (fun r h c => ?_) (Cert.Reference7Ideal.Value.run m' g')
    obtain ⟨h0, h1, h2, h3, h4, h5⟩ := h c
    obtain ⟨a0, a1, a2⟩ := ha c
    exact ⟨h0.trans ((Hidden.ref12 _ _).trans (congr (congrArg Hidden.prod a0) a1)),
      h1.trans ((Hidden.ref12 _ _).trans (congr (congrArg Hidden.prod a0) a2)),
      h2.trans ((Hidden.ref20 _ _ _).trans (congr (congrArg Hidden.swiglu (congr (congrArg Hidden.prod a0) a1)) (congr (congrArg Hidden.prod a0) a2))), h3, h4, h5⟩

/-- The reference's frame, and the equality of the call `_ffn_out` with its reference. -/
theorem quiet8 : quiescent_Reference8Ideal (hReference8Ideal := Cert.Reference8Ideal.Gen.facts) := fun m g _ =>
  (θ_run _ _ _).mono (fun r h => ⟨fun c => (h c).2, sem_eq_zero_of_no_sems (by decide) r.2⟩) (Cert.Reference8Ideal.Value.run m g)
theorem equal8 : algebraic_Kernel8Ideal_Reference8Ideal (hKernel8Ideal := Cert.Kernel8Ideal.Gen.facts) (hReference8Ideal := Cert.Reference8Ideal.Gen.facts) := by
  intro m g m' g' hp ha
  refine ⟨fun c => Out.prod (Out.act m c) (Out.wt m c) (Out.old m c), ?_, ?_⟩
  · refine (θ_run _ _ _).mono (fun r h c => ?_) (Cert.Kernel8Ideal.Value.run_blocks m g)
    obtain ⟨h0, h1, h2, h3⟩ := h c
    exact ⟨h0.trans (Out.arr3 m c), h1, h2, h3⟩
  · refine (θ_run _ _ _).mono (fun r h c => ?_) (Cert.Reference8Ideal.Value.run m' g')
    obtain ⟨h0, h1, h2, h3⟩ := h c
    obtain ⟨a0, a1, a2⟩ := ha c
    exact ⟨h0.trans ((Out.ref8 _ _ _).trans (congr (congr (congrArg Out.prod a0) a1) a2)), h1, h2, h3⟩

end FfnGrad
-- ==== Proof.Ffn.DwIn.lean ====
/- The gradient of the time mixing's projection weights: the rows' transpose times the gradient of the products. -/
module

public import proofs.«01_k».proof.Proof.Gen.Kernel9Ideal.Value
public import proofs.«01_k».proof.Proof.Gen.Reference9Ideal.Run
public import Idealize.ShloMosaic.Lib.Pipeline.ValueKit

@[expose] public section

set_option maxRecDepth 16384

noncomputable section

namespace FfnGrad.DwIn

open Idealize.ShloMosaic Idealize.ShloMosaic.TcCoe Idealize.SL.Sem
open Cert.Kernel9Ideal Cert.Kernel9Ideal.Gen

/-- The rows' transpose times the gradient of the products. -/
def prod (h : FVec Ideal S2048x2048 .bf16) (g : FVec Ideal S2048x3072 .f32) : FVec Ideal S2048x3072 .bf16 :=
  fun y => (∑ k : Fin 2048, (h (ix2 k (y 0)) : EReal) * (g (ix2 k (y 1)) : EReal) : EReal)

theorem prod_at (h : FVec Ideal S2048x2048 .bf16) (g : FVec Ideal S2048x3072 .f32) (r : Fin 2048) (n : Fin 3072) :
    (prod h g (ix2 r n) : EReal) = ∑ k : Fin 2048, (h (ix2 k r) : EReal) * (g (ix2 k n) : EReal) := rfl

theorem pay1_at (b : FVec Ideal S2048x512 .f32) (a : FVec Ideal S2048x1024 .bf16) (r : Fin 1024) (n : Fin 512) :
    ((k0_pay1 b a : FVec Ideal S1024x512 .bf16) (ix2 r n) : EReal) = ∑ k : Fin 2048, (a (ix2 k r) : EReal) * (b (ix2 k n) : EReal) := by
  pointwise [k0_pay1]

variable (m : (ℓ : Loc nD τ sig) → Buf (Elt Ideal) ℓ) (c : Dev nD)

theorem idx : ∀ t : Fin cfg0.N, win0_0.index t = ![0, t.val / 6] ∧ win0_1.index t = ![0, t.val % 6]
    ∧ win0_2.index t = ![t.val / 6, t.val % 6] :=
  (by decide +kernel : ∀ t : Fin grid0.N, _)

abbrev rows : FVec Ideal S2048x2048 .bf16 := m ((c.tc : Thread nD τ).loc main_arg0)
abbrev grad : FVec Ideal S2048x3072 .f32 := m ((c.tc : Thread nD τ).loc main_arg1)

theorem blk0 (t : Fin 12) (k : Fin 2048) (r : Fin 1024) :
    ((iblk m c 0 t : FVec Ideal S2048x1024 .bf16) (ix2 k r) : EReal) = rows m c (ix2 k ⟨t.val / 6 * 1024 + r.val, by omega⟩) := by
  obtain ⟨i0, i1, i2⟩ := idx t
  unfold iblk
  blk_ext <;> simp [i0]
theorem blk1 (t : Fin 12) (k : Fin 2048) (n : Fin 512) :
    ((iblk m c 1 t : FVec Ideal S2048x512 .f32) (ix2 k n) : EReal) = grad m c (ix2 k ⟨t.val % 6 * 512 + n.val, by omega⟩) := by
  obtain ⟨i0, i1, i2⟩ := idx t
  unfold iblk
  blk_ext <;> simp [i1]

/-- The call's array. -/
theorem arr2 : ((dats m 0 c).arrAt 2 cfg0.N : FVec Ideal S2048x3072 .bf16) = prod (rows m c) (grad m c) := by
  refine (dats m 0 c).arrAt_eq_of_covers 2 _ (by decide +kernel) fun t hf y => ?_
  blk_simp
  rw [after0_2]
  obtain ⟨r, n, rfl⟩ : ∃ (r : Fin 1024) (n : Fin 512), y = ix2 r n := ⟨y 0, y 1, by funext k; fin_cases k <;> rfl⟩
  frame_out
  have b : t.val < 12 := t.isLt
  refine (pay1_at _ _ r n).trans ?_
  have e : (prod (rows m c) (grad m c) (ix2 ⟨t.val / 6 * 1024 + r.val, by omega⟩ ⟨t.val % 6 * 512 + n.val, by omega⟩) : EReal)
      = prod (rows m c) (grad m c) (((View.whole main_v0).slice (win0_2.rect t)).emb (ix2 r n)) := by
    obtain ⟨i0, i1, i2⟩ := idx t
    blk_ext <;> simp [i2]
  refine Eq.trans ?_ e
  exact Finset.sum_congr rfl fun k _ => congr (congrArg _ (blk0 m c t k r)) (blk1 m c t k n)

/-- The reference's array. -/
theorem ref5 (h : FVec Ideal S2048x2048 .bf16) (g : FVec Ideal S2048x3072 .f32) :
  truncf .bf16 (transpose Cert.Reference9Ideal.S2048x3072 [1, 0] (Host.dotGeneral Cert.Reference9Ideal.dot_S2048x3072_S2048x2048_S3072x2048_0_0_1_1_n_n none g (extf .f32 h Cert.Reference9Ideal.Gen.bitsLt_bf16_f32)) Cert.Reference9Ideal.Gen.transposes_S3072x2048_S2048x3072_1_0) Cert.Reference9Ideal.Gen.bitsLt_bf16_f32
  = prod h g := by
  funext y
  obtain ⟨r, n, rfl⟩ : ∃ (r : Fin 2048) (n : Fin 3072), y = ix2 r n := ⟨y 0, y 1, by funext k; fin_cases k <;> rfl⟩
  unfold prod
  pointwise
  exact Finset.sum_congr rfl fun k _ => mul_comm (G := EReal) _ _

end FfnGrad.DwIn
-- ==== Proof.Ffn.DhIn.lean ====
/- The gradient of the time mixing's rows: the gradient of the products times the weights' transpose. -/
module

public import proofs.«01_k».proof.Proof.Gen.Kernel10Ideal.Value
public import proofs.«01_k».proof.Proof.Gen.Reference10Ideal.Run
public import Idealize.ShloMosaic.Lib.Pipeline.ValueKit

@[expose] public section

set_option maxRecDepth 16384

noncomputable section

namespace FfnGrad.DhIn

open Idealize.ShloMosaic Idealize.ShloMosaic.TcCoe Idealize.SL.Sem
open Cert.Kernel10Ideal Cert.Kernel10Ideal.Gen

/-- The gradient of the products times the weights' transpose. -/
def prod (d : FVec Ideal S2048x3072 .f32) (w : FVec Ideal S2048x3072 .bf16) : FVec Ideal S2048x2048 .f32 :=
  fun y => (∑ k : Fin 3072, (d (ix2 (y 0) k) : EReal) * (w (ix2 (y 1) k) : EReal) : EReal)

theorem pay1_at (b : FVec Ideal S512x3072 .bf16) (a : FVec Ideal S1024x3072 .f32) (r : Fin 1024) (n : Fin 512) :
    ((k0_pay1 b a : FVec Ideal S1024x512 .f32) (ix2 r n) : EReal) = ∑ k : Fin 3072, (a (ix2 r k) : EReal) * (b (ix2 n k) : EReal) := by
  pointwise [k0_pay1]

variable (m : (ℓ : Loc nD τ sig) → Buf (Elt Ideal) ℓ) (c : Dev nD)

theorem idx : ∀ t : Fin cfg0.N, win0_0.index t = ![t.val / 4, 0] ∧ win0_1.index t = ![t.val % 4, 0]
    ∧ win0_2.index t = ![t.val / 4, t.val % 4] :=
  (by decide +kernel : ∀ t : Fin grid0.N, _)

abbrev grad : FVec Ideal S2048x3072 .f32 := m ((c.tc : Thread nD τ).loc main_arg0)
abbrev weight : FVec Ideal S2048x3072 .bf16 := m ((c.tc : Thread nD τ).loc main_arg1)

theorem blk0 (t : Fin 8) (r : Fin 1024) (k : Fin 3072) :
    ((iblk m c 0 t : FVec Ideal S1024x3072 .f32) (ix2 r k) : EReal) = grad m c (ix2 ⟨t.val / 4 * 1024 + r.val, by omega⟩ k) := by
  obtain ⟨i0, i1, i2⟩ := idx t
  unfold iblk
  blk_ext <;> simp [i0]
theorem blk1 (t : Fin 8) (n : Fin 512) (k : Fin 3072) :
    ((iblk m c 1 t : FVec Ideal S512x3072 .bf16) (ix2 n k) : EReal) = weight m c (ix2 ⟨t.val % 4 * 512 + n.val, by omega⟩ k) := by
  obtain ⟨i0, i1, i2⟩ := idx t
  unfold iblk
  blk_ext <;> simp [i1]

/-- The call's array. -/
theorem arr2 : ((dats m 0 c).arrAt 2 cfg0.N : FVec Ideal S2048x2048 .f32) = prod (grad m c) (weight m c) := by
  refine (dats m 0 c).arrAt_eq_of_covers 2 _ (by decide +kernel) fun t hf y => ?_
  blk_simp
  rw [after0_2]
  obtain ⟨r, n, rfl⟩ : ∃ (r : Fin 1024) (n : Fin 512), y = ix2 r n := ⟨y 0, y 1, by funext k; fin_cases k <;> rfl⟩
  frame_out
  have b : t.val < 8 := t.isLt
  refine (pay1_at _ _ r n).trans ?_
  have e : (prod (grad m c) (weight m c) (ix2 ⟨t.val / 4 * 1024 + r.val, by omega⟩ ⟨t.val % 4 * 512 + n.val, by omega⟩) : EReal)
      = prod (grad m c) (weight m c) (((View.whole main_v0).slice (win0_2.rect t)).emb (ix2 r n)) := by
    obtain ⟨i0, i1, i2⟩ := idx t
    blk_ext <;> simp [i2]
  refine Eq.trans ?_ e
  exact Finset.sum_congr rfl fun k _ => congr (congrArg _ (blk0 m c t r k)) (blk1 m c t n k)

/-- The reference's array. -/
theorem ref3 (d : FVec Ideal S2048x3072 .f32) (w : FVec Ideal S2048x3072 .bf16) :
  Host.dotGeneral Cert.Reference10Ideal.dot_S2048x3072_S2048x3072_S2048x2048_1_1_0_0_n_n none d (extf .f32 w Cert.Reference10Ideal.Gen.bitsLt_bf16_f32)
  = prod d w := by
  funext y
  obtain ⟨r, n, rfl⟩ : ∃ (r : Fin 2048) (n : Fin 2048), y = ix2 r n := ⟨y 0, y 1, by funext k; fin_cases k <;> rfl⟩
  unfold prod
  pointwise

end FfnGrad.DhIn
-- ==== Proof.Ffn.DwMix.lean ====
/- The gradient of an output projection's weights: the rows' transpose times the gradient of the products. -/
module

public import proofs.«01_k».proof.Proof.Gen.Kernel11Ideal.Value
public import proofs.«01_k».proof.Proof.Gen.Reference11Ideal.Run
public import Idealize.ShloMosaic.Lib.Pipeline.ValueKit

@[expose] public section

set_option maxRecDepth 16384

noncomputable section

namespace FfnGrad.DwMix

open Idealize.ShloMosaic Idealize.ShloMosaic.TcCoe Idealize.SL.Sem
open Cert.Kernel11Ideal Cert.Kernel11Ideal.Gen

/-- The rows' transpose times the gradient of the products. -/
def prod (h : FVec Ideal S2048x2048 .bf16) (g : FVec Ideal S2048x2048 .f32) : FVec Ideal S2048x2048 .bf16 :=
  fun y => (∑ k : Fin 2048, (h (ix2 k (y 0)) : EReal) * (g (ix2 k (y 1)) : EReal) : EReal)

theorem prod_at (h : FVec Ideal S2048x2048 .bf16) (g : FVec Ideal S2048x2048 .f32) (r : Fin 2048) (n : Fin 2048) :
    (prod h g (ix2 r n) : EReal) = ∑ k : Fin 2048, (h (ix2 k r) : EReal) * (g (ix2 k n) : EReal) := rfl

theorem pay1_at (b : FVec Ideal S2048x512 .f32) (a : FVec Ideal S2048x1024 .bf16) (r : Fin 1024) (n : Fin 512) :
    ((k0_pay1 b a : FVec Ideal S1024x512 .bf16) (ix2 r n) : EReal) = ∑ k : Fin 2048, (a (ix2 k r) : EReal) * (b (ix2 k n) : EReal) := by
  pointwise [k0_pay1]

variable (m : (ℓ : Loc nD τ sig) → Buf (Elt Ideal) ℓ) (c : Dev nD)

theorem idx : ∀ t : Fin cfg0.N, win0_0.index t = ![0, t.val / 4] ∧ win0_1.index t = ![0, t.val % 4]
    ∧ win0_2.index t = ![t.val / 4, t.val % 4] :=
  (by decide +kernel : ∀ t : Fin grid0.N, _)

abbrev rows : FVec Ideal S2048x2048 .bf16 := m ((c.tc : Thread nD τ).loc main_arg0)
abbrev grad : FVec Ideal S2048x2048 .f32 := m ((c.tc : Thread nD τ).loc main_arg1)

theorem blk0 (t : Fin 8) (k : Fin 2048) (r : Fin 1024) :
    ((iblk m c 0 t : FVec Ideal S2048x1024 .bf16) (ix2 k r) : EReal) = rows m c (ix2 k ⟨t.val / 4 * 1024 + r.val, by omega⟩) := by
  obtain ⟨i0, i1, i2⟩ := idx t
  unfold iblk
  blk_ext <;> simp [i0]
theorem blk1 (t : Fin 8) (k : Fin 2048) (n : Fin 512) :
    ((iblk m c 1 t : FVec Ideal S2048x512 .f32) (ix2 k n) : EReal) = grad m c (ix2 k ⟨t.val % 4 * 512 + n.val, by omega⟩) := by
  obtain ⟨i0, i1, i2⟩ := idx t
  unfold iblk
  blk_ext <;> simp [i1]

/-- The call's array. -/
theorem arr2 : ((dats m 0 c).arrAt 2 cfg0.N : FVec Ideal S2048x2048 .bf16) = prod (rows m c) (grad m c) := by
  refine (dats m 0 c).arrAt_eq_of_covers 2 _ (by decide +kernel) fun t hf y => ?_
  blk_simp
  rw [after0_2]
  obtain ⟨r, n, rfl⟩ : ∃ (r : Fin 1024) (n : Fin 512), y = ix2 r n := ⟨y 0, y 1, by funext k; fin_cases k <;> rfl⟩
  frame_out
  have b : t.val < 8 := t.isLt
  refine (pay1_at _ _ r n).trans ?_
  have e : (prod (rows m c) (grad m c) (ix2 ⟨t.val / 4 * 1024 + r.val, by omega⟩ ⟨t.val % 4 * 512 + n.val, by omega⟩) : EReal)
      = prod (rows m c) (grad m c) (((View.whole main_v0).slice (win0_2.rect t)).emb (ix2 r n)) := by
    obtain ⟨i0, i1, i2⟩ := idx t
    blk_ext <;> simp [i2]
  refine Eq.trans ?_ e
  exact Finset.sum_congr rfl fun k _ => congr (congrArg _ (blk0 m c t k r)) (blk1 m c t k n)

/-- The reference's array. -/
theorem ref5 (h : FVec Ideal S2048x2048 .bf16) (g : FVec Ideal S2048x2048 .f32) :
  truncf .bf16 (transpose Cert.Reference11Ideal.S2048x2048 [1, 0] (Host.dotGeneral Cert.Reference11Ideal.dot_S2048x2048_S2048x2048_S2048x2048_0_0_1_1_n_n none g (extf .f32 h Cert.Reference11Ideal.Gen.bitsLt_bf16_f32)) Cert.Reference11Ideal.Gen.transposes_S2048x2048_S2048x2048_1_0) Cert.Reference11Ideal.Gen.bitsLt_bf16_f32
  = prod h g := by
  funext y
  obtain ⟨r, n, rfl⟩ : ∃ (r : Fin 2048) (n : Fin 2048), y = ix2 r n := ⟨y 0, y 1, by funext k; fin_cases k <;> rfl⟩
  unfold prod
  pointwise
  exact Finset.sum_congr rfl fun k _ => mul_comm (G := EReal) _ _

end FfnGrad.DwMix
-- ==== Proof.Ffn.DyMix.lean ====
/- The gradient of an output projection's rows: the gradient of the products times the weights' transpose. -/
module

public import proofs.«01_k».proof.Proof.Gen.Kernel12Ideal.Value
public import proofs.«01_k».proof.Proof.Gen.Reference12Ideal.Run
public import Idealize.ShloMosaic.Lib.Pipeline.ValueKit

@[expose] public section

set_option maxRecDepth 16384

noncomputable section

namespace FfnGrad.DyMix

open Idealize.ShloMosaic Idealize.ShloMosaic.TcCoe Idealize.SL.Sem
open Cert.Kernel12Ideal Cert.Kernel12Ideal.Gen

/-- The gradient of the products times the weights' transpose. -/
def prod (d : FVec Ideal S2048x2048 .f32) (w : FVec Ideal S2048x2048 .bf16) : FVec Ideal S2048x2048 .f32 :=
  fun y => (∑ k : Fin 2048, (d (ix2 (y 0) k) : EReal) * (w (ix2 (y 1) k) : EReal) : EReal)

theorem pay1_at (b : FVec Ideal S512x2048 .bf16) (a : FVec Ideal S1024x2048 .f32) (r : Fin 1024) (n : Fin 512) :
    ((k0_pay1 b a : FVec Ideal S1024x512 .f32) (ix2 r n) : EReal) = ∑ k : Fin 2048, (a (ix2 r k) : EReal) * (b (ix2 n k) : EReal) := by
  pointwise [k0_pay1]

variable (m : (ℓ : Loc nD τ sig) → Buf (Elt Ideal) ℓ) (c : Dev nD)

theorem idx : ∀ t : Fin cfg0.N, win0_0.index t = ![t.val / 4, 0] ∧ win0_1.index t = ![t.val % 4, 0]
    ∧ win0_2.index t = ![t.val / 4, t.val % 4] :=
  (by decide +kernel : ∀ t : Fin grid0.N, _)

abbrev grad : FVec Ideal S2048x2048 .f32 := m ((c.tc : Thread nD τ).loc main_arg0)
abbrev weight : FVec Ideal S2048x2048 .bf16 := m ((c.tc : Thread nD τ).loc main_arg1)

theorem blk0 (t : Fin 8) (r : Fin 1024) (k : Fin 2048) :
    ((iblk m c 0 t : FVec Ideal S1024x2048 .f32) (ix2 r k) : EReal) = grad m c (ix2 ⟨t.val / 4 * 1024 + r.val, by omega⟩ k) := by
  obtain ⟨i0, i1, i2⟩ := idx t
  unfold iblk
  blk_ext <;> simp [i0]
theorem blk1 (t : Fin 8) (n : Fin 512) (k : Fin 2048) :
    ((iblk m c 1 t : FVec Ideal S512x2048 .bf16) (ix2 n k) : EReal) = weight m c (ix2 ⟨t.val % 4 * 512 + n.val, by omega⟩ k) := by
  obtain ⟨i0, i1, i2⟩ := idx t
  unfold iblk
  blk_ext <;> simp [i1]

/-- The call's array. -/
theorem arr2 : ((dats m 0 c).arrAt 2 cfg0.N : FVec Ideal S2048x2048 .f32) = prod (grad m c) (weight m c) := by
  refine (dats m 0 c).arrAt_eq_of_covers 2 _ (by decide +kernel) fun t hf y => ?_
  blk_simp
  rw [after0_2]
  obtain ⟨r, n, rfl⟩ : ∃ (r : Fin 1024) (n : Fin 512), y = ix2 r n := ⟨y 0, y 1, by funext k; fin_cases k <;> rfl⟩
  frame_out
  have b : t.val < 8 := t.isLt
  refine (pay1_at _ _ r n).trans ?_
  have e : (prod (grad m c) (weight m c) (ix2 ⟨t.val / 4 * 1024 + r.val, by omega⟩ ⟨t.val % 4 * 512 + n.val, by omega⟩) : EReal)
      = prod (grad m c) (weight m c) (((View.whole main_v0).slice (win0_2.rect t)).emb (ix2 r n)) := by
    obtain ⟨i0, i1, i2⟩ := idx t
    blk_ext <;> simp [i2]
  refine Eq.trans ?_ e
  exact Finset.sum_congr rfl fun k _ => congr (congrArg _ (blk0 m c t r k)) (blk1 m c t n k)

/-- The reference's array. -/
theorem ref3 (d : FVec Ideal S2048x2048 .f32) (w : FVec Ideal S2048x2048 .bf16) :
  Host.dotGeneral Cert.Reference12Ideal.dot_S2048x2048_S2048x2048_S2048x2048_1_1_0_0_n_n none d (extf .f32 w Cert.Reference12Ideal.Gen.bitsLt_bf16_f32)
  = prod d w := by
  funext y
  obtain ⟨r, n, rfl⟩ : ∃ (r : Fin 2048) (n : Fin 2048), y = ix2 r n := ⟨y 0, y 1, by funext k; fin_cases k <;> rfl⟩
  unfold prod
  pointwise

end FfnGrad.DyMix
-- ==== Proof.Ffn.EqualProducts.lean ====
/- The products of the projections' backward pass: their references' frames, and the equality with the references. -/
module

public import proofs.«01_k».proof.Defs
public import proofs.«01_k».proof.Proof.Ffn.DwIn
public import proofs.«01_k».proof.Proof.Gen.Kernel9Ideal.Value
public import proofs.«01_k».proof.Proof.Gen.Reference9Ideal.Run
public import proofs.«01_k».proof.Proof.Ffn.DhIn
public import proofs.«01_k».proof.Proof.Gen.Kernel10Ideal.Value
public import proofs.«01_k».proof.Proof.Gen.Reference10Ideal.Run
public import proofs.«01_k».proof.Proof.Ffn.DwMix
public import proofs.«01_k».proof.Proof.Gen.Kernel11Ideal.Value
public import proofs.«01_k».proof.Proof.Gen.Reference11Ideal.Run
public import proofs.«01_k».proof.Proof.Ffn.DyMix
public import proofs.«01_k».proof.Proof.Gen.Kernel12Ideal.Value
public import proofs.«01_k».proof.Proof.Gen.Reference12Ideal.Run
public import Idealize.ShloMosaic.Adequacy
public import Idealize.ShloMosaic.Init

@[expose] public section

noncomputable section

namespace FfnGrad

open Cert Idealize.ShloMosaic Idealize.SL.Sem

/-- The reference's frame, and the equality of the call `_mm, the gradient of w_in_rwkv` with its reference. -/
theorem quiet9 : quiescent_Reference9Ideal (hReference9Ideal := Cert.Reference9Ideal.Gen.facts) := fun m g _ =>
  (θ_run _ _ _).mono (fun r h => ⟨fun c => (h c).2, sem_eq_zero_of_no_sems (by decide) r.2⟩) (Cert.Reference9Ideal.Value.run m g)
theorem equal9 : algebraic_Kernel9Ideal_Reference9Ideal (hKernel9Ideal := Cert.Kernel9Ideal.Gen.facts) (hReference9Ideal := Cert.Reference9Ideal.Gen.facts) := by
  intro m g m' g' hp ha
  refine ⟨fun c => DwIn.prod (DwIn.rows m c) (DwIn.grad m c), ?_, ?_⟩
  · refine (θ_run _ _ _).mono (fun r h c => ?_) (Cert.Kernel9Ideal.Value.run_blocks m g)
    obtain ⟨h0, h1, h2⟩ := h c
    exact ⟨h0.trans (DwIn.arr2 m c), h1, h2⟩
  · refine (θ_run _ _ _).mono (fun r h c => ?_) (Cert.Reference9Ideal.Value.run m' g')
    obtain ⟨h0, h1, h2⟩ := h c
    obtain ⟨a0, a1⟩ := ha c
    exact ⟨h0.trans ((DwIn.ref5 _ _).trans (congr (congrArg DwIn.prod a0) a1)), h1, h2⟩

/-- The reference's frame, and the equality of the call `_mm, the part of the rows' gradient through w_in_rwkv` with its reference. -/
theorem quiet10 : quiescent_Reference10Ideal (hReference10Ideal := Cert.Reference10Ideal.Gen.facts) := fun m g _ =>
  (θ_run _ _ _).mono (fun r h => ⟨fun c => (h c).2, sem_eq_zero_of_no_sems (by decide) r.2⟩) (Cert.Reference10Ideal.Value.run m g)
theorem equal10 : algebraic_Kernel10Ideal_Reference10Ideal (hKernel10Ideal := Cert.Kernel10Ideal.Gen.facts) (hReference10Ideal := Cert.Reference10Ideal.Gen.facts) := by
  intro m g m' g' hp ha
  refine ⟨fun c => DhIn.prod (DhIn.grad m c) (DhIn.weight m c), ?_, ?_⟩
  · refine (θ_run _ _ _).mono (fun r h c => ?_) (Cert.Kernel10Ideal.Value.run_blocks m g)
    obtain ⟨h0, h1, h2⟩ := h c
    exact ⟨h0.trans (DhIn.arr2 m c), h1, h2⟩
  · refine (θ_run _ _ _).mono (fun r h c => ?_) (Cert.Reference10Ideal.Value.run m' g')
    obtain ⟨h0, h1, h2⟩ := h c
    obtain ⟨a0, a1⟩ := ha c
    exact ⟨h0.trans ((DhIn.ref3 _ _).trans (congr (congrArg DhIn.prod a0) a1)), h1, h2⟩

/-- The reference's frame, and the equality of the call `_mm, the gradient of w_out` with its reference. -/
theorem quiet11 : quiescent_Reference11Ideal (hReference11Ideal := Cert.Reference11Ideal.Gen.facts) := fun m g _ =>
  (θ_run _ _ _).mono (fun r h => ⟨fun c => (h c).2, sem_eq_zero_of_no_sems (by decide) r.2⟩) (Cert.Reference11Ideal.Value.run m g)
theorem equal11 : algebraic_Kernel11Ideal_Reference11Ideal (hKernel11Ideal := Cert.Kernel11Ideal.Gen.facts) (hReference11Ideal := Cert.Reference11Ideal.Gen.facts) := by
  intro m g m' g' hp ha
  refine ⟨fun c => DwMix.prod (DwMix.rows m c) (DwMix.grad m c), ?_, ?_⟩
  · refine (θ_run _ _ _).mono (fun r h c => ?_) (Cert.Kernel11Ideal.Value.run_blocks m g)
    obtain ⟨h0, h1, h2⟩ := h c
    exact ⟨h0.trans (DwMix.arr2 m c), h1, h2⟩
  · refine (θ_run _ _ _).mono (fun r h c => ?_) (Cert.Reference11Ideal.Value.run m' g')
    obtain ⟨h0, h1, h2⟩ := h c
    obtain ⟨a0, a1⟩ := ha c
    exact ⟨h0.trans ((DwMix.ref5 _ _).trans (congr (congrArg DwMix.prod a0) a1)), h1, h2⟩

/-- The reference's frame, and the equality of the call `_mm, the gradient of the mixer's output` with its reference. -/
theorem quiet12 : quiescent_Reference12Ideal (hReference12Ideal := Cert.Reference12Ideal.Gen.facts) := fun m g _ =>
  (θ_run _ _ _).mono (fun r h => ⟨fun c => (h c).2, sem_eq_zero_of_no_sems (by decide) r.2⟩) (Cert.Reference12Ideal.Value.run m g)
theorem equal12 : algebraic_Kernel12Ideal_Reference12Ideal (hKernel12Ideal := Cert.Kernel12Ideal.Gen.facts) (hReference12Ideal := Cert.Reference12Ideal.Gen.facts) := by
  intro m g m' g' hp ha
  refine ⟨fun c => DyMix.prod (DyMix.grad m c) (DyMix.weight m c), ?_, ?_⟩
  · refine (θ_run _ _ _).mono (fun r h c => ?_) (Cert.Kernel12Ideal.Value.run_blocks m g)
    obtain ⟨h0, h1, h2⟩ := h c
    exact ⟨h0.trans (DyMix.arr2 m c), h1, h2⟩
  · refine (θ_run _ _ _).mono (fun r h c => ?_) (Cert.Reference12Ideal.Value.run m' g')
    obtain ⟨h0, h1, h2⟩ := h c
    obtain ⟨a0, a1⟩ := ha c
    exact ⟨h0.trans ((DyMix.ref3 _ _).trans (congr (congrArg DyMix.prod a0) a1)), h1, h2⟩

end FfnGrad
-- ==== Proof.Adam.Step.lean ====
/- One AdamW step of one entry of a weight: the two moments after it, and the change of the weight. -/
module

public import Idealize.ShloMosaic.Lib.Pipeline.ValueKit

@[expose] public section

set_option maxRecDepth 16384

noncomputable section

namespace AdamStep

open Idealize.ShloMosaic

/-- The first moment after the step. -/
def first (m g : EReal) : EReal := Ideal.ofBits .f32 0x3F666666#32 * m + Ideal.ofBits .f32 0x3DCCCCCD#32 * g

/-- The second moment after the step. -/
def second (v g : EReal) : EReal := Ideal.ofBits .f32 0x3F7FBE77#32 * v + Ideal.ofBits .f32 0x3A83126F#32 * (g * g)

/-- The change of the weight: the first moment over the root of the second, both corrected, and the weight's decay. -/
def change (w g m v : EReal) : EReal :=
  Ideal.ofBits .f32 0xBA83126F#32 * (Ideal.div (Ideal.div (first m g) (Ideal.ofBits .f32 0x3F26BD02#32))
      (Ideal.sqrt (Ideal.div (second v g) (Ideal.ofBits .f32 0x3C231ACC#32)) + Ideal.ofBits .f32 0x322BCC77#32)
    + Ideal.ofBits .f32 0x3C23D70A#32 * w)

theorem first_congr {m m' g g' : EReal} (hm : m = m') (hg : g = g') : first m g = first m' g' := by rw [hm, hg]
theorem second_congr {v v' g g' : EReal} (hv : v = v') (hg : g = g') : second v g = second v' g' := by rw [hv, hg]
theorem change_congr {w w' g g' m m' v v' : EReal} (hw : w = w') (hg : g = g') (hm : m = m') (hv : v = v') :
    change w g m v = change w' g' m' v' := by rw [hw, hg, hm, hv]

end AdamStep
-- ==== Proof.Adam.Packed.lean ====
/- The step of the small weights, packed in one array: the call's four arrays, and the reference's gradient. -/
module

public import proofs.«01_k».proof.Proof.Adam.Step
public import proofs.«01_k».proof.Proof.Gen.Kernel13Ideal.Value
public import proofs.«01_k».proof.Proof.Gen.Reference13Ideal.Run

@[expose] public section

set_option maxRecDepth 16384

noncomputable section

namespace AdamStep.Packed

open Idealize.ShloMosaic Idealize.ShloMosaic.TcCoe Idealize.SL.Sem

section Call

open Cert.Kernel13Ideal Cert.Kernel13Ideal.Gen

/-- The gradient: the sum over the devices. -/
def grad (p : FVec Ideal S8x8x3328 .f32) : FVec Ideal S8x3328 .f32 :=
  fun y => (∑ b : Fin 8, (p (ix3 b (y 0) (y 1)) : EReal) : EReal)

theorem sum_at (x : FVec Ideal S8x8x3328 .f32) (r : Fin 8) (n : Fin 3328) :
    ((k0_pay4 (View.ld x r0_0) (View.ld x r0_1) (View.ld x r0_2) (View.ld x r0_3) (View.ld x r0_4) (View.ld x r0_5) (View.ld x r0_6) (View.ld x r0_7) : FVec Ideal S8x3328 .f32) (ix2 r n) : EReal)
      = ∑ b : Fin 8, (x (ix3 b r n) : EReal) := by
  have e0 : ((View.ld (Val := Elt Ideal) (e' := .f32) x r0_0 : FVec Ideal S1x8x3328 .f32) (ix3 0 r n) : EReal) = x (ix3 0 r n) := by
    refine congrArg x (funext fun k => Fin.ext ?_)
    fin_cases k <;> simp [LoadRect.idx_apply, Rect.unit]
  have e1 : ((View.ld (Val := Elt Ideal) (e' := .f32) x r0_1 : FVec Ideal S1x8x3328 .f32) (ix3 0 r n) : EReal) = x (ix3 1 r n) := by
    refine congrArg x (funext fun k => Fin.ext ?_)
    fin_cases k <;> simp [LoadRect.idx_apply, Rect.unit]
  have e2 : ((View.ld (Val := Elt Ideal) (e' := .f32) x r0_2 : FVec Ideal S1x8x3328 .f32) (ix3 0 r n) : EReal) = x (ix3 2 r n) := by
    refine congrArg x (funext fun k => Fin.ext ?_)
    fin_cases k <;> simp [LoadRect.idx_apply, Rect.unit]
  have e3 : ((View.ld (Val := Elt Ideal) (e' := .f32) x r0_3 : FVec Ideal S1x8x3328 .f32) (ix3 0 r n) : EReal) = x (ix3 3 r n) := by
    refine congrArg x (funext fun k => Fin.ext ?_)
    fin_cases k <;> simp [LoadRect.idx_apply, Rect.unit]
  have e4 : ((View.ld (Val := Elt Ideal) (e' := .f32) x r0_4 : FVec Ideal S1x8x3328 .f32) (ix3 0 r n) : EReal) = x (ix3 4 r n) := by
    refine congrArg x (funext fun k => Fin.ext ?_)
    fin_cases k <;> simp [LoadRect.idx_apply, Rect.unit]
  have e5 : ((View.ld (Val := Elt Ideal) (e' := .f32) x r0_5 : FVec Ideal S1x8x3328 .f32) (ix3 0 r n) : EReal) = x (ix3 5 r n) := by
    refine congrArg x (funext fun k => Fin.ext ?_)
    fin_cases k <;> simp [LoadRect.idx_apply, Rect.unit]
  have e6 : ((View.ld (Val := Elt Ideal) (e' := .f32) x r0_6 : FVec Ideal S1x8x3328 .f32) (ix3 0 r n) : EReal) = x (ix3 6 r n) := by
    refine congrArg x (funext fun k => Fin.ext ?_)
    fin_cases k <;> simp [LoadRect.idx_apply, Rect.unit]
  have e7 : ((View.ld (Val := Elt Ideal) (e' := .f32) x r0_7 : FVec Ideal S1x8x3328 .f32) (ix3 0 r n) : EReal) = x (ix3 7 r n) := by
    refine congrArg x (funext fun k => Fin.ext ?_)
    fin_cases k <;> simp [LoadRect.idx_apply, Rect.unit]
  have h : ∀ a0 a1 a2 a3 a4 a5 a6 a7 : FVec Ideal S1x8x3328 .f32, ((k0_pay4 a0 a1 a2 a3 a4 a5 a6 a7 : FVec Ideal S8x3328 .f32) (ix2 r n) : EReal)
      = (a0 (ix3 0 r n) : EReal) + (a1 (ix3 0 r n) : EReal) + (a2 (ix3 0 r n) : EReal) + (a3 (ix3 0 r n) : EReal) + (a4 (ix3 0 r n) : EReal) + (a5 (ix3 0 r n) : EReal) + (a6 (ix3 0 r n) : EReal) + (a7 (ix3 0 r n) : EReal) := by
    intro a0 a1 a2 a3 a4 a5 a6 a7
    pointwise [k0_pay4]
  refine (h _ _ _ _ _ _ _ _).trans ?_
  rw [e0, e1, e2, e3, e4, e5, e6, e7, Fin.sum_univ_eight]

/-- The first moment, scaled. -/
theorem pay7_at (w m v : FVec Ideal S8x3328 .f32) (x : FVec Ideal S8x8x3328 .f32) (r : Fin 8) (n : Fin 3328) :
    ((k0_pay7 w m v x : FVec Ideal S8x3328 .f32) (ix2 r n) : EReal) = Ideal.ofBits .f32 0x3F666666#32 * (m (ix2 r n) : EReal) := by
  have e : ((View.ld (Val := Elt Ideal) (e' := .f32) m r0_8 : FVec Ideal S8x3328 .f32) (ix2 r n) : EReal) = m (ix2 r n) := by
    refine congrArg m (funext fun k => Fin.ext ?_)
    fin_cases k <;> simp [LoadRect.idx_apply, Rect.unit]
  exact congrArg (fun z : EReal => Ideal.ofBits .f32 0x3F666666#32 * z) e

/-- The first moment and the change, of the scaled first moment. -/
theorem pay1_at (g s : FVec Ideal S8x3328 .f32) (y : S8x3328.Idx) (a : EReal) (h : (s y : EReal) = Ideal.ofBits .f32 0x3F666666#32 * a) :
    ((k0_pay1 g s (Scalar.ofBits .f32 0x3DCCCCCD#32) : FVec Ideal S8x3328 .f32) y : EReal) = first a (g y) :=
  congrArg (fun z : EReal => z + Ideal.ofBits .f32 0x3DCCCCCD#32 * (g y : EReal)) h
theorem pay3_at (g w v s : FVec Ideal S8x3328 .f32) (y : S8x3328.Idx) (a : EReal) (h : (s y : EReal) = Ideal.ofBits .f32 0x3F666666#32 * a) :
    ((k0_pay3 g w v s (Scalar.ofBits .f32 0x3DCCCCCD#32) : FVec Ideal S8x3328 .f32) y : EReal) = change (w y) (g y) a (v y) :=
  congrArg (fun z : EReal => Ideal.ofBits .f32 0xBA83126F#32 * (Ideal.div (Ideal.div (z + Ideal.ofBits .f32 0x3DCCCCCD#32 * (g y : EReal)) (Ideal.ofBits .f32 0x3F26BD02#32))
      (Ideal.sqrt (Ideal.div (second (v y) (g y)) (Ideal.ofBits .f32 0x3C231ACC#32)) + Ideal.ofBits .f32 0x322BCC77#32)
    + Ideal.ofBits .f32 0x3C23D70A#32 * (w y : EReal))) h

/-- The first moment after the step, the second, and the change of the weight. -/
def moment1 (m : FVec Ideal S8x3328 .f32) (p : FVec Ideal S8x8x3328 .f32) : FVec Ideal S8x3328 .f32 := fun y => (first (m y) (grad p y) : EReal)
def moment2 (v : FVec Ideal S8x3328 .f32) (p : FVec Ideal S8x8x3328 .f32) : FVec Ideal S8x3328 .f32 := fun y => (second (v y) (grad p y) : EReal)
def delta (w m v : FVec Ideal S8x3328 .f32) (p : FVec Ideal S8x8x3328 .f32) : FVec Ideal S8x3328 .f32 := fun y => (change (w y) (grad p y) (m y) (v y) : EReal)

variable (m : (ℓ : Loc nD τ sig) → Buf (Elt Ideal) ℓ) (c : Dev nD)

abbrev wt : FVec Ideal S8x3328 .f32 := m ((c.tc : Thread nD τ).loc main_arg0)
abbrev mo : FVec Ideal S8x3328 .f32 := m ((c.tc : Thread nD τ).loc main_arg1)
abbrev ve : FVec Ideal S8x3328 .f32 := m ((c.tc : Thread nD τ).loc main_arg2)
abbrev parts : FVec Ideal S8x8x3328 .f32 := m ((c.tc : Thread nD τ).loc main_arg3)

theorem idx : ∀ t : Fin cfg0.N, win0_0.index t = ![t.val, 0] ∧ win0_1.index t = ![t.val, 0] ∧ win0_2.index t = ![t.val, 0] ∧ win0_3.index t = ![0, t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem blk0 (t : Fin 1) (r : Fin 8) (n : Fin 3328) :
    ((iblk m c 0 t : FVec Ideal S8x3328 .f32) (ix2 r n) : EReal) = wt m c (ix2 ⟨t.val * 8 + r.val, by omega⟩ n) := by
  have i := (idx t).1
  unfold iblk
  blk_ext <;> simp [i]
theorem blk1 (t : Fin 1) (r : Fin 8) (n : Fin 3328) :
    ((iblk m c 1 t : FVec Ideal S8x3328 .f32) (ix2 r n) : EReal) = mo m c (ix2 ⟨t.val * 8 + r.val, by omega⟩ n) := by
  have i := (idx t).2.1
  unfold iblk
  blk_ext <;> simp [i]
theorem blk2 (t : Fin 1) (r : Fin 8) (n : Fin 3328) :
    ((iblk m c 2 t : FVec Ideal S8x3328 .f32) (ix2 r n) : EReal) = ve m c (ix2 ⟨t.val * 8 + r.val, by omega⟩ n) := by
  have i := (idx t).2.2.1
  unfold iblk
  blk_ext <;> simp [i]
theorem blk3 (t : Fin 1) (j : Fin 8) (r : Fin 8) (n : Fin 3328) :
    ((iblk m c 3 t : FVec Ideal S8x8x3328 .f32) (ix3 j r n) : EReal) = parts m c (ix3 j ⟨t.val * 8 + r.val, by omega⟩ n) := by
  have i := (idx t).2.2.2.1
  unfold iblk
  blk_ext <;> simp [i]

/-- A block of the gradient. -/
theorem grad_blk (t : Fin 1) (r : Fin 8) (n : Fin 3328) :
    ((k0_pay6 (iblk m c 0 t) (iblk m c 1 t) (iblk m c 2 t) (iblk m c 3 t) : FVec Ideal S8x3328 .f32) (ix2 r n) : EReal)
      = grad (parts m c) (ix2 ⟨t.val * 8 + r.val, by omega⟩ n) :=
  (sum_at _ r n).trans (Finset.sum_congr rfl fun j _ => blk3 m c t j r n)

theorem arr4 : ((dats m 0 c).arrAt 4 cfg0.N : FVec Ideal S8x3328 .f32) = grad (parts m c) := by
  refine (dats m 0 c).arrAt_eq_of_covers 4 _ (by decide +kernel) fun t hf y => ?_
  blk_simp
  rw [after0_4]
  obtain ⟨r, n, rfl⟩ : ∃ (r : Fin 8) (n : Fin 3328), y = ix2 r n := ⟨y 0, y 1, by funext k; fin_cases k <;> rfl⟩
  frame_out
  have b : t.val < 1 := t.isLt
  have e : (grad (parts m c) (ix2 ⟨t.val * 8 + r.val, by omega⟩ n) : EReal)
      = grad (parts m c) (((View.whole main_v0_0).slice (win0_4.rect t)).emb (ix2 r n)) := by
    have i := (idx t).2.2.2.2.1
    blk_ext <;> simp [i]
  refine Eq.trans ?_ e
  have q := grad_blk m c t r n
  exact q

theorem arr5 : ((dats m 0 c).arrAt 5 cfg0.N : FVec Ideal S8x3328 .f32) = delta (wt m c) (mo m c) (ve m c) (parts m c) := by
  refine (dats m 0 c).arrAt_eq_of_covers 5 _ (by decide +kernel) fun t hf y => ?_
  blk_simp
  rw [after0_5]
  obtain ⟨r, n, rfl⟩ : ∃ (r : Fin 8) (n : Fin 3328), y = ix2 r n := ⟨y 0, y 1, by funext k; fin_cases k <;> rfl⟩
  frame_out
  have b : t.val < 1 := t.isLt
  have e : (delta (wt m c) (mo m c) (ve m c) (parts m c) (ix2 ⟨t.val * 8 + r.val, by omega⟩ n) : EReal)
      = delta (wt m c) (mo m c) (ve m c) (parts m c) (((View.whole main_v0_1).slice (win0_5.rect t)).emb (ix2 r n)) := by
    have i := (idx t).2.2.2.2.2.1
    blk_ext <;> simp [i]
  refine Eq.trans ?_ e
  exact (pay3_at _ _ _ _ _ _ (pay7_at _ _ _ _ r n)).trans (change_congr (blk0 m c t r n) (grad_blk m c t r n) (blk1 m c t r n) (blk2 m c t r n))

theorem arr6 : ((dats m 0 c).arrAt 6 cfg0.N : FVec Ideal S8x3328 .f32) = moment1 (mo m c) (parts m c) := by
  refine (dats m 0 c).arrAt_eq_of_covers 6 _ (by decide +kernel) fun t hf y => ?_
  blk_simp
  rw [after0_6]
  obtain ⟨r, n, rfl⟩ : ∃ (r : Fin 8) (n : Fin 3328), y = ix2 r n := ⟨y 0, y 1, by funext k; fin_cases k <;> rfl⟩
  frame_out
  have b : t.val < 1 := t.isLt
  have e : (moment1 (mo m c) (parts m c) (ix2 ⟨t.val * 8 + r.val, by omega⟩ n) : EReal)
      = moment1 (mo m c) (parts m c) (((View.whole main_v0_2).slice (win0_6.rect t)).emb (ix2 r n)) := by
    have i := (idx t).2.2.2.2.2.2.1
    blk_ext <;> simp [i]
  refine Eq.trans ?_ e
  exact (pay1_at _ _ _ _ (pay7_at _ _ _ _ r n)).trans (first_congr (blk1 m c t r n) (grad_blk m c t r n))

theorem arr7 : ((dats m 0 c).arrAt 7 cfg0.N : FVec Ideal S8x3328 .f32) = moment2 (ve m c) (parts m c) := by
  refine (dats m 0 c).arrAt_eq_of_covers 7 _ (by decide +kernel) fun t hf y => ?_
  blk_simp
  rw [after0_7]
  obtain ⟨r, n, rfl⟩ : ∃ (r : Fin 8) (n : Fin 3328), y = ix2 r n := ⟨y 0, y 1, by funext k; fin_cases k <;> rfl⟩
  frame_out
  have b : t.val < 1 := t.isLt
  have e : (moment2 (ve m c) (parts m c) (ix2 ⟨t.val * 8 + r.val, by omega⟩ n) : EReal)
      = moment2 (ve m c) (parts m c) (((View.whole main_v0_3).slice (win0_7.rect t)).emb (ix2 r n)) := by
    have i := (idx t).2.2.2.2.2.2.2
    blk_ext <;> simp [i]
  refine Eq.trans ?_ e
  have q := second_congr (blk2 m c t r n) (grad_blk m c t r n)
  exact q

end Call

section Reference

open Cert.Reference13Ideal Cert.Reference13Ideal.Gen

theorem refg (p : FVec Ideal S8x8x3328 .f32) :
    Host.reduceAdd p (constant S_ .f32 0x00000000#32) reducesTo_S8x8x3328_S8x3328_d0 h_S_ = grad p := by
  funext y
  obtain ⟨r, n, rfl⟩ : ∃ (r : Fin 8) (n : Fin 3328), y = ix2 r n := ⟨y 0, y 1, by funext k; fin_cases k <;> rfl⟩
  unfold grad
  pointwise

end Reference

end AdamStep.Packed
-- ==== Proof.Adam.EqualPacked.lean ====
/- The optimizer's step of the small weights: its reference's frame, and the equality with the reference. -/
module

public import proofs.«01_k».proof.Defs
public import proofs.«01_k».proof.Proof.Adam.Packed
public import Idealize.ShloMosaic.Adequacy
public import Idealize.ShloMosaic.Init

@[expose] public section

set_option maxRecDepth 16384

noncomputable section

namespace AdamStep

open Cert Idealize.ShloMosaic Idealize.SL.Sem

/-- The step of the small weights, packed in one array: the reference's frame, and the equality with the reference. -/
theorem quiet13 : quiescent_Reference13Ideal (hReference13Ideal := Cert.Reference13Ideal.Gen.facts) := fun m g _ =>
  (θ_run _ _ _).mono (fun r h => ⟨fun c => (h c).2.2.2.2, sem_eq_zero_of_no_sems (by decide) r.2⟩) (Cert.Reference13Ideal.Value.run m g)
theorem equal13 : algebraic_Kernel13Ideal_Reference13Ideal (hKernel13Ideal := Cert.Kernel13Ideal.Gen.facts) (hReference13Ideal := Cert.Reference13Ideal.Gen.facts) := by
  intro m g m' g' hp ha
  refine ⟨fun c => Packed.grad (Packed.parts m c), fun c => Packed.delta (Packed.wt m c) (Packed.mo m c) (Packed.ve m c) (Packed.parts m c), fun c => Packed.moment1 (Packed.mo m c) (Packed.parts m c), fun c => Packed.moment2 (Packed.ve m c) (Packed.parts m c), ?_, ?_⟩
  · refine (θ_run _ _ _).mono (fun r h c => ?_) (Cert.Kernel13Ideal.Value.run_blocks m g)
    obtain ⟨h0, h1, h2, h3, h4, h5, h6, h7⟩ := h c
    exact ⟨h0.trans (Packed.arr4 m c), h1.trans (Packed.arr5 m c), h2.trans (Packed.arr6 m c), h3.trans (Packed.arr7 m c), h4, h5, h6, h7⟩
  · refine (θ_run _ _ _).mono (fun r h c => ?_) (Cert.Reference13Ideal.Value.run m' g')
    obtain ⟨h0, h1, h2, h3, h4, h5, h6, h7⟩ := h c
    obtain ⟨a0, a1, a2, a3⟩ := ha c
    have d := (Packed.refg _).trans (congrArg Packed.grad a3)
    refine ⟨h0.trans d, h1.trans (funext fun y => ?_), h2.trans (funext fun y => ?_), h3.trans (funext fun y => ?_), h4, h5, h6, h7⟩
    · have q := change_congr (congrFun a0 y) (congrFun d y) (congrFun a1 y) (congrFun a2 y)
      exact q
    · have q := first_congr (congrFun a1 y) (congrFun d y)
      exact q
    · have q := second_congr (congrFun a2 y) (congrFun d y)
      exact q

end AdamStep
-- ==== Proof.Adam.Hidden.lean ====
/- The step of a hidden weight of a SwiGLU layer: the call's four arrays, and the reference's gradient. -/
module

public import proofs.«01_k».proof.Proof.Adam.Step
public import proofs.«01_k».proof.Proof.Gen.Kernel14Ideal.Value
public import proofs.«01_k».proof.Proof.Gen.Reference14Ideal.Run

@[expose] public section

set_option maxRecDepth 16384

noncomputable section

namespace AdamStep.Hidden

open Idealize.ShloMosaic Idealize.ShloMosaic.TcCoe Idealize.SL.Sem

section Call

open Cert.Kernel14Ideal Cert.Kernel14Ideal.Gen

/-- The gradient: the device's own share and those of the three other chips. -/
def grad (p : FVec Ideal S1x2048x704 .bf16) (o : FVec Ideal S3x2048x704 .bf16) : FVec Ideal S2048x704 .f32 :=
  fun y => ((p (ix3 0 (y 0) (y 1)) : EReal) + ∑ j : Fin 3, (o (ix3 j (y 0) (y 1)) : EReal) : EReal)

theorem sum_at (x : FVec Ideal S1x512x704 .bf16) (z : FVec Ideal S3x512x704 .bf16) (r : Fin 512) (n : Fin 704) :
    ((k0_pay2 x (View.ld z r0_1) (View.ld z r0_2) (View.ld z r0_3) : FVec Ideal S512x704 .f32) (ix2 r n) : EReal)
      = (x (ix3 0 r n) : EReal) + ∑ j : Fin 3, (z (ix3 j r n) : EReal) := by
  have e1 : ((View.ld (Val := Elt Ideal) (e' := .bf16) z r0_1 : FVec Ideal S1x512x704 .bf16) (ix3 0 r n) : EReal) = z (ix3 0 r n) := by
    refine congrArg z (funext fun k => Fin.ext ?_)
    fin_cases k <;> simp [LoadRect.idx_apply, Rect.unit]
  have e2 : ((View.ld (Val := Elt Ideal) (e' := .bf16) z r0_2 : FVec Ideal S1x512x704 .bf16) (ix3 0 r n) : EReal) = z (ix3 1 r n) := by
    refine congrArg z (funext fun k => Fin.ext ?_)
    fin_cases k <;> simp [LoadRect.idx_apply, Rect.unit]
  have e3 : ((View.ld (Val := Elt Ideal) (e' := .bf16) z r0_3 : FVec Ideal S1x512x704 .bf16) (ix3 0 r n) : EReal) = z (ix3 2 r n) := by
    refine congrArg z (funext fun k => Fin.ext ?_)
    fin_cases k <;> simp [LoadRect.idx_apply, Rect.unit]
  have h : ∀ a b c d : FVec Ideal S1x512x704 .bf16, ((k0_pay2 a b c d : FVec Ideal S512x704 .f32) (ix2 r n) : EReal)
      = (a (ix3 0 r n) : EReal) + (b (ix3 0 r n) : EReal) + (c (ix3 0 r n) : EReal) + (d (ix3 0 r n) : EReal) := by
    intro a b c d
    pointwise [k0_pay2]
  refine (h _ _ _ _).trans ?_
  rw [e1, e2, e3, Fin.sum_univ_three]
  simp only [add_assoc]

/-- The first moment after the step, the second, and the change of the weight. -/
def moment1 (m : FVec Ideal S2048x704 .f32) (p : FVec Ideal S1x2048x704 .bf16) (o : FVec Ideal S3x2048x704 .bf16) : FVec Ideal S2048x704 .f32 := fun y => (first (m y) (grad p o y) : EReal)
def moment2 (v : FVec Ideal S2048x704 .f32) (p : FVec Ideal S1x2048x704 .bf16) (o : FVec Ideal S3x2048x704 .bf16) : FVec Ideal S2048x704 .f32 := fun y => (second (v y) (grad p o y) : EReal)
def delta (w m v : FVec Ideal S2048x704 .f32) (p : FVec Ideal S1x2048x704 .bf16) (o : FVec Ideal S3x2048x704 .bf16) : FVec Ideal S2048x704 .f32 := fun y => (change (w y) (grad p o y) (m y) (v y) : EReal)

variable (m : (ℓ : Loc nD τ sig) → Buf (Elt Ideal) ℓ) (c : Dev nD)

abbrev wt : FVec Ideal S2048x704 .f32 := m ((c.tc : Thread nD τ).loc main_arg0)
abbrev mo : FVec Ideal S2048x704 .f32 := m ((c.tc : Thread nD τ).loc main_arg1)
abbrev ve : FVec Ideal S2048x704 .f32 := m ((c.tc : Thread nD τ).loc main_arg2)
abbrev own : FVec Ideal S1x2048x704 .bf16 := m ((c.tc : Thread nD τ).loc main_arg3)
abbrev got : FVec Ideal S3x2048x704 .bf16 := m ((c.tc : Thread nD τ).loc main_arg4)

theorem idx : ∀ t : Fin cfg0.N, win0_0.index t = ![t.val, 0] ∧ win0_1.index t = ![t.val, 0] ∧ win0_2.index t = ![t.val, 0] ∧ win0_3.index t = ![0, t.val, 0] ∧ win0_4.index t = ![0, t.val, 0] ∧ win0_5.index t = ![t.val, 0] ∧ win0_6.index t = ![t.val, 0] ∧ win0_7.index t = ![t.val, 0] ∧ win0_8.index t = ![t.val, 0] :=
  (by decide +kernel : ∀ t : Fin grid0.N, _)

theorem blk0 (t : Fin 4) (r : Fin 512) (n : Fin 704) :
    ((iblk m c 0 t : FVec Ideal S512x704 .f32) (ix2 r n) : EReal) = wt m c (ix2 ⟨t.val * 512 + r.val, by omega⟩ n) := by
  have i := (idx t).1
  unfold iblk
  blk_ext <;> simp [i]
theorem blk1 (t : Fin 4) (r : Fin 512) (n : Fin 704) :
    ((iblk m c 1 t : FVec Ideal S512x704 .f32) (ix2 r n) : EReal) = mo m c (ix2 ⟨t.val * 512 + r.val, by omega⟩ n) := by
  have i := (idx t).2.1
  unfold iblk
  blk_ext <;> simp [i]
theorem blk2 (t : Fin 4) (r : Fin 512) (n : Fin 704) :
    ((iblk m c 2 t : FVec Ideal S512x704 .f32) (ix2 r n) : EReal) = ve m c (ix2 ⟨t.val * 512 + r.val, by omega⟩ n) := by
  have i := (idx t).2.2.1
  unfold iblk
  blk_ext <;> simp [i]
theorem blk3 (t : Fin 4) (j : Fin 1) (r : Fin 512) (n : Fin 704) :
    ((iblk m c 3 t : FVec Ideal S1x512x704 .bf16) (ix3 j r n) : EReal) = own m c (ix3 j ⟨t.val * 512 + r.val, by omega⟩ n) := by
  have i := (idx t).2.2.2.1
  unfold iblk
  blk_ext <;> simp [i]
theorem blk4 (t : Fin 4) (j : Fin 3) (r : Fin 512) (n : Fin 704) :
    ((iblk m c 4 t : FVec Ideal S3x512x704 .bf16) (ix3 j r n) : EReal) = got m c (ix3 j ⟨t.val * 512 + r.val, by omega⟩ n) := by
  have i := (idx t).2.2.2.2.1
  unfold iblk
  blk_ext <;> simp [i]

/-- A block of the gradient. -/
theorem grad_blk (t : Fin 4) (r : Fin 512) (n : Fin 704) :
    ((k0_pay2 (iblk m c 3 t) (View.ld (iblk m c 4 t) r0_1) (View.ld (iblk m c 4 t) r0_2) (View.ld (iblk m c 4 t) r0_3) : FVec Ideal S512x704 .f32) (ix2 r n) : EReal)
      = grad (own m c) (got m c) (ix2 ⟨t.val * 512 + r.val, by omega⟩ n) :=
  (sum_at _ _ r n).trans (congrArg₂ (fun a b : EReal => a + b) (blk3 m c t 0 r n) (Finset.sum_congr rfl fun j _ => blk4 m c t j r n))

theorem arr5 : ((dats m 0 c).arrAt 5 cfg0.N : FVec Ideal S2048x704 .f32) = grad (own m c) (got m c) := by
  refine (dats m 0 c).arrAt_eq_of_covers 5 _ (by decide +kernel) fun t hf y => ?_
  blk_simp
  rw [after0_5]
  obtain ⟨r, n, rfl⟩ : ∃ (r : Fin 512) (n : Fin 704), y = ix2 r n := ⟨y 0, y 1, by funext k; fin_cases k <;> rfl⟩
  frame_out
  have b : t.val < 4 := t.isLt
  have e : (grad (own m c) (got m c) (ix2 ⟨t.val * 512 + r.val, by omega⟩ n) : EReal)
      = grad (own m c) (got m c) (((View.whole main_v0_0).slice (win0_5.rect t)).emb (ix2 r n)) := by
    have i := (idx t).2.2.2.2.2.1
    blk_ext <;> simp [i]
  refine Eq.trans ?_ e
  have q := grad_blk m c t r n
  exact q

theorem arr6 : ((dats m 0 c).arrAt 6 cfg0.N : FVec Ideal S2048x704 .f32) = delta (wt m c) (mo m c) (ve m c) (own m c) (got m c) := by
  refine (dats m 0 c).arrAt_eq_of_covers 6 _ (by decide +kernel) fun t hf y => ?_
  blk_simp
  rw [after0_6]
  obtain ⟨r, n, rfl⟩ : ∃ (r : Fin 512) (n : Fin 704), y = ix2 r n := ⟨y 0, y 1, by funext k; fin_cases k <;> rfl⟩
  frame_out
  have b : t.val < 4 := t.isLt
  have e : (delta (wt m c) (mo m c) (ve m c) (own m c) (got m c) (ix2 ⟨t.val * 512 + r.val, by omega⟩ n) : EReal)
      = delta (wt m c) (mo m c) (ve m c) (own m c) (got m c) (((View.whole main_v0_1).slice (win0_6.rect t)).emb (ix2 r n)) := by
    have i := (idx t).2.2.2.2.2.2.1
    blk_ext <;> simp [i]
  refine Eq.trans ?_ e
  have q := change_congr (blk0 m c t r n) (grad_blk m c t r n) (blk1 m c t r n) (blk2 m c t r n)
  exact q

theorem arr7 : ((dats m 0 c).arrAt 7 cfg0.N : FVec Ideal S2048x704 .f32) = moment1 (mo m c) (own m c) (got m c) := by
  refine (dats m 0 c).arrAt_eq_of_covers 7 _ (by decide +kernel) fun t hf y => ?_
  blk_simp
  rw [after0_7]
  obtain ⟨r, n, rfl⟩ : ∃ (r : Fin 512) (n : Fin 704), y = ix2 r n := ⟨y 0, y 1, by funext k; fin_cases k <;> rfl⟩
  frame_out
  have b : t.val < 4 := t.isLt
  have e : (moment1 (mo m c) (own m c) (got m c) (ix2 ⟨t.val * 512 + r.val, by omega⟩ n) : EReal)
      = moment1 (mo m c) (own m c) (got m c) (((View.whole main_v0_2).slice (win0_7.rect t)).emb (ix2 r n)) := by
    have i := (idx t).2.2.2.2.2.2.2.1
    blk_ext <;> simp [i]
  refine Eq.trans ?_ e
  have q := first_congr (blk1 m c t r n) (grad_blk m c t r n)
  exact q

theorem arr8 : ((dats m 0 c).arrAt 8 cfg0.N : FVec Ideal S2048x704 .f32) = moment2 (ve m c) (own m c) (got m c) := by
  refine (dats m 0 c).arrAt_eq_of_covers 8 _ (by decide +kernel) fun t hf y => ?_
  blk_simp
  rw [after0_8]
  obtain ⟨r, n, rfl⟩ : ∃ (r : Fin 512) (n : Fin 704), y = ix2 r n := ⟨y 0, y 1, by funext k; fin_cases k <;> rfl⟩
  frame_out
  have b : t.val < 4 := t.isLt
  have e : (moment2 (ve m c) (own m c) (got m c) (ix2 ⟨t.val * 512 + r.val, by omega⟩ n) : EReal)
      = moment2 (ve m c) (own m c) (got m c) (((View.whole main_v0_3).slice (win0_8.rect t)).emb (ix2 r n)) := by
    have i := (idx t).2.2.2.2.2.2.2.2
    blk_ext <;> simp [i]
  refine Eq.trans ?_ e
  have q := second_congr (blk2 m c t r n) (grad_blk m c t r n)
  exact q

end Call

section Reference

open Cert.Reference14Ideal Cert.Reference14Ideal.Gen

theorem refg (p : FVec Ideal S1x2048x704 .bf16) (o : FVec Ideal S3x2048x704 .bf16) :
    addf (extf .f32 (shapeCast _ p shapeCasts_S1x2048x704_S2048x704) bitsLt_bf16_f32) (Host.reduceAdd (extf .f32 o bitsLt_bf16_f32) (constant S_ .f32 0x00000000#32) reducesTo_S3x2048x704_S2048x704_d0 h_S_)
      = grad p o := by
  funext y
  obtain ⟨r, n, rfl⟩ : ∃ (r : Fin 2048) (n : Fin 704), y = ix2 r n := ⟨y 0, y 1, by funext k; fin_cases k <;> rfl⟩
  unfold grad
  pointwise

end Reference

end AdamStep.Hidden
-- ==== Proof.Adam.Down.lean ====
/- The step of an output weight of a SwiGLU layer: the call's four arrays, and the reference's gradient. -/
module

public import proofs.«01_k».proof.Proof.Adam.Step
public import proofs.«01_k».proof.Proof.Gen.Kernel15Ideal.Value
public import proofs.«01_k».proof.Proof.Gen.Reference15Ideal.Run

@[expose] public section

set_option maxRecDepth 16384

noncomputable section

namespace AdamStep.Down

open Idealize.ShloMosaic Idealize.ShloMosaic.TcCoe Idealize.SL.Sem

section Call

open Cert.Kernel15Ideal Cert.Kernel15Ideal.Gen

/-- The gradient: the device's own share and those of the three other chips. -/
def grad (p : FVec Ideal S1x704x2048 .bf16) (o : FVec Ideal S3x704x2048 .bf16) : FVec Ideal S704x2048 .f32 :=
  fun y => ((p (ix3 0 (y 0) (y 1)) : EReal) + ∑ j : Fin 3, (o (ix3 j (y 0) (y 1)) : EReal) : EReal)

theorem sum_at (x : FVec Ideal S1x176x2048 .bf16) (z : FVec Ideal S3x176x2048 .bf16) (r : Fin 176) (n : Fin 2048) :
    ((k0_pay2 x (View.ld z r0_1) (View.ld z r0_2) (View.ld z r0_3) : FVec Ideal S176x2048 .f32) (ix2 r n) : EReal)
      = (x (ix3 0 r n) : EReal) + ∑ j : Fin 3, (z (ix3 j r n) : EReal) := by
  have e1 : ((View.ld (Val := Elt Ideal) (e' := .bf16) z r0_1 : FVec Ideal S1x176x2048 .bf16) (ix3 0 r n) : EReal) = z (ix3 0 r n) := by
    refine congrArg z (funext fun k => Fin.ext ?_)
    fin_cases k <;> simp [LoadRect.idx_apply, Rect.unit]
  have e2 : ((View.ld (Val := Elt Ideal) (e' := .bf16) z r0_2 : FVec Ideal S1x176x2048 .bf16) (ix3 0 r n) : EReal) = z (ix3 1 r n) := by
    refine congrArg z (funext fun k => Fin.ext ?_)
    fin_cases k <;> simp [LoadRect.idx_apply, Rect.unit]
  have e3 : ((View.ld (Val := Elt Ideal) (e' := .bf16) z r0_3 : FVec Ideal S1x176x2048 .bf16) (ix3 0 r n) : EReal) = z (ix3 2 r n) := by
    refine congrArg z (funext fun k => Fin.ext ?_)
    fin_cases k <;> simp [LoadRect.idx_apply, Rect.unit]
  have h : ∀ a b c d : FVec Ideal S1x176x2048 .bf16, ((k0_pay2 a b c d : FVec Ideal S176x2048 .f32) (ix2 r n) : EReal)
      = (a (ix3 0 r n) : EReal) + (b (ix3 0 r n) : EReal) + (c (ix3 0 r n) : EReal) + (d (ix3 0 r n) : EReal) := by
    intro a b c d
    pointwise [k0_pay2]
  refine (h _ _ _ _).trans ?_
  rw [e1, e2, e3, Fin.sum_univ_three]
  simp only [add_assoc]

/-- The first moment after the step, the second, and the change of the weight. -/
def moment1 (m : FVec Ideal S704x2048 .f32) (p : FVec Ideal S1x704x2048 .bf16) (o : FVec Ideal S3x704x2048 .bf16) : FVec Ideal S704x2048 .f32 := fun y => (first (m y) (grad p o y) : EReal)
def moment2 (v : FVec Ideal S704x2048 .f32) (p : FVec Ideal S1x704x2048 .bf16) (o : FVec Ideal S3x704x2048 .bf16) : FVec Ideal S704x2048 .f32 := fun y => (second (v y) (grad p o y) : EReal)
def delta (w m v : FVec Ideal S704x2048 .f32) (p : FVec Ideal S1x704x2048 .bf16) (o : FVec Ideal S3x704x2048 .bf16) : FVec Ideal S704x2048 .f32 := fun y => (change (w y) (grad p o y) (m y) (v y) : EReal)

variable (m : (ℓ : Loc nD τ sig) → Buf (Elt Ideal) ℓ) (c : Dev nD)

abbrev wt : FVec Ideal S704x2048 .f32 := m ((c.tc : Thread nD τ).loc main_arg0)
abbrev mo : FVec Ideal S704x2048 .f32 := m ((c.tc : Thread nD τ).loc main_arg1)
abbrev ve : FVec Ideal S704x2048 .f32 := m ((c.tc : Thread nD τ).loc main_arg2)
abbrev own : FVec Ideal S1x704x2048 .bf16 := m ((c.tc : Thread nD τ).loc main_arg3)
abbrev got : FVec Ideal S3x704x2048 .bf16 := m ((c.tc : Thread nD τ).loc main_arg4)

theorem idx : ∀ t : Fin cfg0.N, win0_0.index t = ![t.val, 0] ∧ win0_1.index t = ![t.val, 0] ∧ win0_2.index t = ![t.val, 0] ∧ win0_3.index t = ![0, t.val, 0] ∧ win0_4.index t = ![0, t.val, 0] ∧ win0_5.index t = ![t.val, 0] ∧ win0_6.index t = ![t.val, 0] ∧ win0_7.index t = ![t.val, 0] ∧ win0_8.index t = ![t.val, 0] :=
  (by decide +kernel : ∀ t : Fin grid0.N, _)

theorem blk0 (t : Fin 4) (r : Fin 176) (n : Fin 2048) :
    ((iblk m c 0 t : FVec Ideal S176x2048 .f32) (ix2 r n) : EReal) = wt m c (ix2 ⟨t.val * 176 + r.val, by omega⟩ n) := by
  have i := (idx t).1
  unfold iblk
  blk_ext <;> simp [i]
theorem blk1 (t : Fin 4) (r : Fin 176) (n : Fin 2048) :
    ((iblk m c 1 t : FVec Ideal S176x2048 .f32) (ix2 r n) : EReal) = mo m c (ix2 ⟨t.val * 176 + r.val, by omega⟩ n) := by
  have i := (idx t).2.1
  unfold iblk
  blk_ext <;> simp [i]
theorem blk2 (t : Fin 4) (r : Fin 176) (n : Fin 2048) :
    ((iblk m c 2 t : FVec Ideal S176x2048 .f32) (ix2 r n) : EReal) = ve m c (ix2 ⟨t.val * 176 + r.val, by omega⟩ n) := by
  have i := (idx t).2.2.1
  unfold iblk
  blk_ext <;> simp [i]
theorem blk3 (t : Fin 4) (j : Fin 1) (r : Fin 176) (n : Fin 2048) :
    ((iblk m c 3 t : FVec Ideal S1x176x2048 .bf16) (ix3 j r n) : EReal) = own m c (ix3 j ⟨t.val * 176 + r.val, by omega⟩ n) := by
  have i := (idx t).2.2.2.1
  unfold iblk
  blk_ext <;> simp [i]
theorem blk4 (t : Fin 4) (j : Fin 3) (r : Fin 176) (n : Fin 2048) :
    ((iblk m c 4 t : FVec Ideal S3x176x2048 .bf16) (ix3 j r n) : EReal) = got m c (ix3 j ⟨t.val * 176 + r.val, by omega⟩ n) := by
  have i := (idx t).2.2.2.2.1
  unfold iblk
  blk_ext <;> simp [i]

/-- A block of the gradient. -/
theorem grad_blk (t : Fin 4) (r : Fin 176) (n : Fin 2048) :
    ((k0_pay2 (iblk m c 3 t) (View.ld (iblk m c 4 t) r0_1) (View.ld (iblk m c 4 t) r0_2) (View.ld (iblk m c 4 t) r0_3) : FVec Ideal S176x2048 .f32) (ix2 r n) : EReal)
      = grad (own m c) (got m c) (ix2 ⟨t.val * 176 + r.val, by omega⟩ n) :=
  (sum_at _ _ r n).trans (congrArg₂ (fun a b : EReal => a + b) (blk3 m c t 0 r n) (Finset.sum_congr rfl fun j _ => blk4 m c t j r n))

theorem arr5 : ((dats m 0 c).arrAt 5 cfg0.N : FVec Ideal S704x2048 .f32) = grad (own m c) (got m c) := by
  refine (dats m 0 c).arrAt_eq_of_covers 5 _ (by decide +kernel) fun t hf y => ?_
  blk_simp
  rw [after0_5]
  obtain ⟨r, n, rfl⟩ : ∃ (r : Fin 176) (n : Fin 2048), y = ix2 r n := ⟨y 0, y 1, by funext k; fin_cases k <;> rfl⟩
  frame_out
  have b : t.val < 4 := t.isLt
  have e : (grad (own m c) (got m c) (ix2 ⟨t.val * 176 + r.val, by omega⟩ n) : EReal)
      = grad (own m c) (got m c) (((View.whole main_v0_0).slice (win0_5.rect t)).emb (ix2 r n)) := by
    have i := (idx t).2.2.2.2.2.1
    blk_ext <;> simp [i]
  refine Eq.trans ?_ e
  have q := grad_blk m c t r n
  exact q

theorem arr6 : ((dats m 0 c).arrAt 6 cfg0.N : FVec Ideal S704x2048 .f32) = delta (wt m c) (mo m c) (ve m c) (own m c) (got m c) := by
  refine (dats m 0 c).arrAt_eq_of_covers 6 _ (by decide +kernel) fun t hf y => ?_
  blk_simp
  rw [after0_6]
  obtain ⟨r, n, rfl⟩ : ∃ (r : Fin 176) (n : Fin 2048), y = ix2 r n := ⟨y 0, y 1, by funext k; fin_cases k <;> rfl⟩
  frame_out
  have b : t.val < 4 := t.isLt
  have e : (delta (wt m c) (mo m c) (ve m c) (own m c) (got m c) (ix2 ⟨t.val * 176 + r.val, by omega⟩ n) : EReal)
      = delta (wt m c) (mo m c) (ve m c) (own m c) (got m c) (((View.whole main_v0_1).slice (win0_6.rect t)).emb (ix2 r n)) := by
    have i := (idx t).2.2.2.2.2.2.1
    blk_ext <;> simp [i]
  refine Eq.trans ?_ e
  have q := change_congr (blk0 m c t r n) (grad_blk m c t r n) (blk1 m c t r n) (blk2 m c t r n)
  exact q

theorem arr7 : ((dats m 0 c).arrAt 7 cfg0.N : FVec Ideal S704x2048 .f32) = moment1 (mo m c) (own m c) (got m c) := by
  refine (dats m 0 c).arrAt_eq_of_covers 7 _ (by decide +kernel) fun t hf y => ?_
  blk_simp
  rw [after0_7]
  obtain ⟨r, n, rfl⟩ : ∃ (r : Fin 176) (n : Fin 2048), y = ix2 r n := ⟨y 0, y 1, by funext k; fin_cases k <;> rfl⟩
  frame_out
  have b : t.val < 4 := t.isLt
  have e : (moment1 (mo m c) (own m c) (got m c) (ix2 ⟨t.val * 176 + r.val, by omega⟩ n) : EReal)
      = moment1 (mo m c) (own m c) (got m c) (((View.whole main_v0_2).slice (win0_7.rect t)).emb (ix2 r n)) := by
    have i := (idx t).2.2.2.2.2.2.2.1
    blk_ext <;> simp [i]
  refine Eq.trans ?_ e
  have q := first_congr (blk1 m c t r n) (grad_blk m c t r n)
  exact q

theorem arr8 : ((dats m 0 c).arrAt 8 cfg0.N : FVec Ideal S704x2048 .f32) = moment2 (ve m c) (own m c) (got m c) := by
  refine (dats m 0 c).arrAt_eq_of_covers 8 _ (by decide +kernel) fun t hf y => ?_
  blk_simp
  rw [after0_8]
  obtain ⟨r, n, rfl⟩ : ∃ (r : Fin 176) (n : Fin 2048), y = ix2 r n := ⟨y 0, y 1, by funext k; fin_cases k <;> rfl⟩
  frame_out
  have b : t.val < 4 := t.isLt
  have e : (moment2 (ve m c) (own m c) (got m c) (ix2 ⟨t.val * 176 + r.val, by omega⟩ n) : EReal)
      = moment2 (ve m c) (own m c) (got m c) (((View.whole main_v0_3).slice (win0_8.rect t)).emb (ix2 r n)) := by
    have i := (idx t).2.2.2.2.2.2.2.2
    blk_ext <;> simp [i]
  refine Eq.trans ?_ e
  have q := second_congr (blk2 m c t r n) (grad_blk m c t r n)
  exact q

end Call

section Reference

open Cert.Reference15Ideal Cert.Reference15Ideal.Gen

theorem refg (p : FVec Ideal S1x704x2048 .bf16) (o : FVec Ideal S3x704x2048 .bf16) :
    addf (extf .f32 (shapeCast _ p shapeCasts_S1x704x2048_S704x2048) bitsLt_bf16_f32) (Host.reduceAdd (extf .f32 o bitsLt_bf16_f32) (constant S_ .f32 0x00000000#32) reducesTo_S3x704x2048_S704x2048_d0 h_S_)
      = grad p o := by
  funext y
  obtain ⟨r, n, rfl⟩ : ∃ (r : Fin 704) (n : Fin 2048), y = ix2 r n := ⟨y 0, y 1, by funext k; fin_cases k <;> rfl⟩
  unfold grad
  pointwise

end Reference

end AdamStep.Down
-- ==== Proof.Adam.Square.lean ====
/- The step of w_out, w_xq or w_xo: the call's four arrays, and the reference's gradient. -/
module

public import proofs.«01_k».proof.Proof.Adam.Step
public import proofs.«01_k».proof.Proof.Gen.Kernel16Ideal.Value
public import proofs.«01_k».proof.Proof.Gen.Reference16Ideal.Run

@[expose] public section

set_option maxRecDepth 16384

noncomputable section

namespace AdamStep.Square

open Idealize.ShloMosaic Idealize.ShloMosaic.TcCoe Idealize.SL.Sem

section Call

open Cert.Kernel16Ideal Cert.Kernel16Ideal.Gen

/-- The gradient: the device's own share and those of the three other chips. -/
def grad (p : FVec Ideal S1x256x2048 .bf16) (o : FVec Ideal S3x256x2048 .bf16) : FVec Ideal S256x2048 .f32 :=
  fun y => ((p (ix3 0 (y 0) (y 1)) : EReal) + ∑ j : Fin 3, (o (ix3 j (y 0) (y 1)) : EReal) : EReal)

theorem sum_at (x : FVec Ideal S1x256x2048 .bf16) (z : FVec Ideal S3x256x2048 .bf16) (r : Fin 256) (n : Fin 2048) :
    ((k0_pay2 x (View.ld z r0_1) (View.ld z r0_2) (View.ld z r0_3) : FVec Ideal S256x2048 .f32) (ix2 r n) : EReal)
      = (x (ix3 0 r n) : EReal) + ∑ j : Fin 3, (z (ix3 j r n) : EReal) := by
  have e1 : ((View.ld (Val := Elt Ideal) (e' := .bf16) z r0_1 : FVec Ideal S1x256x2048 .bf16) (ix3 0 r n) : EReal) = z (ix3 0 r n) := by
    refine congrArg z (funext fun k => Fin.ext ?_)
    fin_cases k <;> simp [LoadRect.idx_apply, Rect.unit]
  have e2 : ((View.ld (Val := Elt Ideal) (e' := .bf16) z r0_2 : FVec Ideal S1x256x2048 .bf16) (ix3 0 r n) : EReal) = z (ix3 1 r n) := by
    refine congrArg z (funext fun k => Fin.ext ?_)
    fin_cases k <;> simp [LoadRect.idx_apply, Rect.unit]
  have e3 : ((View.ld (Val := Elt Ideal) (e' := .bf16) z r0_3 : FVec Ideal S1x256x2048 .bf16) (ix3 0 r n) : EReal) = z (ix3 2 r n) := by
    refine congrArg z (funext fun k => Fin.ext ?_)
    fin_cases k <;> simp [LoadRect.idx_apply, Rect.unit]
  have h : ∀ a b c d : FVec Ideal S1x256x2048 .bf16, ((k0_pay2 a b c d : FVec Ideal S256x2048 .f32) (ix2 r n) : EReal)
      = (a (ix3 0 r n) : EReal) + (b (ix3 0 r n) : EReal) + (c (ix3 0 r n) : EReal) + (d (ix3 0 r n) : EReal) := by
    intro a b c d
    pointwise [k0_pay2]
  refine (h _ _ _ _).trans ?_
  rw [e1, e2, e3, Fin.sum_univ_three]
  simp only [add_assoc]

/-- The first moment after the step, the second, and the change of the weight. -/
def moment1 (m : FVec Ideal S256x2048 .f32) (p : FVec Ideal S1x256x2048 .bf16) (o : FVec Ideal S3x256x2048 .bf16) : FVec Ideal S256x2048 .f32 := fun y => (first (m y) (grad p o y) : EReal)
def moment2 (v : FVec Ideal S256x2048 .f32) (p : FVec Ideal S1x256x2048 .bf16) (o : FVec Ideal S3x256x2048 .bf16) : FVec Ideal S256x2048 .f32 := fun y => (second (v y) (grad p o y) : EReal)
def delta (w m v : FVec Ideal S256x2048 .f32) (p : FVec Ideal S1x256x2048 .bf16) (o : FVec Ideal S3x256x2048 .bf16) : FVec Ideal S256x2048 .f32 := fun y => (change (w y) (grad p o y) (m y) (v y) : EReal)

variable (m : (ℓ : Loc nD τ sig) → Buf (Elt Ideal) ℓ) (c : Dev nD)

abbrev wt : FVec Ideal S256x2048 .f32 := m ((c.tc : Thread nD τ).loc main_arg0)
abbrev mo : FVec Ideal S256x2048 .f32 := m ((c.tc : Thread nD τ).loc main_arg1)
abbrev ve : FVec Ideal S256x2048 .f32 := m ((c.tc : Thread nD τ).loc main_arg2)
abbrev own : FVec Ideal S1x256x2048 .bf16 := m ((c.tc : Thread nD τ).loc main_arg3)
abbrev got : FVec Ideal S3x256x2048 .bf16 := m ((c.tc : Thread nD τ).loc main_arg4)

theorem idx : ∀ t : Fin cfg0.N, win0_0.index t = ![t.val, 0] ∧ win0_1.index t = ![t.val, 0] ∧ win0_2.index t = ![t.val, 0] ∧ win0_3.index t = ![0, t.val, 0] ∧ win0_4.index t = ![0, t.val, 0] ∧ win0_5.index t = ![t.val, 0] ∧ win0_6.index t = ![t.val, 0] ∧ win0_7.index t = ![t.val, 0] ∧ win0_8.index t = ![t.val, 0] :=
  (by decide +kernel : ∀ t : Fin grid0.N, _)

theorem blk0 (t : Fin 1) (r : Fin 256) (n : Fin 2048) :
    ((iblk m c 0 t : FVec Ideal S256x2048 .f32) (ix2 r n) : EReal) = wt m c (ix2 ⟨t.val * 256 + r.val, by omega⟩ n) := by
  have i := (idx t).1
  unfold iblk
  blk_ext <;> simp [i]
theorem blk1 (t : Fin 1) (r : Fin 256) (n : Fin 2048) :
    ((iblk m c 1 t : FVec Ideal S256x2048 .f32) (ix2 r n) : EReal) = mo m c (ix2 ⟨t.val * 256 + r.val, by omega⟩ n) := by
  have i := (idx t).2.1
  unfold iblk
  blk_ext <;> simp [i]
theorem blk2 (t : Fin 1) (r : Fin 256) (n : Fin 2048) :
    ((iblk m c 2 t : FVec Ideal S256x2048 .f32) (ix2 r n) : EReal) = ve m c (ix2 ⟨t.val * 256 + r.val, by omega⟩ n) := by
  have i := (idx t).2.2.1
  unfold iblk
  blk_ext <;> simp [i]
theorem blk3 (t : Fin 1) (j : Fin 1) (r : Fin 256) (n : Fin 2048) :
    ((iblk m c 3 t : FVec Ideal S1x256x2048 .bf16) (ix3 j r n) : EReal) = own m c (ix3 j ⟨t.val * 256 + r.val, by omega⟩ n) := by
  have i := (idx t).2.2.2.1
  unfold iblk
  blk_ext <;> simp [i]
theorem blk4 (t : Fin 1) (j : Fin 3) (r : Fin 256) (n : Fin 2048) :
    ((iblk m c 4 t : FVec Ideal S3x256x2048 .bf16) (ix3 j r n) : EReal) = got m c (ix3 j ⟨t.val * 256 + r.val, by omega⟩ n) := by
  have i := (idx t).2.2.2.2.1
  unfold iblk
  blk_ext <;> simp [i]

/-- A block of the gradient. -/
theorem grad_blk (t : Fin 1) (r : Fin 256) (n : Fin 2048) :
    ((k0_pay2 (iblk m c 3 t) (View.ld (iblk m c 4 t) r0_1) (View.ld (iblk m c 4 t) r0_2) (View.ld (iblk m c 4 t) r0_3) : FVec Ideal S256x2048 .f32) (ix2 r n) : EReal)
      = grad (own m c) (got m c) (ix2 ⟨t.val * 256 + r.val, by omega⟩ n) :=
  (sum_at _ _ r n).trans (congrArg₂ (fun a b : EReal => a + b) (blk3 m c t 0 r n) (Finset.sum_congr rfl fun j _ => blk4 m c t j r n))

theorem arr5 : ((dats m 0 c).arrAt 5 cfg0.N : FVec Ideal S256x2048 .f32) = grad (own m c) (got m c) := by
  refine (dats m 0 c).arrAt_eq_of_covers 5 _ (by decide +kernel) fun t hf y => ?_
  blk_simp
  rw [after0_5]
  obtain ⟨r, n, rfl⟩ : ∃ (r : Fin 256) (n : Fin 2048), y = ix2 r n := ⟨y 0, y 1, by funext k; fin_cases k <;> rfl⟩
  frame_out
  have b : t.val < 1 := t.isLt
  have e : (grad (own m c) (got m c) (ix2 ⟨t.val * 256 + r.val, by omega⟩ n) : EReal)
      = grad (own m c) (got m c) (((View.whole main_v0_0).slice (win0_5.rect t)).emb (ix2 r n)) := by
    have i := (idx t).2.2.2.2.2.1
    blk_ext <;> simp [i]
  refine Eq.trans ?_ e
  have q := grad_blk m c t r n
  exact q

theorem arr6 : ((dats m 0 c).arrAt 6 cfg0.N : FVec Ideal S256x2048 .f32) = delta (wt m c) (mo m c) (ve m c) (own m c) (got m c) := by
  refine (dats m 0 c).arrAt_eq_of_covers 6 _ (by decide +kernel) fun t hf y => ?_
  blk_simp
  rw [after0_6]
  obtain ⟨r, n, rfl⟩ : ∃ (r : Fin 256) (n : Fin 2048), y = ix2 r n := ⟨y 0, y 1, by funext k; fin_cases k <;> rfl⟩
  frame_out
  have b : t.val < 1 := t.isLt
  have e : (delta (wt m c) (mo m c) (ve m c) (own m c) (got m c) (ix2 ⟨t.val * 256 + r.val, by omega⟩ n) : EReal)
      = delta (wt m c) (mo m c) (ve m c) (own m c) (got m c) (((View.whole main_v0_1).slice (win0_6.rect t)).emb (ix2 r n)) := by
    have i := (idx t).2.2.2.2.2.2.1
    blk_ext <;> simp [i]
  refine Eq.trans ?_ e
  have q := change_congr (blk0 m c t r n) (grad_blk m c t r n) (blk1 m c t r n) (blk2 m c t r n)
  exact q

theorem arr7 : ((dats m 0 c).arrAt 7 cfg0.N : FVec Ideal S256x2048 .f32) = moment1 (mo m c) (own m c) (got m c) := by
  refine (dats m 0 c).arrAt_eq_of_covers 7 _ (by decide +kernel) fun t hf y => ?_
  blk_simp
  rw [after0_7]
  obtain ⟨r, n, rfl⟩ : ∃ (r : Fin 256) (n : Fin 2048), y = ix2 r n := ⟨y 0, y 1, by funext k; fin_cases k <;> rfl⟩
  frame_out
  have b : t.val < 1 := t.isLt
  have e : (moment1 (mo m c) (own m c) (got m c) (ix2 ⟨t.val * 256 + r.val, by omega⟩ n) : EReal)
      = moment1 (mo m c) (own m c) (got m c) (((View.whole main_v0_2).slice (win0_7.rect t)).emb (ix2 r n)) := by
    have i := (idx t).2.2.2.2.2.2.2.1
    blk_ext <;> simp [i]
  refine Eq.trans ?_ e
  have q := first_congr (blk1 m c t r n) (grad_blk m c t r n)
  exact q

theorem arr8 : ((dats m 0 c).arrAt 8 cfg0.N : FVec Ideal S256x2048 .f32) = moment2 (ve m c) (own m c) (got m c) := by
  refine (dats m 0 c).arrAt_eq_of_covers 8 _ (by decide +kernel) fun t hf y => ?_
  blk_simp
  rw [after0_8]
  obtain ⟨r, n, rfl⟩ : ∃ (r : Fin 256) (n : Fin 2048), y = ix2 r n := ⟨y 0, y 1, by funext k; fin_cases k <;> rfl⟩
  frame_out
  have b : t.val < 1 := t.isLt
  have e : (moment2 (ve m c) (own m c) (got m c) (ix2 ⟨t.val * 256 + r.val, by omega⟩ n) : EReal)
      = moment2 (ve m c) (own m c) (got m c) (((View.whole main_v0_3).slice (win0_8.rect t)).emb (ix2 r n)) := by
    have i := (idx t).2.2.2.2.2.2.2.2
    blk_ext <;> simp [i]
  refine Eq.trans ?_ e
  have q := second_congr (blk2 m c t r n) (grad_blk m c t r n)
  exact q

end Call

section Reference

open Cert.Reference16Ideal Cert.Reference16Ideal.Gen

theorem refg (p : FVec Ideal S1x256x2048 .bf16) (o : FVec Ideal S3x256x2048 .bf16) :
    addf (extf .f32 (shapeCast _ p shapeCasts_S1x256x2048_S256x2048) bitsLt_bf16_f32) (Host.reduceAdd (extf .f32 o bitsLt_bf16_f32) (constant S_ .f32 0x00000000#32) reducesTo_S3x256x2048_S256x2048_d0 h_S_)
      = grad p o := by
  funext y
  obtain ⟨r, n, rfl⟩ : ∃ (r : Fin 256) (n : Fin 2048), y = ix2 r n := ⟨y 0, y 1, by funext k; fin_cases k <;> rfl⟩
  unfold grad
  pointwise

end Reference

end AdamStep.Square
-- ==== Proof.Adam.Inputs.lean ====
/- The step of w_in: the call's four arrays, and the reference's gradient. -/
module

public import proofs.«01_k».proof.Proof.Adam.Step
public import proofs.«01_k».proof.Proof.Gen.Kernel17Ideal.Value
public import proofs.«01_k».proof.Proof.Gen.Reference17Ideal.Run

@[expose] public section

set_option maxRecDepth 16384

noncomputable section

namespace AdamStep.Inputs

open Idealize.ShloMosaic Idealize.ShloMosaic.TcCoe Idealize.SL.Sem

section Call

open Cert.Kernel17Ideal Cert.Kernel17Ideal.Gen

/-- The gradient: the device's own share and those of the three other chips. -/
def grad (p : FVec Ideal S1x2048x580 .bf16) (o : FVec Ideal S3x2048x580 .bf16) : FVec Ideal S2048x580 .f32 :=
  fun y => ((p (ix3 0 (y 0) (y 1)) : EReal) + ∑ j : Fin 3, (o (ix3 j (y 0) (y 1)) : EReal) : EReal)

theorem sum_at (x : FVec Ideal S1x512x580 .bf16) (z : FVec Ideal S3x512x580 .bf16) (r : Fin 512) (n : Fin 580) :
    ((k0_pay2 x (View.ld z r0_1) (View.ld z r0_2) (View.ld z r0_3) : FVec Ideal S512x580 .f32) (ix2 r n) : EReal)
      = (x (ix3 0 r n) : EReal) + ∑ j : Fin 3, (z (ix3 j r n) : EReal) := by
  have e1 : ((View.ld (Val := Elt Ideal) (e' := .bf16) z r0_1 : FVec Ideal S1x512x580 .bf16) (ix3 0 r n) : EReal) = z (ix3 0 r n) := by
    refine congrArg z (funext fun k => Fin.ext ?_)
    fin_cases k <;> simp [LoadRect.idx_apply, Rect.unit]
  have e2 : ((View.ld (Val := Elt Ideal) (e' := .bf16) z r0_2 : FVec Ideal S1x512x580 .bf16) (ix3 0 r n) : EReal) = z (ix3 1 r n) := by
    refine congrArg z (funext fun k => Fin.ext ?_)
    fin_cases k <;> simp [LoadRect.idx_apply, Rect.unit]
  have e3 : ((View.ld (Val := Elt Ideal) (e' := .bf16) z r0_3 : FVec Ideal S1x512x580 .bf16) (ix3 0 r n) : EReal) = z (ix3 2 r n) := by
    refine congrArg z (funext fun k => Fin.ext ?_)
    fin_cases k <;> simp [LoadRect.idx_apply, Rect.unit]
  have h : ∀ a b c d : FVec Ideal S1x512x580 .bf16, ((k0_pay2 a b c d : FVec Ideal S512x580 .f32) (ix2 r n) : EReal)
      = (a (ix3 0 r n) : EReal) + (b (ix3 0 r n) : EReal) + (c (ix3 0 r n) : EReal) + (d (ix3 0 r n) : EReal) := by
    intro a b c d
    pointwise [k0_pay2]
  refine (h _ _ _ _).trans ?_
  rw [e1, e2, e3, Fin.sum_univ_three]
  simp only [add_assoc]

/-- The first moment after the step, the second, and the change of the weight. -/
def moment1 (m : FVec Ideal S2048x580 .f32) (p : FVec Ideal S1x2048x580 .bf16) (o : FVec Ideal S3x2048x580 .bf16) : FVec Ideal S2048x580 .f32 := fun y => (first (m y) (grad p o y) : EReal)
def moment2 (v : FVec Ideal S2048x580 .f32) (p : FVec Ideal S1x2048x580 .bf16) (o : FVec Ideal S3x2048x580 .bf16) : FVec Ideal S2048x580 .f32 := fun y => (second (v y) (grad p o y) : EReal)
def delta (w m v : FVec Ideal S2048x580 .f32) (p : FVec Ideal S1x2048x580 .bf16) (o : FVec Ideal S3x2048x580 .bf16) : FVec Ideal S2048x580 .f32 := fun y => (change (w y) (grad p o y) (m y) (v y) : EReal)

variable (m : (ℓ : Loc nD τ sig) → Buf (Elt Ideal) ℓ) (c : Dev nD)

abbrev wt : FVec Ideal S2048x580 .f32 := m ((c.tc : Thread nD τ).loc main_arg0)
abbrev mo : FVec Ideal S2048x580 .f32 := m ((c.tc : Thread nD τ).loc main_arg1)
abbrev ve : FVec Ideal S2048x580 .f32 := m ((c.tc : Thread nD τ).loc main_arg2)
abbrev own : FVec Ideal S1x2048x580 .bf16 := m ((c.tc : Thread nD τ).loc main_arg3)
abbrev got : FVec Ideal S3x2048x580 .bf16 := m ((c.tc : Thread nD τ).loc main_arg4)

theorem idx : ∀ t : Fin cfg0.N, win0_0.index t = ![t.val, 0] ∧ win0_1.index t = ![t.val, 0] ∧ win0_2.index t = ![t.val, 0] ∧ win0_3.index t = ![0, t.val, 0] ∧ win0_4.index t = ![0, t.val, 0] ∧ win0_5.index t = ![t.val, 0] ∧ win0_6.index t = ![t.val, 0] ∧ win0_7.index t = ![t.val, 0] ∧ win0_8.index t = ![t.val, 0] :=
  (by decide +kernel : ∀ t : Fin grid0.N, _)

theorem blk0 (t : Fin 4) (r : Fin 512) (n : Fin 580) :
    ((iblk m c 0 t : FVec Ideal S512x580 .f32) (ix2 r n) : EReal) = wt m c (ix2 ⟨t.val * 512 + r.val, by omega⟩ n) := by
  have i := (idx t).1
  unfold iblk
  blk_ext <;> simp [i]
theorem blk1 (t : Fin 4) (r : Fin 512) (n : Fin 580) :
    ((iblk m c 1 t : FVec Ideal S512x580 .f32) (ix2 r n) : EReal) = mo m c (ix2 ⟨t.val * 512 + r.val, by omega⟩ n) := by
  have i := (idx t).2.1
  unfold iblk
  blk_ext <;> simp [i]
theorem blk2 (t : Fin 4) (r : Fin 512) (n : Fin 580) :
    ((iblk m c 2 t : FVec Ideal S512x580 .f32) (ix2 r n) : EReal) = ve m c (ix2 ⟨t.val * 512 + r.val, by omega⟩ n) := by
  have i := (idx t).2.2.1
  unfold iblk
  blk_ext <;> simp [i]
theorem blk3 (t : Fin 4) (j : Fin 1) (r : Fin 512) (n : Fin 580) :
    ((iblk m c 3 t : FVec Ideal S1x512x580 .bf16) (ix3 j r n) : EReal) = own m c (ix3 j ⟨t.val * 512 + r.val, by omega⟩ n) := by
  have i := (idx t).2.2.2.1
  unfold iblk
  blk_ext <;> simp [i]
theorem blk4 (t : Fin 4) (j : Fin 3) (r : Fin 512) (n : Fin 580) :
    ((iblk m c 4 t : FVec Ideal S3x512x580 .bf16) (ix3 j r n) : EReal) = got m c (ix3 j ⟨t.val * 512 + r.val, by omega⟩ n) := by
  have i := (idx t).2.2.2.2.1
  unfold iblk
  blk_ext <;> simp [i]

/-- A block of the gradient. -/
theorem grad_blk (t : Fin 4) (r : Fin 512) (n : Fin 580) :
    ((k0_pay2 (iblk m c 3 t) (View.ld (iblk m c 4 t) r0_1) (View.ld (iblk m c 4 t) r0_2) (View.ld (iblk m c 4 t) r0_3) : FVec Ideal S512x580 .f32) (ix2 r n) : EReal)
      = grad (own m c) (got m c) (ix2 ⟨t.val * 512 + r.val, by omega⟩ n) :=
  (sum_at _ _ r n).trans (congrArg₂ (fun a b : EReal => a + b) (blk3 m c t 0 r n) (Finset.sum_congr rfl fun j _ => blk4 m c t j r n))

theorem arr5 : ((dats m 0 c).arrAt 5 cfg0.N : FVec Ideal S2048x580 .f32) = grad (own m c) (got m c) := by
  refine (dats m 0 c).arrAt_eq_of_covers 5 _ (by decide +kernel) fun t hf y => ?_
  blk_simp
  rw [after0_5]
  obtain ⟨r, n, rfl⟩ : ∃ (r : Fin 512) (n : Fin 580), y = ix2 r n := ⟨y 0, y 1, by funext k; fin_cases k <;> rfl⟩
  frame_out
  have b : t.val < 4 := t.isLt
  have e : (grad (own m c) (got m c) (ix2 ⟨t.val * 512 + r.val, by omega⟩ n) : EReal)
      = grad (own m c) (got m c) (((View.whole main_v0_0).slice (win0_5.rect t)).emb (ix2 r n)) := by
    have i := (idx t).2.2.2.2.2.1
    blk_ext <;> simp [i]
  refine Eq.trans ?_ e
  have q := grad_blk m c t r n
  exact q

theorem arr6 : ((dats m 0 c).arrAt 6 cfg0.N : FVec Ideal S2048x580 .f32) = delta (wt m c) (mo m c) (ve m c) (own m c) (got m c) := by
  refine (dats m 0 c).arrAt_eq_of_covers 6 _ (by decide +kernel) fun t hf y => ?_
  blk_simp
  rw [after0_6]
  obtain ⟨r, n, rfl⟩ : ∃ (r : Fin 512) (n : Fin 580), y = ix2 r n := ⟨y 0, y 1, by funext k; fin_cases k <;> rfl⟩
  frame_out
  have b : t.val < 4 := t.isLt
  have e : (delta (wt m c) (mo m c) (ve m c) (own m c) (got m c) (ix2 ⟨t.val * 512 + r.val, by omega⟩ n) : EReal)
      = delta (wt m c) (mo m c) (ve m c) (own m c) (got m c) (((View.whole main_v0_1).slice (win0_6.rect t)).emb (ix2 r n)) := by
    have i := (idx t).2.2.2.2.2.2.1
    blk_ext <;> simp [i]
  refine Eq.trans ?_ e
  have q := change_congr (blk0 m c t r n) (grad_blk m c t r n) (blk1 m c t r n) (blk2 m c t r n)
  exact q

theorem arr7 : ((dats m 0 c).arrAt 7 cfg0.N : FVec Ideal S2048x580 .f32) = moment1 (mo m c) (own m c) (got m c) := by
  refine (dats m 0 c).arrAt_eq_of_covers 7 _ (by decide +kernel) fun t hf y => ?_
  blk_simp
  rw [after0_7]
  obtain ⟨r, n, rfl⟩ : ∃ (r : Fin 512) (n : Fin 580), y = ix2 r n := ⟨y 0, y 1, by funext k; fin_cases k <;> rfl⟩
  frame_out
  have b : t.val < 4 := t.isLt
  have e : (moment1 (mo m c) (own m c) (got m c) (ix2 ⟨t.val * 512 + r.val, by omega⟩ n) : EReal)
      = moment1 (mo m c) (own m c) (got m c) (((View.whole main_v0_2).slice (win0_7.rect t)).emb (ix2 r n)) := by
    have i := (idx t).2.2.2.2.2.2.2.1
    blk_ext <;> simp [i]
  refine Eq.trans ?_ e
  have q := first_congr (blk1 m c t r n) (grad_blk m c t r n)
  exact q

theorem arr8 : ((dats m 0 c).arrAt 8 cfg0.N : FVec Ideal S2048x580 .f32) = moment2 (ve m c) (own m c) (got m c) := by
  refine (dats m 0 c).arrAt_eq_of_covers 8 _ (by decide +kernel) fun t hf y => ?_
  blk_simp
  rw [after0_8]
  obtain ⟨r, n, rfl⟩ : ∃ (r : Fin 512) (n : Fin 580), y = ix2 r n := ⟨y 0, y 1, by funext k; fin_cases k <;> rfl⟩
  frame_out
  have b : t.val < 4 := t.isLt
  have e : (moment2 (ve m c) (own m c) (got m c) (ix2 ⟨t.val * 512 + r.val, by omega⟩ n) : EReal)
      = moment2 (ve m c) (own m c) (got m c) (((View.whole main_v0_3).slice (win0_8.rect t)).emb (ix2 r n)) := by
    have i := (idx t).2.2.2.2.2.2.2.2
    blk_ext <;> simp [i]
  refine Eq.trans ?_ e
  have q := second_congr (blk2 m c t r n) (grad_blk m c t r n)
  exact q

end Call

section Reference

open Cert.Reference17Ideal Cert.Reference17Ideal.Gen

theorem refg (p : FVec Ideal S1x2048x580 .bf16) (o : FVec Ideal S3x2048x580 .bf16) :
    addf (extf .f32 (shapeCast _ p shapeCasts_S1x2048x580_S2048x580) bitsLt_bf16_f32) (Host.reduceAdd (extf .f32 o bitsLt_bf16_f32) (constant S_ .f32 0x00000000#32) reducesTo_S3x2048x580_S2048x580_d0 h_S_)
      = grad p o := by
  funext y
  obtain ⟨r, n, rfl⟩ : ∃ (r : Fin 2048) (n : Fin 580), y = ix2 r n := ⟨y 0, y 1, by funext k; fin_cases k <;> rfl⟩
  unfold grad
  pointwise

end Reference

end AdamStep.Inputs
-- ==== Proof.Adam.Memory.lean ====
/- The step of w_xkv: the call's four arrays, and the reference's gradient. -/
module

public import proofs.«01_k».proof.Proof.Adam.Step
public import proofs.«01_k».proof.Proof.Gen.Kernel18Ideal.Value
public import proofs.«01_k».proof.Proof.Gen.Reference18Ideal.Run

@[expose] public section

set_option maxRecDepth 16384

noncomputable section

namespace AdamStep.Memory

open Idealize.ShloMosaic Idealize.ShloMosaic.TcCoe Idealize.SL.Sem

section Call

open Cert.Kernel18Ideal Cert.Kernel18Ideal.Gen

/-- The gradient: the device's own share and those of the three other chips. -/
def grad (p : FVec Ideal S1x2048x512 .bf16) (o : FVec Ideal S3x2048x512 .bf16) : FVec Ideal S2048x512 .f32 :=
  fun y => ((p (ix3 0 (y 0) (y 1)) : EReal) + ∑ j : Fin 3, (o (ix3 j (y 0) (y 1)) : EReal) : EReal)

theorem sum_at (x : FVec Ideal S1x1024x512 .bf16) (z : FVec Ideal S3x1024x512 .bf16) (r : Fin 1024) (n : Fin 512) :
    ((k0_pay2 x (View.ld z r0_1) (View.ld z r0_2) (View.ld z r0_3) : FVec Ideal S1024x512 .f32) (ix2 r n) : EReal)
      = (x (ix3 0 r n) : EReal) + ∑ j : Fin 3, (z (ix3 j r n) : EReal) := by
  have e1 : ((View.ld (Val := Elt Ideal) (e' := .bf16) z r0_1 : FVec Ideal S1x1024x512 .bf16) (ix3 0 r n) : EReal) = z (ix3 0 r n) := by
    refine congrArg z (funext fun k => Fin.ext ?_)
    fin_cases k <;> simp [LoadRect.idx_apply, Rect.unit]
  have e2 : ((View.ld (Val := Elt Ideal) (e' := .bf16) z r0_2 : FVec Ideal S1x1024x512 .bf16) (ix3 0 r n) : EReal) = z (ix3 1 r n) := by
    refine congrArg z (funext fun k => Fin.ext ?_)
    fin_cases k <;> simp [LoadRect.idx_apply, Rect.unit]
  have e3 : ((View.ld (Val := Elt Ideal) (e' := .bf16) z r0_3 : FVec Ideal S1x1024x512 .bf16) (ix3 0 r n) : EReal) = z (ix3 2 r n) := by
    refine congrArg z (funext fun k => Fin.ext ?_)
    fin_cases k <;> simp [LoadRect.idx_apply, Rect.unit]
  have h : ∀ a b c d : FVec Ideal S1x1024x512 .bf16, ((k0_pay2 a b c d : FVec Ideal S1024x512 .f32) (ix2 r n) : EReal)
      = (a (ix3 0 r n) : EReal) + (b (ix3 0 r n) : EReal) + (c (ix3 0 r n) : EReal) + (d (ix3 0 r n) : EReal) := by
    intro a b c d
    pointwise [k0_pay2]
  refine (h _ _ _ _).trans ?_
  rw [e1, e2, e3, Fin.sum_univ_three]
  simp only [add_assoc]

/-- The first moment after the step, the second, and the change of the weight. -/
def moment1 (m : FVec Ideal S2048x512 .f32) (p : FVec Ideal S1x2048x512 .bf16) (o : FVec Ideal S3x2048x512 .bf16) : FVec Ideal S2048x512 .f32 := fun y => (first (m y) (grad p o y) : EReal)
def moment2 (v : FVec Ideal S2048x512 .f32) (p : FVec Ideal S1x2048x512 .bf16) (o : FVec Ideal S3x2048x512 .bf16) : FVec Ideal S2048x512 .f32 := fun y => (second (v y) (grad p o y) : EReal)
def delta (w m v : FVec Ideal S2048x512 .f32) (p : FVec Ideal S1x2048x512 .bf16) (o : FVec Ideal S3x2048x512 .bf16) : FVec Ideal S2048x512 .f32 := fun y => (change (w y) (grad p o y) (m y) (v y) : EReal)

variable (m : (ℓ : Loc nD τ sig) → Buf (Elt Ideal) ℓ) (c : Dev nD)

abbrev wt : FVec Ideal S2048x512 .f32 := m ((c.tc : Thread nD τ).loc main_arg0)
abbrev mo : FVec Ideal S2048x512 .f32 := m ((c.tc : Thread nD τ).loc main_arg1)
abbrev ve : FVec Ideal S2048x512 .f32 := m ((c.tc : Thread nD τ).loc main_arg2)
abbrev own : FVec Ideal S1x2048x512 .bf16 := m ((c.tc : Thread nD τ).loc main_arg3)
abbrev got : FVec Ideal S3x2048x512 .bf16 := m ((c.tc : Thread nD τ).loc main_arg4)

theorem idx : ∀ t : Fin cfg0.N, win0_0.index t = ![t.val, 0] ∧ win0_1.index t = ![t.val, 0] ∧ win0_2.index t = ![t.val, 0] ∧ win0_3.index t = ![0, t.val, 0] ∧ win0_4.index t = ![0, t.val, 0] ∧ win0_5.index t = ![t.val, 0] ∧ win0_6.index t = ![t.val, 0] ∧ win0_7.index t = ![t.val, 0] ∧ win0_8.index t = ![t.val, 0] :=
  (by decide +kernel : ∀ t : Fin grid0.N, _)

theorem blk0 (t : Fin 2) (r : Fin 1024) (n : Fin 512) :
    ((iblk m c 0 t : FVec Ideal S1024x512 .f32) (ix2 r n) : EReal) = wt m c (ix2 ⟨t.val * 1024 + r.val, by omega⟩ n) := by
  have i := (idx t).1
  unfold iblk
  blk_ext <;> simp [i]
theorem blk1 (t : Fin 2) (r : Fin 1024) (n : Fin 512) :
    ((iblk m c 1 t : FVec Ideal S1024x512 .f32) (ix2 r n) : EReal) = mo m c (ix2 ⟨t.val * 1024 + r.val, by omega⟩ n) := by
  have i := (idx t).2.1
  unfold iblk
  blk_ext <;> simp [i]
theorem blk2 (t : Fin 2) (r : Fin 1024) (n : Fin 512) :
    ((iblk m c 2 t : FVec Ideal S1024x512 .f32) (ix2 r n) : EReal) = ve m c (ix2 ⟨t.val * 1024 + r.val, by omega⟩ n) := by
  have i := (idx t).2.2.1
  unfold iblk
  blk_ext <;> simp [i]
theorem blk3 (t : Fin 2) (j : Fin 1) (r : Fin 1024) (n : Fin 512) :
    ((iblk m c 3 t : FVec Ideal S1x1024x512 .bf16) (ix3 j r n) : EReal) = own m c (ix3 j ⟨t.val * 1024 + r.val, by omega⟩ n) := by
  have i := (idx t).2.2.2.1
  unfold iblk
  blk_ext <;> simp [i]
theorem blk4 (t : Fin 2) (j : Fin 3) (r : Fin 1024) (n : Fin 512) :
    ((iblk m c 4 t : FVec Ideal S3x1024x512 .bf16) (ix3 j r n) : EReal) = got m c (ix3 j ⟨t.val * 1024 + r.val, by omega⟩ n) := by
  have i := (idx t).2.2.2.2.1
  unfold iblk
  blk_ext <;> simp [i]

/-- A block of the gradient. -/
theorem grad_blk (t : Fin 2) (r : Fin 1024) (n : Fin 512) :
    ((k0_pay2 (iblk m c 3 t) (View.ld (iblk m c 4 t) r0_1) (View.ld (iblk m c 4 t) r0_2) (View.ld (iblk m c 4 t) r0_3) : FVec Ideal S1024x512 .f32) (ix2 r n) : EReal)
      = grad (own m c) (got m c) (ix2 ⟨t.val * 1024 + r.val, by omega⟩ n) :=
  (sum_at _ _ r n).trans (congrArg₂ (fun a b : EReal => a + b) (blk3 m c t 0 r n) (Finset.sum_congr rfl fun j _ => blk4 m c t j r n))

theorem arr5 : ((dats m 0 c).arrAt 5 cfg0.N : FVec Ideal S2048x512 .f32) = grad (own m c) (got m c) := by
  refine (dats m 0 c).arrAt_eq_of_covers 5 _ (by decide +kernel) fun t hf y => ?_
  blk_simp
  rw [after0_5]
  obtain ⟨r, n, rfl⟩ : ∃ (r : Fin 1024) (n : Fin 512), y = ix2 r n := ⟨y 0, y 1, by funext k; fin_cases k <;> rfl⟩
  frame_out
  have b : t.val < 2 := t.isLt
  have e : (grad (own m c) (got m c) (ix2 ⟨t.val * 1024 + r.val, by omega⟩ n) : EReal)
      = grad (own m c) (got m c) (((View.whole main_v0_0).slice (win0_5.rect t)).emb (ix2 r n)) := by
    have i := (idx t).2.2.2.2.2.1
    blk_ext <;> simp [i]
  refine Eq.trans ?_ e
  have q := grad_blk m c t r n
  exact q

theorem arr6 : ((dats m 0 c).arrAt 6 cfg0.N : FVec Ideal S2048x512 .f32) = delta (wt m c) (mo m c) (ve m c) (own m c) (got m c) := by
  refine (dats m 0 c).arrAt_eq_of_covers 6 _ (by decide +kernel) fun t hf y => ?_
  blk_simp
  rw [after0_6]
  obtain ⟨r, n, rfl⟩ : ∃ (r : Fin 1024) (n : Fin 512), y = ix2 r n := ⟨y 0, y 1, by funext k; fin_cases k <;> rfl⟩
  frame_out
  have b : t.val < 2 := t.isLt
  have e : (delta (wt m c) (mo m c) (ve m c) (own m c) (got m c) (ix2 ⟨t.val * 1024 + r.val, by omega⟩ n) : EReal)
      = delta (wt m c) (mo m c) (ve m c) (own m c) (got m c) (((View.whole main_v0_1).slice (win0_6.rect t)).emb (ix2 r n)) := by
    have i := (idx t).2.2.2.2.2.2.1
    blk_ext <;> simp [i]
  refine Eq.trans ?_ e
  have q := change_congr (blk0 m c t r n) (grad_blk m c t r n) (blk1 m c t r n) (blk2 m c t r n)
  exact q

theorem arr7 : ((dats m 0 c).arrAt 7 cfg0.N : FVec Ideal S2048x512 .f32) = moment1 (mo m c) (own m c) (got m c) := by
  refine (dats m 0 c).arrAt_eq_of_covers 7 _ (by decide +kernel) fun t hf y => ?_
  blk_simp
  rw [after0_7]
  obtain ⟨r, n, rfl⟩ : ∃ (r : Fin 1024) (n : Fin 512), y = ix2 r n := ⟨y 0, y 1, by funext k; fin_cases k <;> rfl⟩
  frame_out
  have b : t.val < 2 := t.isLt
  have e : (moment1 (mo m c) (own m c) (got m c) (ix2 ⟨t.val * 1024 + r.val, by omega⟩ n) : EReal)
      = moment1 (mo m c) (own m c) (got m c) (((View.whole main_v0_2).slice (win0_7.rect t)).emb (ix2 r n)) := by
    have i := (idx t).2.2.2.2.2.2.2.1
    blk_ext <;> simp [i]
  refine Eq.trans ?_ e
  have q := first_congr (blk1 m c t r n) (grad_blk m c t r n)
  exact q

theorem arr8 : ((dats m 0 c).arrAt 8 cfg0.N : FVec Ideal S2048x512 .f32) = moment2 (ve m c) (own m c) (got m c) := by
  refine (dats m 0 c).arrAt_eq_of_covers 8 _ (by decide +kernel) fun t hf y => ?_
  blk_simp
  rw [after0_8]
  obtain ⟨r, n, rfl⟩ : ∃ (r : Fin 1024) (n : Fin 512), y = ix2 r n := ⟨y 0, y 1, by funext k; fin_cases k <;> rfl⟩
  frame_out
  have b : t.val < 2 := t.isLt
  have e : (moment2 (ve m c) (own m c) (got m c) (ix2 ⟨t.val * 1024 + r.val, by omega⟩ n) : EReal)
      = moment2 (ve m c) (own m c) (got m c) (((View.whole main_v0_3).slice (win0_8.rect t)).emb (ix2 r n)) := by
    have i := (idx t).2.2.2.2.2.2.2.2
    blk_ext <;> simp [i]
  refine Eq.trans ?_ e
  have q := second_congr (blk2 m c t r n) (grad_blk m c t r n)
  exact q

end Call

section Reference

open Cert.Reference18Ideal Cert.Reference18Ideal.Gen

theorem refg (p : FVec Ideal S1x2048x512 .bf16) (o : FVec Ideal S3x2048x512 .bf16) :
    addf (extf .f32 (shapeCast _ p shapeCasts_S1x2048x512_S2048x512) bitsLt_bf16_f32) (Host.reduceAdd (extf .f32 o bitsLt_bf16_f32) (constant S_ .f32 0x00000000#32) reducesTo_S3x2048x512_S2048x512_d0 h_S_)
      = grad p o := by
  funext y
  obtain ⟨r, n, rfl⟩ : ∃ (r : Fin 2048) (n : Fin 512), y = ix2 r n := ⟨y 0, y 1, by funext k; fin_cases k <;> rfl⟩
  unfold grad
  pointwise

end Reference

end AdamStep.Memory
-- ==== Proof.Adam.LowRank.lean ====
/- The step of rw_decay_up or rw_aaa_up: the call's four arrays, and the reference's gradient. -/
module

public import proofs.«01_k».proof.Proof.Adam.Step
public import proofs.«01_k».proof.Proof.Gen.Kernel19Ideal.Value
public import proofs.«01_k».proof.Proof.Gen.Reference19Ideal.Run

@[expose] public section

set_option maxRecDepth 16384

noncomputable section

namespace AdamStep.LowRank

open Idealize.ShloMosaic Idealize.ShloMosaic.TcCoe Idealize.SL.Sem

section Call

open Cert.Kernel19Ideal Cert.Kernel19Ideal.Gen

/-- The gradient: the device's own share and those of the three other chips. -/
def grad (p : FVec Ideal S1x64x128 .bf16) (o : FVec Ideal S3x64x128 .bf16) : FVec Ideal S64x128 .f32 :=
  fun y => ((p (ix3 0 (y 0) (y 1)) : EReal) + ∑ j : Fin 3, (o (ix3 j (y 0) (y 1)) : EReal) : EReal)

theorem sum_at (x : FVec Ideal S1x64x128 .bf16) (z : FVec Ideal S3x64x128 .bf16) (r : Fin 64) (n : Fin 128) :
    ((k0_pay2 x (View.ld z r0_1) (View.ld z r0_2) (View.ld z r0_3) : FVec Ideal S64x128 .f32) (ix2 r n) : EReal)
      = (x (ix3 0 r n) : EReal) + ∑ j : Fin 3, (z (ix3 j r n) : EReal) := by
  have e1 : ((View.ld (Val := Elt Ideal) (e' := .bf16) z r0_1 : FVec Ideal S1x64x128 .bf16) (ix3 0 r n) : EReal) = z (ix3 0 r n) := by
    refine congrArg z (funext fun k => Fin.ext ?_)
    fin_cases k <;> simp [LoadRect.idx_apply, Rect.unit]
  have e2 : ((View.ld (Val := Elt Ideal) (e' := .bf16) z r0_2 : FVec Ideal S1x64x128 .bf16) (ix3 0 r n) : EReal) = z (ix3 1 r n) := by
    refine congrArg z (funext fun k => Fin.ext ?_)
    fin_cases k <;> simp [LoadRect.idx_apply, Rect.unit]
  have e3 : ((View.ld (Val := Elt Ideal) (e' := .bf16) z r0_3 : FVec Ideal S1x64x128 .bf16) (ix3 0 r n) : EReal) = z (ix3 2 r n) := by
    refine congrArg z (funext fun k => Fin.ext ?_)
    fin_cases k <;> simp [LoadRect.idx_apply, Rect.unit]
  have h : ∀ a b c d : FVec Ideal S1x64x128 .bf16, ((k0_pay2 a b c d : FVec Ideal S64x128 .f32) (ix2 r n) : EReal)
      = (a (ix3 0 r n) : EReal) + (b (ix3 0 r n) : EReal) + (c (ix3 0 r n) : EReal) + (d (ix3 0 r n) : EReal) := by
    intro a b c d
    pointwise [k0_pay2]
  refine (h _ _ _ _).trans ?_
  rw [e1, e2, e3, Fin.sum_univ_three]
  simp only [add_assoc]

/-- The first moment after the step, the second, and the change of the weight. -/
def moment1 (m : FVec Ideal S64x128 .f32) (p : FVec Ideal S1x64x128 .bf16) (o : FVec Ideal S3x64x128 .bf16) : FVec Ideal S64x128 .f32 := fun y => (first (m y) (grad p o y) : EReal)
def moment2 (v : FVec Ideal S64x128 .f32) (p : FVec Ideal S1x64x128 .bf16) (o : FVec Ideal S3x64x128 .bf16) : FVec Ideal S64x128 .f32 := fun y => (second (v y) (grad p o y) : EReal)
def delta (w m v : FVec Ideal S64x128 .f32) (p : FVec Ideal S1x64x128 .bf16) (o : FVec Ideal S3x64x128 .bf16) : FVec Ideal S64x128 .f32 := fun y => (change (w y) (grad p o y) (m y) (v y) : EReal)

variable (m : (ℓ : Loc nD τ sig) → Buf (Elt Ideal) ℓ) (c : Dev nD)

abbrev wt : FVec Ideal S64x128 .f32 := m ((c.tc : Thread nD τ).loc main_arg0)
abbrev mo : FVec Ideal S64x128 .f32 := m ((c.tc : Thread nD τ).loc main_arg1)
abbrev ve : FVec Ideal S64x128 .f32 := m ((c.tc : Thread nD τ).loc main_arg2)
abbrev own : FVec Ideal S1x64x128 .bf16 := m ((c.tc : Thread nD τ).loc main_arg3)
abbrev got : FVec Ideal S3x64x128 .bf16 := m ((c.tc : Thread nD τ).loc main_arg4)

theorem idx : ∀ t : Fin cfg0.N, win0_0.index t = ![t.val, 0] ∧ win0_1.index t = ![t.val, 0] ∧ win0_2.index t = ![t.val, 0] ∧ win0_3.index t = ![0, t.val, 0] ∧ win0_4.index t = ![0, t.val, 0] ∧ win0_5.index t = ![t.val, 0] ∧ win0_6.index t = ![t.val, 0] ∧ win0_7.index t = ![t.val, 0] ∧ win0_8.index t = ![t.val, 0] :=
  (by decide +kernel : ∀ t : Fin grid0.N, _)

theorem blk0 (t : Fin 1) (r : Fin 64) (n : Fin 128) :
    ((iblk m c 0 t : FVec Ideal S64x128 .f32) (ix2 r n) : EReal) = wt m c (ix2 ⟨t.val * 64 + r.val, by omega⟩ n) := by
  have i := (idx t).1
  unfold iblk
  blk_ext <;> simp [i]
theorem blk1 (t : Fin 1) (r : Fin 64) (n : Fin 128) :
    ((iblk m c 1 t : FVec Ideal S64x128 .f32) (ix2 r n) : EReal) = mo m c (ix2 ⟨t.val * 64 + r.val, by omega⟩ n) := by
  have i := (idx t).2.1
  unfold iblk
  blk_ext <;> simp [i]
theorem blk2 (t : Fin 1) (r : Fin 64) (n : Fin 128) :
    ((iblk m c 2 t : FVec Ideal S64x128 .f32) (ix2 r n) : EReal) = ve m c (ix2 ⟨t.val * 64 + r.val, by omega⟩ n) := by
  have i := (idx t).2.2.1
  unfold iblk
  blk_ext <;> simp [i]
theorem blk3 (t : Fin 1) (j : Fin 1) (r : Fin 64) (n : Fin 128) :
    ((iblk m c 3 t : FVec Ideal S1x64x128 .bf16) (ix3 j r n) : EReal) = own m c (ix3 j ⟨t.val * 64 + r.val, by omega⟩ n) := by
  have i := (idx t).2.2.2.1
  unfold iblk
  blk_ext <;> simp [i]
theorem blk4 (t : Fin 1) (j : Fin 3) (r : Fin 64) (n : Fin 128) :
    ((iblk m c 4 t : FVec Ideal S3x64x128 .bf16) (ix3 j r n) : EReal) = got m c (ix3 j ⟨t.val * 64 + r.val, by omega⟩ n) := by
  have i := (idx t).2.2.2.2.1
  unfold iblk
  blk_ext <;> simp [i]

/-- A block of the gradient. -/
theorem grad_blk (t : Fin 1) (r : Fin 64) (n : Fin 128) :
    ((k0_pay2 (iblk m c 3 t) (View.ld (iblk m c 4 t) r0_1) (View.ld (iblk m c 4 t) r0_2) (View.ld (iblk m c 4 t) r0_3) : FVec Ideal S64x128 .f32) (ix2 r n) : EReal)
      = grad (own m c) (got m c) (ix2 ⟨t.val * 64 + r.val, by omega⟩ n) :=
  (sum_at _ _ r n).trans (congrArg₂ (fun a b : EReal => a + b) (blk3 m c t 0 r n) (Finset.sum_congr rfl fun j _ => blk4 m c t j r n))

theorem arr5 : ((dats m 0 c).arrAt 5 cfg0.N : FVec Ideal S64x128 .f32) = grad (own m c) (got m c) := by
  refine (dats m 0 c).arrAt_eq_of_covers 5 _ (by decide +kernel) fun t hf y => ?_
  blk_simp
  rw [after0_5]
  obtain ⟨r, n, rfl⟩ : ∃ (r : Fin 64) (n : Fin 128), y = ix2 r n := ⟨y 0, y 1, by funext k; fin_cases k <;> rfl⟩
  frame_out
  have b : t.val < 1 := t.isLt
  have e : (grad (own m c) (got m c) (ix2 ⟨t.val * 64 + r.val, by omega⟩ n) : EReal)
      = grad (own m c) (got m c) (((View.whole main_v0_0).slice (win0_5.rect t)).emb (ix2 r n)) := by
    have i := (idx t).2.2.2.2.2.1
    blk_ext <;> simp [i]
  refine Eq.trans ?_ e
  have q := grad_blk m c t r n
  exact q

theorem arr6 : ((dats m 0 c).arrAt 6 cfg0.N : FVec Ideal S64x128 .f32) = delta (wt m c) (mo m c) (ve m c) (own m c) (got m c) := by
  refine (dats m 0 c).arrAt_eq_of_covers 6 _ (by decide +kernel) fun t hf y => ?_
  blk_simp
  rw [after0_6]
  obtain ⟨r, n, rfl⟩ : ∃ (r : Fin 64) (n : Fin 128), y = ix2 r n := ⟨y 0, y 1, by funext k; fin_cases k <;> rfl⟩
  frame_out
  have b : t.val < 1 := t.isLt
  have e : (delta (wt m c) (mo m c) (ve m c) (own m c) (got m c) (ix2 ⟨t.val * 64 + r.val, by omega⟩ n) : EReal)
      = delta (wt m c) (mo m c) (ve m c) (own m c) (got m c) (((View.whole main_v0_1).slice (win0_6.rect t)).emb (ix2 r n)) := by
    have i := (idx t).2.2.2.2.2.2.1
    blk_ext <;> simp [i]
  refine Eq.trans ?_ e
  have q := change_congr (blk0 m c t r n) (grad_blk m c t r n) (blk1 m c t r n) (blk2 m c t r n)
  exact q

theorem arr7 : ((dats m 0 c).arrAt 7 cfg0.N : FVec Ideal S64x128 .f32) = moment1 (mo m c) (own m c) (got m c) := by
  refine (dats m 0 c).arrAt_eq_of_covers 7 _ (by decide +kernel) fun t hf y => ?_
  blk_simp
  rw [after0_7]
  obtain ⟨r, n, rfl⟩ : ∃ (r : Fin 64) (n : Fin 128), y = ix2 r n := ⟨y 0, y 1, by funext k; fin_cases k <;> rfl⟩
  frame_out
  have b : t.val < 1 := t.isLt
  have e : (moment1 (mo m c) (own m c) (got m c) (ix2 ⟨t.val * 64 + r.val, by omega⟩ n) : EReal)
      = moment1 (mo m c) (own m c) (got m c) (((View.whole main_v0_2).slice (win0_7.rect t)).emb (ix2 r n)) := by
    have i := (idx t).2.2.2.2.2.2.2.1
    blk_ext <;> simp [i]
  refine Eq.trans ?_ e
  have q := first_congr (blk1 m c t r n) (grad_blk m c t r n)
  exact q

theorem arr8 : ((dats m 0 c).arrAt 8 cfg0.N : FVec Ideal S64x128 .f32) = moment2 (ve m c) (own m c) (got m c) := by
  refine (dats m 0 c).arrAt_eq_of_covers 8 _ (by decide +kernel) fun t hf y => ?_
  blk_simp
  rw [after0_8]
  obtain ⟨r, n, rfl⟩ : ∃ (r : Fin 64) (n : Fin 128), y = ix2 r n := ⟨y 0, y 1, by funext k; fin_cases k <;> rfl⟩
  frame_out
  have b : t.val < 1 := t.isLt
  have e : (moment2 (ve m c) (own m c) (got m c) (ix2 ⟨t.val * 64 + r.val, by omega⟩ n) : EReal)
      = moment2 (ve m c) (own m c) (got m c) (((View.whole main_v0_3).slice (win0_8.rect t)).emb (ix2 r n)) := by
    have i := (idx t).2.2.2.2.2.2.2.2
    blk_ext <;> simp [i]
  refine Eq.trans ?_ e
  have q := second_congr (blk2 m c t r n) (grad_blk m c t r n)
  exact q

end Call

section Reference

open Cert.Reference19Ideal Cert.Reference19Ideal.Gen

theorem refg (p : FVec Ideal S1x64x128 .bf16) (o : FVec Ideal S3x64x128 .bf16) :
    addf (extf .f32 (shapeCast _ p shapeCasts_S1x64x128_S64x128) bitsLt_bf16_f32) (Host.reduceAdd (extf .f32 o bitsLt_bf16_f32) (constant S_ .f32 0x00000000#32) reducesTo_S3x64x128_S64x128_d0 h_S_)
      = grad p o := by
  funext y
  obtain ⟨r, n, rfl⟩ : ∃ (r : Fin 64) (n : Fin 128), y = ix2 r n := ⟨y 0, y 1, by funext k; fin_cases k <;> rfl⟩
  unfold grad
  pointwise

end Reference

end AdamStep.LowRank
-- ==== Proof.Adam.GateRank.lean ====
/- The step of rw_gate_up: the call's four arrays, and the reference's gradient. -/
module

public import proofs.«01_k».proof.Proof.Adam.Step
public import proofs.«01_k».proof.Proof.Gen.Kernel20Ideal.Value
public import proofs.«01_k».proof.Proof.Gen.Reference20Ideal.Run

@[expose] public section

set_option maxRecDepth 16384

noncomputable section

namespace AdamStep.GateRank

open Idealize.ShloMosaic Idealize.ShloMosaic.TcCoe Idealize.SL.Sem

section Call

open Cert.Kernel20Ideal Cert.Kernel20Ideal.Gen

/-- The gradient: the device's own share and those of the three other chips. -/
def grad (p : FVec Ideal S1x160x128 .bf16) (o : FVec Ideal S3x160x128 .bf16) : FVec Ideal S160x128 .f32 :=
  fun y => ((p (ix3 0 (y 0) (y 1)) : EReal) + ∑ j : Fin 3, (o (ix3 j (y 0) (y 1)) : EReal) : EReal)

theorem sum_at (x : FVec Ideal S1x160x128 .bf16) (z : FVec Ideal S3x160x128 .bf16) (r : Fin 160) (n : Fin 128) :
    ((k0_pay2 x (View.ld z r0_1) (View.ld z r0_2) (View.ld z r0_3) : FVec Ideal S160x128 .f32) (ix2 r n) : EReal)
      = (x (ix3 0 r n) : EReal) + ∑ j : Fin 3, (z (ix3 j r n) : EReal) := by
  have e1 : ((View.ld (Val := Elt Ideal) (e' := .bf16) z r0_1 : FVec Ideal S1x160x128 .bf16) (ix3 0 r n) : EReal) = z (ix3 0 r n) := by
    refine congrArg z (funext fun k => Fin.ext ?_)
    fin_cases k <;> simp [LoadRect.idx_apply, Rect.unit]
  have e2 : ((View.ld (Val := Elt Ideal) (e' := .bf16) z r0_2 : FVec Ideal S1x160x128 .bf16) (ix3 0 r n) : EReal) = z (ix3 1 r n) := by
    refine congrArg z (funext fun k => Fin.ext ?_)
    fin_cases k <;> simp [LoadRect.idx_apply, Rect.unit]
  have e3 : ((View.ld (Val := Elt Ideal) (e' := .bf16) z r0_3 : FVec Ideal S1x160x128 .bf16) (ix3 0 r n) : EReal) = z (ix3 2 r n) := by
    refine congrArg z (funext fun k => Fin.ext ?_)
    fin_cases k <;> simp [LoadRect.idx_apply, Rect.unit]
  have h : ∀ a b c d : FVec Ideal S1x160x128 .bf16, ((k0_pay2 a b c d : FVec Ideal S160x128 .f32) (ix2 r n) : EReal)
      = (a (ix3 0 r n) : EReal) + (b (ix3 0 r n) : EReal) + (c (ix3 0 r n) : EReal) + (d (ix3 0 r n) : EReal) := by
    intro a b c d
    pointwise [k0_pay2]
  refine (h _ _ _ _).trans ?_
  rw [e1, e2, e3, Fin.sum_univ_three]
  simp only [add_assoc]

/-- The first moment after the step, the second, and the change of the weight. -/
def moment1 (m : FVec Ideal S160x128 .f32) (p : FVec Ideal S1x160x128 .bf16) (o : FVec Ideal S3x160x128 .bf16) : FVec Ideal S160x128 .f32 := fun y => (first (m y) (grad p o y) : EReal)
def moment2 (v : FVec Ideal S160x128 .f32) (p : FVec Ideal S1x160x128 .bf16) (o : FVec Ideal S3x160x128 .bf16) : FVec Ideal S160x128 .f32 := fun y => (second (v y) (grad p o y) : EReal)
def delta (w m v : FVec Ideal S160x128 .f32) (p : FVec Ideal S1x160x128 .bf16) (o : FVec Ideal S3x160x128 .bf16) : FVec Ideal S160x128 .f32 := fun y => (change (w y) (grad p o y) (m y) (v y) : EReal)

variable (m : (ℓ : Loc nD τ sig) → Buf (Elt Ideal) ℓ) (c : Dev nD)

abbrev wt : FVec Ideal S160x128 .f32 := m ((c.tc : Thread nD τ).loc main_arg0)
abbrev mo : FVec Ideal S160x128 .f32 := m ((c.tc : Thread nD τ).loc main_arg1)
abbrev ve : FVec Ideal S160x128 .f32 := m ((c.tc : Thread nD τ).loc main_arg2)
abbrev own : FVec Ideal S1x160x128 .bf16 := m ((c.tc : Thread nD τ).loc main_arg3)
abbrev got : FVec Ideal S3x160x128 .bf16 := m ((c.tc : Thread nD τ).loc main_arg4)

theorem idx : ∀ t : Fin cfg0.N, win0_0.index t = ![t.val, 0] ∧ win0_1.index t = ![t.val, 0] ∧ win0_2.index t = ![t.val, 0] ∧ win0_3.index t = ![0, t.val, 0] ∧ win0_4.index t = ![0, t.val, 0] ∧ win0_5.index t = ![t.val, 0] ∧ win0_6.index t = ![t.val, 0] ∧ win0_7.index t = ![t.val, 0] ∧ win0_8.index t = ![t.val, 0] :=
  (by decide +kernel : ∀ t : Fin grid0.N, _)

theorem blk0 (t : Fin 1) (r : Fin 160) (n : Fin 128) :
    ((iblk m c 0 t : FVec Ideal S160x128 .f32) (ix2 r n) : EReal) = wt m c (ix2 ⟨t.val * 160 + r.val, by omega⟩ n) := by
  have i := (idx t).1
  unfold iblk
  blk_ext <;> simp [i]
theorem blk1 (t : Fin 1) (r : Fin 160) (n : Fin 128) :
    ((iblk m c 1 t : FVec Ideal S160x128 .f32) (ix2 r n) : EReal) = mo m c (ix2 ⟨t.val * 160 + r.val, by omega⟩ n) := by
  have i := (idx t).2.1
  unfold iblk
  blk_ext <;> simp [i]
theorem blk2 (t : Fin 1) (r : Fin 160) (n : Fin 128) :
    ((iblk m c 2 t : FVec Ideal S160x128 .f32) (ix2 r n) : EReal) = ve m c (ix2 ⟨t.val * 160 + r.val, by omega⟩ n) := by
  have i := (idx t).2.2.1
  unfold iblk
  blk_ext <;> simp [i]
theorem blk3 (t : Fin 1) (j : Fin 1) (r : Fin 160) (n : Fin 128) :
    ((iblk m c 3 t : FVec Ideal S1x160x128 .bf16) (ix3 j r n) : EReal) = own m c (ix3 j ⟨t.val * 160 + r.val, by omega⟩ n) := by
  have i := (idx t).2.2.2.1
  unfold iblk
  blk_ext <;> simp [i]
theorem blk4 (t : Fin 1) (j : Fin 3) (r : Fin 160) (n : Fin 128) :
    ((iblk m c 4 t : FVec Ideal S3x160x128 .bf16) (ix3 j r n) : EReal) = got m c (ix3 j ⟨t.val * 160 + r.val, by omega⟩ n) := by
  have i := (idx t).2.2.2.2.1
  unfold iblk
  blk_ext <;> simp [i]

/-- A block of the gradient. -/
theorem grad_blk (t : Fin 1) (r : Fin 160) (n : Fin 128) :
    ((k0_pay2 (iblk m c 3 t) (View.ld (iblk m c 4 t) r0_1) (View.ld (iblk m c 4 t) r0_2) (View.ld (iblk m c 4 t) r0_3) : FVec Ideal S160x128 .f32) (ix2 r n) : EReal)
      = grad (own m c) (got m c) (ix2 ⟨t.val * 160 + r.val, by omega⟩ n) :=
  (sum_at _ _ r n).trans (congrArg₂ (fun a b : EReal => a + b) (blk3 m c t 0 r n) (Finset.sum_congr rfl fun j _ => blk4 m c t j r n))

theorem arr5 : ((dats m 0 c).arrAt 5 cfg0.N : FVec Ideal S160x128 .f32) = grad (own m c) (got m c) := by
  refine (dats m 0 c).arrAt_eq_of_covers 5 _ (by decide +kernel) fun t hf y => ?_
  blk_simp
  rw [after0_5]
  obtain ⟨r, n, rfl⟩ : ∃ (r : Fin 160) (n : Fin 128), y = ix2 r n := ⟨y 0, y 1, by funext k; fin_cases k <;> rfl⟩
  frame_out
  have b : t.val < 1 := t.isLt
  have e : (grad (own m c) (got m c) (ix2 ⟨t.val * 160 + r.val, by omega⟩ n) : EReal)
      = grad (own m c) (got m c) (((View.whole main_v0_0).slice (win0_5.rect t)).emb (ix2 r n)) := by
    have i := (idx t).2.2.2.2.2.1
    blk_ext <;> simp [i]
  refine Eq.trans ?_ e
  have q := grad_blk m c t r n
  exact q

theorem arr6 : ((dats m 0 c).arrAt 6 cfg0.N : FVec Ideal S160x128 .f32) = delta (wt m c) (mo m c) (ve m c) (own m c) (got m c) := by
  refine (dats m 0 c).arrAt_eq_of_covers 6 _ (by decide +kernel) fun t hf y => ?_
  blk_simp
  rw [after0_6]
  obtain ⟨r, n, rfl⟩ : ∃ (r : Fin 160) (n : Fin 128), y = ix2 r n := ⟨y 0, y 1, by funext k; fin_cases k <;> rfl⟩
  frame_out
  have b : t.val < 1 := t.isLt
  have e : (delta (wt m c) (mo m c) (ve m c) (own m c) (got m c) (ix2 ⟨t.val * 160 + r.val, by omega⟩ n) : EReal)
      = delta (wt m c) (mo m c) (ve m c) (own m c) (got m c) (((View.whole main_v0_1).slice (win0_6.rect t)).emb (ix2 r n)) := by
    have i := (idx t).2.2.2.2.2.2.1
    blk_ext <;> simp [i]
  refine Eq.trans ?_ e
  have q := change_congr (blk0 m c t r n) (grad_blk m c t r n) (blk1 m c t r n) (blk2 m c t r n)
  exact q

theorem arr7 : ((dats m 0 c).arrAt 7 cfg0.N : FVec Ideal S160x128 .f32) = moment1 (mo m c) (own m c) (got m c) := by
  refine (dats m 0 c).arrAt_eq_of_covers 7 _ (by decide +kernel) fun t hf y => ?_
  blk_simp
  rw [after0_7]
  obtain ⟨r, n, rfl⟩ : ∃ (r : Fin 160) (n : Fin 128), y = ix2 r n := ⟨y 0, y 1, by funext k; fin_cases k <;> rfl⟩
  frame_out
  have b : t.val < 1 := t.isLt
  have e : (moment1 (mo m c) (own m c) (got m c) (ix2 ⟨t.val * 160 + r.val, by omega⟩ n) : EReal)
      = moment1 (mo m c) (own m c) (got m c) (((View.whole main_v0_2).slice (win0_7.rect t)).emb (ix2 r n)) := by
    have i := (idx t).2.2.2.2.2.2.2.1
    blk_ext <;> simp [i]
  refine Eq.trans ?_ e
  have q := first_congr (blk1 m c t r n) (grad_blk m c t r n)
  exact q

theorem arr8 : ((dats m 0 c).arrAt 8 cfg0.N : FVec Ideal S160x128 .f32) = moment2 (ve m c) (own m c) (got m c) := by
  refine (dats m 0 c).arrAt_eq_of_covers 8 _ (by decide +kernel) fun t hf y => ?_
  blk_simp
  rw [after0_8]
  obtain ⟨r, n, rfl⟩ : ∃ (r : Fin 160) (n : Fin 128), y = ix2 r n := ⟨y 0, y 1, by funext k; fin_cases k <;> rfl⟩
  frame_out
  have b : t.val < 1 := t.isLt
  have e : (moment2 (ve m c) (own m c) (got m c) (ix2 ⟨t.val * 160 + r.val, by omega⟩ n) : EReal)
      = moment2 (ve m c) (own m c) (got m c) (((View.whole main_v0_3).slice (win0_8.rect t)).emb (ix2 r n)) := by
    have i := (idx t).2.2.2.2.2.2.2.2
    blk_ext <;> simp [i]
  refine Eq.trans ?_ e
  have q := second_congr (blk2 m c t r n) (grad_blk m c t r n)
  exact q

end Call

section Reference

open Cert.Reference20Ideal Cert.Reference20Ideal.Gen

theorem refg (p : FVec Ideal S1x160x128 .bf16) (o : FVec Ideal S3x160x128 .bf16) :
    addf (extf .f32 (shapeCast _ p shapeCasts_S1x160x128_S160x128) bitsLt_bf16_f32) (Host.reduceAdd (extf .f32 o bitsLt_bf16_f32) (constant S_ .f32 0x00000000#32) reducesTo_S3x160x128_S160x128_d0 h_S_)
      = grad p o := by
  funext y
  obtain ⟨r, n, rfl⟩ : ∃ (r : Fin 160) (n : Fin 128), y = ix2 r n := ⟨y 0, y 1, by funext k; fin_cases k <;> rfl⟩
  unfold grad
  pointwise

end Reference

end AdamStep.GateRank
-- ==== Proof.Adam.EqualSharded.lean ====
/- The optimizer's steps of the weights that are cut over the devices: their references' frames, and the equalities. -/
module

public import proofs.«01_k».proof.Defs
public import proofs.«01_k».proof.Proof.Adam.Hidden
public import proofs.«01_k».proof.Proof.Adam.Down
public import proofs.«01_k».proof.Proof.Adam.Square
public import proofs.«01_k».proof.Proof.Adam.Inputs
public import proofs.«01_k».proof.Proof.Adam.Memory
public import proofs.«01_k».proof.Proof.Adam.LowRank
public import proofs.«01_k».proof.Proof.Adam.GateRank
public import Idealize.ShloMosaic.Adequacy
public import Idealize.ShloMosaic.Init

@[expose] public section

set_option maxRecDepth 16384

noncomputable section

namespace AdamStep

open Cert Idealize.ShloMosaic Idealize.SL.Sem

/-- The step of a hidden weight of a SwiGLU layer: the reference's frame, and the equality with the reference. -/
theorem quiet14 : quiescent_Reference14Ideal (hReference14Ideal := Cert.Reference14Ideal.Gen.facts) := fun m g _ =>
  (θ_run _ _ _).mono (fun r h => ⟨fun c => (h c).2.2.2.2, sem_eq_zero_of_no_sems (by decide) r.2⟩) (Cert.Reference14Ideal.Value.run m g)
theorem equal14 : algebraic_Kernel14Ideal_Reference14Ideal (hKernel14Ideal := Cert.Kernel14Ideal.Gen.facts) (hReference14Ideal := Cert.Reference14Ideal.Gen.facts) := by
  intro m g m' g' hp ha
  refine ⟨fun c => Hidden.grad (Hidden.own m c) (Hidden.got m c), fun c => Hidden.delta (Hidden.wt m c) (Hidden.mo m c) (Hidden.ve m c) (Hidden.own m c) (Hidden.got m c), fun c => Hidden.moment1 (Hidden.mo m c) (Hidden.own m c) (Hidden.got m c), fun c => Hidden.moment2 (Hidden.ve m c) (Hidden.own m c) (Hidden.got m c), ?_, ?_⟩
  · refine (θ_run _ _ _).mono (fun r h c => ?_) (Cert.Kernel14Ideal.Value.run_blocks m g)
    obtain ⟨h0, h1, h2, h3, h4, h5, h6, h7, h8⟩ := h c
    exact ⟨h0.trans (Hidden.arr5 m c), h1.trans (Hidden.arr6 m c), h2.trans (Hidden.arr7 m c), h3.trans (Hidden.arr8 m c), h4, h5, h6, h7, h8⟩
  · refine (θ_run _ _ _).mono (fun r h c => ?_) (Cert.Reference14Ideal.Value.run m' g')
    obtain ⟨h0, h1, h2, h3, h4, h5, h6, h7, h8⟩ := h c
    obtain ⟨a0, a1, a2, a3, a4⟩ := ha c
    have d := (Hidden.refg _ _).trans (congr (congrArg Hidden.grad a3) a4)
    refine ⟨h0.trans d, h1.trans (funext fun y => ?_), h2.trans (funext fun y => ?_), h3.trans (funext fun y => ?_), h4, h5, h6, h7, h8⟩
    · have q := change_congr (congrFun a0 y) (congrFun d y) (congrFun a1 y) (congrFun a2 y)
      exact q
    · have q := first_congr (congrFun a1 y) (congrFun d y)
      exact q
    · have q := second_congr (congrFun a2 y) (congrFun d y)
      exact q

/-- The step of an output weight of a SwiGLU layer: the reference's frame, and the equality with the reference. -/
theorem quiet15 : quiescent_Reference15Ideal (hReference15Ideal := Cert.Reference15Ideal.Gen.facts) := fun m g _ =>
  (θ_run _ _ _).mono (fun r h => ⟨fun c => (h c).2.2.2.2, sem_eq_zero_of_no_sems (by decide) r.2⟩) (Cert.Reference15Ideal.Value.run m g)
theorem equal15 : algebraic_Kernel15Ideal_Reference15Ideal (hKernel15Ideal := Cert.Kernel15Ideal.Gen.facts) (hReference15Ideal := Cert.Reference15Ideal.Gen.facts) := by
  intro m g m' g' hp ha
  refine ⟨fun c => Down.grad (Down.own m c) (Down.got m c), fun c => Down.delta (Down.wt m c) (Down.mo m c) (Down.ve m c) (Down.own m c) (Down.got m c), fun c => Down.moment1 (Down.mo m c) (Down.own m c) (Down.got m c), fun c => Down.moment2 (Down.ve m c) (Down.own m c) (Down.got m c), ?_, ?_⟩
  · refine (θ_run _ _ _).mono (fun r h c => ?_) (Cert.Kernel15Ideal.Value.run_blocks m g)
    obtain ⟨h0, h1, h2, h3, h4, h5, h6, h7, h8⟩ := h c
    exact ⟨h0.trans (Down.arr5 m c), h1.trans (Down.arr6 m c), h2.trans (Down.arr7 m c), h3.trans (Down.arr8 m c), h4, h5, h6, h7, h8⟩
  · refine (θ_run _ _ _).mono (fun r h c => ?_) (Cert.Reference15Ideal.Value.run m' g')
    obtain ⟨h0, h1, h2, h3, h4, h5, h6, h7, h8⟩ := h c
    obtain ⟨a0, a1, a2, a3, a4⟩ := ha c
    have d := (Down.refg _ _).trans (congr (congrArg Down.grad a3) a4)
    refine ⟨h0.trans d, h1.trans (funext fun y => ?_), h2.trans (funext fun y => ?_), h3.trans (funext fun y => ?_), h4, h5, h6, h7, h8⟩
    · have q := change_congr (congrFun a0 y) (congrFun d y) (congrFun a1 y) (congrFun a2 y)
      exact q
    · have q := first_congr (congrFun a1 y) (congrFun d y)
      exact q
    · have q := second_congr (congrFun a2 y) (congrFun d y)
      exact q

/-- The step of w_out, w_xq or w_xo: the reference's frame, and the equality with the reference. -/
theorem quiet16 : quiescent_Reference16Ideal (hReference16Ideal := Cert.Reference16Ideal.Gen.facts) := fun m g _ =>
  (θ_run _ _ _).mono (fun r h => ⟨fun c => (h c).2.2.2.2, sem_eq_zero_of_no_sems (by decide) r.2⟩) (Cert.Reference16Ideal.Value.run m g)
theorem equal16 : algebraic_Kernel16Ideal_Reference16Ideal (hKernel16Ideal := Cert.Kernel16Ideal.Gen.facts) (hReference16Ideal := Cert.Reference16Ideal.Gen.facts) := by
  intro m g m' g' hp ha
  refine ⟨fun c => Square.grad (Square.own m c) (Square.got m c), fun c => Square.delta (Square.wt m c) (Square.mo m c) (Square.ve m c) (Square.own m c) (Square.got m c), fun c => Square.moment1 (Square.mo m c) (Square.own m c) (Square.got m c), fun c => Square.moment2 (Square.ve m c) (Square.own m c) (Square.got m c), ?_, ?_⟩
  · refine (θ_run _ _ _).mono (fun r h c => ?_) (Cert.Kernel16Ideal.Value.run_blocks m g)
    obtain ⟨h0, h1, h2, h3, h4, h5, h6, h7, h8⟩ := h c
    exact ⟨h0.trans (Square.arr5 m c), h1.trans (Square.arr6 m c), h2.trans (Square.arr7 m c), h3.trans (Square.arr8 m c), h4, h5, h6, h7, h8⟩
  · refine (θ_run _ _ _).mono (fun r h c => ?_) (Cert.Reference16Ideal.Value.run m' g')
    obtain ⟨h0, h1, h2, h3, h4, h5, h6, h7, h8⟩ := h c
    obtain ⟨a0, a1, a2, a3, a4⟩ := ha c
    have d := (Square.refg _ _).trans (congr (congrArg Square.grad a3) a4)
    refine ⟨h0.trans d, h1.trans (funext fun y => ?_), h2.trans (funext fun y => ?_), h3.trans (funext fun y => ?_), h4, h5, h6, h7, h8⟩
    · have q := change_congr (congrFun a0 y) (congrFun d y) (congrFun a1 y) (congrFun a2 y)
      exact q
    · have q := first_congr (congrFun a1 y) (congrFun d y)
      exact q
    · have q := second_congr (congrFun a2 y) (congrFun d y)
      exact q

/-- The step of w_in: the reference's frame, and the equality with the reference. -/
theorem quiet17 : quiescent_Reference17Ideal (hReference17Ideal := Cert.Reference17Ideal.Gen.facts) := fun m g _ =>
  (θ_run _ _ _).mono (fun r h => ⟨fun c => (h c).2.2.2.2, sem_eq_zero_of_no_sems (by decide) r.2⟩) (Cert.Reference17Ideal.Value.run m g)
theorem equal17 : algebraic_Kernel17Ideal_Reference17Ideal (hKernel17Ideal := Cert.Kernel17Ideal.Gen.facts) (hReference17Ideal := Cert.Reference17Ideal.Gen.facts) := by
  intro m g m' g' hp ha
  refine ⟨fun c => Inputs.grad (Inputs.own m c) (Inputs.got m c), fun c => Inputs.delta (Inputs.wt m c) (Inputs.mo m c) (Inputs.ve m c) (Inputs.own m c) (Inputs.got m c), fun c => Inputs.moment1 (Inputs.mo m c) (Inputs.own m c) (Inputs.got m c), fun c => Inputs.moment2 (Inputs.ve m c) (Inputs.own m c) (Inputs.got m c), ?_, ?_⟩
  · refine (θ_run _ _ _).mono (fun r h c => ?_) (Cert.Kernel17Ideal.Value.run_blocks m g)
    obtain ⟨h0, h1, h2, h3, h4, h5, h6, h7, h8⟩ := h c
    exact ⟨h0.trans (Inputs.arr5 m c), h1.trans (Inputs.arr6 m c), h2.trans (Inputs.arr7 m c), h3.trans (Inputs.arr8 m c), h4, h5, h6, h7, h8⟩
  · refine (θ_run _ _ _).mono (fun r h c => ?_) (Cert.Reference17Ideal.Value.run m' g')
    obtain ⟨h0, h1, h2, h3, h4, h5, h6, h7, h8⟩ := h c
    obtain ⟨a0, a1, a2, a3, a4⟩ := ha c
    have d := (Inputs.refg _ _).trans (congr (congrArg Inputs.grad a3) a4)
    refine ⟨h0.trans d, h1.trans (funext fun y => ?_), h2.trans (funext fun y => ?_), h3.trans (funext fun y => ?_), h4, h5, h6, h7, h8⟩
    · have q := change_congr (congrFun a0 y) (congrFun d y) (congrFun a1 y) (congrFun a2 y)
      exact q
    · have q := first_congr (congrFun a1 y) (congrFun d y)
      exact q
    · have q := second_congr (congrFun a2 y) (congrFun d y)
      exact q

/-- The step of w_xkv: the reference's frame, and the equality with the reference. -/
theorem quiet18 : quiescent_Reference18Ideal (hReference18Ideal := Cert.Reference18Ideal.Gen.facts) := fun m g _ =>
  (θ_run _ _ _).mono (fun r h => ⟨fun c => (h c).2.2.2.2, sem_eq_zero_of_no_sems (by decide) r.2⟩) (Cert.Reference18Ideal.Value.run m g)
theorem equal18 : algebraic_Kernel18Ideal_Reference18Ideal (hKernel18Ideal := Cert.Kernel18Ideal.Gen.facts) (hReference18Ideal := Cert.Reference18Ideal.Gen.facts) := by
  intro m g m' g' hp ha
  refine ⟨fun c => Memory.grad (Memory.own m c) (Memory.got m c), fun c => Memory.delta (Memory.wt m c) (Memory.mo m c) (Memory.ve m c) (Memory.own m c) (Memory.got m c), fun c => Memory.moment1 (Memory.mo m c) (Memory.own m c) (Memory.got m c), fun c => Memory.moment2 (Memory.ve m c) (Memory.own m c) (Memory.got m c), ?_, ?_⟩
  · refine (θ_run _ _ _).mono (fun r h c => ?_) (Cert.Kernel18Ideal.Value.run_blocks m g)
    obtain ⟨h0, h1, h2, h3, h4, h5, h6, h7, h8⟩ := h c
    exact ⟨h0.trans (Memory.arr5 m c), h1.trans (Memory.arr6 m c), h2.trans (Memory.arr7 m c), h3.trans (Memory.arr8 m c), h4, h5, h6, h7, h8⟩
  · refine (θ_run _ _ _).mono (fun r h c => ?_) (Cert.Reference18Ideal.Value.run m' g')
    obtain ⟨h0, h1, h2, h3, h4, h5, h6, h7, h8⟩ := h c
    obtain ⟨a0, a1, a2, a3, a4⟩ := ha c
    have d := (Memory.refg _ _).trans (congr (congrArg Memory.grad a3) a4)
    refine ⟨h0.trans d, h1.trans (funext fun y => ?_), h2.trans (funext fun y => ?_), h3.trans (funext fun y => ?_), h4, h5, h6, h7, h8⟩
    · have q := change_congr (congrFun a0 y) (congrFun d y) (congrFun a1 y) (congrFun a2 y)
      exact q
    · have q := first_congr (congrFun a1 y) (congrFun d y)
      exact q
    · have q := second_congr (congrFun a2 y) (congrFun d y)
      exact q

/-- The step of rw_decay_up or rw_aaa_up: the reference's frame, and the equality with the reference. -/
theorem quiet19 : quiescent_Reference19Ideal (hReference19Ideal := Cert.Reference19Ideal.Gen.facts) := fun m g _ =>
  (θ_run _ _ _).mono (fun r h => ⟨fun c => (h c).2.2.2.2, sem_eq_zero_of_no_sems (by decide) r.2⟩) (Cert.Reference19Ideal.Value.run m g)
theorem equal19 : algebraic_Kernel19Ideal_Reference19Ideal (hKernel19Ideal := Cert.Kernel19Ideal.Gen.facts) (hReference19Ideal := Cert.Reference19Ideal.Gen.facts) := by
  intro m g m' g' hp ha
  refine ⟨fun c => LowRank.grad (LowRank.own m c) (LowRank.got m c), fun c => LowRank.delta (LowRank.wt m c) (LowRank.mo m c) (LowRank.ve m c) (LowRank.own m c) (LowRank.got m c), fun c => LowRank.moment1 (LowRank.mo m c) (LowRank.own m c) (LowRank.got m c), fun c => LowRank.moment2 (LowRank.ve m c) (LowRank.own m c) (LowRank.got m c), ?_, ?_⟩
  · refine (θ_run _ _ _).mono (fun r h c => ?_) (Cert.Kernel19Ideal.Value.run_blocks m g)
    obtain ⟨h0, h1, h2, h3, h4, h5, h6, h7, h8⟩ := h c
    exact ⟨h0.trans (LowRank.arr5 m c), h1.trans (LowRank.arr6 m c), h2.trans (LowRank.arr7 m c), h3.trans (LowRank.arr8 m c), h4, h5, h6, h7, h8⟩
  · refine (θ_run _ _ _).mono (fun r h c => ?_) (Cert.Reference19Ideal.Value.run m' g')
    obtain ⟨h0, h1, h2, h3, h4, h5, h6, h7, h8⟩ := h c
    obtain ⟨a0, a1, a2, a3, a4⟩ := ha c
    have d := (LowRank.refg _ _).trans (congr (congrArg LowRank.grad a3) a4)
    refine ⟨h0.trans d, h1.trans (funext fun y => ?_), h2.trans (funext fun y => ?_), h3.trans (funext fun y => ?_), h4, h5, h6, h7, h8⟩
    · have q := change_congr (congrFun a0 y) (congrFun d y) (congrFun a1 y) (congrFun a2 y)
      exact q
    · have q := first_congr (congrFun a1 y) (congrFun d y)
      exact q
    · have q := second_congr (congrFun a2 y) (congrFun d y)
      exact q

/-- The step of rw_gate_up: the reference's frame, and the equality with the reference. -/
theorem quiet20 : quiescent_Reference20Ideal (hReference20Ideal := Cert.Reference20Ideal.Gen.facts) := fun m g _ =>
  (θ_run _ _ _).mono (fun r h => ⟨fun c => (h c).2.2.2.2, sem_eq_zero_of_no_sems (by decide) r.2⟩) (Cert.Reference20Ideal.Value.run m g)
theorem equal20 : algebraic_Kernel20Ideal_Reference20Ideal (hKernel20Ideal := Cert.Kernel20Ideal.Gen.facts) (hReference20Ideal := Cert.Reference20Ideal.Gen.facts) := by
  intro m g m' g' hp ha
  refine ⟨fun c => GateRank.grad (GateRank.own m c) (GateRank.got m c), fun c => GateRank.delta (GateRank.wt m c) (GateRank.mo m c) (GateRank.ve m c) (GateRank.own m c) (GateRank.got m c), fun c => GateRank.moment1 (GateRank.mo m c) (GateRank.own m c) (GateRank.got m c), fun c => GateRank.moment2 (GateRank.ve m c) (GateRank.own m c) (GateRank.got m c), ?_, ?_⟩
  · refine (θ_run _ _ _).mono (fun r h c => ?_) (Cert.Kernel20Ideal.Value.run_blocks m g)
    obtain ⟨h0, h1, h2, h3, h4, h5, h6, h7, h8⟩ := h c
    exact ⟨h0.trans (GateRank.arr5 m c), h1.trans (GateRank.arr6 m c), h2.trans (GateRank.arr7 m c), h3.trans (GateRank.arr8 m c), h4, h5, h6, h7, h8⟩
  · refine (θ_run _ _ _).mono (fun r h c => ?_) (Cert.Reference20Ideal.Value.run m' g')
    obtain ⟨h0, h1, h2, h3, h4, h5, h6, h7, h8⟩ := h c
    obtain ⟨a0, a1, a2, a3, a4⟩ := ha c
    have d := (GateRank.refg _ _).trans (congr (congrArg GateRank.grad a3) a4)
    refine ⟨h0.trans d, h1.trans (funext fun y => ?_), h2.trans (funext fun y => ?_), h3.trans (funext fun y => ?_), h4, h5, h6, h7, h8⟩
    · have q := change_congr (congrFun a0 y) (congrFun d y) (congrFun a1 y) (congrFun a2 y)
      exact q
    · have q := first_congr (congrFun a1 y) (congrFun d y)
      exact q
    · have q := second_congr (congrFun a2 y) (congrFun d y)
      exact q

end AdamStep
-- ==== Proof.lean ====
/- The claims: of the attention's backward pass, the two programs' and the reference's frames, the idealization of the mask
   constant, and the equality of the program's three results with the reference's; and the same of the nineteen other programs. -/
module

public import proofs.«01_k».proof.Defs
public import proofs.«01_k».proof.Proof.Gen.Kernel
public import proofs.«01_k».proof.Proof.Word.Frame
public import proofs.«01_k».proof.Proof.Gen.KernelIdeal
public import proofs.«01_k».proof.Proof.Run.Frame
public import proofs.«01_k».proof.Proof.Gen.ReferenceIdeal
public import proofs.«01_k».proof.Proof.Gen.ReferenceIdeal.Run
public import proofs.«01_k».proof.Proof.Gen.Pre_finite
public import proofs.«01_k».proof.Proof.Same
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7Ideal.Frame
public import proofs.«01_k».proof.Proof.Gen.Kernel8.Frame
public import proofs.«01_k».proof.Proof.Gen.Kernel8Ideal.Frame
public import proofs.«01_k».proof.Proof.Gen.Kernel9.Frame
public import proofs.«01_k».proof.Proof.Gen.Kernel9Ideal.Frame
public import proofs.«01_k».proof.Proof.Gen.Kernel10.Frame
public import proofs.«01_k».proof.Proof.Gen.Kernel10Ideal.Frame
public import proofs.«01_k».proof.Proof.Gen.Kernel11.Frame
public import proofs.«01_k».proof.Proof.Gen.Kernel11Ideal.Frame
public import proofs.«01_k».proof.Proof.Gen.Kernel12.Frame
public import proofs.«01_k».proof.Proof.Gen.Kernel12Ideal.Frame
public import proofs.«01_k».proof.Proof.Gen.Kernel13.Frame
public import proofs.«01_k».proof.Proof.Gen.Kernel13Ideal.Frame
public import proofs.«01_k».proof.Proof.Gen.Kernel14.Frame
public import proofs.«01_k».proof.Proof.Gen.Kernel14Ideal.Frame
public import proofs.«01_k».proof.Proof.Gen.Kernel15.Frame
public import proofs.«01_k».proof.Proof.Gen.Kernel15Ideal.Frame
public import proofs.«01_k».proof.Proof.Gen.Kernel16.Frame
public import proofs.«01_k».proof.Proof.Gen.Kernel16Ideal.Frame
public import proofs.«01_k».proof.Proof.Gen.Kernel17.Frame
public import proofs.«01_k».proof.Proof.Gen.Kernel17Ideal.Frame
public import proofs.«01_k».proof.Proof.Gen.Kernel18.Frame
public import proofs.«01_k».proof.Proof.Gen.Kernel18Ideal.Frame
public import proofs.«01_k».proof.Proof.Gen.Kernel19.Frame
public import proofs.«01_k».proof.Proof.Gen.Kernel19Ideal.Frame
public import proofs.«01_k».proof.Proof.Gen.Kernel20.Frame
public import proofs.«01_k».proof.Proof.Gen.Kernel20Ideal.Frame
public import proofs.«01_k».proof.Proof.Ffn.EqualLayer
public import proofs.«01_k».proof.Proof.Ffn.EqualForward
public import proofs.«01_k».proof.Proof.Ffn.EqualProducts
public import proofs.«01_k».proof.Proof.Adam.EqualPacked
public import proofs.«01_k».proof.Proof.Adam.EqualSharded
public import Idealize.ShloMosaic.Adequacy
public import Idealize.ShloMosaic.Init

@[expose] public section

noncomputable section

namespace Cert.Proof

open Idealize.ShloMosaic Idealize.SL.Sem

/-- The reference's frame. -/
theorem frame_reference (m : SwaGrad.RMem) (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) := by
  exact (θ_run _ _ _).mono (fun r h => ⟨fun c => (h c).2.2.2, sem_eq_zero_of_no_sems (by decide) r.2⟩)
    (Cert.ReferenceIdeal.Value.run m g)

open SwaGrad in
/-- On finite arguments the program's three results are the reference's. -/
theorem equal : algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp ha
  have H := fun c => holds_of m hp c
  have R := fun c => ref_holds (m := m) (m' := m') ha c (H c)
  refine ⟨fun c => gradK (inpOf m c), fun c => total (gradK (inpOf m c)), fun c => oneRow (sinkA (inpOf m c)), ?_, ?_⟩
  · refine (θ_run _ _ _).mono (fun r h c => ?_) (θ_run_and (Cert.KernelIdeal.Gen.run_main m g) (Cert.KernelIdeal.Gen.frame m g))
    exact ⟨(((h.1 c).2 Cert.KernelIdeal.main_v46 (Pipeline.mem_restRefs_of Cert.KernelIdeal.main_v46 (by decide) (by decide))).trans (res46 m c (H c))),
      (((h.1 c).2 Cert.KernelIdeal.main_v48 (Pipeline.mem_restRefs_of Cert.KernelIdeal.main_v48 (by decide) (by decide))).trans (res48 m c (H c))),
      (((h.1 c).2 Cert.KernelIdeal.main_v49 (Pipeline.mem_restRefs_of Cert.KernelIdeal.main_v49 (by decide) (by decide))).trans (res49 m c (H c))),
      (h.2.1 c).1, (h.2.1 c).2.1, (h.2.1 c).2.2⟩
  · refine (θ_run _ _ _).mono (fun r h c => ?_) (Cert.ReferenceIdeal.Value.run m' g')
    obtain ⟨h0, h1, h2, h3, h4, h5⟩ := h c
    have e0 := grad_eq c (R c)
    refine ⟨h0.trans e0, h1.trans ?_, h2.trans (sink_eq c (R c)), h3, h4, h5⟩
    exact congrArg total e0

/-- Everything the certificate claims. -/
theorem claim : Cert.Claim := ⟨
  Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Kernel14.Gen.facts,
  Cert.Kernel14Ideal.Gen.facts,
  Cert.Reference14Ideal.Gen.facts,
  Cert.Kernel15.Gen.facts,
  Cert.Kernel15Ideal.Gen.facts,
  Cert.Reference15Ideal.Gen.facts,
  Cert.Kernel16.Gen.facts,
  Cert.Kernel16Ideal.Gen.facts,
  Cert.Reference16Ideal.Gen.facts,
  Cert.Kernel17.Gen.facts,
  Cert.Kernel17Ideal.Gen.facts,
  Cert.Reference17Ideal.Gen.facts,
  Cert.Kernel18.Gen.facts,
  Cert.Kernel18Ideal.Gen.facts,
  Cert.Reference18Ideal.Gen.facts,
  Cert.Kernel19.Gen.facts,
  Cert.Kernel19Ideal.Gen.facts,
  Cert.Reference19Ideal.Gen.facts,
  Cert.Kernel20.Gen.facts,
  Cert.Kernel20Ideal.Gen.facts,
  Cert.Reference20Ideal.Gen.facts,
  Cert.Pre_finite.Gen.facts,
  Cert.Pre_finite_ffn.Gen.facts,
  fun m g _ => Cert.Kernel.Gen.frame m g,
  fun m g _ => Cert.KernelIdeal.Gen.frame m g,
  fun m g _ => Cert.KernelIdeal.Gen.frame m g,
  fun m g _ => frame_reference m g,
  fun m g _ => frame_reference m g,
  fun m g _ => Cert.Kernel2.Gen.frame m g,
  fun m g _ => Cert.Kernel2Ideal.Gen.frame m g,
  FfnGrad.quiet2,
  fun m g _ => Cert.Kernel3.Gen.frame m g,
  fun m g _ => Cert.Kernel3Ideal.Gen.frame m g,
  FfnGrad.quiet3,
  fun m g _ => Cert.Kernel4.Gen.frame m g,
  fun m g _ => Cert.Kernel4Ideal.Gen.frame m g,
  FfnGrad.quiet4,
  fun m g _ => Cert.Kernel5.Gen.frame m g,
  fun m g _ => Cert.Kernel5Ideal.Gen.frame m g,
  fun m g _ => Cert.Kernel5Ideal.Gen.frame m g,
  FfnGrad.quiet5,
  fun m g _ => FfnGrad.quiet5 m g trivial,
  fun m g _ => Cert.Kernel6.Gen.frame m g,
  fun m g _ => Cert.Kernel6Ideal.Gen.frame m g,
  FfnGrad.quiet6,
  fun m g _ => Cert.Kernel7.Gen.frame m g,
  fun m g _ => Cert.Kernel7Ideal.Gen.frame m g,
  FfnGrad.quiet7,
  fun m g _ => Cert.Kernel8.Gen.frame m g,
  fun m g _ => Cert.Kernel8Ideal.Gen.frame m g,
  FfnGrad.quiet8,
  fun m g _ => Cert.Kernel9.Gen.frame m g,
  fun m g _ => Cert.Kernel9Ideal.Gen.frame m g,
  FfnGrad.quiet9,
  fun m g _ => Cert.Kernel10.Gen.frame m g,
  fun m g _ => Cert.Kernel10Ideal.Gen.frame m g,
  FfnGrad.quiet10,
  fun m g _ => Cert.Kernel11.Gen.frame m g,
  fun m g _ => Cert.Kernel11Ideal.Gen.frame m g,
  FfnGrad.quiet11,
  fun m g _ => Cert.Kernel12.Gen.frame m g,
  fun m g _ => Cert.Kernel12Ideal.Gen.frame m g,
  FfnGrad.quiet12,
  fun m g _ => Cert.Kernel13.Gen.frame m g,
  fun m g _ => Cert.Kernel13Ideal.Gen.frame m g,
  AdamStep.quiet13,
  fun m g _ => Cert.Kernel14.Gen.frame m g,
  fun m g _ => Cert.Kernel14Ideal.Gen.frame m g,
  AdamStep.quiet14,
  fun m g _ => Cert.Kernel15.Gen.frame m g,
  fun m g _ => Cert.Kernel15Ideal.Gen.frame m g,
  AdamStep.quiet15,
  fun m g _ => Cert.Kernel16.Gen.frame m g,
  fun m g _ => Cert.Kernel16Ideal.Gen.frame m g,
  AdamStep.quiet16,
  fun m g _ => Cert.Kernel17.Gen.frame m g,
  fun m g _ => Cert.Kernel17Ideal.Gen.frame m g,
  AdamStep.quiet17,
  fun m g _ => Cert.Kernel18.Gen.frame m g,
  fun m g _ => Cert.Kernel18Ideal.Gen.frame m g,
  AdamStep.quiet18,
  fun m g _ => Cert.Kernel19.Gen.frame m g,
  fun m g _ => Cert.Kernel19Ideal.Gen.frame m g,
  AdamStep.quiet19,
  fun m g _ => Cert.Kernel20.Gen.frame m g,
  fun m g _ => Cert.Kernel20Ideal.Gen.frame m g,
  AdamStep.quiet20,
  IdealRules.named_const.statement Cert.KernelIdeal.κ "mask" .f32 0xF149F2CA#32 ⊥ rfl,
  equal,
  trivial,
  FfnGrad.equal2,
  trivial,
  FfnGrad.equal3,
  trivial,
  FfnGrad.equal4,
  trivial,
  FfnGrad.equal5,
  trivial,
  FfnGrad.equal6,
  trivial,
  FfnGrad.equal7,
  trivial,
  FfnGrad.equal8,
  trivial,
  FfnGrad.equal9,
  trivial,
  FfnGrad.equal10,
  trivial,
  FfnGrad.equal11,
  trivial,
  FfnGrad.equal12,
  trivial,
  AdamStep.equal13,
  trivial,
  AdamStep.equal14,
  trivial,
  AdamStep.equal15,
  trivial,
  AdamStep.equal16,
  trivial,
  AdamStep.equal17,
  trivial,
  AdamStep.equal18,
  trivial,
  AdamStep.equal19,
  trivial,
  AdamStep.equal20⟩

end Cert.Proof

end
